-- ==== Defs.lean ====
def Pre_Kernel [hPre_window_filled : Cert.Pre_window_filled.Facts] (m : (ℓ : Loc Cert.Kernel.nD Cert.Kernel.τ Cert.Kernel.sig) → Buf (Elt Bits) ℓ) : Prop :=
  ∀ c : Dev Cert.Kernel.nD,
    (Cert.Pre_window_filled.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_window_filled : Cert.Pre_window_filled.Facts] (m : (ℓ : Loc Cert.KernelIdeal.nD Cert.KernelIdeal.τ Cert.KernelIdeal.sig) → Buf (Elt Ideal) ℓ) : Prop :=
  ∀ c : Dev Cert.KernelIdeal.nD,
    (Cert.Pre_window_filled.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_KernelIdeal_permutations [hPre_permutations : Cert.Pre_permutations.Facts] (m : (ℓ : Loc Cert.KernelIdeal.nD Cert.KernelIdeal.τ Cert.KernelIdeal.sig) → Buf (Elt Ideal) ℓ) : Prop :=
  ∀ c : Dev Cert.KernelIdeal.nD,
    (Cert.Pre_permutations.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_permutations [hPre_permutations : Cert.Pre_permutations.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_permutations.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] [hPre_window_filled : Cert.Pre_window_filled.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] [hPre_window_filled : Cert.Pre_window_filled.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_permutations [hKernelIdeal : Cert.KernelIdeal.Facts] [hPre_permutations : Cert.Pre_permutations.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_permutations m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_permutations [hReferenceIdeal : Cert.ReferenceIdeal.Facts] [hPre_permutations : Cert.Pre_permutations.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_permutations m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  IdealRules.bf16_pair.Statement Cert.KernelIdeal.S160x128 Cert.KernelIdeal.S80x128

def algebraic_KernelIdeal_ReferenceIdeal_pre_permutations [hKernelIdeal : Cert.KernelIdeal.Facts] [hReferenceIdeal : Cert.ReferenceIdeal.Facts] [hPre_permutations : Cert.Pre_permutations.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_permutations m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v4_2)) (v3 : (c : Dev Cert.KernelIdeal.nD) → Buf (Elt Ideal) ((c.tc : Thread Cert.KernelIdeal.nD Cert.KernelIdeal.τ).loc Cert.KernelIdeal.main_v4_3)) (v4 : (c : Dev Cert.KernelIdeal.nD) → Buf (Elt Ideal) ((c.tc : Thread Cert.KernelIdeal.nD Cert.KernelIdeal.τ).loc Cert.KernelIdeal.main_v4_4)) (v5 : (c : Dev Cert.KernelIdeal.nD) → Buf (Elt Ideal) ((c.tc : Thread Cert.KernelIdeal.nD Cert.KernelIdeal.τ).loc Cert.KernelIdeal.main_v4_5)) (v6 : (c : Dev Cert.KernelIdeal.nD) → Buf (Elt Ideal) ((c.tc : Thread Cert.KernelIdeal.nD Cert.KernelIdeal.τ).loc Cert.KernelIdeal.main_v4_6)) (v7 : (c : Dev Cert.KernelIdeal.nD) → Buf (Elt Ideal) ((c.tc : Thread Cert.KernelIdeal.nD Cert.KernelIdeal.τ).loc Cert.KernelIdeal.main_v4_7)) (v8 : (c : Dev Cert.KernelIdeal.nD) → Buf (Elt Ideal) ((c.tc : Thread Cert.KernelIdeal.nD Cert.KernelIdeal.τ).loc Cert.KernelIdeal.main_v4_8)) (v9 : (c : Dev Cert.KernelIdeal.nD) → Buf (Elt Ideal) ((c.tc : Thread Cert.KernelIdeal.nD Cert.KernelIdeal.τ).loc Cert.KernelIdeal.main_v4_9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_v4_2) = v2 c
          ∧ r.2.mem ((c.tc : Thread Cert.KernelIdeal.nD Cert.KernelIdeal.τ).loc Cert.KernelIdeal.main_v4_3) = v3 c
          ∧ r.2.mem ((c.tc : Thread Cert.KernelIdeal.nD Cert.KernelIdeal.τ).loc Cert.KernelIdeal.main_v4_4) = v4 c
          ∧ r.2.mem ((c.tc : Thread Cert.KernelIdeal.nD Cert.KernelIdeal.τ).loc Cert.KernelIdeal.main_v4_5) = v5 c
          ∧ r.2.mem ((c.tc : Thread Cert.KernelIdeal.nD Cert.KernelIdeal.τ).loc Cert.KernelIdeal.main_v4_6) = v6 c
          ∧ r.2.mem ((c.tc : Thread Cert.KernelIdeal.nD Cert.KernelIdeal.τ).loc Cert.KernelIdeal.main_v4_7) = v7 c
          ∧ r.2.mem ((c.tc : Thread Cert.KernelIdeal.nD Cert.KernelIdeal.τ).loc Cert.KernelIdeal.main_v4_8) = v8 c
          ∧ r.2.mem ((c.tc : Thread Cert.KernelIdeal.nD Cert.KernelIdeal.τ).loc Cert.KernelIdeal.main_v4_9) = v9 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v96) = v0 c
          ∧ r.2.mem ((c.tc : Thread Cert.ReferenceIdeal.nD Cert.ReferenceIdeal.τ).loc Cert.ReferenceIdeal.main_v98) = v1 c
          ∧ r.2.mem ((c.tc : Thread Cert.ReferenceIdeal.nD Cert.ReferenceIdeal.τ).loc Cert.ReferenceIdeal.main_v100) = v2 c
          ∧ r.2.mem ((c.tc : Thread Cert.ReferenceIdeal.nD Cert.ReferenceIdeal.τ).loc Cert.ReferenceIdeal.main_v102) = v3 c
          ∧ r.2.mem ((c.tc : Thread Cert.ReferenceIdeal.nD Cert.ReferenceIdeal.τ).loc Cert.ReferenceIdeal.main_v104) = v4 c
          ∧ r.2.mem ((c.tc : Thread Cert.ReferenceIdeal.nD Cert.ReferenceIdeal.τ).loc Cert.ReferenceIdeal.main_v106) = v5 c
          ∧ r.2.mem ((c.tc : Thread Cert.ReferenceIdeal.nD Cert.ReferenceIdeal.τ).loc Cert.ReferenceIdeal.main_v108) = v6 c
          ∧ r.2.mem ((c.tc : Thread Cert.ReferenceIdeal.nD Cert.ReferenceIdeal.τ).loc Cert.ReferenceIdeal.main_v110) = v7 c
          ∧ r.2.mem ((c.tc : Thread Cert.ReferenceIdeal.nD Cert.ReferenceIdeal.τ).loc Cert.ReferenceIdeal.main_v112) = v8 c
          ∧ r.2.mem ((c.tc : Thread Cert.ReferenceIdeal.nD Cert.ReferenceIdeal.τ).loc Cert.ReferenceIdeal.main_v114) = v9 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_window_filled : Cert.Pre_window_filled.Facts) (hPre_permutations : Cert.Pre_permutations.Facts),
    quiescent_Kernel (hKernel := hKernel) (hPre_window_filled := hPre_window_filled)
    ∧ quiescent_KernelIdeal (hKernelIdeal := hKernelIdeal) (hPre_window_filled := hPre_window_filled)
    ∧ quiescent_KernelIdeal_pre_permutations (hKernelIdeal := hKernelIdeal) (hPre_permutations := hPre_permutations)
    ∧ quiescent_ReferenceIdeal (hReferenceIdeal := hReferenceIdeal)
    ∧ quiescent_ReferenceIdeal_pre_permutations (hReferenceIdeal := hReferenceIdeal) (hPre_permutations := hPre_permutations)
    ∧ preserves_Kernel_KernelIdeal
    ∧ algebraic_KernelIdeal_ReferenceIdeal_pre_permutations (hKernelIdeal := hKernelIdeal) (hReferenceIdeal := hReferenceIdeal) (hPre_permutations := hPre_permutations)
-- ==== Pre_permutations.lean ====
abbrev S2x896x64x160 : Shape := ⟨4, ![2, 896, 64, 160]⟩
abbrev S2 : Shape := ⟨1, ![2]⟩
abbrev S64x160 : Shape := ⟨2, ![64, 160]⟩
abbrev S64x5 : Shape := ⟨2, ![64, 5]⟩
abbrev S64x160x160 : Shape := ⟨3, ![64, 160, 160]⟩
abbrev S_ : Shape := ⟨0, ![]⟩
abbrev S64x160x1 : Shape := ⟨3, ![64, 160, 1]⟩
abbrev S64x1x160 : Shape := ⟨3, ![64, 1, 160]⟩

class Facts : Prop where
  bcast_S_S2 : S_.BroadcastsInDim S2 (![] : Fin 0 → Fin S2.rank)
  reducesTo_S2_S_d0 : S2.ReducesTo [0] S_
  h_S_ : 0 < S_.numel
  bcast_S_S64x160 : S_.BroadcastsInDim S64x160 (![] : Fin 0 → Fin S64x160.rank)
  reducesTo_S64x160_S_d0_1 : S64x160.ReducesTo [0, 1] S_
  bcast_S64x160_S64x160x1_0_1 : S64x160.BroadcastsInDim S64x160x1 (![0, 1] : Fin 2 → Fin S64x160x1.rank)
  bcast_S64x160_S64x1x160_0_2 : S64x160.BroadcastsInDim S64x1x160 (![0, 2] : Fin 2 → Fin S64x1x160.rank)
  bcast_S64x160x1_S64x160x160_0_1_2 : S64x160x1.BroadcastsInDim S64x160x160 (![0, 1, 2] : Fin 3 → Fin S64x160x160.rank)
  bcast_S64x1x160_S64x160x160_0_1_2 : S64x1x160.BroadcastsInDim S64x160x160 (![0, 1, 2] : Fin 3 → Fin S64x160x160.rank)
  reducesTo_S64x160x160_S_d0_1_2 : S64x160x160.ReducesTo [0, 1, 2] S_

variable [Facts]

def fn_part2 {F : FTy → Type} [FloatOps F] (main_v23 : IVec S_ 1) (main_v29 : IVec S_ 1) (main_v36 : IVec S64x160x160 1) (main_c_9 : IVec S_ 1) : IVec S_ 1 :=
  let main_v37 : IVec S_ 1 := (fun x v => Host.reduce IntOp.andi x v reducesTo_S64x160x160_S_d0_1_2 h_S_) main_v36 main_c_9
  let main_v38 : IVec S_ 1 := andi main_v29 main_v37
  let main_v39 : IVec S_ 1 := andi main_v23 main_v38
  main_v39

def fn_part1 {F : FTy → Type} [FloatOps F] (main_arg4 : IVec S64x160 32) (main_v0 : IVec S64x160x160 32) (main_v1 : IVec S64x160x160 32) (main_v7 : IVec S_ 1) (main_v13 : IVec S_ 1) (main_v16 : IVec S64x160x160 32) (main_v17 : IVec S64x160x160 32) : IVec S_ 1 :=
  let main_v18 : IVec S64x160x160 1 := cmpi .ne main_v16 main_v17
  let main_v19 : IVec S64x160x160 1 := cmpi .eq main_v0 main_v1
  let main_v20 : IVec S64x160x160 1 := ori main_v18 main_v19
  let main_c_5 : IVec S_ 1 := constantI S_ 1 1#1
  let main_v21 : IVec S_ 1 := (fun x v => Host.reduce IntOp.andi x v reducesTo_S64x160x160_S_d0_1_2 h_S_) main_v20 main_c_5
  let main_v22 : IVec S_ 1 := andi main_v13 main_v21
  let main_v23 : IVec S_ 1 := andi main_v7 main_v22
  let main_c_6 : IVec S_ 32 := constantI S_ 32 0#32
  let main_v24 : IVec S64x160 32 := broadcastInDim S64x160 ![] bcast_S_S64x160 main_c_6
  let main_v25 : IVec S64x160 1 := cmpi .sge main_arg4 main_v24
  let main_c_7 : IVec S_ 32 := constantI S_ 32 160#32
  let main_v26 : IVec S64x160 32 := broadcastInDim S64x160 ![] bcast_S_S64x160 main_c_7
  let main_v27 : IVec S64x160 1 := cmpi .slt main_arg4 main_v26
  let main_v28 : IVec S64x160 1 := andi main_v25 main_v27
  let main_c_8 : IVec S_ 1 := constantI S_ 1 1#1
  let main_v29 : IVec S_ 1 := (fun x v => Host.reduce IntOp.andi x v reducesTo_S64x160_S_d0_1 h_S_) main_v28 main_c_8
  let main_v30 : IVec S64x160x1 32 := broadcastInDim S64x160x1 ![0, 1] bcast_S64x160_S64x160x1_0_1 main_arg4
  let main_v31 : IVec S64x1x160 32 := broadcastInDim S64x1x160 ![0, 2] bcast_S64x160_S64x1x160_0_2 main_arg4
  let main_v32 : IVec S64x160x160 32 := broadcastInDim S64x160x160 ![0, 1, 2] bcast_S64x160x1_S64x160x160_0_1_2 main_v30
  let main_v33 : IVec S64x160x160 32 := broadcastInDim S64x160x160 ![0, 1, 2] bcast_S64x1x160_S64x160x160_0_1_2 main_v31
  let main_v34 : IVec S64x160x160 1 := cmpi .ne main_v32 main_v33
  let main_v35 : IVec S64x160x160 1 := cmpi .eq main_v0 main_v1
  let main_v36 : IVec S64x160x160 1 := ori main_v34 main_v35
  let main_c_9 : IVec S_ 1 := constantI S_ 1 1#1
  fn_part2 (F := F) main_v23 main_v29 main_v36 main_c_9

def fn {F : FTy → Type} [FloatOps F] (main_arg0 : FVec F S2x896x64x160 .bf16) (main_arg1 : FVec F S2x896x64x160 .bf16) (main_arg2 : IVec S2 32) (main_arg3 : IVec S64x160 32) (main_arg4 : IVec S64x160 32) (main_arg5 : FVec F S64x5 .f32) (main_arg6 : FVec F S64x5 .f32) : IVec S_ 1 :=
  let main_v0 : IVec S64x160x160 32 := iotaInDim S64x160x160 32 1
  let main_v1 : IVec S64x160x160 32 := iotaInDim S64x160x160 32 2
  let main_c : IVec S_ 32 := constantI S_ 32 768#32
  let main_v2 : IVec S2 32 := broadcastInDim S2 ![] bcast_S_S2 main_c
  let main_v3 : IVec S2 1 := cmpi .sge main_arg2 main_v2
  let main_c_0 : IVec S_ 32 := constantI S_ 32 896#32
  let main_v4 : IVec S2 32 := broadcastInDim S2 ![] bcast_S_S2 main_c_0
  let main_v5 : IVec S2 1 := cmpi .sle main_arg2 main_v4
  let main_v6 : IVec S2 1 := andi main_v3 main_v5
  let main_c_1 : IVec S_ 1 := constantI S_ 1 1#1
  let main_v7 : IVec S_ 1 := (fun x v => Host.reduce IntOp.andi x v reducesTo_S2_S_d0 h_S_) main_v6 main_c_1
  let main_c_2 : IVec S_ 32 := constantI S_ 32 0#32
  let main_v8 : IVec S64x160 32 := broadcastInDim S64x160 ![] bcast_S_S64x160 main_c_2
  let main_v9 : IVec S64x160 1 := cmpi .sge main_arg3 main_v8
  let main_c_3 : IVec S_ 32 := constantI S_ 32 160#32
  let main_v10 : IVec S64x160 32 := broadcastInDim S64x160 ![] bcast_S_S64x160 main_c_3
  let main_v11 : IVec S64x160 1 := cmpi .slt main_arg3 main_v10
  let main_v12 : IVec S64x160 1 := andi main_v9 main_v11
  let main_c_4 : IVec S_ 1 := constantI S_ 1 1#1
  let main_v13 : IVec S_ 1 := (fun x v => Host.reduce IntOp.andi x v reducesTo_S64x160_S_d0_1 h_S_) main_v12 main_c_4
  let main_v14 : IVec S64x160x1 32 := broadcastInDim S64x160x1 ![0, 1] bcast_S64x160_S64x160x1_0_1 main_arg3
  let main_v15 : IVec S64x1x160 32 := broadcastInDim S64x1x160 ![0, 2] bcast_S64x160_S64x1x160_0_2 main_arg3
  let main_v16 : IVec S64x160x160 32 := broadcastInDim S64x160x160 ![0, 1, 2] bcast_S64x160x1_S64x160x160_0_1_2 main_v14
  let main_v17 : IVec S64x160x160 32 := broadcastInDim S64x160x160 ![0, 1, 2] bcast_S64x1x160_S64x160x160_0_1_2 main_v15
  fn_part1 (F := F) main_arg4 main_v0 main_v1 main_v7 main_v13 main_v16 main_v17
-- ==== Pre_window_filled.lean ====
abbrev S2x896x64x160 : Shape := ⟨4, ![2, 896, 64, 160]⟩
abbrev S2 : Shape := ⟨1, ![2]⟩
abbrev S64x160 : Shape := ⟨2, ![64, 160]⟩
abbrev S64x5 : Shape := ⟨2, ![64, 5]⟩
abbrev S_ : Shape := ⟨0, ![]⟩

class Facts : Prop where
  bcast_S_S2 : S_.BroadcastsInDim S2 (![] : Fin 0 → Fin S2.rank)

variable [Facts]

def fn {F : FTy → Type} [FloatOps F] (main_arg0 : FVec F S2x896x64x160 .bf16) (main_arg1 : FVec F S2x896x64x160 .bf16) (main_arg2 : IVec S2 32) (main_arg3 : IVec S64x160 32) (main_arg4 : IVec S64x160 32) (main_arg5 : FVec F S64x5 .f32) (main_arg6 : FVec F S64x5 .f32) : IVec S2 1 :=
  let main_c : IVec S_ 32 := constantI S_ 32 768#32
  let main_v0 : IVec S2 32 := broadcastInDim S2 ![] bcast_S_S2 main_c
  let main_v1 : IVec S2 1 := cmpi .sge main_arg2 main_v0
  main_v1
-- ==== Kernel.lean ====
abbrev S2x896x64x160 : Shape := ⟨4, ![2, 896, 64, 160]⟩
abbrev S2 : Shape := ⟨1, ![2]⟩
abbrev S64x160 : Shape := ⟨2, ![64, 160]⟩
abbrev S64x5 : Shape := ⟨2, ![64, 5]⟩
abbrev S2x64x160x896 : Shape := ⟨4, ![2, 64, 160, 896]⟩
abbrev S5x64 : Shape := ⟨2, ![5, 64]⟩
abbrev S2x64x160x768 : Shape := ⟨4, ![2, 64, 160, 768]⟩
abbrev S2x64x80x128 : Shape := ⟨4, ![2, 64, 80, 128]⟩
abbrev S2x5x64x128 : Shape := ⟨4, ![2, 5, 64, 128]⟩
abbrev S2x64x160x128 : Shape := ⟨4, ![2, 64, 160, 128]⟩
abbrev S2x4x160x896 : Shape := ⟨4, ![2, 4, 160, 896]⟩
abbrev S2x4x160x768 : Shape := ⟨4, ![2, 4, 160, 768]⟩
abbrev S2x4x80x128 : Shape := ⟨4, ![2, 4, 80, 128]⟩
abbrev S2x4x160x128 : Shape := ⟨4, ![2, 4, 160, 128]⟩
abbrev S160x128 : Shape := ⟨2, ![160, 128]⟩
abbrev S2x512x128 : Shape := ⟨3, ![2, 512, 128]⟩
abbrev S1 : Shape := ⟨1, ![1]⟩
abbrev S160x160 : Shape := ⟨2, ![160, 160]⟩
abbrev S160x64 : Shape := ⟨2, ![160, 64]⟩
abbrev S80x128 : Shape := ⟨2, ![80, 128]⟩
abbrev S1x1x160x128 : Shape := ⟨4, ![1, 1, 160, 128]⟩
abbrev S160x128x1 : Shape := ⟨3, ![160, 128, 1]⟩
abbrev S160x32 : Shape := ⟨2, ![160, 32]⟩
abbrev S1x160 : Shape := ⟨2, ![1, 160]⟩
abbrev S160x256 : Shape := ⟨2, ![160, 256]⟩
abbrev S8x256 : Shape := ⟨2, ![8, 256]⟩
abbrev S1x1 : Shape := ⟨2, ![1, 1]⟩
abbrev S8x128 : Shape := ⟨2, ![8, 128]⟩
abbrev S1x8x128 : Shape := ⟨3, ![1, 8, 128]⟩
abbrev S1x256 : Shape := ⟨2, ![1, 256]⟩
abbrev S16x256 : Shape := ⟨2, ![16, 256]⟩
abbrev S80x256 : Shape := ⟨2, ![80, 256]⟩
abbrev S1x1x80x128 : Shape := ⟨4, ![1, 1, 80, 128]⟩
abbrev S1x64x128 : Shape := ⟨3, ![1, 64, 128]⟩
abbrev S64x128 : Shape := ⟨2, ![64, 128]⟩
abbrev S1x1x64x128 : Shape := ⟨4, ![1, 1, 64, 128]⟩

abbrev nBuf : Space → Nat
  | .hbm => 21
  | .vmem => 30
  | .smem => 3
  | _ => 0

abbrev bufTy : (tb : Table) → Fin (tcTables nBuf tb) → BufTy
  | .hbm, ⟨0, _⟩ => ⟨S2x896x64x160, .bf16⟩
  | .hbm, ⟨1, _⟩ => ⟨S2x896x64x160, .bf16⟩
  | .hbm, ⟨2, _⟩ => ⟨S2, .i32⟩
  | .hbm, ⟨3, _⟩ => ⟨S64x160, .i32⟩
  | .hbm, ⟨4, _⟩ => ⟨S64x160, .i32⟩
  | .hbm, ⟨5, _⟩ => ⟨S64x5, .f32⟩
  | .hbm, ⟨6, _⟩ => ⟨S64x5, .f32⟩
  | .hbm, ⟨7, _⟩ => ⟨S2x64x160x896, .bf16⟩
  | .hbm, ⟨8, _⟩ => ⟨S2x64x160x896, .bf16⟩
  | .hbm, ⟨9, _⟩ => ⟨S5x64, .f32⟩
  | .hbm, ⟨10, _⟩ => ⟨S5x64, .f32⟩
  | .hbm, ⟨11, _⟩ => ⟨S2x64x160x768, .bf16⟩
  | .hbm, ⟨12, _⟩ => ⟨S2x64x160x768, .bf16⟩
  | .hbm, ⟨13, _⟩ => ⟨S2x64x80x128, .i8⟩
  | .hbm, ⟨14, _⟩ => ⟨S2x5x64x128, .fp8e4m3⟩
  | .hbm, ⟨15, _⟩ => ⟨S2x5x64x128, .fp8e4m3⟩
  | .hbm, ⟨16, _⟩ => ⟨S2x64x80x128, .i8⟩
  | .hbm, ⟨17, _⟩ => ⟨S2x5x64x128, .fp8e4m3⟩
  | .hbm, ⟨18, _⟩ => ⟨S2x5x64x128, .fp8e4m3⟩
  | .hbm, ⟨19, _⟩ => ⟨S2x64x160x128, .bf16⟩
  | .hbm, ⟨20, _⟩ => ⟨S2x64x160x128, .bf16⟩
  | .local _ .vmem, ⟨0, _⟩ => ⟨S64x160, .i32⟩
  | .local _ .vmem, ⟨1, _⟩ => ⟨S64x160, .i32⟩
  | .local _ .vmem, ⟨2, _⟩ => ⟨S2x4x160x896, .bf16⟩
  | .local _ .vmem, ⟨3, _⟩ => ⟨S2x4x160x896, .bf16⟩
  | .local _ .vmem, ⟨4, _⟩ => ⟨S2x4x160x896, .bf16⟩
  | .local _ .vmem, ⟨5, _⟩ => ⟨S2x4x160x896, .bf16⟩
  | .local _ .vmem, ⟨6, _⟩ => ⟨S2x4x160x768, .bf16⟩
  | .local _ .vmem, ⟨7, _⟩ => ⟨S2x4x160x768, .bf16⟩
  | .local _ .vmem, ⟨8, _⟩ => ⟨S2x4x160x768, .bf16⟩
  | .local _ .vmem, ⟨9, _⟩ => ⟨S2x4x160x768, .bf16⟩
  | .local _ .vmem, ⟨10, _⟩ => ⟨S2x4x80x128, .i8⟩
  | .local _ .vmem, ⟨11, _⟩ => ⟨S2x4x80x128, .i8⟩
  | .local _ .vmem, ⟨12, _⟩ => ⟨S2x5x64x128, .fp8e4m3⟩
  | .local _ .vmem, ⟨13, _⟩ => ⟨S2x5x64x128, .fp8e4m3⟩
  | .local _ .vmem, ⟨14, _⟩ => ⟨S2x4x80x128, .i8⟩
  | .local _ .vmem, ⟨15, _⟩ => ⟨S2x4x80x128, .i8⟩
  | .local _ .vmem, ⟨16, _⟩ => ⟨S2x5x64x128, .fp8e4m3⟩
  | .local _ .vmem, ⟨17, _⟩ => ⟨S2x5x64x128, .fp8e4m3⟩
  | .local _ .vmem, ⟨18, _⟩ => ⟨S2x4x160x128, .bf16⟩
  | .local _ .vmem, ⟨19, _⟩ => ⟨S2x4x160x128, .bf16⟩
  | .local _ .vmem, ⟨20, _⟩ => ⟨S2x4x160x128, .bf16⟩
  | .local _ .vmem, ⟨21, _⟩ => ⟨S2x4x160x128, .bf16⟩
  | .local _ .vmem, ⟨22, _⟩ => ⟨S64x160, .f32⟩
  | .local _ .vmem, ⟨23, _⟩ => ⟨S160x128, .f32⟩
  | .local _ .vmem, ⟨24, _⟩ => ⟨S64x160, .f32⟩
  | .local _ .vmem, ⟨25, _⟩ => ⟨S160x128, .f32⟩
  | .local _ .vmem, ⟨26, _⟩ => ⟨S2x512x128, .f32⟩
  | .local _ .vmem, ⟨27, _⟩ => ⟨S2x512x128, .f32⟩
  | .local _ .vmem, ⟨28, _⟩ => ⟨S2x512x128, .f32⟩
  | .local _ .vmem, ⟨29, _⟩ => ⟨S2x512x128, .f32⟩
  | .local _ .smem, ⟨0, _⟩ => ⟨S2, .i32⟩
  | .local _ .smem, ⟨1, _⟩ => ⟨S5x64, .f32⟩
  | .local _ .smem, ⟨2, _⟩ => ⟨S5x64, .f32⟩
  | _, _ => ⟨S2x896x64x160, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev main_v4_2 : Ref sig .tc := ⟨.hbm, 13, rfl⟩
abbrev main_v4_3 : Ref sig .tc := ⟨.hbm, 14, rfl⟩
abbrev main_v4_4 : Ref sig .tc := ⟨.hbm, 15, rfl⟩
abbrev main_v4_5 : Ref sig .tc := ⟨.hbm, 16, rfl⟩
abbrev main_v4_6 : Ref sig .tc := ⟨.hbm, 17, rfl⟩
abbrev main_v4_7 : Ref sig .tc := ⟨.hbm, 18, rfl⟩
abbrev main_v4_8 : Ref sig .tc := ⟨.hbm, 19, rfl⟩
abbrev main_v4_9 : Ref sig .tc := ⟨.hbm, 20, rfl⟩
abbrev cc0_stg3_0 : Ref sig .tc := ⟨.vmem, 0, rfl⟩
abbrev cc0_stg4_0 : Ref sig .tc := ⟨.vmem, 1, rfl⟩
abbrev cc0_stg5_0 : Ref sig .tc := ⟨.vmem, 2, rfl⟩
abbrev cc0_stg5_1 : Ref sig .tc := ⟨.vmem, 3, rfl⟩
abbrev cc0_stg6_0 : Ref sig .tc := ⟨.vmem, 4, rfl⟩
abbrev cc0_stg6_1 : Ref sig .tc := ⟨.vmem, 5, rfl⟩
abbrev cc0_stg7_0 : Ref sig .tc := ⟨.vmem, 6, rfl⟩
abbrev cc0_stg7_1 : Ref sig .tc := ⟨.vmem, 7, rfl⟩
abbrev cc0_stg8_0 : Ref sig .tc := ⟨.vmem, 8, rfl⟩
abbrev cc0_stg8_1 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg12_1 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg15_1 : Ref sig .tc := ⟨.vmem, 19, rfl⟩
abbrev cc0_stg16_0 : Ref sig .tc := ⟨.vmem, 20, rfl⟩
abbrev cc0_stg16_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_scratch3 : Ref sig .tc := ⟨.vmem, 25, rfl⟩
abbrev cc0_scratch4 : Ref sig .tc := ⟨.vmem, 26, rfl⟩
abbrev cc0_scratch5 : Ref sig .tc := ⟨.vmem, 27, rfl⟩
abbrev cc0_scratch6 : Ref sig .tc := ⟨.vmem, 28, rfl⟩
abbrev cc0_scratch7 : Ref sig .tc := ⟨.vmem, 29, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem5_1 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem11_0 : DmaSem sig := 16
abbrev cc0_sem12_0 : DmaSem sig := 17
abbrev cc0_sem12_1 : DmaSem sig := 18
abbrev cc0_sem13_0 : DmaSem sig := 19
abbrev cc0_sem14_0 : DmaSem sig := 20
abbrev cc0_sem15_0 : DmaSem sig := 21
abbrev cc0_sem15_1 : DmaSem sig := 22
abbrev cc0_sem16_0 : DmaSem sig := 23
abbrev cc0_sem16_1 : DmaSem sig := 24

abbrev nD : Nat := 1
abbrev τ : Topo := Topo.v7x

variable {F : FTy → Type} [BitOps F]

abbrev grid0 : Pipeline.Grid := ⟨1, ![16], ![false]⟩

@[reducible] def k0_t1_loop : Scf.Loop 32 :=
  let c0_i32_2 : BitVec 32 := 0#32
  let c4_i32 : BitVec 32 := 4#32
  let v7 : BitVec 32 := Scalar.addi c0_i32_2 c4_i32
  let c1_i32 : BitVec 32 := 1#32
  ⟨c0_i32_2, v7, c1_i32⟩
def k0_mult1 (v0 : BitVec 32) : BitVec 32 :=
  let c0_i32_8 : BitVec 32 := 0#32
  let c768_i32 : BitVec 32 := 768#32
  let v1 : BitVec 32 := Scalar.subi v0 c768_i32
  let c7_i32 : BitVec 32 := 7#32
  let v14 : BitVec 32 := Scalar.shrsi v1 c7_i32
  let v21 : BitVec 32 := Scalar.addi c0_i32_8 v14
  let c6_i32 : BitVec 32 := 6#32
  let v22 : BitVec 32 := Scalar.minsi v21 c6_i32
  let c128_i32_9 : BitVec 32 := 128#32
  let v23 : BitVec 32 := Scalar.muli v22 c128_i32_9
  v23

def k0_off1 (v0 : BitVec 32) (k0_t1 : Fin k0_t1_loop.trips) (c0_i32_8 : BitVec 32) : Fin 4 → Nat :=
  let c0_10 : Index := 0#32
  let c0_i32_2 : BitVec 32 := 0#32
  let c1_i32 : BitVec 32 := 1#32
  let arg26 : BitVec 32 := Scf.iv c0_i32_2 c1_i32 k0_t1
  let v25 : Index := Scalar.indexCast arg26
  let c0_11 : Index := 0#32
  let c768_i32 : BitVec 32 := 768#32
  let v1 : BitVec 32 := Scalar.subi v0 c768_i32
  let c7_i32 : BitVec 32 := 7#32
  let v14 : BitVec 32 := Scalar.shrsi v1 c7_i32
  let v21 : BitVec 32 := Scalar.addi c0_i32_8 v14
  let c6_i32 : BitVec 32 := 6#32
  let v22 : BitVec 32 := Scalar.minsi v21 c6_i32
  let c128_i32_9 : BitVec 32 := 128#32
  let v23 : BitVec 32 := Scalar.muli v22 c128_i32_9
  let v24 : BitVec 32 := v23
  let v26 : Index := Scalar.indexCast v24
  ![0, v25.toNat, 0, v26.toNat]
def k0_mult2 (v0 : BitVec 32) : BitVec 32 :=
  let c1_i32_12 : BitVec 32 := 1#32
  let c768_i32 : BitVec 32 := 768#32
  let v1 : BitVec 32 := Scalar.subi v0 c768_i32
  let c7_i32 : BitVec 32 := 7#32
  let v14 : BitVec 32 := Scalar.shrsi v1 c7_i32
  let v31 : BitVec 32 := Scalar.addi c1_i32_12 v14
  let c6_i32_13 : BitVec 32 := 6#32
  let v32 : BitVec 32 := Scalar.minsi v31 c6_i32_13
  let c128_i32_14 : BitVec 32 := 128#32
  let v33 : BitVec 32 := Scalar.muli v32 c128_i32_14
  v33
def k0_off2 (k0_t1 : Fin k0_t1_loop.trips) : Fin 4 → Nat :=
  let c0_17 : Index := 0#32
  let c0_i32_2 : BitVec 32 := 0#32
  let c1_i32 : BitVec 32 := 1#32
  let arg26 : BitVec 32 := Scf.iv c0_i32_2 c1_i32 k0_t1
  let v43 : Index := Scalar.indexCast arg26
  let c0_18 : Index := 0#32
  let c0_19 : Index := 0#32
  ![0, v43.toNat, 0, 0]
def k0_mult3 (v0 : BitVec 32) : BitVec 32 :=
  let c2_i32 : BitVec 32 := 2#32
  let c768_i32 : BitVec 32 := 768#32
  let v1 : BitVec 32 := Scalar.subi v0 c768_i32
  let c7_i32 : BitVec 32 := 7#32
  let v14 : BitVec 32 := Scalar.shrsi v1 c7_i32
  let v47 : BitVec 32 := Scalar.addi c2_i32 v14
  let c6_i32_20 : BitVec 32 := 6#32
  let v48 : BitVec 32 := Scalar.minsi v47 c6_i32_20
  let c128_i32_21 : BitVec 32 := 128#32
  let v49 : BitVec 32 := Scalar.muli v48 c128_i32_21
  v49
def k0_off3 (k0_t1 : Fin k0_t1_loop.trips) : Fin 4 → Nat :=
  let c0_24 : Index := 0#32
  let c0_i32_2 : BitVec 32 := 0#32
  let c1_i32 : BitVec 32 := 1#32
  let arg26 : BitVec 32 := Scf.iv c0_i32_2 c1_i32 k0_t1
  let v59 : Index := Scalar.indexCast arg26
  let c0_25 : Index := 0#32
  let c128 : Index := 128#32
  ![0, v59.toNat, 0, 128]
def k0_mult4 (v0 : BitVec 32) : BitVec 32 :=
  let c3_i32 : BitVec 32 := 3#32
  let c768_i32 : BitVec 32 := 768#32
  let v1 : BitVec 32 := Scalar.subi v0 c768_i32
  let c7_i32 : BitVec 32 := 7#32
  let v14 : BitVec 32 := Scalar.shrsi v1 c7_i32
  let v63 : BitVec 32 := Scalar.addi c3_i32 v14
  let c6_i32_26 : BitVec 32 := 6#32
  let v64 : BitVec 32 := Scalar.minsi v63 c6_i32_26
  let c128_i32_27 : BitVec 32 := 128#32
  let v65 : BitVec 32 := Scalar.muli v64 c128_i32_27
  v65
def k0_off4 (k0_t1 : Fin k0_t1_loop.trips) : Fin 4 → Nat :=
  let c0_30 : Index := 0#32
  let c0_i32_2 : BitVec 32 := 0#32
  let c1_i32 : BitVec 32 := 1#32
  let arg26 : BitVec 32 := Scf.iv c0_i32_2 c1_i32 k0_t1
  let v75 : Index := Scalar.indexCast arg26
  let c0_31 : Index := 0#32
  let c256 : Index := 256#32
  ![0, v75.toNat, 0, 256]
def k0_mult5 (v0 : BitVec 32) : BitVec 32 :=
  let c4_i32_32 : BitVec 32 := 4#32
  let c768_i32 : BitVec 32 := 768#32
  let v1 : BitVec 32 := Scalar.subi v0 c768_i32
  let c7_i32 : BitVec 32 := 7#32
  let v14 : BitVec 32 := Scalar.shrsi v1 c7_i32
  let v79 : BitVec 32 := Scalar.addi c4_i32_32 v14
  let c6_i32_33 : BitVec 32 := 6#32
  let v80 : BitVec 32 := Scalar.minsi v79 c6_i32_33
  let c128_i32_34 : BitVec 32 := 128#32
  let v81 : BitVec 32 := Scalar.muli v80 c128_i32_34
  v81
def k0_off5 (k0_t1 : Fin k0_t1_loop.trips) : Fin 4 → Nat :=
  let c0_37 : Index := 0#32
  let c0_i32_2 : BitVec 32 := 0#32
  let c1_i32 : BitVec 32 := 1#32
  let arg26 : BitVec 32 := Scf.iv c0_i32_2 c1_i32 k0_t1
  let v91 : Index := Scalar.indexCast arg26
  let c0_38 : Index := 0#32
  let c384 : Index := 384#32
  ![0, v91.toNat, 0, 384]
def k0_mult6 (v0 : BitVec 32) : BitVec 32 :=
  let c5_i32 : BitVec 32 := 5#32
  let c768_i32 : BitVec 32 := 768#32
  let v1 : BitVec 32 := Scalar.subi v0 c768_i32
  let c7_i32 : BitVec 32 := 7#32
  let v14 : BitVec 32 := Scalar.shrsi v1 c7_i32
  let v95 : BitVec 32 := Scalar.addi c5_i32 v14
  let c6_i32_39 : BitVec 32 := 6#32
  let v96 : BitVec 32 := Scalar.minsi v95 c6_i32_39
  let c128_i32_40 : BitVec 32 := 128#32
  let v97 : BitVec 32 := Scalar.muli v96 c128_i32_40
  v97
def k0_off6 (k0_t1 : Fin k0_t1_loop.trips) : Fin 4 → Nat :=
  let c0_43 : Index := 0#32
  let c0_i32_2 : BitVec 32 := 0#32
  let c1_i32 : BitVec 32 := 1#32
  let arg26 : BitVec 32 := Scf.iv c0_i32_2 c1_i32 k0_t1
  let v107 : Index := Scalar.indexCast arg26
  let c0_44 : Index := 0#32
  let c512 : Index := 512#32
  ![0, v107.toNat, 0, 512]
def k0_mult7 (v0 : BitVec 32) : BitVec 32 :=
  let c6_i32_45 : BitVec 32 := 6#32
  let c768_i32 : BitVec 32 := 768#32
  let v1 : BitVec 32 := Scalar.subi v0 c768_i32
  let c7_i32 : BitVec 32 := 7#32
  let v14 : BitVec 32 := Scalar.shrsi v1 c7_i32
  let v111 : BitVec 32 := Scalar.addi c6_i32_45 v14
  let c6_i32_46 : BitVec 32 := 6#32
  let v112 : BitVec 32 := Scalar.minsi v111 c6_i32_46
  let c128_i32_47 : BitVec 32 := 128#32
  let v113 : BitVec 32 := Scalar.muli v112 c128_i32_47
  v113
def k0_off7 (k0_t1 : Fin k0_t1_loop.trips) : Fin 4 → Nat :=
  let c0_50 : Index := 0#32
  let c0_i32_2 : BitVec 32 := 0#32
  let c1_i32 : BitVec 32 := 1#32
  let arg26 : BitVec 32 := Scf.iv c0_i32_2 c1_i32 k0_t1
  let v123 : Index := Scalar.indexCast arg26
  let c0_51 : Index := 0#32
  let c640 : Index := 640#32
  ![0, v123.toNat, 0, 640]
def k0_mult8 (v2 : BitVec 32) : BitVec 32 :=
  let c0_i32_57 : BitVec 32 := 0#32
  let c768_i32_0 : BitVec 32 := 768#32
  let v3 : BitVec 32 := Scalar.subi v2 c768_i32_0
  let c7_i32_52 : BitVec 32 := 7#32
  let v127 : BitVec 32 := Scalar.shrsi v3 c7_i32_52
  let v134 : BitVec 32 := Scalar.addi c0_i32_57 v127
  let c6_i32_58 : BitVec 32 := 6#32
  let v135 : BitVec 32 := Scalar.minsi v134 c6_i32_58
  let c128_i32_59 : BitVec 32 := 128#32
  let v136 : BitVec 32 := Scalar.muli v135 c128_i32_59
  v136

def k0_off8 (v2 : BitVec 32) (k0_t1 : Fin k0_t1_loop.trips) (c0_i32_57 : BitVec 32) : Fin 4 → Nat :=
  let c1_60 : Index := 1#32
  let c0_i32_2 : BitVec 32 := 0#32
  let c1_i32 : BitVec 32 := 1#32
  let arg26 : BitVec 32 := Scf.iv c0_i32_2 c1_i32 k0_t1
  let v138 : Index := Scalar.indexCast arg26
  let c0_61 : Index := 0#32
  let c768_i32_0 : BitVec 32 := 768#32
  let v3 : BitVec 32 := Scalar.subi v2 c768_i32_0
  let c7_i32_52 : BitVec 32 := 7#32
  let v127 : BitVec 32 := Scalar.shrsi v3 c7_i32_52
  let v134 : BitVec 32 := Scalar.addi c0_i32_57 v127
  let c6_i32_58 : BitVec 32 := 6#32
  let v135 : BitVec 32 := Scalar.minsi v134 c6_i32_58
  let c128_i32_59 : BitVec 32 := 128#32
  let v136 : BitVec 32 := Scalar.muli v135 c128_i32_59
  let v137 : BitVec 32 := v136
  let v139 : Index := Scalar.indexCast v137
  ![1, v138.toNat, 0, v139.toNat]
def k0_mult9 (v2 : BitVec 32) : BitVec 32 :=
  let c1_i32_62 : BitVec 32 := 1#32
  let c768_i32_0 : BitVec 32 := 768#32
  let v3 : BitVec 32 := Scalar.subi v2 c768_i32_0
  let c7_i32_52 : BitVec 32 := 7#32
  let v127 : BitVec 32 := Scalar.shrsi v3 c7_i32_52
  let v144 : BitVec 32 := Scalar.addi c1_i32_62 v127
  let c6_i32_63 : BitVec 32 := 6#32
  let v145 : BitVec 32 := Scalar.minsi v144 c6_i32_63
  let c128_i32_64 : BitVec 32 := 128#32
  let v146 : BitVec 32 := Scalar.muli v145 c128_i32_64
  v146
def k0_off9 (k0_t1 : Fin k0_t1_loop.trips) : Fin 4 → Nat :=
  let c1_67 : Index := 1#32
  let c0_i32_2 : BitVec 32 := 0#32
  let c1_i32 : BitVec 32 := 1#32
  let arg26 : BitVec 32 := Scf.iv c0_i32_2 c1_i32 k0_t1
  let v156 : Index := Scalar.indexCast arg26
  let c0_68 : Index := 0#32
  let c0_69 : Index := 0#32
  ![1, v156.toNat, 0, 0]
def k0_mult10 (v2 : BitVec 32) : BitVec 32 :=
  let c2_i32_70 : BitVec 32 := 2#32
  let c768_i32_0 : BitVec 32 := 768#32
  let v3 : BitVec 32 := Scalar.subi v2 c768_i32_0
  let c7_i32_52 : BitVec 32 := 7#32
  let v127 : BitVec 32 := Scalar.shrsi v3 c7_i32_52
  let v160 : BitVec 32 := Scalar.addi c2_i32_70 v127
  let c6_i32_71 : BitVec 32 := 6#32
  let v161 : BitVec 32 := Scalar.minsi v160 c6_i32_71
  let c128_i32_72 : BitVec 32 := 128#32
  let v162 : BitVec 32 := Scalar.muli v161 c128_i32_72
  v162
def k0_off10 (k0_t1 : Fin k0_t1_loop.trips) : Fin 4 → Nat :=
  let c1_75 : Index := 1#32
  let c0_i32_2 : BitVec 32 := 0#32
  let c1_i32 : BitVec 32 := 1#32
  let arg26 : BitVec 32 := Scf.iv c0_i32_2 c1_i32 k0_t1
  let v172 : Index := Scalar.indexCast arg26
  let c0_76 : Index := 0#32
  let c128_77 : Index := 128#32
  ![1, v172.toNat, 0, 128]
def k0_mult11 (v2 : BitVec 32) : BitVec 32 :=
  let c3_i32_78 : BitVec 32 := 3#32
  let c768_i32_0 : BitVec 32 := 768#32
  let v3 : BitVec 32 := Scalar.subi v2 c768_i32_0
  let c7_i32_52 : BitVec 32 := 7#32
  let v127 : BitVec 32 := Scalar.shrsi v3 c7_i32_52
  let v176 : BitVec 32 := Scalar.addi c3_i32_78 v127
  let c6_i32_79 : BitVec 32 := 6#32
  let v177 : BitVec 32 := Scalar.minsi v176 c6_i32_79
  let c128_i32_80 : BitVec 32 := 128#32
  let v178 : BitVec 32 := Scalar.muli v177 c128_i32_80
  v178
def k0_off11 (k0_t1 : Fin k0_t1_loop.trips) : Fin 4 → Nat :=
  let c1_83 : Index := 1#32
  let c0_i32_2 : BitVec 32 := 0#32
  let c1_i32 : BitVec 32 := 1#32
  let arg26 : BitVec 32 := Scf.iv c0_i32_2 c1_i32 k0_t1
  let v188 : Index := Scalar.indexCast arg26
  let c0_84 : Index := 0#32
  let c256_85 : Index := 256#32
  ![1, v188.toNat, 0, 256]
def k0_mult12 (v2 : BitVec 32) : BitVec 32 :=
  let c4_i32_86 : BitVec 32 := 4#32
  let c768_i32_0 : BitVec 32 := 768#32
  let v3 : BitVec 32 := Scalar.subi v2 c768_i32_0
  let c7_i32_52 : BitVec 32 := 7#32
  let v127 : BitVec 32 := Scalar.shrsi v3 c7_i32_52
  let v192 : BitVec 32 := Scalar.addi c4_i32_86 v127
  let c6_i32_87 : BitVec 32 := 6#32
  let v193 : BitVec 32 := Scalar.minsi v192 c6_i32_87
  let c128_i32_88 : BitVec 32 := 128#32
  let v194 : BitVec 32 := Scalar.muli v193 c128_i32_88
  v194
def k0_off12 (k0_t1 : Fin k0_t1_loop.trips) : Fin 4 → Nat :=
  let c1_91 : Index := 1#32
  let c0_i32_2 : BitVec 32 := 0#32
  let c1_i32 : BitVec 32 := 1#32
  let arg26 : BitVec 32 := Scf.iv c0_i32_2 c1_i32 k0_t1
  let v204 : Index := Scalar.indexCast arg26
  let c0_92 : Index := 0#32
  let c384_93 : Index := 384#32
  ![1, v204.toNat, 0, 384]
def k0_mult13 (v2 : BitVec 32) : BitVec 32 :=
  let c5_i32_94 : BitVec 32 := 5#32
  let c768_i32_0 : BitVec 32 := 768#32
  let v3 : BitVec 32 := Scalar.subi v2 c768_i32_0
  let c7_i32_52 : BitVec 32 := 7#32
  let v127 : BitVec 32 := Scalar.shrsi v3 c7_i32_52
  let v208 : BitVec 32 := Scalar.addi c5_i32_94 v127
  let c6_i32_95 : BitVec 32 := 6#32
  let v209 : BitVec 32 := Scalar.minsi v208 c6_i32_95
  let c128_i32_96 : BitVec 32 := 128#32
  let v210 : BitVec 32 := Scalar.muli v209 c128_i32_96
  v210
def k0_off13 (k0_t1 : Fin k0_t1_loop.trips) : Fin 4 → Nat :=
  let c1_99 : Index := 1#32
  let c0_i32_2 : BitVec 32 := 0#32
  let c1_i32 : BitVec 32 := 1#32
  let arg26 : BitVec 32 := Scf.iv c0_i32_2 c1_i32 k0_t1
  let v220 : Index := Scalar.indexCast arg26
  let c0_100 : Index := 0#32
  let c512_101 : Index := 512#32
  ![1, v220.toNat, 0, 512]
def k0_mult14 (v2 : BitVec 32) : BitVec 32 :=
  let c6_i32_102 : BitVec 32 := 6#32
  let c768_i32_0 : BitVec 32 := 768#32
  let v3 : BitVec 32 := Scalar.subi v2 c768_i32_0
  let c7_i32_52 : BitVec 32 := 7#32
  let v127 : BitVec 32 := Scalar.shrsi v3 c7_i32_52
  let v224 : BitVec 32 := Scalar.addi c6_i32_102 v127
  let c6_i32_103 : BitVec 32 := 6#32
  let v225 : BitVec 32 := Scalar.minsi v224 c6_i32_103
  let c128_i32_104 : BitVec 32 := 128#32
  let v226 : BitVec 32 := Scalar.muli v225 c128_i32_104
  v226
def k0_off14 (k0_t1 : Fin k0_t1_loop.trips) : Fin 4 → Nat :=
  let c1_107 : Index := 1#32
  let c0_i32_2 : BitVec 32 := 0#32
  let c1_i32 : BitVec 32 := 1#32
  let arg26 : BitVec 32 := Scf.iv c0_i32_2 c1_i32 k0_t1
  let v236 : Index := Scalar.indexCast arg26
  let c0_108 : Index := 0#32
  let c640_109 : Index := 640#32
  ![1, v236.toNat, 0, 640]
def k0_off15 (i : grid0.Coords) (k0_t1 : Fin k0_t1_loop.trips) : Fin 2 → Nat :=
  let arg0 : BitVec 32 := BitVec.ofNat 32 (i 0).val
  let c4_i32_5 : BitVec 32 := 4#32
  let v11 : BitVec 32 := Scalar.muli arg0 c4_i32_5
  let c0_i32_2 : BitVec 32 := 0#32
  let c1_i32 : BitVec 32 := 1#32
  let arg26 : BitVec 32 := Scf.iv c0_i32_2 c1_i32 k0_t1
  let v12 : BitVec 32 := Scalar.addi v11 arg26
  let v265 : Index := Scalar.indexCast v12
  let c0_118 : Index := 0#32
  ![v265.toNat, 0]
def k0_off16 (k0_t1 : Fin k0_t1_loop.trips) : Fin 4 → Nat :=
  let c0_121 : Index := 0#32
  let c0_i32_2 : BitVec 32 := 0#32
  let c1_i32 : BitVec 32 := 1#32
  let arg26 : BitVec 32 := Scf.iv c0_i32_2 c1_i32 k0_t1
  let v275 : Index := Scalar.indexCast arg26
  let c0_122 : Index := 0#32
  let c0_123 : Index := 0#32
  ![0, v275.toNat, 0, 0]
def k0_off17 (k0_t1 : Fin k0_t1_loop.trips) : Fin 4 → Nat :=
  let c1_124 : Index := 1#32
  let c0_i32_2 : BitVec 32 := 0#32
  let c1_i32 : BitVec 32 := 1#32
  let arg26 : BitVec 32 := Scf.iv c0_i32_2 c1_i32 k0_t1
  let v278 : Index := Scalar.indexCast arg26
  let c0_125 : Index := 0#32
  let c0_126 : Index := 0#32
  ![1, v278.toNat, 0, 0]
def k0_off18 (i : grid0.Coords) (k0_t1 : Fin k0_t1_loop.trips) : Fin 2 → Nat :=
  let c0_130 : Index := 0#32
  let arg0 : BitVec 32 := BitVec.ofNat 32 (i 0).val
  let c4_i32_5 : BitVec 32 := 4#32
  let v11 : BitVec 32 := Scalar.muli arg0 c4_i32_5
  let c0_i32_2 : BitVec 32 := 0#32
  let c1_i32 : BitVec 32 := 1#32
  let arg26 : BitVec 32 := Scf.iv c0_i32_2 c1_i32 k0_t1
  let v12 : BitVec 32 := Scalar.addi v11 arg26
  let v293 : Index := Scalar.indexCast v12
  ![0, v293.toNat]
def k0_off19 (i : grid0.Coords) (k0_t1 : Fin k0_t1_loop.trips) : Fin 2 → Nat :=
  let c1_132 : Index := 1#32
  let arg0 : BitVec 32 := BitVec.ofNat 32 (i 0).val
  let c4_i32_5 : BitVec 32 := 4#32
  let v11 : BitVec 32 := Scalar.muli arg0 c4_i32_5
  let c0_i32_2 : BitVec 32 := 0#32
  let c1_i32 : BitVec 32 := 1#32
  let arg26 : BitVec 32 := Scf.iv c0_i32_2 c1_i32 k0_t1
  let v12 : BitVec 32 := Scalar.addi v11 arg26
  let v298 : Index := Scalar.indexCast v12
  ![1, v298.toNat]
def k0_off20 (i : grid0.Coords) (k0_t1 : Fin k0_t1_loop.trips) : Fin 2 → Nat :=
  let c2 : Index := 2#32
  let arg0 : BitVec 32 := BitVec.ofNat 32 (i 0).val
  let c4_i32_5 : BitVec 32 := 4#32
  let v11 : BitVec 32 := Scalar.muli arg0 c4_i32_5
  let c0_i32_2 : BitVec 32 := 0#32
  let c1_i32 : BitVec 32 := 1#32
  let arg26 : BitVec 32 := Scf.iv c0_i32_2 c1_i32 k0_t1
  let v12 : BitVec 32 := Scalar.addi v11 arg26
  let v304 : Index := Scalar.indexCast v12
  ![2, v304.toNat]
def k0_off21 (i : grid0.Coords) (k0_t1 : Fin k0_t1_loop.trips) : Fin 2 → Nat :=
  let c3 : Index := 3#32
  let arg0 : BitVec 32 := BitVec.ofNat 32 (i 0).val
  let c4_i32_5 : BitVec 32 := 4#32
  let v11 : BitVec 32 := Scalar.muli arg0 c4_i32_5
  let c0_i32_2 : BitVec 32 := 0#32
  let c1_i32 : BitVec 32 := 1#32
  let arg26 : BitVec 32 := Scf.iv c0_i32_2 c1_i32 k0_t1
  let v12 : BitVec 32 := Scalar.addi v11 arg26
  let v310 : Index := Scalar.indexCast v12
  ![3, v310.toNat]
def k0_off22 (i : grid0.Coords) (k0_t1 : Fin k0_t1_loop.trips) : Fin 2 → Nat :=
  let c4 : Index := 4#32
  let arg0 : BitVec 32 := BitVec.ofNat 32 (i 0).val
  let c4_i32_5 : BitVec 32 := 4#32
  let v11 : BitVec 32 := Scalar.muli arg0 c4_i32_5
  let c0_i32_2 : BitVec 32 := 0#32
  let c1_i32 : BitVec 32 := 1#32
  let arg26 : BitVec 32 := Scf.iv c0_i32_2 c1_i32 k0_t1
  let v12 : BitVec 32 := Scalar.addi v11 arg26
  let v316 : Index := Scalar.indexCast v12
  ![4, v316.toNat]
def k0_mult15 (i : grid0.Coords) (k0_t1 : Fin k0_t1_loop.trips) : BitVec 32 :=
  let arg0 : BitVec 32 := BitVec.ofNat 32 (i 0).val
  let c4_i32_5 : BitVec 32 := 4#32
  let v11 : BitVec 32 := Scalar.muli arg0 c4_i32_5
  let c0_i32_2 : BitVec 32 := 0#32
  let c1_i32 : BitVec 32 := 1#32
  let arg26 : BitVec 32 := Scf.iv c0_i32_2 c1_i32 k0_t1
  let v12 : BitVec 32 := Scalar.addi v11 arg26
  let c8_i32 : BitVec 32 := 8#32
  let v497 : BitVec 32 := Scalar.muli v12 c8_i32
  v497
def k0_off23 (i : grid0.Coords) (k0_t1 : Fin k0_t1_loop.trips) : Fin 3 → Nat :=
  let c0_181 : Index := 0#32
  let arg0 : BitVec 32 := BitVec.ofNat 32 (i 0).val
  let c4_i32_5 : BitVec 32 := 4#32
  let v11 : BitVec 32 := Scalar.muli arg0 c4_i32_5
  let c0_i32_2 : BitVec 32 := 0#32
  let c1_i32 : BitVec 32 := 1#32
  let arg26 : BitVec 32 := Scf.iv c0_i32_2 c1_i32 k0_t1
  let v12 : BitVec 32 := Scalar.addi v11 arg26
  let c8_i32 : BitVec 32 := 8#32
  let v497 : BitVec 32 := Scalar.muli v12 c8_i32
  let v498 : BitVec 32 := v497
  let v500 : Index := Scalar.indexCast v498
  let c0_182 : Index := 0#32
  ![0, v500.toNat, 0]
def k0_mult16 (i : grid0.Coords) (k0_t1 : Fin k0_t1_loop.trips) : BitVec 32 :=
  let arg0 : BitVec 32 := BitVec.ofNat 32 (i 0).val
  let c4_i32_5 : BitVec 32 := 4#32
  let v11 : BitVec 32 := Scalar.muli arg0 c4_i32_5
  let c0_i32_2 : BitVec 32 := 0#32
  let c1_i32 : BitVec 32 := 1#32
  let arg26 : BitVec 32 := Scf.iv c0_i32_2 c1_i32 k0_t1
  let v12 : BitVec 32 := Scalar.addi v11 arg26
  let c8_i32_185 : BitVec 32 := 8#32
  let v509 : BitVec 32 := Scalar.muli v12 c8_i32_185
  v509
def k0_off24 (i : grid0.Coords) (k0_t1 : Fin k0_t1_loop.trips) : Fin 3 → Nat :=
  let c1_186 : Index := 1#32
  let arg0 : BitVec 32 := BitVec.ofNat 32 (i 0).val
  let c4_i32_5 : BitVec 32 := 4#32
  let v11 : BitVec 32 := Scalar.muli arg0 c4_i32_5
  let c0_i32_2 : BitVec 32 := 0#32
  let c1_i32 : BitVec 32 := 1#32
  let arg26 : BitVec 32 := Scf.iv c0_i32_2 c1_i32 k0_t1
  let v12 : BitVec 32 := Scalar.addi v11 arg26
  let c8_i32_185 : BitVec 32 := 8#32
  let v509 : BitVec 32 := Scalar.muli v12 c8_i32_185
  let v510 : BitVec 32 := v509
  let v512 : Index := Scalar.indexCast v510
  let c0_187 : Index := 0#32
  ![1, v512.toNat, 0]
def k0_off25 (k0_t1 : Fin k0_t1_loop.trips) : Fin 4 → Nat :=
  let c0_216 : Index := 0#32
  let c0_i32_2 : BitVec 32 := 0#32
  let c1_i32 : BitVec 32 := 1#32
  let arg26 : BitVec 32 := Scf.iv c0_i32_2 c1_i32 k0_t1
  let v712 : Index := Scalar.indexCast arg26
  let c0_217 : Index := 0#32
  let c0_218 : Index := 0#32
  ![0, v712.toNat, 0, 0]
def k0_off26 (k0_t1 : Fin k0_t1_loop.trips) : Fin 4 → Nat :=
  let c0_219 : Index := 0#32
  let c0_i32_2 : BitVec 32 := 0#32
  let c1_i32 : BitVec 32 := 1#32
  let arg26 : BitVec 32 := Scf.iv c0_i32_2 c1_i32 k0_t1
  let v717 : Index := Scalar.indexCast arg26
  let c0_220 : Index := 0#32
  let c0_221 : Index := 0#32
  ![0, v717.toNat, 0, 0]
def k0_off27 (k0_t1 : Fin k0_t1_loop.trips) : Fin 4 → Nat :=
  let c1_222 : Index := 1#32
  let c0_i32_2 : BitVec 32 := 0#32
  let c1_i32 : BitVec 32 := 1#32
  let arg26 : BitVec 32 := Scf.iv c0_i32_2 c1_i32 k0_t1
  let v722 : Index := Scalar.indexCast arg26
  let c0_223 : Index := 0#32
  let c0_224 : Index := 0#32
  ![1, v722.toNat, 0, 0]
def k0_off28 (k0_t1 : Fin k0_t1_loop.trips) : Fin 4 → Nat :=
  let c1_225 : Index := 1#32
  let c0_i32_2 : BitVec 32 := 0#32
  let c1_i32 : BitVec 32 := 1#32
  let arg26 : BitVec 32 := Scf.iv c0_i32_2 c1_i32 k0_t1
  let v727 : Index := Scalar.indexCast arg26
  let c0_226 : Index := 0#32
  let c0_227 : Index := 0#32
  ![1, v727.toNat, 0, 0]
def k0_mult17 (v0 : BitVec 32) : BitVec 32 :=
  let c0_i32_233 : BitVec 32 := 0#32
  let c768_i32 : BitVec 32 := 768#32
  let v1 : BitVec 32 := Scalar.subi v0 c768_i32
  let c7_i32_228 : BitVec 32 := 7#32
  let v732 : BitVec 32 := Scalar.shrsi v1 c7_i32_228
  let v739 : BitVec 32 := Scalar.addi c0_i32_233 v732
  let c6_i32_234 : BitVec 32 := 6#32
  let v740 : BitVec 32 := Scalar.minsi v739 c6_i32_234
  let c128_i32_235 : BitVec 32 := 128#32
  let v741 : BitVec 32 := Scalar.muli v740 c128_i32_235
  v741
def k0_off29 (v0 : BitVec 32) (k0_t1 : Fin k0_t1_loop.trips) (c0_i32_233 : BitVec 32) : Fin 4 → Nat :=
  let c0_236 : Index := 0#32
  let c0_i32_2 : BitVec 32 := 0#32
  let c1_i32 : BitVec 32 := 1#32
  let arg26 : BitVec 32 := Scf.iv c0_i32_2 c1_i32 k0_t1
  let v743 : Index := Scalar.indexCast arg26
  let c0_237 : Index := 0#32
  let c768_i32 : BitVec 32 := 768#32
  let v1 : BitVec 32 := Scalar.subi v0 c768_i32
  let c7_i32_228 : BitVec 32 := 7#32
  let v732 : BitVec 32 := Scalar.shrsi v1 c7_i32_228
  let v739 : BitVec 32 := Scalar.addi c0_i32_233 v732
  let c6_i32_234 : BitVec 32 := 6#32
  let v740 : BitVec 32 := Scalar.minsi v739 c6_i32_234
  let c128_i32_235 : BitVec 32 := 128#32
  let v741 : BitVec 32 := Scalar.muli v740 c128_i32_235
  let v742 : BitVec 32 := v741
  let v744 : Index := Scalar.indexCast v742
  ![0, v743.toNat, 0, v744.toNat]
def k0_mult18 (v0 : BitVec 32) : BitVec 32 :=
  let c1_i32_238 : BitVec 32 := 1#32
  let c768_i32 : BitVec 32 := 768#32
  let v1 : BitVec 32 := Scalar.subi v0 c768_i32
  let c7_i32_228 : BitVec 32 := 7#32
  let v732 : BitVec 32 := Scalar.shrsi v1 c7_i32_228
  let v749 : BitVec 32 := Scalar.addi c1_i32_238 v732
  let c6_i32_239 : BitVec 32 := 6#32
  let v750 : BitVec 32 := Scalar.minsi v749 c6_i32_239
  let c128_i32_240 : BitVec 32 := 128#32
  let v751 : BitVec 32 := Scalar.muli v750 c128_i32_240
  v751
def k0_off30 (k0_t1 : Fin k0_t1_loop.trips) : Fin 4 → Nat :=
  let c0_243 : Index := 0#32
  let c0_i32_2 : BitVec 32 := 0#32
  let c1_i32 : BitVec 32 := 1#32
  let arg26 : BitVec 32 := Scf.iv c0_i32_2 c1_i32 k0_t1
  let v761 : Index := Scalar.indexCast arg26
  let c0_244 : Index := 0#32
  let c0_245 : Index := 0#32
  ![0, v761.toNat, 0, 0]
def k0_mult19 (v0 : BitVec 32) : BitVec 32 :=
  let c2_i32_246 : BitVec 32 := 2#32
  let c768_i32 : BitVec 32 := 768#32
  let v1 : BitVec 32 := Scalar.subi v0 c768_i32
  let c7_i32_228 : BitVec 32 := 7#32
  let v732 : BitVec 32 := Scalar.shrsi v1 c7_i32_228
  let v765 : BitVec 32 := Scalar.addi c2_i32_246 v732
  let c6_i32_247 : BitVec 32 := 6#32
  let v766 : BitVec 32 := Scalar.minsi v765 c6_i32_247
  let c128_i32_248 : BitVec 32 := 128#32
  let v767 : BitVec 32 := Scalar.muli v766 c128_i32_248
  v767
def k0_off31 (k0_t1 : Fin k0_t1_loop.trips) : Fin 4 → Nat :=
  let c0_251 : Index := 0#32
  let c0_i32_2 : BitVec 32 := 0#32
  let c1_i32 : BitVec 32 := 1#32
  let arg26 : BitVec 32 := Scf.iv c0_i32_2 c1_i32 k0_t1
  let v777 : Index := Scalar.indexCast arg26
  let c0_252 : Index := 0#32
  let c128_253 : Index := 128#32
  ![0, v777.toNat, 0, 128]
def k0_mult20 (v0 : BitVec 32) : BitVec 32 :=
  let c3_i32_254 : BitVec 32 := 3#32
  let c768_i32 : BitVec 32 := 768#32
  let v1 : BitVec 32 := Scalar.subi v0 c768_i32
  let c7_i32_228 : BitVec 32 := 7#32
  let v732 : BitVec 32 := Scalar.shrsi v1 c7_i32_228
  let v781 : BitVec 32 := Scalar.addi c3_i32_254 v732
  let c6_i32_255 : BitVec 32 := 6#32
  let v782 : BitVec 32 := Scalar.minsi v781 c6_i32_255
  let c128_i32_256 : BitVec 32 := 128#32
  let v783 : BitVec 32 := Scalar.muli v782 c128_i32_256
  v783
def k0_off32 (k0_t1 : Fin k0_t1_loop.trips) : Fin 4 → Nat :=
  let c0_259 : Index := 0#32
  let c0_i32_2 : BitVec 32 := 0#32
  let c1_i32 : BitVec 32 := 1#32
  let arg26 : BitVec 32 := Scf.iv c0_i32_2 c1_i32 k0_t1
  let v793 : Index := Scalar.indexCast arg26
  let c0_260 : Index := 0#32
  let c256_261 : Index := 256#32
  ![0, v793.toNat, 0, 256]
def k0_mult21 (v0 : BitVec 32) : BitVec 32 :=
  let c4_i32_262 : BitVec 32 := 4#32
  let c768_i32 : BitVec 32 := 768#32
  let v1 : BitVec 32 := Scalar.subi v0 c768_i32
  let c7_i32_228 : BitVec 32 := 7#32
  let v732 : BitVec 32 := Scalar.shrsi v1 c7_i32_228
  let v797 : BitVec 32 := Scalar.addi c4_i32_262 v732
  let c6_i32_263 : BitVec 32 := 6#32
  let v798 : BitVec 32 := Scalar.minsi v797 c6_i32_263
  let c128_i32_264 : BitVec 32 := 128#32
  let v799 : BitVec 32 := Scalar.muli v798 c128_i32_264
  v799
def k0_off33 (k0_t1 : Fin k0_t1_loop.trips) : Fin 4 → Nat :=
  let c0_267 : Index := 0#32
  let c0_i32_2 : BitVec 32 := 0#32
  let c1_i32 : BitVec 32 := 1#32
  let arg26 : BitVec 32 := Scf.iv c0_i32_2 c1_i32 k0_t1
  let v809 : Index := Scalar.indexCast arg26
  let c0_268 : Index := 0#32
  let c384_269 : Index := 384#32
  ![0, v809.toNat, 0, 384]
def k0_mult22 (v0 : BitVec 32) : BitVec 32 :=
  let c5_i32_270 : BitVec 32 := 5#32
  let c768_i32 : BitVec 32 := 768#32
  let v1 : BitVec 32 := Scalar.subi v0 c768_i32
  let c7_i32_228 : BitVec 32 := 7#32
  let v732 : BitVec 32 := Scalar.shrsi v1 c7_i32_228
  let v813 : BitVec 32 := Scalar.addi c5_i32_270 v732
  let c6_i32_271 : BitVec 32 := 6#32
  let v814 : BitVec 32 := Scalar.minsi v813 c6_i32_271
  let c128_i32_272 : BitVec 32 := 128#32
  let v815 : BitVec 32 := Scalar.muli v814 c128_i32_272
  v815
def k0_off34 (k0_t1 : Fin k0_t1_loop.trips) : Fin 4 → Nat :=
  let c0_275 : Index := 0#32
  let c0_i32_2 : BitVec 32 := 0#32
  let c1_i32 : BitVec 32 := 1#32
  let arg26 : BitVec 32 := Scf.iv c0_i32_2 c1_i32 k0_t1
  let v825 : Index := Scalar.indexCast arg26
  let c0_276 : Index := 0#32
  let c512_277 : Index := 512#32
  ![0, v825.toNat, 0, 512]
def k0_mult23 (v0 : BitVec 32) : BitVec 32 :=
  let c6_i32_278 : BitVec 32 := 6#32
  let c768_i32 : BitVec 32 := 768#32
  let v1 : BitVec 32 := Scalar.subi v0 c768_i32
  let c7_i32_228 : BitVec 32 := 7#32
  let v732 : BitVec 32 := Scalar.shrsi v1 c7_i32_228
  let v829 : BitVec 32 := Scalar.addi c6_i32_278 v732
  let c6_i32_279 : BitVec 32 := 6#32
  let v830 : BitVec 32 := Scalar.minsi v829 c6_i32_279
  let c128_i32_280 : BitVec 32 := 128#32
  let v831 : BitVec 32 := Scalar.muli v830 c128_i32_280
  v831

def k0_chk1 (v0 : BitVec 32) : Prop :=
  (128 ∣ (k0_mult1 v0).toNat) ∧
  (∀ k0_t1 : Fin k0_t1_loop.trips, ∀ (r : Fin 7), ∀ a, (k0_off1 v0 k0_t1 (BitVec.ofNat 32 r.val)) a + S1x1x160x128.size a ≤ S2x4x160x896.size a) ∧
  (128 ∣ (k0_mult2 v0).toNat) ∧
  (128 ∣ (k0_mult3 v0).toNat) ∧
  (128 ∣ (k0_mult4 v0).toNat) ∧
  (128 ∣ (k0_mult5 v0).toNat) ∧
  (128 ∣ (k0_mult6 v0).toNat) ∧
  (128 ∣ (k0_mult7 v0).toNat) ∧
  (128 ∣ (k0_mult17 v0).toNat) ∧
  (∀ k0_t1 : Fin k0_t1_loop.trips, ∀ (r : Fin 7), ∀ a, (k0_off29 v0 k0_t1 (BitVec.ofNat 32 r.val)) a + S1x1x160x128.size a ≤ S2x4x160x896.size a) ∧
  (128 ∣ (k0_mult18 v0).toNat) ∧
  (128 ∣ (k0_mult19 v0).toNat) ∧
  (128 ∣ (k0_mult20 v0).toNat) ∧
  (128 ∣ (k0_mult21 v0).toNat) ∧
  (128 ∣ (k0_mult22 v0).toNat) ∧
  (128 ∣ (k0_mult23 v0).toNat)
theorem k0_mult1_dvd : ∀ (v0 : BitVec 32) (k0_hw1 : k0_chk1 v0), 128 ∣ (k0_mult1 v0).toNat := fun v0 k0_hw1 => k0_hw1.1
theorem k0_off1_inb : ∀ (v0 : BitVec 32) (k0_hw1 : k0_chk1 v0) (k0_t1 : Fin k0_t1_loop.trips), ∀ (r : Fin 7), ∀ a, (k0_off1 v0 k0_t1 (BitVec.ofNat 32 r.val)) a + S1x1x160x128.size a ≤ S2x4x160x896.size a := fun v0 k0_hw1 k0_t1 r => k0_hw1.2.1 k0_t1 r
theorem k0_mult2_dvd : ∀ (v0 : BitVec 32) (k0_hw1 : k0_chk1 v0), 128 ∣ (k0_mult2 v0).toNat := fun v0 k0_hw1 => k0_hw1.2.2.1
theorem k0_mult3_dvd : ∀ (v0 : BitVec 32) (k0_hw1 : k0_chk1 v0), 128 ∣ (k0_mult3 v0).toNat := fun v0 k0_hw1 => k0_hw1.2.2.2.1
theorem k0_mult4_dvd : ∀ (v0 : BitVec 32) (k0_hw1 : k0_chk1 v0), 128 ∣ (k0_mult4 v0).toNat := fun v0 k0_hw1 => k0_hw1.2.2.2.2.1
theorem k0_mult5_dvd : ∀ (v0 : BitVec 32) (k0_hw1 : k0_chk1 v0), 128 ∣ (k0_mult5 v0).toNat := fun v0 k0_hw1 => k0_hw1.2.2.2.2.2.1
theorem k0_mult6_dvd : ∀ (v0 : BitVec 32) (k0_hw1 : k0_chk1 v0), 128 ∣ (k0_mult6 v0).toNat := fun v0 k0_hw1 => k0_hw1.2.2.2.2.2.2.1
theorem k0_mult7_dvd : ∀ (v0 : BitVec 32) (k0_hw1 : k0_chk1 v0), 128 ∣ (k0_mult7 v0).toNat := fun v0 k0_hw1 => k0_hw1.2.2.2.2.2.2.2.1
theorem k0_mult17_dvd : ∀ (v0 : BitVec 32) (k0_hw1 : k0_chk1 v0), 128 ∣ (k0_mult17 v0).toNat := fun v0 k0_hw1 => k0_hw1.2.2.2.2.2.2.2.2.1
theorem k0_off29_inb : ∀ (v0 : BitVec 32) (k0_hw1 : k0_chk1 v0) (k0_t1 : Fin k0_t1_loop.trips), ∀ (r : Fin 7), ∀ a, (k0_off29 v0 k0_t1 (BitVec.ofNat 32 r.val)) a + S1x1x160x128.size a ≤ S2x4x160x896.size a := fun v0 k0_hw1 k0_t1 r => k0_hw1.2.2.2.2.2.2.2.2.2.1 k0_t1 r
theorem k0_mult18_dvd : ∀ (v0 : BitVec 32) (k0_hw1 : k0_chk1 v0), 128 ∣ (k0_mult18 v0).toNat := fun v0 k0_hw1 => k0_hw1.2.2.2.2.2.2.2.2.2.2.1
theorem k0_mult19_dvd : ∀ (v0 : BitVec 32) (k0_hw1 : k0_chk1 v0), 128 ∣ (k0_mult19 v0).toNat := fun v0 k0_hw1 => k0_hw1.2.2.2.2.2.2.2.2.2.2.2.1
theorem k0_mult20_dvd : ∀ (v0 : BitVec 32) (k0_hw1 : k0_chk1 v0), 128 ∣ (k0_mult20 v0).toNat := fun v0 k0_hw1 => k0_hw1.2.2.2.2.2.2.2.2.2.2.2.2.1
theorem k0_mult21_dvd : ∀ (v0 : BitVec 32) (k0_hw1 : k0_chk1 v0), 128 ∣ (k0_mult21 v0).toNat := fun v0 k0_hw1 => k0_hw1.2.2.2.2.2.2.2.2.2.2.2.2.2.1
theorem k0_mult22_dvd : ∀ (v0 : BitVec 32) (k0_hw1 : k0_chk1 v0), 128 ∣ (k0_mult22 v0).toNat := fun v0 k0_hw1 => k0_hw1.2.2.2.2.2.2.2.2.2.2.2.2.2.2.1
theorem k0_mult23_dvd : ∀ (v0 : BitVec 32) (k0_hw1 : k0_chk1 v0), 128 ∣ (k0_mult23 v0).toNat := fun v0 k0_hw1 => k0_hw1.2.2.2.2.2.2.2.2.2.2.2.2.2.2.2

def k0_off35 (k0_t1 : Fin k0_t1_loop.trips) : Fin 4 → Nat :=
  let c0_283 : Index := 0#32
  let c0_i32_2 : BitVec 32 := 0#32
  let c1_i32 : BitVec 32 := 1#32
  let arg26 : BitVec 32 := Scf.iv c0_i32_2 c1_i32 k0_t1
  let v841 : Index := Scalar.indexCast arg26
  let c0_284 : Index := 0#32
  let c640_285 : Index := 640#32
  ![0, v841.toNat, 0, 640]
def k0_mult24 (v2 : BitVec 32) : BitVec 32 :=
  let c0_i32_291 : BitVec 32 := 0#32
  let c768_i32_0 : BitVec 32 := 768#32
  let v3 : BitVec 32 := Scalar.subi v2 c768_i32_0
  let c7_i32_286 : BitVec 32 := 7#32
  let v845 : BitVec 32 := Scalar.shrsi v3 c7_i32_286
  let v852 : BitVec 32 := Scalar.addi c0_i32_291 v845
  let c6_i32_292 : BitVec 32 := 6#32
  let v853 : BitVec 32 := Scalar.minsi v852 c6_i32_292
  let c128_i32_293 : BitVec 32 := 128#32
  let v854 : BitVec 32 := Scalar.muli v853 c128_i32_293
  v854
def k0_mult25 (v2 : BitVec 32) : BitVec 32 :=
  let c1_i32_296 : BitVec 32 := 1#32
  let c768_i32_0 : BitVec 32 := 768#32
  let v3 : BitVec 32 := Scalar.subi v2 c768_i32_0
  let c7_i32_286 : BitVec 32 := 7#32
  let v845 : BitVec 32 := Scalar.shrsi v3 c7_i32_286
  let v862 : BitVec 32 := Scalar.addi c1_i32_296 v845
  let c6_i32_297 : BitVec 32 := 6#32
  let v863 : BitVec 32 := Scalar.minsi v862 c6_i32_297
  let c128_i32_298 : BitVec 32 := 128#32
  let v864 : BitVec 32 := Scalar.muli v863 c128_i32_298
  v864
def k0_mult26 (v2 : BitVec 32) : BitVec 32 :=
  let c2_i32_304 : BitVec 32 := 2#32
  let c768_i32_0 : BitVec 32 := 768#32
  let v3 : BitVec 32 := Scalar.subi v2 c768_i32_0
  let c7_i32_286 : BitVec 32 := 7#32
  let v845 : BitVec 32 := Scalar.shrsi v3 c7_i32_286
  let v878 : BitVec 32 := Scalar.addi c2_i32_304 v845
  let c6_i32_305 : BitVec 32 := 6#32
  let v879 : BitVec 32 := Scalar.minsi v878 c6_i32_305
  let c128_i32_306 : BitVec 32 := 128#32
  let v880 : BitVec 32 := Scalar.muli v879 c128_i32_306
  v880
def k0_mult27 (v2 : BitVec 32) : BitVec 32 :=
  let c3_i32_312 : BitVec 32 := 3#32
  let c768_i32_0 : BitVec 32 := 768#32
  let v3 : BitVec 32 := Scalar.subi v2 c768_i32_0
  let c7_i32_286 : BitVec 32 := 7#32
  let v845 : BitVec 32 := Scalar.shrsi v3 c7_i32_286
  let v894 : BitVec 32 := Scalar.addi c3_i32_312 v845
  let c6_i32_313 : BitVec 32 := 6#32
  let v895 : BitVec 32 := Scalar.minsi v894 c6_i32_313
  let c128_i32_314 : BitVec 32 := 128#32
  let v896 : BitVec 32 := Scalar.muli v895 c128_i32_314
  v896
def k0_mult28 (v2 : BitVec 32) : BitVec 32 :=
  let c4_i32_320 : BitVec 32 := 4#32
  let c768_i32_0 : BitVec 32 := 768#32
  let v3 : BitVec 32 := Scalar.subi v2 c768_i32_0
  let c7_i32_286 : BitVec 32 := 7#32
  let v845 : BitVec 32 := Scalar.shrsi v3 c7_i32_286
  let v910 : BitVec 32 := Scalar.addi c4_i32_320 v845
  let c6_i32_321 : BitVec 32 := 6#32
  let v911 : BitVec 32 := Scalar.minsi v910 c6_i32_321
  let c128_i32_322 : BitVec 32 := 128#32
  let v912 : BitVec 32 := Scalar.muli v911 c128_i32_322
  v912
def k0_mult29 (v2 : BitVec 32) : BitVec 32 :=
  let c5_i32_328 : BitVec 32 := 5#32
  let c768_i32_0 : BitVec 32 := 768#32
  let v3 : BitVec 32 := Scalar.subi v2 c768_i32_0
  let c7_i32_286 : BitVec 32 := 7#32
  let v845 : BitVec 32 := Scalar.shrsi v3 c7_i32_286
  let v926 : BitVec 32 := Scalar.addi c5_i32_328 v845
  let c6_i32_329 : BitVec 32 := 6#32
  let v927 : BitVec 32 := Scalar.minsi v926 c6_i32_329
  let c128_i32_330 : BitVec 32 := 128#32
  let v928 : BitVec 32 := Scalar.muli v927 c128_i32_330
  v928
def k0_mult30 (v2 : BitVec 32) : BitVec 32 :=
  let c6_i32_336 : BitVec 32 := 6#32
  let c768_i32_0 : BitVec 32 := 768#32
  let v3 : BitVec 32 := Scalar.subi v2 c768_i32_0
  let c7_i32_286 : BitVec 32 := 7#32
  let v845 : BitVec 32 := Scalar.shrsi v3 c7_i32_286
  let v942 : BitVec 32 := Scalar.addi c6_i32_336 v845
  let c6_i32_337 : BitVec 32 := 6#32
  let v943 : BitVec 32 := Scalar.minsi v942 c6_i32_337
  let c128_i32_338 : BitVec 32 := 128#32
  let v944 : BitVec 32 := Scalar.muli v943 c128_i32_338
  v944

def k0_chk2 (v2 : BitVec 32) : Prop :=
  (128 ∣ (k0_mult8 v2).toNat) ∧
  (∀ k0_t1 : Fin k0_t1_loop.trips, ∀ (r : Fin 7), ∀ a, (k0_off8 v2 k0_t1 (BitVec.ofNat 32 r.val)) a + S1x1x160x128.size a ≤ S2x4x160x896.size a) ∧
  (128 ∣ (k0_mult9 v2).toNat) ∧
  (128 ∣ (k0_mult10 v2).toNat) ∧
  (128 ∣ (k0_mult11 v2).toNat) ∧
  (128 ∣ (k0_mult12 v2).toNat) ∧
  (128 ∣ (k0_mult13 v2).toNat) ∧
  (128 ∣ (k0_mult14 v2).toNat) ∧
  (128 ∣ (k0_mult24 v2).toNat) ∧
  (128 ∣ (k0_mult25 v2).toNat) ∧
  (128 ∣ (k0_mult26 v2).toNat) ∧
  (128 ∣ (k0_mult27 v2).toNat) ∧
  (128 ∣ (k0_mult28 v2).toNat) ∧
  (128 ∣ (k0_mult29 v2).toNat) ∧
  (128 ∣ (k0_mult30 v2).toNat)
theorem k0_mult8_dvd : ∀ (v2 : BitVec 32) (k0_hw2 : k0_chk2 v2), 128 ∣ (k0_mult8 v2).toNat := fun v2 k0_hw2 => k0_hw2.1
theorem k0_off8_inb : ∀ (v2 : BitVec 32) (k0_hw2 : k0_chk2 v2) (k0_t1 : Fin k0_t1_loop.trips), ∀ (r : Fin 7), ∀ a, (k0_off8 v2 k0_t1 (BitVec.ofNat 32 r.val)) a + S1x1x160x128.size a ≤ S2x4x160x896.size a := fun v2 k0_hw2 k0_t1 r => k0_hw2.2.1 k0_t1 r
theorem k0_mult9_dvd : ∀ (v2 : BitVec 32) (k0_hw2 : k0_chk2 v2), 128 ∣ (k0_mult9 v2).toNat := fun v2 k0_hw2 => k0_hw2.2.2.1
theorem k0_mult10_dvd : ∀ (v2 : BitVec 32) (k0_hw2 : k0_chk2 v2), 128 ∣ (k0_mult10 v2).toNat := fun v2 k0_hw2 => k0_hw2.2.2.2.1
theorem k0_mult11_dvd : ∀ (v2 : BitVec 32) (k0_hw2 : k0_chk2 v2), 128 ∣ (k0_mult11 v2).toNat := fun v2 k0_hw2 => k0_hw2.2.2.2.2.1
theorem k0_mult12_dvd : ∀ (v2 : BitVec 32) (k0_hw2 : k0_chk2 v2), 128 ∣ (k0_mult12 v2).toNat := fun v2 k0_hw2 => k0_hw2.2.2.2.2.2.1
theorem k0_mult13_dvd : ∀ (v2 : BitVec 32) (k0_hw2 : k0_chk2 v2), 128 ∣ (k0_mult13 v2).toNat := fun v2 k0_hw2 => k0_hw2.2.2.2.2.2.2.1
theorem k0_mult14_dvd : ∀ (v2 : BitVec 32) (k0_hw2 : k0_chk2 v2), 128 ∣ (k0_mult14 v2).toNat := fun v2 k0_hw2 => k0_hw2.2.2.2.2.2.2.2.1
theorem k0_mult24_dvd : ∀ (v2 : BitVec 32) (k0_hw2 : k0_chk2 v2), 128 ∣ (k0_mult24 v2).toNat := fun v2 k0_hw2 => k0_hw2.2.2.2.2.2.2.2.2.1
theorem k0_mult25_dvd : ∀ (v2 : BitVec 32) (k0_hw2 : k0_chk2 v2), 128 ∣ (k0_mult25 v2).toNat := fun v2 k0_hw2 => k0_hw2.2.2.2.2.2.2.2.2.2.1
theorem k0_mult26_dvd : ∀ (v2 : BitVec 32) (k0_hw2 : k0_chk2 v2), 128 ∣ (k0_mult26 v2).toNat := fun v2 k0_hw2 => k0_hw2.2.2.2.2.2.2.2.2.2.2.1
theorem k0_mult27_dvd : ∀ (v2 : BitVec 32) (k0_hw2 : k0_chk2 v2), 128 ∣ (k0_mult27 v2).toNat := fun v2 k0_hw2 => k0_hw2.2.2.2.2.2.2.2.2.2.2.2.1
theorem k0_mult28_dvd : ∀ (v2 : BitVec 32) (k0_hw2 : k0_chk2 v2), 128 ∣ (k0_mult28 v2).toNat := fun v2 k0_hw2 => k0_hw2.2.2.2.2.2.2.2.2.2.2.2.2.1
theorem k0_mult29_dvd : ∀ (v2 : BitVec 32) (k0_hw2 : k0_chk2 v2), 128 ∣ (k0_mult29 v2).toNat := fun v2 k0_hw2 => k0_hw2.2.2.2.2.2.2.2.2.2.2.2.2.2.1
theorem k0_mult30_dvd : ∀ (v2 : BitVec 32) (k0_hw2 : k0_chk2 v2), 128 ∣ (k0_mult30 v2).toNat := fun v2 k0_hw2 => k0_hw2.2.2.2.2.2.2.2.2.2.2.2.2.2.2

def k0_mult31 (i : grid0.Coords) (k0_t1 : Fin k0_t1_loop.trips) : BitVec 32 :=
  let arg0 : BitVec 32 := BitVec.ofNat 32 (i 0).val
  let c4_i32_5 : BitVec 32 := 4#32
  let v11 : BitVec 32 := Scalar.muli arg0 c4_i32_5
  let c0_i32_2 : BitVec 32 := 0#32
  let c1_i32 : BitVec 32 := 1#32
  let arg26 : BitVec 32 := Scf.iv c0_i32_2 c1_i32 k0_t1
  let v12 : BitVec 32 := Scalar.addi v11 arg26
  let c8_i32_419 : BitVec 32 := 8#32
  let v1215 : BitVec 32 := Scalar.muli v12 c8_i32_419
  v1215
def k0_mult32 (i : grid0.Coords) (k0_t1 : Fin k0_t1_loop.trips) : BitVec 32 :=
  let arg0 : BitVec 32 := BitVec.ofNat 32 (i 0).val
  let c4_i32_5 : BitVec 32 := 4#32
  let v11 : BitVec 32 := Scalar.muli arg0 c4_i32_5
  let c0_i32_2 : BitVec 32 := 0#32
  let c1_i32 : BitVec 32 := 1#32
  let arg26 : BitVec 32 := Scf.iv c0_i32_2 c1_i32 k0_t1
  let v12 : BitVec 32 := Scalar.addi v11 arg26
  let c8_i32_424 : BitVec 32 := 8#32
  let v1227 : BitVec 32 := Scalar.muli v12 c8_i32_424
  v1227
def k0_cond2 (i : grid0.Coords) : BitVec 1 :=
  let arg0 : BitVec 32 := BitVec.ofNat 32 (i 0).val
  let c15_i32 : BitVec 32 := 15#32
  let v8 : BitVec 1 := Scalar.cmpi .eq arg0 c15_i32
  let v9 : BitVec 32 := Scalar.extui v8
  let c0_i32_4 : BitVec 32 := 0#32
  let v10 : BitVec 1 := Scalar.cmpi .ne v9 c0_i32_4
  v10

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_9 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_10 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_11 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_12 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_13 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_14 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_15 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_16 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 1 → Memref sig .tc .smem S2 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S5x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .smem S5x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x160 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x160 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2x4x160x896 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2x4x160x896 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2x4x160x768 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2x4x160x768 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2x4x80x128 .i8 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S2x5x64x128 .fp8e4m3 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2x5x64x128 .fp8e4m3 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S2x4x80x128 .i8 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S2x5x64x128 .fp8e4m3 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S2x5x64x128 .fp8e4m3 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S2x4x160x128 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S2x4x160x128 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== KernelIdeal.lean ====
variable {F : FTy → Type} [FloatOps F]
-- ==== ReferenceIdeal.lean ====
abbrev S2x896x64x160 : Shape := ⟨4, ![2, 896, 64, 160]⟩
abbrev S2 : Shape := ⟨1, ![2]⟩
abbrev S64x160 : Shape := ⟨2, ![64, 160]⟩
abbrev S64x5 : Shape := ⟨2, ![64, 5]⟩
abbrev S1x2x896x64x160 : Shape := ⟨5, ![1, 2, 896, 64, 160]⟩
abbrev S2x2x896x64x160 : Shape := ⟨5, ![2, 2, 896, 64, 160]⟩
abbrev S1x64x160 : Shape := ⟨3, ![1, 64, 160]⟩
abbrev S2x64x160 : Shape := ⟨3, ![2, 64, 160]⟩
abbrev S2x1x1x64x160 : Shape := ⟨5, ![2, 1, 1, 64, 160]⟩
abbrev S1x64x5 : Shape := ⟨3, ![1, 64, 5]⟩
abbrev S2x64x5 : Shape := ⟨3, ![2, 64, 5]⟩
abbrev S2x1x1x64x5 : Shape := ⟨5, ![2, 1, 1, 64, 5]⟩
abbrev S_ : Shape := ⟨0, ![]⟩
abbrev S2x2x128x64x160 : Shape := ⟨5, ![2, 2, 128, 64, 160]⟩
abbrev S2x64x160x1 : Shape := ⟨4, ![2, 64, 160, 1]⟩
abbrev S2x2x128x64x5x32 : Shape := ⟨6, ![2, 2, 128, 64, 5, 32]⟩
abbrev S2x2x128x64x5 : Shape := ⟨5, ![2, 2, 128, 64, 5]⟩
abbrev S128 : Shape := ⟨1, ![128]⟩
abbrev S1x128 : Shape := ⟨2, ![1, 128]⟩
abbrev S2x1 : Shape := ⟨2, ![2, 1]⟩
abbrev S2x128 : Shape := ⟨2, ![2, 128]⟩
abbrev S1x2x128x1x1 : Shape := ⟨5, ![1, 2, 128, 1, 1]⟩
abbrev S2x2x128x64x5x1 : Shape := ⟨6, ![2, 2, 128, 64, 5, 1]⟩
abbrev S2x2x128x64x5x16 : Shape := ⟨6, ![2, 2, 128, 64, 5, 16]⟩
abbrev S2x2x128x64x5x16x1 : Shape := ⟨7, ![2, 2, 128, 64, 5, 16, 1]⟩
abbrev S2x2x128x64x5x16x2 : Shape := ⟨7, ![2, 2, 128, 64, 5, 16, 2]⟩
abbrev S768 : Shape := ⟨1, ![768]⟩
abbrev S1x768 : Shape := ⟨2, ![1, 768]⟩
abbrev S2x768 : Shape := ⟨2, ![2, 768]⟩
abbrev S1x2x768x1x1 : Shape := ⟨5, ![1, 2, 768, 1, 1]⟩
abbrev S2x768x1 : Shape := ⟨3, ![2, 768, 1]⟩
abbrev S2x2x768x64x160 : Shape := ⟨5, ![2, 2, 768, 64, 160]⟩
abbrev S2x2x128x64x80 : Shape := ⟨5, ![2, 2, 128, 64, 80]⟩
abbrev S2x2x64x160x768 : Shape := ⟨5, ![2, 2, 64, 160, 768]⟩
abbrev S2x2x64x80x128 : Shape := ⟨5, ![2, 2, 64, 80, 128]⟩
abbrev S2x2x64x160x128 : Shape := ⟨5, ![2, 2, 64, 160, 128]⟩
abbrev S2x2x5x64x128 : Shape := ⟨5, ![2, 2, 5, 64, 128]⟩
abbrev S1x2x64x160x768 : Shape := ⟨5, ![1, 2, 64, 160, 768]⟩
abbrev S2x64x160x768 : Shape := ⟨4, ![2, 64, 160, 768]⟩
abbrev S1x2x64x80x128 : Shape := ⟨5, ![1, 2, 64, 80, 128]⟩
abbrev S2x64x80x128 : Shape := ⟨4, ![2, 64, 80, 128]⟩
abbrev S1x2x5x64x128 : Shape := ⟨5, ![1, 2, 5, 64, 128]⟩
abbrev S2x5x64x128 : Shape := ⟨4, ![2, 5, 64, 128]⟩
abbrev S1x2x64x160x128 : Shape := ⟨5, ![1, 2, 64, 160, 128]⟩
abbrev S2x64x160x128 : Shape := ⟨4, ![2, 64, 160, 128]⟩

abbrev nBuf : Space → Nat
  | .hbm => 179
  | .vmem => 7
  | .smem => 0
  | _ => 0

abbrev hbmTy0_0 (i : Nat) : BufTy := match i % 128 with
  | 0 => ⟨S2x896x64x160, .bf16⟩
  | 1 => ⟨S2x896x64x160, .bf16⟩
  | 2 => ⟨S2, .i32⟩
  | 3 => ⟨S64x160, .i32⟩
  | 4 => ⟨S64x160, .i32⟩
  | 5 => ⟨S64x5, .f32⟩
  | 6 => ⟨S64x5, .f32⟩
  | 7 => ⟨S1x2x896x64x160, .bf16⟩
  | 8 => ⟨S1x2x896x64x160, .bf16⟩
  | 9 => ⟨S2x2x896x64x160, .bf16⟩
  | 10 => ⟨S1x64x160, .i32⟩
  | 11 => ⟨S1x64x160, .i32⟩
  | 12 => ⟨S2x64x160, .i32⟩
  | 13 => ⟨S2x1x1x64x160, .i32⟩
  | 14 => ⟨S1x64x5, .f32⟩
  | 15 => ⟨S1x64x5, .f32⟩
  | 16 => ⟨S2x64x5, .f32⟩
  | 17 => ⟨S2x1x1x64x5, .f32⟩
  | 18 => ⟨S_, .i32⟩
  | 19 => ⟨S2, .i32⟩
  | 20 => ⟨S2, .i32⟩
  | 21 => ⟨S2x2x128x64x160, .bf16⟩
  | 22 => ⟨S_, .i32⟩
  | 23 => ⟨S2x1x1x64x160, .i32⟩
  | 24 => ⟨S2x1x1x64x160, .i1⟩
  | 25 => ⟨S_, .i32⟩
  | 26 => ⟨S2x1x1x64x160, .i32⟩
  | 27 => ⟨S2x1x1x64x160, .i32⟩
  | 28 => ⟨S2x1x1x64x160, .i32⟩
  | 29 => ⟨S2x64x160x1, .i32⟩
  | 30 => ⟨S2x2x128x64x160, .bf16⟩
  | 31 => ⟨S2x2x128x64x160, .f32⟩
  | 32 => ⟨S2x2x128x64x5x32, .f32⟩
  | 33 => ⟨S_, .f32⟩
  | 34 => ⟨S2x2x128x64x5, .f32⟩
  | 35 => ⟨S2x2x128x64x5, .f32⟩
  | 36 => ⟨S2x2x128x64x5, .f32⟩
  | 37 => ⟨S_, .f32⟩
  | 38 => ⟨S2x2x128x64x5, .f32⟩
  | 39 => ⟨S2x2x128x64x5, .f32⟩
  | 40 => ⟨S2x2x128x64x5, .f32⟩
  | 41 => ⟨S2x2x128x64x5, .f32⟩
  | 42 => ⟨S_, .f32⟩
  | 43 => ⟨S2x2x128x64x5, .f32⟩
  | 44 => ⟨S2x2x128x64x5, .i1⟩
  | 45 => ⟨S_, .f32⟩
  | 46 => ⟨S2x2x128x64x5, .f32⟩
  | 47 => ⟨S2x2x128x64x5, .f32⟩
  | 48 => ⟨S_, .f32⟩
  | 49 => ⟨S_, .f32⟩
  | 50 => ⟨S2x2x128x64x5, .f32⟩
  | 51 => ⟨S2x2x128x64x5, .f32⟩
  | 52 => ⟨S128, .i32⟩
  | 53 => ⟨S1x128, .i32⟩
  | 54 => ⟨S2x1, .i32⟩
  | 55 => ⟨S2x128, .i32⟩
  | 56 => ⟨S2x128, .i32⟩
  | 57 => ⟨S2x128, .i1⟩
  | 58 => ⟨S1x2x128x1x1, .i1⟩
  | 59 => ⟨S2x2x128x64x5, .i1⟩
  | 60 => ⟨S2x2x128x64x5, .i32⟩
  | 61 => ⟨S2x2x128x64x5, .fp8e4m3⟩
  | 62 => ⟨S2x2x128x64x5, .fp8e4m3⟩
  | 63 => ⟨S2x2x128x64x5, .f32⟩
  | 64 => ⟨S2x2x128x64x5, .f32⟩
  | 65 => ⟨S2x2x128x64x5x1, .f32⟩
  | 66 => ⟨S2x2x128x64x5x32, .f32⟩
  | 67 => ⟨S2x2x128x64x5x32, .f32⟩
  | 68 => ⟨S2x2x128x64x5x1, .f32⟩
  | 69 => ⟨S2x2x128x64x5x32, .f32⟩
  | 70 => ⟨S2x2x128x64x5x32, .f32⟩
  | 71 => ⟨S2x2x128x64x5x32, .f32⟩
  | 72 => ⟨S_, .i32⟩
  | 73 => ⟨S_, .i32⟩
  | 74 => ⟨S_, .f32⟩
  | 75 => ⟨S2x2x128x64x5x32, .f32⟩
  | 76 => ⟨S2x2x128x64x5x32, .f32⟩
  | 77 => ⟨S_, .f32⟩
  | 78 => ⟨S2x2x128x64x5x32, .f32⟩
  | 79 => ⟨S2x2x128x64x5x32, .f32⟩
  | 80 => ⟨S2x2x128x64x5x32, .i32⟩
  | 81 => ⟨S2x2x128x64x5x16, .i32⟩
  | 82 => ⟨S2x2x128x64x5x16, .i32⟩
  | 83 => ⟨S_, .i32⟩
  | 84 => ⟨S2x2x128x64x5x16, .i32⟩
  | 85 => ⟨S2x2x128x64x5x16, .i32⟩
  | 86 => ⟨S2x2x128x64x5x16, .i32⟩
  | 87 => ⟨S2x2x128x64x5x1, .i1⟩
  | 88 => ⟨S_, .i32⟩
  | 89 => ⟨S_, .i32⟩
  | 90 => ⟨S2x2x128x64x5x16, .i1⟩
  | 91 => ⟨S2x2x128x64x5x16, .i32⟩
  | 92 => ⟨S2x2x128x64x5x16, .i32⟩
  | 93 => ⟨S_, .f32⟩
  | 94 => ⟨S_, .f32⟩
  | 95 => ⟨S2x2x128x64x5, .f32⟩
  | 96 => ⟨S2x2x128x64x5, .f32⟩
  | 97 => ⟨S2x2x128x64x5x1, .f32⟩
  | 98 => ⟨S_, .f32⟩
  | 99 => ⟨S_, .f32⟩
  | 100 => ⟨S2x2x128x64x5, .f32⟩
  | 101 => ⟨S2x2x128x64x5, .f32⟩
  | 102 => ⟨S2x2x128x64x5x1, .f32⟩
  | 103 => ⟨S_, .i32⟩
  | 104 => ⟨S2x2x128x64x5x16, .i32⟩
  | 105 => ⟨S2x2x128x64x5x16, .i32⟩
  | 106 => ⟨S2x2x128x64x5x16, .f32⟩
  | 107 => ⟨S_, .i32⟩
  | 108 => ⟨S2x2x128x64x5x16, .i32⟩
  | 109 => ⟨S2x2x128x64x5x16, .i32⟩
  | 110 => ⟨S2x2x128x64x5x16, .f32⟩
  | 111 => ⟨S2x2x128x64x5x16, .f32⟩
  | 112 => ⟨S2x2x128x64x5x16, .f32⟩
  | 113 => ⟨S2x2x128x64x5x16, .f32⟩
  | 114 => ⟨S2x2x128x64x5x16, .f32⟩
  | 115 => ⟨S2x2x128x64x5x16, .f32⟩
  | 116 => ⟨S2x2x128x64x5x16, .f32⟩
  | 117 => ⟨S2x2x128x64x5x16, .f32⟩
  | 118 => ⟨S2x2x128x64x5x16, .f32⟩
  | 119 => ⟨S2x2x128x64x5x16x1, .f32⟩
  | 120 => ⟨S2x2x128x64x5x16x1, .f32⟩
  | 121 => ⟨S2x2x128x64x5x16x2, .f32⟩
  | 122 => ⟨S2x2x128x64x160, .f32⟩
  | 123 => ⟨S2x1x1x64x160, .i32⟩
  | 124 => ⟨S2x1x1x64x160, .i32⟩
  | 125 => ⟨S2x1x1x64x160, .i32⟩
  | 126 => ⟨S_, .i32⟩
  | 127 => ⟨S2x1x1x64x160, .i32⟩
  | _ => ⟨S2x896x64x160, .bf16⟩

abbrev hbmTy0_1 (i : Nat) : BufTy := match i % 128 with
  | 0 => ⟨S2x1x1x64x160, .i1⟩
  | 1 => ⟨S_, .i32⟩
  | 2 => ⟨S2x1x1x64x160, .i32⟩
  | 3 => ⟨S2x1x1x64x160, .i32⟩
  | 4 => ⟨S2x1x1x64x160, .i32⟩
  | 5 => ⟨S2x64x160x1, .i32⟩
  | 6 => ⟨S2x2x128x64x160, .f32⟩
  | 7 => ⟨S2x2x128x64x160, .bf16⟩
  | 8 => ⟨S2x1, .i32⟩
  | 9 => ⟨S768, .i32⟩
  | 10 => ⟨S1x768, .i32⟩
  | 11 => ⟨S2x768, .i32⟩
  | 12 => ⟨S2x768, .i32⟩
  | 13 => ⟨S2x768, .i32⟩
  | 14 => ⟨S1x2x768x1x1, .i32⟩
  | 15 => ⟨S_, .i32⟩
  | 16 => ⟨S1x2x768x1x1, .i32⟩
  | 17 => ⟨S1x2x768x1x1, .i1⟩
  | 18 => ⟨S_, .i32⟩
  | 19 => ⟨S1x2x768x1x1, .i32⟩
  | 20 => ⟨S1x2x768x1x1, .i32⟩
  | 21 => ⟨S1x2x768x1x1, .i32⟩
  | 22 => ⟨S2x768x1, .i32⟩
  | 23 => ⟨S2x2x768x64x160, .bf16⟩
  | 24 => ⟨S2x2x128x64x80, .i32⟩
  | 25 => ⟨S2x2x128x64x80, .i8⟩
  | 26 => ⟨S2x2x64x160x768, .bf16⟩
  | 27 => ⟨S2x2x64x80x128, .i8⟩
  | 28 => ⟨S2x2x64x160x128, .bf16⟩
  | 29 => ⟨S2x2x5x64x128, .fp8e4m3⟩
  | 30 => ⟨S2x2x5x64x128, .fp8e4m3⟩
  | 31 => ⟨S1x2x64x160x768, .bf16⟩
  | 32 => ⟨S2x64x160x768, .bf16⟩
  | 33 => ⟨S1x2x64x160x768, .bf16⟩
  | 34 => ⟨S2x64x160x768, .bf16⟩
  | 35 => ⟨S1x2x64x80x128, .i8⟩
  | 36 => ⟨S2x64x80x128, .i8⟩
  | 37 => ⟨S1x2x5x64x128, .fp8e4m3⟩
  | 38 => ⟨S2x5x64x128, .fp8e4m3⟩
  | 39 => ⟨S1x2x5x64x128, .fp8e4m3⟩
  | 40 => ⟨S2x5x64x128, .fp8e4m3⟩
  | 41 => ⟨S1x2x64x80x128, .i8⟩
  | 42 => ⟨S2x64x80x128, .i8⟩
  | 43 => ⟨S1x2x5x64x128, .fp8e4m3⟩
  | 44 => ⟨S2x5x64x128, .fp8e4m3⟩
  | 45 => ⟨S1x2x5x64x128, .fp8e4m3⟩
  | 46 => ⟨S2x5x64x128, .fp8e4m3⟩
  | 47 => ⟨S1x2x64x160x128, .bf16⟩
  | 48 => ⟨S2x64x160x128, .bf16⟩
  | 49 => ⟨S1x2x64x160x128, .bf16⟩
  | 50 => ⟨S2x64x160x128, .bf16⟩
  | _ => ⟨S2x896x64x160, .bf16⟩

abbrev hbmTy (i : Nat) : BufTy := match i / 128 with
  | 0 => hbmTy0_0 i
  | 1 => hbmTy0_1 i
  | _ => ⟨S2x896x64x160, .bf16⟩

abbrev bufTy : (tb : Table) → Fin (tcTables nBuf tb) → BufTy
  | .hbm, ⟨i, _⟩ => hbmTy i
  | .local _ .vmem, ⟨0, _⟩ => ⟨S2x2x128x64x5, .f32⟩
  | .local _ .vmem, ⟨1, _⟩ => ⟨S2x2x128x64x5, .f32⟩
  | .local _ .vmem, ⟨2, _⟩ => ⟨S2x2x128x64x5, .i32⟩
  | .local _ .vmem, ⟨3, _⟩ => ⟨S2x2x128x64x5, .fp8e4m3⟩
  | .local _ .vmem, ⟨4, _⟩ => ⟨S2x2x128x64x5, .fp8e4m3⟩
  | .local _ .vmem, ⟨5, _⟩ => ⟨S2x2x128x64x5, .f32⟩
  | .local _ .vmem, ⟨6, _⟩ => ⟨S2x2x128x64x5, .f32⟩
  | _, _ => ⟨S2x896x64x160, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_c : Ref sig .tc := ⟨.hbm, 22, rfl⟩
abbrev main_call0_v0 : Ref sig .tc := ⟨.hbm, 23, rfl⟩
abbrev main_call0_v1 : Ref sig .tc := ⟨.hbm, 24, rfl⟩
abbrev main_call0_c_0 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_call0_v5 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_0 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst_1 : Ref sig .tc := ⟨.hbm, 42, rfl⟩
abbrev main_v24 : Ref sig .tc := ⟨.hbm, 43, rfl⟩
abbrev main_v25 : Ref sig .tc := ⟨.hbm, 44, rfl⟩
abbrev main_cst_2 : Ref sig .tc := ⟨.hbm, 45, rfl⟩
abbrev main_v26 : Ref sig .tc := ⟨.hbm, 46, rfl⟩
abbrev main_v27 : Ref sig .tc := ⟨.hbm, 47, rfl⟩
abbrev main_cst_3 : Ref sig .tc := ⟨.hbm, 48, rfl⟩
abbrev main_call1_v0 : Ref sig .tc := ⟨.hbm, 49, rfl⟩
abbrev main_call1_v1 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38_0 : Ref sig .tc := ⟨.hbm, 61, rfl⟩
abbrev main_v38_1 : Ref sig .tc := ⟨.hbm, 62, rfl⟩
abbrev main_v38_2 : Ref sig .tc := ⟨.hbm, 63, rfl⟩
abbrev main_v38_3 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_c_4 : Ref sig .tc := ⟨.hbm, 72, rfl⟩
abbrev main_c_5 : Ref sig .tc := ⟨.hbm, 73, rfl⟩
abbrev main_call3_v0 : Ref sig .tc := ⟨.hbm, 74, rfl⟩
abbrev main_call3_v1 : Ref sig .tc := ⟨.hbm, 75, rfl⟩
abbrev main_call3_v2 : Ref sig .tc := ⟨.hbm, 76, rfl⟩
abbrev main_call3_v3 : Ref sig .tc := ⟨.hbm, 77, rfl⟩
abbrev main_call3_v4 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_c_6 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_c_7 : Ref sig .tc := ⟨.hbm, 88, rfl⟩
abbrev main_call4_v0 : Ref sig .tc := ⟨.hbm, 89, rfl⟩
abbrev main_call4_v1 : Ref sig .tc := ⟨.hbm, 90, rfl⟩
abbrev main_call4_v2 : Ref sig .tc := ⟨.hbm, 91, rfl⟩
abbrev main_v54 : Ref sig .tc := ⟨.hbm, 92, rfl⟩
abbrev main_cst_8 : Ref sig .tc := ⟨.hbm, 93, rfl⟩
abbrev main_call5_v0 : Ref sig .tc := ⟨.hbm, 94, rfl⟩
abbrev main_call5_v1 : Ref sig .tc := ⟨.hbm, 95, rfl⟩
abbrev main_v55 : Ref sig .tc := ⟨.hbm, 96, rfl⟩
abbrev main_v56 : Ref sig .tc := ⟨.hbm, 97, rfl⟩
abbrev main_cst_9 : Ref sig .tc := ⟨.hbm, 98, rfl⟩
abbrev main_call6_v0 : Ref sig .tc := ⟨.hbm, 99, rfl⟩
abbrev main_call6_v1 : Ref sig .tc := ⟨.hbm, 100, rfl⟩
abbrev main_v57 : Ref sig .tc := ⟨.hbm, 101, rfl⟩
abbrev main_v58 : Ref sig .tc := ⟨.hbm, 102, rfl⟩
abbrev main_c_10 : Ref sig .tc := ⟨.hbm, 103, rfl⟩
abbrev main_v59 : Ref sig .tc := ⟨.hbm, 104, rfl⟩
abbrev main_v60 : Ref sig .tc := ⟨.hbm, 105, rfl⟩
abbrev main_v61 : Ref sig .tc := ⟨.hbm, 106, rfl⟩
abbrev main_c_11 : Ref sig .tc := ⟨.hbm, 107, rfl⟩
abbrev main_v62 : Ref sig .tc := ⟨.hbm, 108, rfl⟩
abbrev main_v63 : Ref sig .tc := ⟨.hbm, 109, rfl⟩
abbrev main_v64 : Ref sig .tc := ⟨.hbm, 110, rfl⟩
abbrev main_v65 : Ref sig .tc := ⟨.hbm, 111, rfl⟩
abbrev main_v66 : Ref sig .tc := ⟨.hbm, 112, rfl⟩
abbrev main_v67 : Ref sig .tc := ⟨.hbm, 113, rfl⟩
abbrev main_v68 : Ref sig .tc := ⟨.hbm, 114, rfl⟩
abbrev main_v69 : Ref sig .tc := ⟨.hbm, 115, rfl⟩
abbrev main_v70 : Ref sig .tc := ⟨.hbm, 116, rfl⟩
abbrev main_v71 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_call7_v0 : Ref sig .tc := ⟨.hbm, 123, rfl⟩
abbrev main_call7_v1_0 : Ref sig .tc := ⟨.hbm, 124, rfl⟩
abbrev main_v77 : Ref sig .tc := ⟨.hbm, 125, rfl⟩
abbrev main_call8_c : Ref sig .tc := ⟨.hbm, 126, rfl⟩
abbrev main_call8_v0 : Ref sig .tc := ⟨.hbm, 127, rfl⟩
abbrev main_call8_v1 : Ref sig .tc := ⟨.hbm, 128, rfl⟩
abbrev main_call8_c_0 : Ref sig .tc := ⟨.hbm, 129, rfl⟩
abbrev main_call8_v2 : Ref sig .tc := ⟨.hbm, 130, rfl⟩
abbrev main_call8_v3 : Ref sig .tc := ⟨.hbm, 131, rfl⟩
abbrev main_call8_v4 : Ref sig .tc := ⟨.hbm, 132, rfl⟩
abbrev main_call8_v5 : Ref sig .tc := ⟨.hbm, 133, rfl⟩
abbrev main_v78 : Ref sig .tc := ⟨.hbm, 134, rfl⟩
abbrev main_v79 : Ref sig .tc := ⟨.hbm, 135, rfl⟩
abbrev main_v80 : Ref sig .tc := ⟨.hbm, 136, rfl⟩
abbrev main_v81 : Ref sig .tc := ⟨.hbm, 137, rfl⟩
abbrev main_v82 : Ref sig .tc := ⟨.hbm, 138, rfl⟩
abbrev main_v83 : Ref sig .tc := ⟨.hbm, 139, rfl⟩
abbrev main_v84 : Ref sig .tc := ⟨.hbm, 140, rfl⟩
abbrev main_v85 : Ref sig .tc := ⟨.hbm, 141, rfl⟩
abbrev main_v86 : Ref sig .tc := ⟨.hbm, 142, rfl⟩
abbrev main_call9_c : Ref sig .tc := ⟨.hbm, 143, rfl⟩
abbrev main_call9_v0 : Ref sig .tc := ⟨.hbm, 144, rfl⟩
abbrev main_call9_v1 : Ref sig .tc := ⟨.hbm, 145, rfl⟩
abbrev main_call9_c_0 : Ref sig .tc := ⟨.hbm, 146, rfl⟩
abbrev main_call9_v2 : Ref sig .tc := ⟨.hbm, 147, rfl⟩
abbrev main_call9_v3 : Ref sig .tc := ⟨.hbm, 148, rfl⟩
abbrev main_call9_v4 : Ref sig .tc := ⟨.hbm, 149, rfl⟩
abbrev main_call9_v5 : Ref sig .tc := ⟨.hbm, 150, rfl⟩
abbrev main_v87 : Ref sig .tc := ⟨.hbm, 151, rfl⟩
abbrev main_v88 : Ref sig .tc := ⟨.hbm, 152, rfl⟩
abbrev main_v89 : Ref sig .tc := ⟨.hbm, 153, rfl⟩
abbrev main_v90 : Ref sig .tc := ⟨.hbm, 154, rfl⟩
abbrev main_v91 : Ref sig .tc := ⟨.hbm, 155, rfl⟩
abbrev main_v92 : Ref sig .tc := ⟨.hbm, 156, rfl⟩
abbrev main_v93 : Ref sig .tc := ⟨.hbm, 157, rfl⟩
abbrev main_v94 : Ref sig .tc := ⟨.hbm, 158, rfl⟩
abbrev main_v95 : Ref sig .tc := ⟨.hbm, 159, rfl⟩
abbrev main_v96 : Ref sig .tc := ⟨.hbm, 160, rfl⟩
abbrev main_v97 : Ref sig .tc := ⟨.hbm, 161, rfl⟩
abbrev main_v98 : Ref sig .tc := ⟨.hbm, 162, rfl⟩
abbrev main_v99 : Ref sig .tc := ⟨.hbm, 163, rfl⟩
abbrev main_v100 : Ref sig .tc := ⟨.hbm, 164, rfl⟩
abbrev main_v101 : Ref sig .tc := ⟨.hbm, 165, rfl⟩
abbrev main_v102 : Ref sig .tc := ⟨.hbm, 166, rfl⟩
abbrev main_v103 : Ref sig .tc := ⟨.hbm, 167, rfl⟩
abbrev main_v104 : Ref sig .tc := ⟨.hbm, 168, rfl⟩
abbrev main_v105 : Ref sig .tc := ⟨.hbm, 169, rfl⟩
abbrev main_v106 : Ref sig .tc := ⟨.hbm, 170, rfl⟩
abbrev main_v107 : Ref sig .tc := ⟨.hbm, 171, rfl⟩
abbrev main_v108 : Ref sig .tc := ⟨.hbm, 172, rfl⟩
abbrev main_v109 : Ref sig .tc := ⟨.hbm, 173, rfl⟩
abbrev main_v110 : Ref sig .tc := ⟨.hbm, 174, rfl⟩
abbrev main_v111 : Ref sig .tc := ⟨.hbm, 175, rfl⟩
abbrev main_v112 : Ref sig .tc := ⟨.hbm, 176, rfl⟩
abbrev main_v113 : Ref sig .tc := ⟨.hbm, 177, rfl⟩
abbrev main_v114 : Ref sig .tc := ⟨.hbm, 178, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S2x2x128x64x5 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x2x128x64x5 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x2x128x64x5 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x2x128x64x5 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x2x128x64x5 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x2x128x64x5 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x2x128x64x5 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.Pre.lean ====
/-
  What the precondition `permutations` says of the arguments: the sequence lengths lie between 768 and 896 and that every head's row of either permutation has its 160 values
  below 160 and pairwise distinct.
-/
module

public import proofs.«01_k».proof.Pre_permutations
public import Idealize.ShloMosaic.Lib.ReduceAll
public import Idealize.ShloMosaic.Lib.Affine
public import Idealize.ShloMosaic.Lib.Pointwise

@[expose] public section

noncomputable section

namespace Cert.Pre

open Idealize.ShloMosaic Idealize.ShloMosaic.Pointwise

variable {F : FTy → Type} [FloatOps F]

instance : Subsingleton (Pre_permutations.S_).Idx := ⟨fun a b => funext fun i => i.elim0⟩

/-- Every head's row of `p` is a permutation of 0 … 159. -/
def Perms (p : (⟨2, ![64, 160]⟩ : Shape).Idx → BitVec 32) : Prop :=
  (∀ i, 0 ≤ (p i).toInt ∧ (p i).toInt < 160)
  ∧ ∀ (h : Fin 64) (a b : Fin 160), p (ix2 h a) = p (ix2 h b) → a = b

theorem eq_of_word {p q : BitVec 32} (a b : Fin 160) (hpq : p = q)
    (x : IntOp.ori (IntOp.cmpi .ne p q) (IntOp.cmpi .eq (BitVec.ofNat 32 a) (BitVec.ofNat 32 b)) = 1#1) : a = b := by
  rcases IntOp.ori_eq_one.1 x with y | y
  · exact absurd hpq (IntOp.cmpi_ne.1 y)
  · have := congrArg BitVec.toNat (IntOp.cmpi_eq.1 y)
    simp only [BitVec.toNat_ofNat] at this
    omega

theorem perms [Pre_permutations.Facts] {a0 a1 a2 a3 a4 a5 a6} (h : Pre_permutations.fn (F := F) a0 a1 a2 a3 a4 a5 a6 = fun _ => 1#1) :
    (∀ i, 768 ≤ (a2 i).toInt ∧ (a2 i).toInt ≤ 896) ∧ Perms a3 ∧ Perms a4 := by
  have e := congrFun h (fun i => i.elim0)
  dsimp only [Pre_permutations.fn, Pre_permutations.fn_part1, Pre_permutations.fn_part2] at e
  obtain ⟨e1, e2⟩ := IntOp.andi_eq_one.1 e
  obtain ⟨e3, e4⟩ := IntOp.andi_eq_one.1 e1
  obtain ⟨e5, e6⟩ := IntOp.andi_eq_one.1 e4
  obtain ⟨e7, e8⟩ := IntOp.andi_eq_one.1 e2
  refine ⟨fun i => ?_, ⟨fun i => ?_, fun h a b hab => ?_⟩, ⟨fun i => ?_, fun h a b hab => ?_⟩⟩
  · obtain ⟨x, y⟩ := IntOp.andi_eq_one.1 (Host.reduce_andi_all _ _ _ _ _ e3 i)
    exact ⟨IntOp.cmpi_sge.1 x, IntOp.cmpi_sle.1 y⟩
  · obtain ⟨x, y⟩ := IntOp.andi_eq_one.1 (Host.reduce_andi_all _ _ _ _ _ e5 i)
    exact ⟨IntOp.cmpi_sge.1 x, IntOp.cmpi_slt.1 y⟩
  · have x := Host.reduce_andi_all _ _ _ _ _ e6 (ix3 h a b)
    pointwise at x
    exact eq_of_word a b hab x
  · obtain ⟨x, y⟩ := IntOp.andi_eq_one.1 (Host.reduce_andi_all _ _ _ _ _ e7 i)
    exact ⟨IntOp.cmpi_sge.1 x, IntOp.cmpi_slt.1 y⟩
  · have x := Host.reduce_andi_all _ _ _ _ _ e8 (ix3 h a b)
    pointwise at x
    exact eq_of_word a b hab x

end Cert.Pre

end
-- ==== Proof.Words.lean ====
/-
  Arithmetic of the 32-bit words the kernel computes its window's lanes from. With a sequence length `v` of at least 768
  the window starts at token `n = v - 768`: lane `n % 128` of the 128-lane chunk `n / 128`. Chunk `j` of the window is
  cut from the cache's chunks `j + n / 128` and the next, the chunk's number capped at the last one, 6.
-/
module

public import Idealize.ShloMosaic.Lib.WordCmp
public import Idealize.ShloMosaic.Lib.WordArith
public import Idealize.ShloMosaic.Lib.Scf

@[expose] public section

namespace Cert.Words

open Idealize.ShloMosaic

/-- The first lane of the cache's chunk `j + n / 128`, capped, as the kernel computes it. -/
def col (v j : BitVec 32) : BitVec 32 :=
  Scalar.muli (Scalar.minsi (Scalar.addi j (Scalar.shrsi (Scalar.subi v 768#32) 7#32)) 6#32) 128#32

/-- A length of at least 768, as a natural number below `2 ^ 31`. -/
theorem toNat_of_filled {v : BitVec 32} (h : 768 ≤ v.toInt) : 768 ≤ v.toNat ∧ v.toNat < 2 ^ 31 := by
  have h2 : v.toNat < 2 ^ 32 := v.isLt
  rw [BitVec.toInt_eq_toNat_cond] at h
  split at h <;> omega

theorem sub_toNat {v : BitVec 32} (h : 768 ≤ v.toInt) : (Scalar.subi v 768#32).toNat = v.toNat - 768 := by
  have := toNat_of_filled h
  show (v - 768#32).toNat = _
  rw [BitVec.toNat_sub]; simp only [BitVec.toNat_ofNat]; omega

theorem shr_toNat {v : BitVec 32} (h : 768 ≤ v.toInt) :
    (Scalar.shrsi (Scalar.subi v 768#32) 7#32).toNat = (v.toNat - 768) / 128 := by
  have h1 := sub_toNat h
  have h2 := toNat_of_filled h
  have e : Scalar.shrsi (Scalar.subi v 768#32) 7#32 = (Scalar.subi v 768#32).sshiftRight 7 := by
    rw [Scalar.shrsi, IntOp.shrsi, if_pos (by decide), BitVec.sshiftRight']; rfl
  rw [e, BitVec.sshiftRight_eq_of_msb_false (by rw [BitVec.msb_eq_false_iff_two_mul_lt]; omega),
    BitVec.toNat_ushiftRight, h1]
  exact Nat.shiftRight_eq_div_pow _ 7

theorem col_toNat {v j : BitVec 32} (h : 768 ≤ v.toInt) (hj : j.toNat ≤ 6) :
    (col v j).toNat = min (j.toNat + (v.toNat - 768) / 128) 6 * 128 := by
  have h1 := shr_toNat h
  have h2 := toNat_of_filled h
  unfold col
  generalize Scalar.shrsi (Scalar.subi v 768#32) 7#32 = w at *
  have ha : (Scalar.addi j w).toNat = j.toNat + w.toNat := by
    show (j + w).toNat = _
    rw [BitVec.toNat_add]; omega
  have hm : (Scalar.minsi (Scalar.addi j w) 6#32).toNat = min (j.toNat + w.toNat) 6 := by
    show (if (Scalar.addi j w).slt 6#32 then Scalar.addi j w else 6#32).toNat = _
    have hi : (Scalar.addi j w).toInt = ((j.toNat + w.toNat : Nat) : Int) := by
      rw [BitVec.toInt_eq_toNat_of_lt (by omega), ha]
    have h6 : (6#32 : BitVec 32).toInt = 6 := by decide
    by_cases hs : j.toNat + w.toNat < 6
    · rw [if_pos (by rw [BitVec.slt_iff_toInt_lt, hi, h6]; omega), ha]; omega
    · rw [if_neg (by rw [BitVec.slt_iff_toInt_lt, hi, h6]; omega)]
      show 6 = _; omega
  show ((Scalar.minsi (Scalar.addi j w) 6#32) * 128#32).toNat = _
  rw [BitVec.toNat_mul, hm, h1]; simp only [BitVec.toNat_ofNat]; omega

theorem col_dvd {v j : BitVec 32} (h : 768 ≤ v.toInt) (hj : j.toNat ≤ 6) : 128 ∣ (col v j).toNat := by
  rw [col_toNat h hj]; exact Nat.dvd_mul_left _ _

theorem col_le {v j : BitVec 32} (h : 768 ≤ v.toInt) (hj : j.toNat ≤ 6) : (col v j).toNat + 128 ≤ 896 := by
  rw [col_toNat h hj]; omega

end Cert.Words
-- ==== Proof.KernelChecks.lean ====
/-
  The side conditions the kernel's dynamic offsets take, from the sequence lengths: a length of at least 768 puts every
  lane offset at a multiple of 128 inside the cache.
-/
module

public import proofs.«01_k».proof.Proof.Gen.Kernel.Skeleton
public import proofs.«01_k».proof.Proof.Words

@[expose] public section

namespace Cert.Kernel.Hand

open Idealize.ShloMosaic Cert.Kernel Cert.Kernel.Gen Cert.Words

theorem trip_lt (k : Fin k0_t1_loop.trips) : k.val < 4 := Nat.lt_of_lt_of_le k.isLt k0_t1_abs.2.1

theorem trip_word (k : Fin k0_t1_loop.trips) : (Scalar.indexCast (Scf.iv 0#32 1#32 k.val)).toNat = k.val := by
  have := trip_lt k
  show (0#32 + BitVec.ofNat 32 k.val * 1#32).toNat = _
  rw [BitVec.zero_add, BitVec.mul_one, BitVec.toNat_ofNat]; omega

/-- A 160 × 128 box at head `k` and lanes `col v j` of a batch's cache block lies inside the block. -/
theorem box_inb (b : Nat) (hb : b < 2) {v j : BitVec 32} (h : 768 ≤ v.toInt) (hj : j.toNat ≤ 6) (k : Fin k0_t1_loop.trips) (a : Fin 4) :
    (![b, (Scalar.indexCast (Scf.iv 0#32 1#32 k.val)).toNat, 0, (col v j).toNat] : Fin 4 → Nat) a + S1x1x160x128.size a ≤ S2x4x160x896.size a := by
  have := trip_lt k
  have := col_le h hj
  match a with
  | 0 => show b + 1 ≤ 2; omega
  | 1 => show (Scalar.indexCast (Scf.iv 0#32 1#32 k.val)).toNat + 1 ≤ 4; rw [trip_word]; omega
  | 2 => show 0 + 160 ≤ 160; omega
  | 3 => exact this

theorem ofNat_le (r : Fin 7) : (BitVec.ofNat 32 r.val).toNat ≤ 6 := by
  rw [BitVec.toNat_ofNat]; omega

theorem chk1 {v : BitVec 32} (h : 768 ≤ v.toInt) : k0_chk1 v :=
  ⟨col_dvd h (j := 0#32) (by decide), fun k r a => box_inb 0 (by decide) h (ofNat_le r) k a,
    col_dvd h (j := 1#32) (by decide), col_dvd h (j := 2#32) (by decide), col_dvd h (j := 3#32) (by decide),
    col_dvd h (j := 4#32) (by decide), col_dvd h (j := 5#32) (by decide), col_dvd h (j := 6#32) (by decide),
    col_dvd h (j := 0#32) (by decide), fun k r a => box_inb 0 (by decide) h (ofNat_le r) k a,
    col_dvd h (j := 1#32) (by decide), col_dvd h (j := 2#32) (by decide), col_dvd h (j := 3#32) (by decide),
    col_dvd h (j := 4#32) (by decide), col_dvd h (j := 5#32) (by decide), col_dvd h (j := 6#32) (by decide)⟩

theorem chk2 {v : BitVec 32} (h : 768 ≤ v.toInt) : k0_chk2 v :=
  ⟨col_dvd h (j := 0#32) (by decide), fun k r a => box_inb 1 (by decide) h (ofNat_le r) k a,
    col_dvd h (j := 1#32) (by decide), col_dvd h (j := 2#32) (by decide), col_dvd h (j := 3#32) (by decide),
    col_dvd h (j := 4#32) (by decide), col_dvd h (j := 5#32) (by decide), col_dvd h (j := 6#32) (by decide),
    col_dvd h (j := 0#32) (by decide),
    col_dvd h (j := 1#32) (by decide), col_dvd h (j := 2#32) (by decide), col_dvd h (j := 3#32) (by decide),
    col_dvd h (j := 4#32) (by decide), col_dvd h (j := 5#32) (by decide), col_dvd h (j := 6#32) (by decide)⟩

end Cert.Kernel.Hand
-- ==== Proof.KernelBody.lean ====
/-
  The kernel's body run once, from its operands at any contents: nothing is named of what it leaves in its outputs and
  scratch. The two sequence lengths it reads are at least 768, which is what its dynamic offsets' side conditions take.
-/
module

public import proofs.«01_k».proof.Proof.Gen.Kernel.Frame
public import proofs.«01_k».proof.Proof.Gen.Kernel.Loops
public import proofs.«01_k».proof.Proof.KernelChecks

@[expose] public section

set_option maxRecDepth 16384
set_option maxHeartbeats 4000000

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄" => MT nD τ sig Unit (Elt F) ℕ (UR sig nD τ) ℕ

/-- The body's triple, for any continuation: the inputs come back as they were, the outputs and the scratch at some contents. -/
theorem kernelRun (c : Dev nD) (i : grid0.Coords) (arg1 : Memref sig .tc .smem S2 .i32) (harg1 : arg1.IsWhole) (arg2 : Memref sig .tc .smem S5x64 .f32) (harg2 : arg2.IsWhole) (arg3 : Memref sig .tc .smem S5x64 .f32) (harg3 : arg3.IsWhole) (arg4 : Memref sig .tc .vmem S64x160 .i32) (harg4 : arg4.IsWhole) (arg5 : Memref sig .tc .vmem S64x160 .i32) (harg5 : arg5.IsWhole) (arg6 : Memref sig .tc .vmem S2x4x160x896 .bf16) (harg6 : arg6.IsWhole) (arg7 : Memref sig .tc .vmem S2x4x160x896 .bf16) (harg7 : arg7.IsWhole) (arg8 : Memref sig .tc .vmem S2x4x160x768 .bf16) (harg8 : arg8.IsWhole) (arg9 : Memref sig .tc .vmem S2x4x160x768 .bf16) (harg9 : arg9.IsWhole) (arg10 : Memref sig .tc .vmem S2x4x80x128 .i8) (harg10 : arg10.IsWhole) (arg11 : Memref sig .tc .vmem S2x5x64x128 .fp8e4m3) (harg11 : arg11.IsWhole) (arg12 : Memref sig .tc .vmem S2x5x64x128 .fp8e4m3) (harg12 : arg12.IsWhole) (arg13 : Memref sig .tc .vmem S2x4x80x128 .i8) (harg13 : arg13.IsWhole) (arg14 : Memref sig .tc .vmem S2x5x64x128 .fp8e4m3) (harg14 : arg14.IsWhole) (arg15 : Memref sig .tc .vmem S2x5x64x128 .fp8e4m3) (harg15 : arg15.IsWhole) (arg16 : Memref sig .tc .vmem S2x4x160x128 .bf16) (harg16 : arg16.IsWhole) (arg17 : Memref sig .tc .vmem S2x4x160x128 .bf16) (harg17 : arg17.IsWhole) (arg18 : Memref sig .tc .vmem S64x160 .f32) (harg18 : arg18.IsWhole) (arg19 : Memref sig .tc .vmem S160x128 .f32) (harg19 : arg19.IsWhole) (arg20 : Memref sig .tc .vmem S64x160 .f32) (harg20 : arg20.IsWhole) (arg21 : Memref sig .tc .vmem S160x128 .f32) (harg21 : arg21.IsWhole) (arg22 : Memref sig .tc .vmem S2x512x128 .f32) (harg22 : arg22.IsWhole) (arg23 : Memref sig .tc .vmem S2x512x128 .f32) (harg23 : arg23.IsWhole) (arg24 : Memref sig .tc .vmem S2x512x128 .f32) (harg24 : arg24.IsWhole) (arg25 : Memref sig .tc .vmem S2x512x128 .f32) (harg25 : arg25.IsWhole)
    (d1 : _) (d2 : _) (d3 : _) (d4 : _) (d5 : _) (d6 : _) (d7 : _)
    (h0 : ∀ x, 768 ≤ (show BitVec 32 from d1 x).toInt) (K : PUnit → sProp 𝕄) :
    iprop(owns (c : Thread nD τ) arg1 fullShare d1 ∗ owns (c : Thread nD τ) arg2 fullShare d2 ∗ owns (c : Thread nD τ) arg3 fullShare d3 ∗ owns (c : Thread nD τ) arg4 fullShare d4 ∗ owns (c : Thread nD τ) arg5 fullShare d5 ∗ owns (c : Thread nD τ) arg6 fullShare d6 ∗ owns (c : Thread nD τ) arg7 fullShare d7
        ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d)
        ∗ (iprop(owns (c : Thread nD τ) arg1 fullShare d1 ∗ owns (c : Thread nD τ) arg2 fullShare d2 ∗ owns (c : Thread nD τ) arg3 fullShare d3 ∗ owns (c : Thread nD τ) arg4 fullShare d4 ∗ owns (c : Thread nD τ) arg5 fullShare d5 ∗ owns (c : Thread nD τ) arg6 fullShare d6 ∗ owns (c : Thread nD τ) arg7 fullShare d7
        ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d)) -∗ K ⟨⟩))
      ⊢ wp frame (wpE (defs₀ (F := F)) Variants.none c none) Set.univ
          (cc0_skvq_store i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K := by
  simp only [cc0_skvq_store_eq_skeleton]; unfold cc0_skvq_store_skel
  unfold owns
  iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, Hk⟩
  have hw : ∀ (r : Rect S2) (x), 768 ≤ (show BitVec 32 from arg1.view.readAt (Elt F) r.toLoadRect f1 x).toInt :=
    fun r x => by rw [View.readAt_apply, e1]; exact h0 _
  sl_exec (disch := first | exact chk1 (hw _ _) | exact chk2 (hw _ _))
  sl_step
  iapply Hk
  isplitl [H1]
  · iexists _; isplitr; swap; · iexact H1
    ipureintro; exact e1
  isplitl [H2]
  · iexists _; isplitr; swap; · iexact H2
    ipureintro; exact e2
  isplitl [H3]
  · iexists _; isplitr; swap; · iexact H3
    ipureintro; exact e3
  isplitl [H4]
  · iexists _; isplitr; swap; · iexact H4
    ipureintro; exact e4
  isplitl [H5]
  · iexists _; isplitr; swap; · iexact H5
    ipureintro; exact e5
  isplitl [H6]
  · iexists _; isplitr; swap; · iexact H6
    ipureintro; exact e6
  isplitl [H7]
  · iexists _; isplitr; swap; · iexact H7
    ipureintro; exact e7
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  isplitl [H12]
  · iexists _, _; isplitr; swap; · iexact H12
    ipureintro; rfl
  isplitl [H13]
  · iexists _, _; isplitr; swap; · iexact H13
    ipureintro; rfl
  isplitl [H14]
  · iexists _, _; isplitr; swap; · iexact H14
    ipureintro; rfl
  isplitl [H15]
  · iexists _, _; isplitr; swap; · iexact H15
    ipureintro; rfl
  isplitl [H16]
  · iexists _, _; isplitr; swap; · iexact H16
    ipureintro; rfl
  isplitl [H17]
  · iexists _, _; isplitr; swap; · iexact H17
    ipureintro; rfl
  isplitl [H18]
  · iexists _, _; isplitr; swap; · iexact H18
    ipureintro; rfl
  isplitl [H19]
  · iexists _, _; isplitr; swap; · iexact H19
    ipureintro; rfl
  isplitl [H20]
  · iexists _, _; isplitr; swap; · iexact H20
    ipureintro; rfl
  isplitl [H21]
  · iexists _, _; isplitr; swap; · iexact H21
    ipureintro; rfl
  isplitl [H22]
  · iexists _, _; isplitr; swap; · iexact H22
    ipureintro; rfl
  isplitl [H23]
  · iexists _, _; isplitr; swap; · iexact H23
    ipureintro; rfl
  isplitl [H24]
  · iexists _, _; isplitr; swap; · iexact H24
    ipureintro; rfl
  iexists _, _; isplitr; swap; · iexact H25
  ipureintro; rfl

end Cert.Kernel.Hand

end
-- ==== Proof.KernelFrame.lean ====
/-
  The frame of the one region: the inputs keep their blocks, the outputs and the scratch are forgotten, and every fair
  execution ends with the argument arrays unchanged and every semaphore at zero, provided the sequence lengths are at
  least 768.
-/
module

public import proofs.«01_k».proof.Proof.KernelBody

@[expose] public section

set_option maxRecDepth 16384
set_option maxHeartbeats 1000000

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [BitOps F] [∀ e, Nonempty (Elt F e)]

local notation "𝕄" => MT nD τ sig Unit (Elt F) ℕ (UR sig nD τ) ℕ

variable (m : (ℓ : Loc nD τ sig) → Buf (Elt F) ℓ) (ρ : Dev nD → PrngReg)

/-- The window is filled: both sequence lengths are at least 768. -/
def Filled : Prop := ∀ (c : Dev nD) (i : S2.Idx), 768 ≤ (show BitVec 32 from m ((c : Thread nD τ).loc main_arg2) i).toInt

/-- The outputs are forgotten. -/
def forgets0 : Fin 17 → Bool := fun w => decide (7 ≤ w.val)

/-- The proof data on core `c`: each array as the region finds it, the inputs' blocks left in place. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => Pipeline.Dat.unnamed (cfg := cfg0) 7 t
    | ⟨8, _⟩ => Pipeline.Dat.unnamed (cfg := cfg0) 8 t
    | ⟨9, _⟩ => Pipeline.Dat.unnamed (cfg := cfg0) 9 t
    | ⟨10, _⟩ => Pipeline.Dat.unnamed (cfg := cfg0) 10 t
    | ⟨11, _⟩ => Pipeline.Dat.unnamed (cfg := cfg0) 11 t
    | ⟨12, _⟩ => Pipeline.Dat.unnamed (cfg := cfg0) 12 t
    | ⟨13, _⟩ => Pipeline.Dat.unnamed (cfg := cfg0) 13 t
    | ⟨14, _⟩ => Pipeline.Dat.unnamed (cfg := cfg0) 14 t
    | ⟨15, _⟩ => Pipeline.Dat.unnamed (cfg := cfg0) 15 t
    | ⟨16, _⟩ => Pipeline.Dat.unnamed (cfg := cfg0) 16 t
    | ⟨_ + 17, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-- What the body is called with at point `t`, and what it returns. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ X, owns (c : Thread nD τ) (st0_7 t) fullShare X)
    ∗ (∃ X, owns (c : Thread nD τ) (st0_8 t) fullShare X)
    ∗ (∃ X, owns (c : Thread nD τ) (st0_9 t) fullShare X)
    ∗ (∃ X, owns (c : Thread nD τ) (st0_10 t) fullShare X)
    ∗ (∃ X, owns (c : Thread nD τ) (st0_11 t) fullShare X)
    ∗ (∃ X, owns (c : Thread nD τ) (st0_12 t) fullShare X)
    ∗ (∃ X, owns (c : Thread nD τ) (st0_13 t) fullShare X)
    ∗ (∃ X, owns (c : Thread nD τ) (st0_14 t) fullShare X)
    ∗ (∃ X, owns (c : Thread nD τ) (st0_15 t) fullShare X)
    ∗ (∃ X, owns (c : Thread nD τ) (st0_16 t) fullShare X))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ (∃ X, owns (c : Thread nD τ) (st0_7 t) fullShare X)
    ∗ (∃ X, owns (c : Thread nD τ) (st0_8 t) fullShare X)
    ∗ (∃ X, owns (c : Thread nD τ) (st0_9 t) fullShare X)
    ∗ (∃ X, owns (c : Thread nD τ) (st0_10 t) fullShare X)
    ∗ (∃ X, owns (c : Thread nD τ) (st0_11 t) fullShare X)
    ∗ (∃ X, owns (c : Thread nD τ) (st0_12 t) fullShare X)
    ∗ (∃ X, owns (c : Thread nD τ) (st0_13 t) fullShare X)
    ∗ (∃ X, owns (c : Thread nD τ) (st0_14 t) fullShare X)
    ∗ (∃ X, owns (c : Thread nD τ) (st0_15 t) fullShare X)
    ∗ (∃ X, owns (c : Thread nD τ) (st0_16 t) fullShare X))

/-- The invariant between the points: the scratch at some contents, the generator register at some state. -/
theorem ΦA0_eq (c : Dev nD) : (Pipeline.ΦA spec0 c : sProp 𝕄)
    = iprop(((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d) ∗ (∃ d, owns (c : Thread nD τ) (Memref.whole cc0_scratch6) fullShare d) ∗ (∃ d, owns (c : Thread nD τ) (Memref.whole cc0_scratch7) fullShare d)) ∗ ∃ r, prngReg c r) := by
  unfold Pipeline.ΦA; rw [scopedRest0_eq]; simp only [owns_whole]; try rfl

variable {m}

theorem filled_block (hm : Filled m) (c : Dev nD) (t : Fin cfg0.N) (x : S2.Idx) :
    768 ≤ (show BitVec 32 from iblk m c 0 t x).toInt := by
  have e : V m c (Pipeline.arrRef spec0 0) = m ((c : Thread nD τ).loc main_arg2) := V_main_arg2 m c
  unfold iblk; rw [e]; exact hm c _

variable (m)

theorem sound_body (hm : Filled m) (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, ΦA0_eq, after0_0, after0_1, after0_2, after0_3, after0_4, after0_5, after0_6]
  iintro ⟨⟨⟨S0, S1, S2, S3, S4, S5, S6, S7⟩, Hg⟩, Ho, ⟨%d0, H0⟩, ⟨%d1, H1⟩, ⟨%d2, H2⟩, ⟨%d3, H3⟩, ⟨%d4, H4⟩, ⟨%d5, H5⟩, ⟨%d6, H6⟩, H7, H8, H9, H10, H11, H12, H13, H14, H15, H16⟩
  iapply (kernelRun c (grid0.coords t) _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (filled_block hm c t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  iintro ⟨H0, H1, H2, H3, H4, H5, H6, H7, H8, H9, H10, H11, H12, H13, H14, H15, H16, S0, S1, S2, S3, S4, S5, S6, S7⟩
  isplitl [Hg S0 S1 S2 S3 S4 S5 S6 S7]
  · isplitr [Hg]; swap; · iexact Hg
    isplitl [S0]; · iexact S0
    isplitl [S1]; · iexact S1
    isplitl [S2]; · iexact S2
    isplitl [S3]; · iexact S3
    isplitl [S4]; · iexact S4
    isplitl [S5]; · iexact S5
    isplitl [S6]; · iexact S6
    iexact S7
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexact H16

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

theorem body_obligation (hm : Filled m) (c : Dev nD) :
    BodyObligation (dats (F := F) m 0 c) (defs₀ (F := F)) Variants.none () Set.univ forgets0 := fun t => by
  rw [bigSep_W0, bigSep_W0, defs₀_row]
  exact triple_restated (sound_body m hm c t) rfl .rfl fun _ => .rfl

-- the theorem's implicit arguments are found by unifying its conclusion with this statement, which unifies only when
-- unification may unfold plain definitions in a metavariable's type
set_option backward.isDefEq.respectTransparency.types false in
theorem run_main (hm : Filled m) :
    θ_run defs (onTc (τ := τ) (main (F := F))) (s₀ m ρ)
      (fun r => Pipeline.RDat.FramePost (cfgs 0) (fun c => (dats m 0 c).toRForget forgets0) (V m) r ∧ r.2.sem = fun _ => 0) :=
  Pipeline.θ_run_frame_forget (Q' := _) cfgs (dats m) (0 : Fin 1) launch0 defs₀ Variants.none forgets0 m ρ main
    (hbody := fun c => (body_obligation m hm c).loose) (hshare := fun c => (dats m 0 c).share_full fun _ => rfl)
    (howed := fun _ _ => rfl) (V := V m) (hmain := hmain m Variants.none) (hA := A_eq m) (hΦ := fun _ _ => rfl)

/-- THE FRAME: the argument arrays end unchanged, every counter at zero. -/
theorem frame (hm : Filled m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r ⟨h, hs⟩ => ⟨fun c =>
    ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      (Pipeline.RDat.FramePost.arr_in h c 0 rfl).trans ((A_eq m c 0).trans (V_main_arg2 m c)),
      (Pipeline.RDat.FramePost.arr_in h c 3 rfl).trans ((A_eq m c 3).trans (V_main_arg3 m c)),
      (Pipeline.RDat.FramePost.arr_in h c 4 rfl).trans ((A_eq m c 4).trans (V_main_arg4 m c)),
      ((h c).2 main_arg5 (Pipeline.mem_restRefs_of main_arg5 (by decide) (by decide))).trans (V_main_arg5 m c),
      ((h c).2 main_arg6 (Pipeline.mem_restRefs_of main_arg6 (by decide) (by decide))).trans (V_main_arg6 m c)⟩, hs⟩)
    (run_main m ρ hm)

end Cert.Kernel.Hand

end
-- ==== Proof.KernelIdealChecks.lean ====
/-
  The side conditions the kernel's dynamic offsets take, from the sequence lengths: a length of at least 768 puts every
  lane offset at a multiple of 128 inside the cache.
-/
module

public import proofs.«01_k».proof.Proof.Gen.KernelIdeal.Skeleton
public import proofs.«01_k».proof.Proof.Words

@[expose] public section

namespace Cert.KernelIdeal.Hand

open Idealize.ShloMosaic Cert.KernelIdeal Cert.KernelIdeal.Gen Cert.Words

theorem trip_lt (k : Fin k0_t1_loop.trips) : k.val < 4 := Nat.lt_of_lt_of_le k.isLt k0_t1_abs.2.1

theorem trip_word (k : Fin k0_t1_loop.trips) : (Scalar.indexCast (Scf.iv 0#32 1#32 k.val)).toNat = k.val := by
  have := trip_lt k
  show (0#32 + BitVec.ofNat 32 k.val * 1#32).toNat = _
  rw [BitVec.zero_add, BitVec.mul_one, BitVec.toNat_ofNat]; omega

/-- A 160 × 128 box at head `k` and lanes `col v j` of a batch's cache block lies inside the block. -/
theorem box_inb (b : Nat) (hb : b < 2) {v j : BitVec 32} (h : 768 ≤ v.toInt) (hj : j.toNat ≤ 6) (k : Fin k0_t1_loop.trips) (a : Fin 4) :
    (![b, (Scalar.indexCast (Scf.iv 0#32 1#32 k.val)).toNat, 0, (col v j).toNat] : Fin 4 → Nat) a + S1x1x160x128.size a ≤ S2x4x160x896.size a := by
  have := trip_lt k
  have := col_le h hj
  match a with
  | 0 => show b + 1 ≤ 2; omega
  | 1 => show (Scalar.indexCast (Scf.iv 0#32 1#32 k.val)).toNat + 1 ≤ 4; rw [trip_word]; omega
  | 2 => show 0 + 160 ≤ 160; omega
  | 3 => exact this

theorem ofNat_le (r : Fin 7) : (BitVec.ofNat 32 r.val).toNat ≤ 6 := by
  rw [BitVec.toNat_ofNat]; omega

theorem chk1 {v : BitVec 32} (h : 768 ≤ v.toInt) : k0_chk1 v :=
  ⟨col_dvd h (j := 0#32) (by decide), fun k r a => box_inb 0 (by decide) h (ofNat_le r) k a,
    col_dvd h (j := 1#32) (by decide), col_dvd h (j := 2#32) (by decide), col_dvd h (j := 3#32) (by decide),
    col_dvd h (j := 4#32) (by decide), col_dvd h (j := 5#32) (by decide), col_dvd h (j := 6#32) (by decide),
    col_dvd h (j := 0#32) (by decide), fun k r a => box_inb 0 (by decide) h (ofNat_le r) k a,
    col_dvd h (j := 1#32) (by decide), col_dvd h (j := 2#32) (by decide), col_dvd h (j := 3#32) (by decide),
    col_dvd h (j := 4#32) (by decide), col_dvd h (j := 5#32) (by decide), col_dvd h (j := 6#32) (by decide)⟩

theorem chk2 {v : BitVec 32} (h : 768 ≤ v.toInt) : k0_chk2 v :=
  ⟨col_dvd h (j := 0#32) (by decide), fun k r a => box_inb 1 (by decide) h (ofNat_le r) k a,
    col_dvd h (j := 1#32) (by decide), col_dvd h (j := 2#32) (by decide), col_dvd h (j := 3#32) (by decide),
    col_dvd h (j := 4#32) (by decide), col_dvd h (j := 5#32) (by decide), col_dvd h (j := 6#32) (by decide),
    col_dvd h (j := 0#32) (by decide),
    col_dvd h (j := 1#32) (by decide), col_dvd h (j := 2#32) (by decide), col_dvd h (j := 3#32) (by decide),
    col_dvd h (j := 4#32) (by decide), col_dvd h (j := 5#32) (by decide), col_dvd h (j := 6#32) (by decide)⟩

end Cert.KernelIdeal.Hand
-- ==== Proof.KernelIdealBody.lean ====
/-
  The kernel's body run once, from its operands at any contents: nothing is named of what it leaves in its outputs and
  scratch. The two sequence lengths it reads are at least 768, which is what its dynamic offsets' side conditions take.
-/
module

public import proofs.«01_k».proof.Proof.Gen.KernelIdeal.Frame
public import proofs.«01_k».proof.Proof.Gen.KernelIdeal.Loops
public import proofs.«01_k».proof.Proof.KernelIdealChecks

@[expose] public section

set_option maxRecDepth 16384
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The body's triple, for any continuation: the inputs come back as they were, the outputs and the scratch at some contents. -/
theorem kernelRun (c : Dev nD) (i : grid0.Coords) (arg1 : Memref sig .tc .smem S2 .i32) (harg1 : arg1.IsWhole) (arg2 : Memref sig .tc .smem S5x64 .f32) (harg2 : arg2.IsWhole) (arg3 : Memref sig .tc .smem S5x64 .f32) (harg3 : arg3.IsWhole) (arg4 : Memref sig .tc .vmem S64x160 .i32) (harg4 : arg4.IsWhole) (arg5 : Memref sig .tc .vmem S64x160 .i32) (harg5 : arg5.IsWhole) (arg6 : Memref sig .tc .vmem S2x4x160x896 .bf16) (harg6 : arg6.IsWhole) (arg7 : Memref sig .tc .vmem S2x4x160x896 .bf16) (harg7 : arg7.IsWhole) (arg8 : Memref sig .tc .vmem S2x4x160x768 .bf16) (harg8 : arg8.IsWhole) (arg9 : Memref sig .tc .vmem S2x4x160x768 .bf16) (harg9 : arg9.IsWhole) (arg10 : Memref sig .tc .vmem S2x4x80x128 .i8) (harg10 : arg10.IsWhole) (arg11 : Memref sig .tc .vmem S2x5x64x128 .fp8e4m3) (harg11 : arg11.IsWhole) (arg12 : Memref sig .tc .vmem S2x5x64x128 .fp8e4m3) (harg12 : arg12.IsWhole) (arg13 : Memref sig .tc .vmem S2x4x80x128 .i8) (harg13 : arg13.IsWhole) (arg14 : Memref sig .tc .vmem S2x5x64x128 .fp8e4m3) (harg14 : arg14.IsWhole) (arg15 : Memref sig .tc .vmem S2x5x64x128 .fp8e4m3) (harg15 : arg15.IsWhole) (arg16 : Memref sig .tc .vmem S2x4x160x128 .bf16) (harg16 : arg16.IsWhole) (arg17 : Memref sig .tc .vmem S2x4x160x128 .bf16) (harg17 : arg17.IsWhole) (arg18 : Memref sig .tc .vmem S64x160 .f32) (harg18 : arg18.IsWhole) (arg19 : Memref sig .tc .vmem S160x128 .f32) (harg19 : arg19.IsWhole) (arg20 : Memref sig .tc .vmem S64x160 .f32) (harg20 : arg20.IsWhole) (arg21 : Memref sig .tc .vmem S160x128 .f32) (harg21 : arg21.IsWhole) (arg22 : Memref sig .tc .vmem S2x512x128 .f32) (harg22 : arg22.IsWhole) (arg23 : Memref sig .tc .vmem S2x512x128 .f32) (harg23 : arg23.IsWhole) (arg24 : Memref sig .tc .vmem S2x512x128 .f32) (harg24 : arg24.IsWhole) (arg25 : Memref sig .tc .vmem S2x512x128 .f32) (harg25 : arg25.IsWhole)
    (d1 : _) (d2 : _) (d3 : _) (d4 : _) (d5 : _) (d6 : _) (d7 : _)
    (h0 : ∀ x, 768 ≤ (show BitVec 32 from d1 x).toInt) (K : PUnit → sProp 𝕄) :
    iprop(owns (c : Thread nD τ) arg1 fullShare d1 ∗ owns (c : Thread nD τ) arg2 fullShare d2 ∗ owns (c : Thread nD τ) arg3 fullShare d3 ∗ owns (c : Thread nD τ) arg4 fullShare d4 ∗ owns (c : Thread nD τ) arg5 fullShare d5 ∗ owns (c : Thread nD τ) arg6 fullShare d6 ∗ owns (c : Thread nD τ) arg7 fullShare d7
        ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d)
        ∗ (iprop(owns (c : Thread nD τ) arg1 fullShare d1 ∗ owns (c : Thread nD τ) arg2 fullShare d2 ∗ owns (c : Thread nD τ) arg3 fullShare d3 ∗ owns (c : Thread nD τ) arg4 fullShare d4 ∗ owns (c : Thread nD τ) arg5 fullShare d5 ∗ owns (c : Thread nD τ) arg6 fullShare d6 ∗ owns (c : Thread nD τ) arg7 fullShare d7
        ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d)) -∗ K ⟨⟩))
      ⊢ wp frame (wpE (defs₀ (F := F)) Variants.none c none) Set.univ
          (cc0_skvq_store i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K := by
  simp only [cc0_skvq_store_eq_skeleton]; unfold cc0_skvq_store_skel
  unfold owns
  iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, Hk⟩
  have hw : ∀ (r : Rect S2) (x), 768 ≤ (show BitVec 32 from arg1.view.readAt (Elt F) r.toLoadRect f1 x).toInt :=
    fun r x => by rw [View.readAt_apply, e1]; exact h0 _
  sl_exec (disch := first | exact chk1 (hw _ _) | exact chk2 (hw _ _))
  sl_step
  iapply Hk
  isplitl [H1]
  · iexists _; isplitr; swap; · iexact H1
    ipureintro; exact e1
  isplitl [H2]
  · iexists _; isplitr; swap; · iexact H2
    ipureintro; exact e2
  isplitl [H3]
  · iexists _; isplitr; swap; · iexact H3
    ipureintro; exact e3
  isplitl [H4]
  · iexists _; isplitr; swap; · iexact H4
    ipureintro; exact e4
  isplitl [H5]
  · iexists _; isplitr; swap; · iexact H5
    ipureintro; exact e5
  isplitl [H6]
  · iexists _; isplitr; swap; · iexact H6
    ipureintro; exact e6
  isplitl [H7]
  · iexists _; isplitr; swap; · iexact H7
    ipureintro; exact e7
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  isplitl [H12]
  · iexists _, _; isplitr; swap; · iexact H12
    ipureintro; rfl
  isplitl [H13]
  · iexists _, _; isplitr; swap; · iexact H13
    ipureintro; rfl
  isplitl [H14]
  · iexists _, _; isplitr; swap; · iexact H14
    ipureintro; rfl
  isplitl [H15]
  · iexists _, _; isplitr; swap; · iexact H15
    ipureintro; rfl
  isplitl [H16]
  · iexists _, _; isplitr; swap; · iexact H16
    ipureintro; rfl
  isplitl [H17]
  · iexists _, _; isplitr; swap; · iexact H17
    ipureintro; rfl
  isplitl [H18]
  · iexists _, _; isplitr; swap; · iexact H18
    ipureintro; rfl
  isplitl [H19]
  · iexists _, _; isplitr; swap; · iexact H19
    ipureintro; rfl
  isplitl [H20]
  · iexists _, _; isplitr; swap; · iexact H20
    ipureintro; rfl
  isplitl [H21]
  · iexists _, _; isplitr; swap; · iexact H21
    ipureintro; rfl
  isplitl [H22]
  · iexists _, _; isplitr; swap; · iexact H22
    ipureintro; rfl
  isplitl [H23]
  · iexists _, _; isplitr; swap; · iexact H23
    ipureintro; rfl
  isplitl [H24]
  · iexists _, _; isplitr; swap; · iexact H24
    ipureintro; rfl
  iexists _, _; isplitr; swap; · iexact H25
  ipureintro; rfl

end Cert.KernelIdeal.Hand

end
-- ==== Proof.KernelIdealFrame.lean ====
/-
  The frame of the one region: the inputs keep their blocks, the outputs and the scratch are forgotten, and every fair
  execution ends with the argument arrays unchanged and every semaphore at zero, provided the sequence lengths are at
  least 768.
-/
module

public import proofs.«01_k».proof.Proof.KernelIdealBody

@[expose] public section

set_option maxRecDepth 16384
set_option maxHeartbeats 1000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [∀ e, Nonempty (Elt F e)]

local notation "𝕄" => MT nD τ sig Unit (Elt F) ℕ (UR sig nD τ) ℕ

variable (m : (ℓ : Loc nD τ sig) → Buf (Elt F) ℓ) (ρ : Dev nD → PrngReg)

/-- The window is filled: both sequence lengths are at least 768. -/
def Filled : Prop := ∀ (c : Dev nD) (i : S2.Idx), 768 ≤ (show BitVec 32 from m ((c : Thread nD τ).loc main_arg2) i).toInt

/-- The outputs are forgotten. -/
def forgets0 : Fin 17 → Bool := fun w => decide (7 ≤ w.val)

/-- The proof data on core `c`: each array as the region finds it, the inputs' blocks left in place. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => Pipeline.Dat.unnamed (cfg := cfg0) 7 t
    | ⟨8, _⟩ => Pipeline.Dat.unnamed (cfg := cfg0) 8 t
    | ⟨9, _⟩ => Pipeline.Dat.unnamed (cfg := cfg0) 9 t
    | ⟨10, _⟩ => Pipeline.Dat.unnamed (cfg := cfg0) 10 t
    | ⟨11, _⟩ => Pipeline.Dat.unnamed (cfg := cfg0) 11 t
    | ⟨12, _⟩ => Pipeline.Dat.unnamed (cfg := cfg0) 12 t
    | ⟨13, _⟩ => Pipeline.Dat.unnamed (cfg := cfg0) 13 t
    | ⟨14, _⟩ => Pipeline.Dat.unnamed (cfg := cfg0) 14 t
    | ⟨15, _⟩ => Pipeline.Dat.unnamed (cfg := cfg0) 15 t
    | ⟨16, _⟩ => Pipeline.Dat.unnamed (cfg := cfg0) 16 t
    | ⟨_ + 17, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-- What the body is called with at point `t`, and what it returns. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ X, owns (c : Thread nD τ) (st0_7 t) fullShare X)
    ∗ (∃ X, owns (c : Thread nD τ) (st0_8 t) fullShare X)
    ∗ (∃ X, owns (c : Thread nD τ) (st0_9 t) fullShare X)
    ∗ (∃ X, owns (c : Thread nD τ) (st0_10 t) fullShare X)
    ∗ (∃ X, owns (c : Thread nD τ) (st0_11 t) fullShare X)
    ∗ (∃ X, owns (c : Thread nD τ) (st0_12 t) fullShare X)
    ∗ (∃ X, owns (c : Thread nD τ) (st0_13 t) fullShare X)
    ∗ (∃ X, owns (c : Thread nD τ) (st0_14 t) fullShare X)
    ∗ (∃ X, owns (c : Thread nD τ) (st0_15 t) fullShare X)
    ∗ (∃ X, owns (c : Thread nD τ) (st0_16 t) fullShare X))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ (∃ X, owns (c : Thread nD τ) (st0_7 t) fullShare X)
    ∗ (∃ X, owns (c : Thread nD τ) (st0_8 t) fullShare X)
    ∗ (∃ X, owns (c : Thread nD τ) (st0_9 t) fullShare X)
    ∗ (∃ X, owns (c : Thread nD τ) (st0_10 t) fullShare X)
    ∗ (∃ X, owns (c : Thread nD τ) (st0_11 t) fullShare X)
    ∗ (∃ X, owns (c : Thread nD τ) (st0_12 t) fullShare X)
    ∗ (∃ X, owns (c : Thread nD τ) (st0_13 t) fullShare X)
    ∗ (∃ X, owns (c : Thread nD τ) (st0_14 t) fullShare X)
    ∗ (∃ X, owns (c : Thread nD τ) (st0_15 t) fullShare X)
    ∗ (∃ X, owns (c : Thread nD τ) (st0_16 t) fullShare X))

/-- The invariant between the points: the scratch at some contents, the generator register at some state. -/
theorem ΦA0_eq (c : Dev nD) : (Pipeline.ΦA spec0 c : sProp 𝕄)
    = iprop(((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d) ∗ (∃ d, owns (c : Thread nD τ) (Memref.whole cc0_scratch6) fullShare d) ∗ (∃ d, owns (c : Thread nD τ) (Memref.whole cc0_scratch7) fullShare d)) ∗ ∃ r, prngReg c r) := by
  unfold Pipeline.ΦA; rw [scopedRest0_eq]; simp only [owns_whole]; try rfl

variable {m}

theorem filled_block (hm : Filled m) (c : Dev nD) (t : Fin cfg0.N) (x : S2.Idx) :
    768 ≤ (show BitVec 32 from iblk m c 0 t x).toInt := by
  have e : V m c (Pipeline.arrRef spec0 0) = m ((c : Thread nD τ).loc main_arg2) := V_main_arg2 m c
  unfold iblk; rw [e]; exact hm c _

variable (m)

theorem sound_body (hm : Filled m) (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, ΦA0_eq, after0_0, after0_1, after0_2, after0_3, after0_4, after0_5, after0_6]
  iintro ⟨⟨⟨S0, S1, S2, S3, S4, S5, S6, S7⟩, Hg⟩, Ho, ⟨%d0, H0⟩, ⟨%d1, H1⟩, ⟨%d2, H2⟩, ⟨%d3, H3⟩, ⟨%d4, H4⟩, ⟨%d5, H5⟩, ⟨%d6, H6⟩, H7, H8, H9, H10, H11, H12, H13, H14, H15, H16⟩
  iapply (kernelRun c (grid0.coords t) _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (filled_block hm c t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  iintro ⟨H0, H1, H2, H3, H4, H5, H6, H7, H8, H9, H10, H11, H12, H13, H14, H15, H16, S0, S1, S2, S3, S4, S5, S6, S7⟩
  isplitl [Hg S0 S1 S2 S3 S4 S5 S6 S7]
  · isplitr [Hg]; swap; · iexact Hg
    isplitl [S0]; · iexact S0
    isplitl [S1]; · iexact S1
    isplitl [S2]; · iexact S2
    isplitl [S3]; · iexact S3
    isplitl [S4]; · iexact S4
    isplitl [S5]; · iexact S5
    isplitl [S6]; · iexact S6
    iexact S7
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexact H16

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

theorem body_obligation (hm : Filled m) (c : Dev nD) :
    BodyObligation (dats (F := F) m 0 c) (defs₀ (F := F)) Variants.none () Set.univ forgets0 := fun t => by
  rw [bigSep_W0, bigSep_W0, defs₀_row]
  exact triple_restated (sound_body m hm c t) rfl .rfl fun _ => .rfl

-- the theorem's implicit arguments are found by unifying its conclusion with this statement, which unifies only when
-- unification may unfold plain definitions in a metavariable's type
set_option backward.isDefEq.respectTransparency.types false in
theorem run_main (hm : Filled m) :
    θ_run defs (onTc (τ := τ) (main (F := F))) (s₀ m ρ)
      (fun r => Pipeline.RDat.FramePost (cfgs 0) (fun c => (dats m 0 c).toRForget forgets0) (V m) r ∧ r.2.sem = fun _ => 0) :=
  Pipeline.θ_run_frame_forget (Q' := _) cfgs (dats m) (0 : Fin 1) launch0 defs₀ Variants.none forgets0 m ρ main
    (hbody := fun c => (body_obligation m hm c).loose) (hshare := fun c => (dats m 0 c).share_full fun _ => rfl)
    (howed := fun _ _ => rfl) (V := V m) (hmain := hmain m Variants.none) (hA := A_eq m) (hΦ := fun _ _ => rfl)

/-- THE FRAME: the argument arrays end unchanged, every counter at zero. -/
theorem frame (hm : Filled m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r ⟨h, hs⟩ => ⟨fun c =>
    ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      (Pipeline.RDat.FramePost.arr_in h c 0 rfl).trans ((A_eq m c 0).trans (V_main_arg2 m c)),
      (Pipeline.RDat.FramePost.arr_in h c 3 rfl).trans ((A_eq m c 3).trans (V_main_arg3 m c)),
      (Pipeline.RDat.FramePost.arr_in h c 4 rfl).trans ((A_eq m c 4).trans (V_main_arg4 m c)),
      ((h c).2 main_arg5 (Pipeline.mem_restRefs_of main_arg5 (by decide) (by decide))).trans (V_main_arg5 m c),
      ((h c).2 main_arg6 (Pipeline.mem_restRefs_of main_arg6 (by decide) (by decide))).trans (V_main_arg6 m c)⟩, hs⟩)
    (run_main m ρ hm)

end Cert.KernelIdeal.Hand

end
-- ==== Proof.PreFilled.lean ====
/-
  What the precondition `window_filled` says of the arguments: both sequence lengths are at least 768.
-/
module

public import proofs.«01_k».proof.Pre_window_filled
public import Idealize.ShloMosaic.Lib.Affine

@[expose] public section

noncomputable section

namespace Cert.Pre

open Idealize.ShloMosaic

variable {F : FTy → Type} [FloatOps F]

theorem filled [Pre_window_filled.Facts] {a0 a1 a2 a3 a4 a5 a6} (h : Pre_window_filled.fn (F := F) a0 a1 a2 a3 a4 a5 a6 = fun _ => 1#1)
    (i : Pre_window_filled.S2.Idx) : 768 ≤ (a2 i).toInt := by
  have e := congrFun h i
  exact IntOp.cmpi_sge.1 e

end Cert.Pre

end
-- ==== Proof.Model.lean ====
/- One head's quantisation as the kernel's vectors compute it, stage by stage: the reordered channels, the clip factors,
   the groups' zero points and scales, the packed codes, and the values the codes stand for. The keys' pass and the
   values' pass of a loop trip are both instances of these functions. -/
module

public import proofs.«01_k».proof.Proof.Gen.KernelIdeal.Loops
public import Idealize.ShloMosaic.Lib.Pointwise

@[expose] public section

noncomputable section

namespace Cert.KernelIdeal.Val

open Cert.KernelIdeal Cert.KernelIdeal.Gen Idealize.ShloMosaic

/-- The channels of both sequences' tokens, in the kernel's row order: a one-hot matrix times the cache block. -/
def mXr (hd : BitVec 32) (col : Vec Ideal S160x128 .f32) (x0 x1 : Vec Ideal S1x1x160x128 .bf16) : FVec Ideal S160x256 .f32 :=
  k0_pay72 (k0_pay66 hd col) k0_pay67 (k0_pay68 hd col) k0_pay69 k0_pay70 x0 x1

/-- The sublane number of every position. -/
def mSub : IVec S8x256 32 := iota .tc S8x256 32 [0] iota_S8x256_d0_w32

/-- Each group's clip factor, on its sublane. -/
def mClip (c0 c1 c2 c3 c4 : Elt Ideal .f32) : FVec Ideal S8x256 .f32 :=
  k0_pay76 mSub (k0_pay74 c0) k0_pay75 c1 c2 c3 c4

/-- Each group's zero point: the clip factor times the group's least value. -/
def mLo (xr : FVec Ideal S160x256 .f32) (cl : FVec Ideal S8x256 .f32) : FVec Ideal S8x256 .f32 :=
  k0_pay81 cl mSub (k0_pay79 xr mSub (k0_pay77 xr) (k0_pay78 xr) 1#32) (k0_pay80 xr) 1#32

/-- Each group's scale. -/
def mSf (xr : FVec Ideal S160x256 .f32) (cl : FVec Ideal S8x256 .f32) : FVec Ideal S8x256 .f32 :=
  k0_pay84 xr cl (mLo xr cl) mSub (k0_pay82 xr) (k0_pay83 xr)

/-- Whether each position's token is one the sequence has. -/
def mValid (v1 v3 : BitVec 32) : IVec S8x256 1 := k0_pay73 v1 v3

/-- The packed codes, two channels to a byte. -/
def mCode (va : IVec S8x256 1) (xr : FVec Ideal S160x256 .f32) (sf zf : FVec Ideal S8x256 .f32) : IVec S80x256 8 :=
  k0_pay135
    (k0_pay101 xr (k0_pay93 va sf (Scalar.ofBits .f32 0x3F800000#32)) (k0_pay94 va zf)
      (k0_pay96 xr va sf zf (Scalar.ofBits .f32 0x3F800000#32)) (Scalar.ofBits .f32 0x00000000#32) (Scalar.ofBits .f32 0x41700000#32))
    (k0_pay110 (k0_pay105 xr (k0_pay86 va sf (Scalar.ofBits .f32 0x3F800000#32)) (k0_pay88 va zf))
      (k0_pay106 xr (k0_pay86 va sf (Scalar.ofBits .f32 0x3F800000#32)) (k0_pay88 va zf)))
    (k0_pay118 xr (k0_pay86 va sf (Scalar.ofBits .f32 0x3F800000#32)) (k0_pay88 va zf))
    (k0_pay128 xr (k0_pay119 (k0_pay86 va sf (Scalar.ofBits .f32 0x3F800000#32))) (k0_pay120 (k0_pay88 va zf)) (k0_pay122 xr) (k0_pay123 (k0_pay88 va zf)))
    (k0_pay132 xr (k0_pay86 va sf (Scalar.ofBits .f32 0x3F800000#32)) (k0_pay88 va zf))
    (k0_pay133 xr (k0_pay86 va sf (Scalar.ofBits .f32 0x3F800000#32)) (k0_pay88 va zf))
    (Scalar.ofBits .f32 0x00000000#32) (Scalar.ofBits .f32 0x41700000#32)

/-- The values the codes stand for, back in the original channel order: a one-hot matrix times them. -/
def mDeq (bwd : FVec Ideal S160x160 .bf16) (va : IVec S8x256 1) (xr : FVec Ideal S160x256 .f32) (sf zf : FVec Ideal S8x256 .f32) :
    FVec Ideal S160x256 .bf16 :=
  k0_pay136 bwd
    (k0_pay99 (k0_pay94 va zf) (k0_pay95 va sf) (k0_pay96 xr va sf zf (Scalar.ofBits .f32 0x3F800000#32))
      (Scalar.ofBits .f32 0x00000000#32) (Scalar.ofBits .f32 0x41700000#32))
    (k0_pay100 xr (k0_pay93 va sf (Scalar.ofBits .f32 0x3F800000#32)) (k0_pay94 va zf) (k0_pay95 va sf))
    (k0_pay108 (k0_pay103 (k0_pay88 va zf)) (k0_pay107 xr (k0_pay86 va sf (Scalar.ofBits .f32 0x3F800000#32)) (k0_pay87 va sf) (k0_pay88 va zf)))
    (k0_pay109 (k0_pay103 (k0_pay88 va zf)) (k0_pay104 (k0_pay87 va sf)) (k0_pay106 xr (k0_pay86 va sf (Scalar.ofBits .f32 0x3F800000#32)) (k0_pay88 va zf)))
    (k0_pay116 xr (k0_pay86 va sf (Scalar.ofBits .f32 0x3F800000#32)) (k0_pay87 va sf) (k0_pay88 va zf))
    (k0_pay117 xr (k0_pay86 va sf (Scalar.ofBits .f32 0x3F800000#32)) (k0_pay87 va sf) (k0_pay88 va zf))
    (k0_pay126 (k0_pay119 (k0_pay86 va sf (Scalar.ofBits .f32 0x3F800000#32))) (k0_pay120 (k0_pay88 va zf)) (k0_pay121 (k0_pay87 va sf)) (k0_pay122 xr) (k0_pay123 (k0_pay88 va zf)))
    (k0_pay127 xr (k0_pay119 (k0_pay86 va sf (Scalar.ofBits .f32 0x3F800000#32))) (k0_pay120 (k0_pay88 va zf)) (k0_pay121 (k0_pay87 va sf)))
    (k0_pay130 (k0_pay88 va zf)) (k0_pay131 (k0_pay87 va sf))
    (k0_pay132 xr (k0_pay86 va sf (Scalar.ofBits .f32 0x3F800000#32)) (k0_pay88 va zf))
    (k0_pay133 xr (k0_pay86 va sf (Scalar.ofBits .f32 0x3F800000#32)) (k0_pay88 va zf))
    (Scalar.ofBits .f32 0x00000000#32) (Scalar.ofBits .f32 0x41700000#32)

end Cert.KernelIdeal.Val

end
-- ==== Proof.ModelRead.lean ====
/- What one head's quantisation computes at an index: each stage of the model read at a row and a lane. Row `16 g + i` is
   the group `g`'s even channel `2 i`, row `80 + 16 g + i` its odd channel `2 i + 1`. -/
module

public import proofs.«01_k».proof.Proof.Model
public import Idealize.ShloMosaic.Lib.KernelVsHost.SublaneAllReduce

@[expose] public section

noncomputable section

namespace Cert.KernelIdeal.Val

open Cert.KernelIdeal Cert.KernelIdeal.Gen Idealize.ShloMosaic Idealize.ShloMosaic.Pointwise

/-- The kernel's row of the group `g`'s channel `i`. -/
def rowOf (g : Fin 5) (i : Fin 32) : Fin 160 := ⟨16 * g.val + i.val / 2 + 80 * (i.val % 2), by omega⟩

/-- The group whose values the sublane `s` carries (the sublanes past the groups repeat the first). -/
def grp (s : Fin 8) : Fin 5 := if h : s.val < 5 then ⟨s.val, h⟩ else 0

/-- The least and the greatest value of a group. -/
def gMin (f : Fin 160 → EReal) (g : Fin 5) : EReal := Finset.univ.inf fun i : Fin 32 => f (rowOf g i)
def gMax (f : Fin 160 → EReal) (g : Fin 5) : EReal := Finset.univ.sup fun i : Fin 32 => f (rowOf g i)

open SublaneAllReduce in
theorem le_combine8 (c : EReal) (v : Fin 8 → EReal) : c ≤ combine8 min v ↔ ∀ k, c ≤ v k := by
  unfold combine8
  simp only [le_min_iff]
  constructor
  · rintro ⟨⟨⟨h0, h4⟩, h2, h6⟩, ⟨h1, h5⟩, h3, h7⟩ k
    fin_cases k <;> assumption
  · intro h; exact ⟨⟨⟨h 0, h 4⟩, h 2, h 6⟩, ⟨h 1, h 5⟩, h 3, h 7⟩

open SublaneAllReduce in
theorem combine8_le (c : EReal) (v : Fin 8 → EReal) : combine8 max v ≤ c ↔ ∀ k, v k ≤ c := by
  unfold combine8
  simp only [max_le_iff]
  constructor
  · rintro ⟨⟨⟨h0, h4⟩, h2, h6⟩, ⟨h1, h5⟩, h3, h7⟩ k
    fin_cases k <;> assumption
  · intro h; exact ⟨⟨⟨h 0, h 4⟩, h 2, h 6⟩, ⟨h 1, h 5⟩, h 3, h 7⟩

/-- A statement about a group's 32 rows is one about eight sublanes' four rows each. -/
theorem rows_iff (P : Fin 160 → Prop) (g : Fin 5) :
    (∀ k : Fin 8, (P ⟨16 * g.val + k.val, by omega⟩ ∧ P ⟨16 * g.val + 8 + k.val, by omega⟩) ∧
      P ⟨80 + 16 * g.val + k.val, by omega⟩ ∧ P ⟨88 + 16 * g.val + k.val, by omega⟩) ↔ ∀ i : Fin 32, P (rowOf g i) := by
  have e : ∀ (a : Fin 160) (i : Fin 32), a.val = 16 * g.val + i.val / 2 + 80 * (i.val % 2) → P (rowOf g i) = P a :=
    fun a i h => congrArg P (Fin.ext h.symm)
  constructor
  · intro h i
    have hk := h ⟨i.val / 2 % 8, by omega⟩
    obtain ⟨⟨h1, h2⟩, h3, h4⟩ := hk
    by_cases hp : i.val % 2 = 0 <;> by_cases hb : i.val / 2 < 8
    · exact (e _ i (by show 16 * g.val + i.val / 2 % 8 = _; omega)).mpr h1
    · exact (e _ i (by show 16 * g.val + 8 + i.val / 2 % 8 = _; omega)).mpr h2
    · exact (e _ i (by show 80 + 16 * g.val + i.val / 2 % 8 = _; omega)).mpr h3
    · exact (e _ i (by show 88 + 16 * g.val + i.val / 2 % 8 = _; omega)).mpr h4
  · intro h k
    refine ⟨⟨(e _ ⟨2 * k.val, by omega⟩ ?_).mp (h _), (e _ ⟨2 * k.val + 16, by omega⟩ ?_).mp (h _)⟩,
      (e _ ⟨2 * k.val + 1, by omega⟩ ?_).mp (h _), (e _ ⟨2 * k.val + 17, by omega⟩ ?_).mp (h _)⟩ <;> dsimp only <;> omega

open SublaneAllReduce in
theorem combine_min (f : Fin 160 → EReal) (g : Fin 5) :
    combine8 min (fun k : Fin 8 => min (min (f ⟨16 * g.val + k.val, by omega⟩) (f ⟨16 * g.val + 8 + k.val, by omega⟩))
      (min (f ⟨80 + 16 * g.val + k.val, by omega⟩) (f ⟨88 + 16 * g.val + k.val, by omega⟩))) = gMin f g := by
  refine eq_of_forall_le_iff fun c => ?_
  rw [le_combine8, gMin, Finset.le_inf_iff]
  simp only [le_min_iff, Finset.mem_univ, true_implies]
  exact rows_iff (fun a => c ≤ f a) g

open SublaneAllReduce in
theorem combine_max (f : Fin 160 → EReal) (g : Fin 5) :
    combine8 max (fun k : Fin 8 => max (max (f ⟨16 * g.val + k.val, by omega⟩) (f ⟨16 * g.val + 8 + k.val, by omega⟩))
      (max (f ⟨80 + 16 * g.val + k.val, by omega⟩) (f ⟨88 + 16 * g.val + k.val, by omega⟩))) = gMax f g := by
  refine eq_of_forall_ge_iff fun c => ?_
  rw [combine8_le, gMax, Finset.sup_le_iff]
  simp only [max_le_iff, Finset.mem_univ, true_implies]
  exact rows_iff (fun a => f a ≤ c) g

open SublaneAllReduce in
/-- The least of a group's rows, as the kernel takes it: a tree over four slices, then three rotations. -/
theorem red_min (xr : FVec Ideal S160x256 .f32) (g : Fin 5) {o1 o2 o3 o4 : Fin 2 → Nat}
    (h1 : S160x256.Slices o1 S8x256) (h2 : S160x256.Slices o2 S8x256) (h3 : S160x256.Slices o3 S8x256) (h4 : S160x256.Slices o4 S8x256)
    (e1 : o1 = ![16 * g.val, 0]) (e2 : o2 = ![16 * g.val + 8, 0]) (e3 : o3 = ![80 + 16 * g.val, 0]) (e4 : o4 = ![88 + 16 * g.val, 0])
    (hr : S8x256.Rotates 0 none) (r : Fin 8) (l : Fin 256) (x : FVec Ideal S8x256 .f32)
    (hx : x = minimumf (minimumf (extractStridedSlice S8x256 o1 xr h1) (extractStridedSlice S8x256 o2 xr h2))
        (minimumf (extractStridedSlice S8x256 o3 xr h3) (extractStridedSlice S8x256 o4 xr h4))) :
    (minimumf (minimumf (minimumf x (dynamicRotate 0 4#32 none x hr))
        (dynamicRotate 0 2#32 none (minimumf x (dynamicRotate 0 4#32 none x hr)) hr))
      (dynamicRotate 0 1#32 none (minimumf (minimumf x (dynamicRotate 0 4#32 none x hr))
        (dynamicRotate 0 2#32 none (minimumf x (dynamicRotate 0 4#32 none x hr)) hr)) hr)
      : FVec Ideal S8x256 .f32) (ix2 r l) = gMin (fun a => xr (ix2 a l)) g := by
  subst hx e1 e2 e3 e4
  refine (sublaneAllMin_apply hr _ r l).trans (Eq.trans ?_ (combine_min (fun a => xr (ix2 a l)) g))
  congr 1
  funext k
  change minimumf _ _ (ix2 k l) = _
  pointwise

open SublaneAllReduce in
/-- The greatest of a group's rows, likewise. -/
theorem red_max (xr : FVec Ideal S160x256 .f32) (g : Fin 5) {o1 o2 o3 o4 : Fin 2 → Nat}
    (h1 : S160x256.Slices o1 S8x256) (h2 : S160x256.Slices o2 S8x256) (h3 : S160x256.Slices o3 S8x256) (h4 : S160x256.Slices o4 S8x256)
    (e1 : o1 = ![16 * g.val, 0]) (e2 : o2 = ![16 * g.val + 8, 0]) (e3 : o3 = ![80 + 16 * g.val, 0]) (e4 : o4 = ![88 + 16 * g.val, 0])
    (hr : S8x256.Rotates 0 none) (r : Fin 8) (l : Fin 256) (x : FVec Ideal S8x256 .f32)
    (hx : x = maximumf (maximumf (extractStridedSlice S8x256 o1 xr h1) (extractStridedSlice S8x256 o2 xr h2))
        (maximumf (extractStridedSlice S8x256 o3 xr h3) (extractStridedSlice S8x256 o4 xr h4))) :
    (maximumf (maximumf (maximumf x (dynamicRotate 0 4#32 none x hr))
        (dynamicRotate 0 2#32 none (maximumf x (dynamicRotate 0 4#32 none x hr)) hr))
      (dynamicRotate 0 1#32 none (maximumf (maximumf x (dynamicRotate 0 4#32 none x hr))
        (dynamicRotate 0 2#32 none (maximumf x (dynamicRotate 0 4#32 none x hr)) hr)) hr)
      : FVec Ideal S8x256 .f32) (ix2 r l) = gMax (fun a => xr (ix2 a l)) g := by
  subst hx e1 e2 e3 e4
  refine (sublaneAllMax_apply hr _ r l).trans (Eq.trans ?_ (combine_max (fun a => xr (ix2 a l)) g))
  congr 1
  funext k
  change maximumf _ _ (ix2 k l) = _
  pointwise

/-- A choice among five by the sublane number. -/
theorem pick (a : Fin 5 → EReal) (r : Fin 8) :
    Scalar.select (IntOp.cmpi .eq (BitVec.ofNat 32 r.val) 4#32) (a 4)
      (Scalar.select (IntOp.cmpi .eq (BitVec.ofNat 32 r.val) 3#32) (a 3)
        (Scalar.select (IntOp.cmpi .eq (BitVec.ofNat 32 r.val) 2#32) (a 2)
          (Scalar.select (IntOp.cmpi .eq (BitVec.ofNat 32 r.val) 1#32) (a 1) (a 0)))) = a (grp r) := by
  fin_cases r <;> rfl

theorem mClip_apply (c : Fin 5 → EReal) (r : Fin 8) (l : Fin 256) :
    mClip (c 0) (c 1) (c 2) (c 3) (c 4) (ix2 r l) = c (grp r) := by
  unfold mClip
  pointwise [k0_pay76, k0_pay74, k0_pay75, mSub]
  exact pick c r

theorem mLo_apply (xr : FVec Ideal S160x256 .f32) (cl : FVec Ideal S8x256 .f32) (r : Fin 8) (l : Fin 256) :
    mLo xr cl (ix2 r l) = cl (ix2 r l) * gMin (fun a => xr (ix2 a l)) (grp r) := by
  unfold mLo k0_pay81 k0_pay80 k0_pay79 k0_pay78 k0_pay77
  have hs : mSub (ix2 r l) = BitVec.ofNat 32 r.val := by pointwise [mSub]
  rw [← pick (fun g => gMin (fun a => xr (ix2 a l)) g) r]
  rw [← red_min xr 0 slices_S160x256_o0_0_S8x256 slices_S160x256_o8_0_S8x256 slices_S160x256_o80_0_S8x256 slices_S160x256_o88_0_S8x256 rfl rfl rfl rfl rotates_S8x256_d0 r l _ rfl,
    ← red_min xr 1 slices_S160x256_o16_0_S8x256 slices_S160x256_o24_0_S8x256 slices_S160x256_o96_0_S8x256 slices_S160x256_o104_0_S8x256 rfl rfl rfl rfl rotates_S8x256_d0 r l _ rfl,
    ← red_min xr 2 slices_S160x256_o32_0_S8x256 slices_S160x256_o40_0_S8x256 slices_S160x256_o112_0_S8x256 slices_S160x256_o120_0_S8x256 rfl rfl rfl rfl rotates_S8x256_d0 r l _ rfl,
    ← red_min xr 3 slices_S160x256_o48_0_S8x256 slices_S160x256_o56_0_S8x256 slices_S160x256_o128_0_S8x256 slices_S160x256_o136_0_S8x256 rfl rfl rfl rfl rotates_S8x256_d0 r l _ rfl,
    ← red_min xr 4 slices_S160x256_o64_0_S8x256 slices_S160x256_o72_0_S8x256 slices_S160x256_o144_0_S8x256 slices_S160x256_o152_0_S8x256 rfl rfl rfl rfl rotates_S8x256_d0 r l _ rfl, ← hs]
  rfl

/-- A group's scale from its zero point and its upper end. -/
def scaleOf (lo hi : EReal) : EReal := if 0 < hi - lo then Ideal.div (hi - lo) (Ideal.ofBits .f32 0x41700000#32) else 1

theorem sf_core (cl lo m : FVec Ideal S8x256 .f32) (r : Fin 8) (l : Fin 256) :
    (extf .f32 (truncf .fp8e4m3 (select (cmpf .ogt (subf (mulf cl m) lo) (broadcast S8x256 (Scalar.ofBits .f32 0x00000000#32)))
      (divf (subf (mulf cl m) lo) (broadcast S8x256 (Scalar.ofBits .f32 0x41700000#32)))
      (broadcast S8x256 (Scalar.ofBits .f32 0x3F800000#32))) bitsLt_fp8e4m3_f32) bitsLt_fp8e4m3_f32 : FVec Ideal S8x256 .f32) (ix2 r l)
      = scaleOf (lo (ix2 r l)) (cl (ix2 r l) * m (ix2 r l)) := by
  pointwise
  rfl

theorem mSf_apply (xr : FVec Ideal S160x256 .f32) (cl : FVec Ideal S8x256 .f32) (r : Fin 8) (l : Fin 256) :
    mSf xr cl (ix2 r l) = scaleOf (mLo xr cl (ix2 r l)) (cl (ix2 r l) * gMax (fun a => xr (ix2 a l)) (grp r)) := by
  unfold mSf
  generalize mLo xr cl = lo
  unfold k0_pay84 k0_pay83 k0_pay82
  refine (sf_core cl lo _ r l).trans ?_
  refine congrArg (fun m => scaleOf (lo (ix2 r l)) (cl (ix2 r l) * m)) ?_
  have hs : mSub (ix2 r l) = BitVec.ofNat 32 r.val := by pointwise [mSub]
  rw [← pick (fun g => gMax (fun a => xr (ix2 a l)) g) r]
  rw [← red_max xr 0 slices_S160x256_o0_0_S8x256 slices_S160x256_o8_0_S8x256 slices_S160x256_o80_0_S8x256 slices_S160x256_o88_0_S8x256 rfl rfl rfl rfl rotates_S8x256_d0 r l _ rfl,
    ← red_max xr 1 slices_S160x256_o16_0_S8x256 slices_S160x256_o24_0_S8x256 slices_S160x256_o96_0_S8x256 slices_S160x256_o104_0_S8x256 rfl rfl rfl rfl rotates_S8x256_d0 r l _ rfl,
    ← red_max xr 2 slices_S160x256_o32_0_S8x256 slices_S160x256_o40_0_S8x256 slices_S160x256_o112_0_S8x256 slices_S160x256_o120_0_S8x256 rfl rfl rfl rfl rotates_S8x256_d0 r l _ rfl,
    ← red_max xr 3 slices_S160x256_o48_0_S8x256 slices_S160x256_o56_0_S8x256 slices_S160x256_o128_0_S8x256 slices_S160x256_o136_0_S8x256 rfl rfl rfl rfl rotates_S8x256_d0 r l _ rfl,
    ← red_max xr 4 slices_S160x256_o64_0_S8x256 slices_S160x256_o72_0_S8x256 slices_S160x256_o144_0_S8x256 slices_S160x256_o152_0_S8x256 rfl rfl rfl rfl rotates_S8x256_d0 r l _ rfl, ← hs]
  rfl

end Cert.KernelIdeal.Val

end
-- ==== Proof.ModelCodes.lean ====
/- What one head's codes and dequantised channels are at an index, and the channel gather and the tokens' validity. -/
module

public import proofs.«01_k».proof.Proof.ModelRead

@[expose] public section

noncomputable section

namespace Cert.KernelIdeal.Val

open Cert.KernelIdeal Cert.KernelIdeal.Gen Idealize.ShloMosaic Idealize.ShloMosaic.Pointwise

/-- The rounded and clipped quotient of a row's value at a lane. -/
def mQ (va : IVec S8x256 1) (xr : FVec Ideal S160x256 .f32) (sf zf : FVec Ideal S8x256 .f32) (g : Fin 8) (a : Fin 160) (l : Fin 256) : EReal :=
  min (Ideal.ofBits .f32 0x41700000#32) (max 0 (Ideal.liftRound Ideal.roundHalfEven
    (Scalar.select (va (ix2 g l)) ((xr (ix2 a l) - Scalar.select (va (ix2 g l)) (zf (ix2 g l)) 0) * Ideal.div 1 (sf (ix2 g l))) 0)))

/-- What a row's code stands for. -/
def mY (va : IVec S8x256 1) (xr : FVec Ideal S160x256 .f32) (sf zf : FVec Ideal S8x256 .f32) (g : Fin 8) (a : Fin 160) (l : Fin 256) : EReal :=
  Scalar.select (va (ix2 g l)) (mQ va xr sf zf g a l * sf (ix2 g l)) 0 + Scalar.select (va (ix2 g l)) (zf (ix2 g l)) 0

/-- A row's group. -/
def grpOf (a : Fin 160) : Fin 8 := ⟨a.val % 80 / 16, by omega⟩

theorem dite10 (Y : Fin 160 → EReal) (p0 p1 p2 p3 p4 p5 p6 p7 p8 p9 : Fin 16 → EReal)
    (h0 : ∀ i : Fin 16, p0 i = Y ⟨0 + i.val, by omega⟩)
    (h1 : ∀ i : Fin 16, p1 i = Y ⟨16 + i.val, by omega⟩)
    (h2 : ∀ i : Fin 16, p2 i = Y ⟨32 + i.val, by omega⟩)
    (h3 : ∀ i : Fin 16, p3 i = Y ⟨48 + i.val, by omega⟩)
    (h4 : ∀ i : Fin 16, p4 i = Y ⟨64 + i.val, by omega⟩)
    (h5 : ∀ i : Fin 16, p5 i = Y ⟨80 + i.val, by omega⟩)
    (h6 : ∀ i : Fin 16, p6 i = Y ⟨96 + i.val, by omega⟩)
    (h7 : ∀ i : Fin 16, p7 i = Y ⟨112 + i.val, by omega⟩)
    (h8 : ∀ i : Fin 16, p8 i = Y ⟨128 + i.val, by omega⟩)
    (h9 : ∀ i : Fin 16, p9 i = Y ⟨144 + i.val, by omega⟩)
    (x : Fin 160) :
    (if h : x.val < 16 then p0 ⟨x.val, by omega⟩ else if h : x.val - 16 < 16 then p1 ⟨x.val - 16, by omega⟩ else if h : x.val - 16 - 16 < 16 then p2 ⟨x.val - 16 - 16, by omega⟩ else if h : x.val - 16 - 16 - 16 < 16 then p3 ⟨x.val - 16 - 16 - 16, by omega⟩ else if h : x.val - 16 - 16 - 16 - 16 < 16 then p4 ⟨x.val - 16 - 16 - 16 - 16, by omega⟩ else if h : x.val - 16 - 16 - 16 - 16 - 16 < 16 then p5 ⟨x.val - 16 - 16 - 16 - 16 - 16, by omega⟩ else if h : x.val - 16 - 16 - 16 - 16 - 16 - 16 < 16 then p6 ⟨x.val - 16 - 16 - 16 - 16 - 16 - 16, by omega⟩ else if h : x.val - 16 - 16 - 16 - 16 - 16 - 16 - 16 < 16 then p7 ⟨x.val - 16 - 16 - 16 - 16 - 16 - 16 - 16, by omega⟩ else if h : x.val - 16 - 16 - 16 - 16 - 16 - 16 - 16 - 16 < 16 then p8 ⟨x.val - 16 - 16 - 16 - 16 - 16 - 16 - 16 - 16, by omega⟩ else p9 ⟨x.val - 16 - 16 - 16 - 16 - 16 - 16 - 16 - 16 - 16, by omega⟩) = Y x := by
  split_ifs
  · exact (h0 _).trans (congrArg Y (Fin.ext (by dsimp only; omega)))
  · exact (h1 _).trans (congrArg Y (Fin.ext (by dsimp only; omega)))
  · exact (h2 _).trans (congrArg Y (Fin.ext (by dsimp only; omega)))
  · exact (h3 _).trans (congrArg Y (Fin.ext (by dsimp only; omega)))
  · exact (h4 _).trans (congrArg Y (Fin.ext (by dsimp only; omega)))
  · exact (h5 _).trans (congrArg Y (Fin.ext (by dsimp only; omega)))
  · exact (h6 _).trans (congrArg Y (Fin.ext (by dsimp only; omega)))
  · exact (h7 _).trans (congrArg Y (Fin.ext (by dsimp only; omega)))
  · exact (h8 _).trans (congrArg Y (Fin.ext (by dsimp only; omega)))
  · exact (h9 _).trans (congrArg Y (Fin.ext (by dsimp only; omega)))

theorem dite5 (Y : Fin 80 → BitVec 32) (p0 p1 p2 p3 p4 : Fin 16 → BitVec 32)
    (h0 : ∀ i : Fin 16, p0 i = Y ⟨0 + i.val, by omega⟩)
    (h1 : ∀ i : Fin 16, p1 i = Y ⟨16 + i.val, by omega⟩)
    (h2 : ∀ i : Fin 16, p2 i = Y ⟨32 + i.val, by omega⟩)
    (h3 : ∀ i : Fin 16, p3 i = Y ⟨48 + i.val, by omega⟩)
    (h4 : ∀ i : Fin 16, p4 i = Y ⟨64 + i.val, by omega⟩)
    (x : Fin 80) :
    (if h : x.val < 16 then p0 ⟨x.val, by omega⟩ else if h : x.val - 16 < 16 then p1 ⟨x.val - 16, by omega⟩ else if h : x.val - 16 - 16 < 16 then p2 ⟨x.val - 16 - 16, by omega⟩ else if h : x.val - 16 - 16 - 16 < 16 then p3 ⟨x.val - 16 - 16 - 16, by omega⟩ else p4 ⟨x.val - 16 - 16 - 16 - 16, by omega⟩) = Y x := by
  split_ifs
  · exact (h0 _).trans (congrArg Y (Fin.ext (by dsimp only; omega)))
  · exact (h1 _).trans (congrArg Y (Fin.ext (by dsimp only; omega)))
  · exact (h2 _).trans (congrArg Y (Fin.ext (by dsimp only; omega)))
  · exact (h3 _).trans (congrArg Y (Fin.ext (by dsimp only; omega)))
  · exact (h4 _).trans (congrArg Y (Fin.ext (by dsimp only; omega)))

/-- The byte of a row pair, before it is cast to a byte. -/
def mC (va : IVec S8x256 1) (xr : FVec Ideal S160x256 .f32) (sf zf : FVec Ideal S8x256 .f32) (r : Fin 80) (l : Fin 256) : EReal :=
  mQ va xr sf zf ⟨r.val / 16, by omega⟩ ⟨80 + r.val, by omega⟩ l * Ideal.ofBits .f32 0x41800000#32
    + mQ va xr sf zf ⟨r.val / 16, by omega⟩ ⟨r.val, by omega⟩ l

section Pieces

variable (va : IVec S8x256 1) (xr : FVec Ideal S160x256 .f32) (sf zf : FVec Ideal S8x256 .f32) (l : Fin 256) (i : Fin 16)

theorem piece0 : (k0_pay99 (k0_pay94 va zf) (k0_pay95 va sf) (k0_pay96 xr va sf zf 1) 0 (Ideal.ofBits FTy.f32 1097859072#32) (ix2 i l) : EReal) = mY va xr sf zf (grpOf ⟨0 + i.val, by omega⟩) ⟨0 + i.val, by omega⟩ l := by
  rw [show grpOf ⟨0 + i.val, by omega⟩ = ⟨0, by omega⟩ from Fin.ext (by unfold grpOf; dsimp only; omega)]
  unfold mY mQ
  pointwise [k0_pay94, k0_pay95, k0_pay96, k0_pay99, k0_pay100, k0_pay93, k0_pay108, k0_pay103, k0_pay107, k0_pay109, k0_pay104, k0_pay106, k0_pay116, k0_pay117, k0_pay126, k0_pay119, k0_pay120, k0_pay121, k0_pay127, k0_pay122, k0_pay123, k0_pay130, k0_pay131, k0_pay132, k0_pay133, k0_pay86, k0_pay87, k0_pay88, k0_pay97, k0_pay98, k0_pay101, k0_pay102, k0_pay105, k0_pay111, k0_pay112, k0_pay113, k0_pay114, k0_pay115, k0_pay124, k0_pay125, k0_pay129, k0_pay134]
  all_goals rfl

theorem piece1 : (k0_pay108 (k0_pay103 (k0_pay88 va zf)) (k0_pay107 xr (k0_pay86 va sf 1) (k0_pay87 va sf) (k0_pay88 va zf)) (ix2 i l) : EReal) = mY va xr sf zf (grpOf ⟨16 + i.val, by omega⟩) ⟨16 + i.val, by omega⟩ l := by
  rw [show grpOf ⟨16 + i.val, by omega⟩ = ⟨1, by omega⟩ from Fin.ext (by unfold grpOf; dsimp only; omega)]
  unfold mY mQ
  pointwise [k0_pay94, k0_pay95, k0_pay96, k0_pay99, k0_pay100, k0_pay93, k0_pay108, k0_pay103, k0_pay107, k0_pay109, k0_pay104, k0_pay106, k0_pay116, k0_pay117, k0_pay126, k0_pay119, k0_pay120, k0_pay121, k0_pay127, k0_pay122, k0_pay123, k0_pay130, k0_pay131, k0_pay132, k0_pay133, k0_pay86, k0_pay87, k0_pay88, k0_pay97, k0_pay98, k0_pay101, k0_pay102, k0_pay105, k0_pay111, k0_pay112, k0_pay113, k0_pay114, k0_pay115, k0_pay124, k0_pay125, k0_pay129, k0_pay134]
  all_goals rfl

theorem piece2 : (k0_pay116 xr (k0_pay86 va sf 1) (k0_pay87 va sf) (k0_pay88 va zf) (ix2 i l) : EReal) = mY va xr sf zf (grpOf ⟨32 + i.val, by omega⟩) ⟨32 + i.val, by omega⟩ l := by
  rw [show grpOf ⟨32 + i.val, by omega⟩ = ⟨2, by omega⟩ from Fin.ext (by unfold grpOf; dsimp only; omega)]
  unfold mY mQ
  pointwise [k0_pay94, k0_pay95, k0_pay96, k0_pay99, k0_pay100, k0_pay93, k0_pay108, k0_pay103, k0_pay107, k0_pay109, k0_pay104, k0_pay106, k0_pay116, k0_pay117, k0_pay126, k0_pay119, k0_pay120, k0_pay121, k0_pay127, k0_pay122, k0_pay123, k0_pay130, k0_pay131, k0_pay132, k0_pay133, k0_pay86, k0_pay87, k0_pay88, k0_pay97, k0_pay98, k0_pay101, k0_pay102, k0_pay105, k0_pay111, k0_pay112, k0_pay113, k0_pay114, k0_pay115, k0_pay124, k0_pay125, k0_pay129, k0_pay134]
  all_goals rfl

theorem piece3 : (k0_pay126 (k0_pay119 (k0_pay86 va sf 1)) (k0_pay120 (k0_pay88 va zf)) (k0_pay121 (k0_pay87 va sf)) (k0_pay122 xr) (k0_pay123 (k0_pay88 va zf)) (ix2 i l) : EReal) = mY va xr sf zf (grpOf ⟨48 + i.val, by omega⟩) ⟨48 + i.val, by omega⟩ l := by
  rw [show grpOf ⟨48 + i.val, by omega⟩ = ⟨3, by omega⟩ from Fin.ext (by unfold grpOf; dsimp only; omega)]
  unfold mY mQ
  pointwise [k0_pay94, k0_pay95, k0_pay96, k0_pay99, k0_pay100, k0_pay93, k0_pay108, k0_pay103, k0_pay107, k0_pay109, k0_pay104, k0_pay106, k0_pay116, k0_pay117, k0_pay126, k0_pay119, k0_pay120, k0_pay121, k0_pay127, k0_pay122, k0_pay123, k0_pay130, k0_pay131, k0_pay132, k0_pay133, k0_pay86, k0_pay87, k0_pay88, k0_pay97, k0_pay98, k0_pay101, k0_pay102, k0_pay105, k0_pay111, k0_pay112, k0_pay113, k0_pay114, k0_pay115, k0_pay124, k0_pay125, k0_pay129, k0_pay134]
  all_goals rfl

theorem piece4 : (k0_pay132 xr (k0_pay86 va sf 1) (k0_pay88 va zf) (ix2 i l) * k0_pay131 (k0_pay87 va sf) (ix2 0 l) + k0_pay130 (k0_pay88 va zf) (ix2 0 l) : EReal) = mY va xr sf zf (grpOf ⟨64 + i.val, by omega⟩) ⟨64 + i.val, by omega⟩ l := by
  rw [show grpOf ⟨64 + i.val, by omega⟩ = ⟨4, by omega⟩ from Fin.ext (by unfold grpOf; dsimp only; omega)]
  unfold mY mQ
  pointwise [k0_pay94, k0_pay95, k0_pay96, k0_pay99, k0_pay100, k0_pay93, k0_pay108, k0_pay103, k0_pay107, k0_pay109, k0_pay104, k0_pay106, k0_pay116, k0_pay117, k0_pay126, k0_pay119, k0_pay120, k0_pay121, k0_pay127, k0_pay122, k0_pay123, k0_pay130, k0_pay131, k0_pay132, k0_pay133, k0_pay86, k0_pay87, k0_pay88, k0_pay97, k0_pay98, k0_pay101, k0_pay102, k0_pay105, k0_pay111, k0_pay112, k0_pay113, k0_pay114, k0_pay115, k0_pay124, k0_pay125, k0_pay129, k0_pay134]
  all_goals rfl

theorem piece5 : (k0_pay100 xr (k0_pay93 va sf 1) (k0_pay94 va zf) (k0_pay95 va sf) (ix2 i l) : EReal) = mY va xr sf zf (grpOf ⟨80 + i.val, by omega⟩) ⟨80 + i.val, by omega⟩ l := by
  rw [show grpOf ⟨80 + i.val, by omega⟩ = ⟨0, by omega⟩ from Fin.ext (by unfold grpOf; dsimp only; omega)]
  unfold mY mQ
  pointwise [k0_pay94, k0_pay95, k0_pay96, k0_pay99, k0_pay100, k0_pay93, k0_pay108, k0_pay103, k0_pay107, k0_pay109, k0_pay104, k0_pay106, k0_pay116, k0_pay117, k0_pay126, k0_pay119, k0_pay120, k0_pay121, k0_pay127, k0_pay122, k0_pay123, k0_pay130, k0_pay131, k0_pay132, k0_pay133, k0_pay86, k0_pay87, k0_pay88, k0_pay97, k0_pay98, k0_pay101, k0_pay102, k0_pay105, k0_pay111, k0_pay112, k0_pay113, k0_pay114, k0_pay115, k0_pay124, k0_pay125, k0_pay129, k0_pay134]
  all_goals rfl

theorem piece6 : (k0_pay109 (k0_pay103 (k0_pay88 va zf)) (k0_pay104 (k0_pay87 va sf)) (k0_pay106 xr (k0_pay86 va sf 1) (k0_pay88 va zf)) (ix2 i l) : EReal) = mY va xr sf zf (grpOf ⟨96 + i.val, by omega⟩) ⟨96 + i.val, by omega⟩ l := by
  rw [show grpOf ⟨96 + i.val, by omega⟩ = ⟨1, by omega⟩ from Fin.ext (by unfold grpOf; dsimp only; omega)]
  unfold mY mQ
  pointwise [k0_pay94, k0_pay95, k0_pay96, k0_pay99, k0_pay100, k0_pay93, k0_pay108, k0_pay103, k0_pay107, k0_pay109, k0_pay104, k0_pay106, k0_pay116, k0_pay117, k0_pay126, k0_pay119, k0_pay120, k0_pay121, k0_pay127, k0_pay122, k0_pay123, k0_pay130, k0_pay131, k0_pay132, k0_pay133, k0_pay86, k0_pay87, k0_pay88, k0_pay97, k0_pay98, k0_pay101, k0_pay102, k0_pay105, k0_pay111, k0_pay112, k0_pay113, k0_pay114, k0_pay115, k0_pay124, k0_pay125, k0_pay129, k0_pay134]
  all_goals rfl

theorem piece7 : (k0_pay117 xr (k0_pay86 va sf 1) (k0_pay87 va sf) (k0_pay88 va zf) (ix2 i l) : EReal) = mY va xr sf zf (grpOf ⟨112 + i.val, by omega⟩) ⟨112 + i.val, by omega⟩ l := by
  rw [show grpOf ⟨112 + i.val, by omega⟩ = ⟨2, by omega⟩ from Fin.ext (by unfold grpOf; dsimp only; omega)]
  unfold mY mQ
  pointwise [k0_pay94, k0_pay95, k0_pay96, k0_pay99, k0_pay100, k0_pay93, k0_pay108, k0_pay103, k0_pay107, k0_pay109, k0_pay104, k0_pay106, k0_pay116, k0_pay117, k0_pay126, k0_pay119, k0_pay120, k0_pay121, k0_pay127, k0_pay122, k0_pay123, k0_pay130, k0_pay131, k0_pay132, k0_pay133, k0_pay86, k0_pay87, k0_pay88, k0_pay97, k0_pay98, k0_pay101, k0_pay102, k0_pay105, k0_pay111, k0_pay112, k0_pay113, k0_pay114, k0_pay115, k0_pay124, k0_pay125, k0_pay129, k0_pay134]
  all_goals rfl

theorem piece8 : (k0_pay127 xr (k0_pay119 (k0_pay86 va sf 1)) (k0_pay120 (k0_pay88 va zf)) (k0_pay121 (k0_pay87 va sf)) (ix2 i l) : EReal) = mY va xr sf zf (grpOf ⟨128 + i.val, by omega⟩) ⟨128 + i.val, by omega⟩ l := by
  rw [show grpOf ⟨128 + i.val, by omega⟩ = ⟨3, by omega⟩ from Fin.ext (by unfold grpOf; dsimp only; omega)]
  unfold mY mQ
  pointwise [k0_pay94, k0_pay95, k0_pay96, k0_pay99, k0_pay100, k0_pay93, k0_pay108, k0_pay103, k0_pay107, k0_pay109, k0_pay104, k0_pay106, k0_pay116, k0_pay117, k0_pay126, k0_pay119, k0_pay120, k0_pay121, k0_pay127, k0_pay122, k0_pay123, k0_pay130, k0_pay131, k0_pay132, k0_pay133, k0_pay86, k0_pay87, k0_pay88, k0_pay97, k0_pay98, k0_pay101, k0_pay102, k0_pay105, k0_pay111, k0_pay112, k0_pay113, k0_pay114, k0_pay115, k0_pay124, k0_pay125, k0_pay129, k0_pay134]
  all_goals rfl

theorem piece9 : (k0_pay134 (k0_pay133 xr (k0_pay86 va sf 1) (k0_pay88 va zf)) 0 (Ideal.ofBits FTy.f32 1097859072#32) (ix2 i l) * k0_pay131 (k0_pay87 va sf) (ix2 0 l) + k0_pay130 (k0_pay88 va zf) (ix2 0 l) : EReal) = mY va xr sf zf (grpOf ⟨144 + i.val, by omega⟩) ⟨144 + i.val, by omega⟩ l := by
  rw [show grpOf ⟨144 + i.val, by omega⟩ = ⟨4, by omega⟩ from Fin.ext (by unfold grpOf; dsimp only; omega)]
  unfold mY mQ
  pointwise [k0_pay94, k0_pay95, k0_pay96, k0_pay99, k0_pay100, k0_pay93, k0_pay108, k0_pay103, k0_pay107, k0_pay109, k0_pay104, k0_pay106, k0_pay116, k0_pay117, k0_pay126, k0_pay119, k0_pay120, k0_pay121, k0_pay127, k0_pay122, k0_pay123, k0_pay130, k0_pay131, k0_pay132, k0_pay133, k0_pay86, k0_pay87, k0_pay88, k0_pay97, k0_pay98, k0_pay101, k0_pay102, k0_pay105, k0_pay111, k0_pay112, k0_pay113, k0_pay114, k0_pay115, k0_pay124, k0_pay125, k0_pay129, k0_pay134]
  all_goals rfl

end Pieces

theorem mDeq_apply (bwd : FVec Ideal S160x160 .bf16) (va : IVec S8x256 1) (xr : FVec Ideal S160x256 .f32) (sf zf : FVec Ideal S8x256 .f32) (c : Fin 160) (l : Fin 256) :
    mDeq bwd va xr sf zf (ix2 c l) = ∑ a : Fin 160, bwd (ix2 c a) * mY va xr sf zf (grpOf a) a l := by
  unfold mDeq
  pointwise [k0_pay136]
  exact Finset.sum_congr rfl fun a _ => congrArg (fun y : EReal => bwd (ix2 c a) * y) (dite10 (fun a => mY va xr sf zf (grpOf a) a l)
    (fun i => k0_pay99 (k0_pay94 va zf) (k0_pay95 va sf) (k0_pay96 xr va sf zf 1) 0 (Ideal.ofBits FTy.f32 1097859072#32) (ix2 i l))
    (fun i => k0_pay108 (k0_pay103 (k0_pay88 va zf)) (k0_pay107 xr (k0_pay86 va sf 1) (k0_pay87 va sf) (k0_pay88 va zf)) (ix2 i l))
    (fun i => k0_pay116 xr (k0_pay86 va sf 1) (k0_pay87 va sf) (k0_pay88 va zf) (ix2 i l))
    (fun i => k0_pay126 (k0_pay119 (k0_pay86 va sf 1)) (k0_pay120 (k0_pay88 va zf)) (k0_pay121 (k0_pay87 va sf)) (k0_pay122 xr) (k0_pay123 (k0_pay88 va zf)) (ix2 i l))
    (fun i => k0_pay132 xr (k0_pay86 va sf 1) (k0_pay88 va zf) (ix2 i l) * k0_pay131 (k0_pay87 va sf) (ix2 0 l) + k0_pay130 (k0_pay88 va zf) (ix2 0 l))
    (fun i => k0_pay100 xr (k0_pay93 va sf 1) (k0_pay94 va zf) (k0_pay95 va sf) (ix2 i l))
    (fun i => k0_pay109 (k0_pay103 (k0_pay88 va zf)) (k0_pay104 (k0_pay87 va sf)) (k0_pay106 xr (k0_pay86 va sf 1) (k0_pay88 va zf)) (ix2 i l))
    (fun i => k0_pay117 xr (k0_pay86 va sf 1) (k0_pay87 va sf) (k0_pay88 va zf) (ix2 i l))
    (fun i => k0_pay127 xr (k0_pay119 (k0_pay86 va sf 1)) (k0_pay120 (k0_pay88 va zf)) (k0_pay121 (k0_pay87 va sf)) (ix2 i l))
    (fun i => k0_pay134 (k0_pay133 xr (k0_pay86 va sf 1) (k0_pay88 va zf)) 0 (Ideal.ofBits FTy.f32 1097859072#32) (ix2 i l) * k0_pay131 (k0_pay87 va sf) (ix2 0 l) + k0_pay130 (k0_pay88 va zf) (ix2 0 l))
    (piece0 va xr sf zf l) (piece1 va xr sf zf l) (piece2 va xr sf zf l) (piece3 va xr sf zf l) (piece4 va xr sf zf l) (piece5 va xr sf zf l) (piece6 va xr sf zf l) (piece7 va xr sf zf l) (piece8 va xr sf zf l) (piece9 va xr sf zf l) a)

section Codes

variable (va : IVec S8x256 1) (xr : FVec Ideal S160x256 .f32) (sf zf : FVec Ideal S8x256 .f32) (l : Fin 256) (i : Fin 16)

theorem code0 : (k0_pay101 xr (k0_pay93 va sf 1) (k0_pay94 va zf) (k0_pay96 xr va sf zf 1) 0 (Ideal.ofBits FTy.f32 1097859072#32) (ix2 i l) : BitVec 32) = Ideal.fptosi 32 (mC va xr sf zf ⟨0 + i.val, by omega⟩ l) := by
  unfold mC
  rw [show (⟨(⟨0 + i.val, by omega⟩ : Fin 80).val / 16, by omega⟩ : Fin 8) = ⟨0, by omega⟩ from Fin.ext (by dsimp only; omega),
    show (⟨80 + (⟨0 + i.val, by omega⟩ : Fin 80).val, by omega⟩ : Fin 160) = ⟨80 + i.val, by omega⟩ from Fin.ext (by dsimp only; omega)]
  unfold mQ
  pointwise [k0_pay101, k0_pay93, k0_pay94, k0_pay96, k0_pay110, k0_pay105, k0_pay106, k0_pay118, k0_pay128, k0_pay132, k0_pay133, k0_pay97, k0_pay98, k0_pay134, k0_pay124, k0_pay125, k0_pay114, k0_pay115, k0_pay111, k0_pay112, k0_pay86,k0_pay87,k0_pay88, k0_pay102,k0_pay103,k0_pay119,k0_pay120,k0_pay122,k0_pay123,k0_pay129,k0_pay130]
  all_goals rfl

theorem code1 : (k0_pay110 (k0_pay105 xr (k0_pay86 va sf 1) (k0_pay88 va zf)) (k0_pay106 xr (k0_pay86 va sf 1) (k0_pay88 va zf)) (ix2 i l) : BitVec 32) = Ideal.fptosi 32 (mC va xr sf zf ⟨16 + i.val, by omega⟩ l) := by
  unfold mC
  rw [show (⟨(⟨16 + i.val, by omega⟩ : Fin 80).val / 16, by omega⟩ : Fin 8) = ⟨1, by omega⟩ from Fin.ext (by dsimp only; omega),
    show (⟨80 + (⟨16 + i.val, by omega⟩ : Fin 80).val, by omega⟩ : Fin 160) = ⟨96 + i.val, by omega⟩ from Fin.ext (by dsimp only; omega)]
  unfold mQ
  pointwise [k0_pay101, k0_pay93, k0_pay94, k0_pay96, k0_pay110, k0_pay105, k0_pay106, k0_pay118, k0_pay128, k0_pay132, k0_pay133, k0_pay97, k0_pay98, k0_pay134, k0_pay124, k0_pay125, k0_pay114, k0_pay115, k0_pay111, k0_pay112, k0_pay86,k0_pay87,k0_pay88, k0_pay102,k0_pay103,k0_pay119,k0_pay120,k0_pay122,k0_pay123,k0_pay129,k0_pay130]
  all_goals rfl

theorem code2 : (k0_pay118 xr (k0_pay86 va sf 1) (k0_pay88 va zf) (ix2 i l) : BitVec 32) = Ideal.fptosi 32 (mC va xr sf zf ⟨32 + i.val, by omega⟩ l) := by
  unfold mC
  rw [show (⟨(⟨32 + i.val, by omega⟩ : Fin 80).val / 16, by omega⟩ : Fin 8) = ⟨2, by omega⟩ from Fin.ext (by dsimp only; omega),
    show (⟨80 + (⟨32 + i.val, by omega⟩ : Fin 80).val, by omega⟩ : Fin 160) = ⟨112 + i.val, by omega⟩ from Fin.ext (by dsimp only; omega)]
  unfold mQ
  pointwise [k0_pay101, k0_pay93, k0_pay94, k0_pay96, k0_pay110, k0_pay105, k0_pay106, k0_pay118, k0_pay128, k0_pay132, k0_pay133, k0_pay97, k0_pay98, k0_pay134, k0_pay124, k0_pay125, k0_pay114, k0_pay115, k0_pay111, k0_pay112, k0_pay86,k0_pay87,k0_pay88, k0_pay102,k0_pay103,k0_pay119,k0_pay120,k0_pay122,k0_pay123,k0_pay129,k0_pay130]
  all_goals rfl

theorem code3 : (k0_pay128 xr (k0_pay119 (k0_pay86 va sf 1)) (k0_pay120 (k0_pay88 va zf)) (k0_pay122 xr) (k0_pay123 (k0_pay88 va zf)) (ix2 i l) : BitVec 32) = Ideal.fptosi 32 (mC va xr sf zf ⟨48 + i.val, by omega⟩ l) := by
  unfold mC
  rw [show (⟨(⟨48 + i.val, by omega⟩ : Fin 80).val / 16, by omega⟩ : Fin 8) = ⟨3, by omega⟩ from Fin.ext (by dsimp only; omega),
    show (⟨80 + (⟨48 + i.val, by omega⟩ : Fin 80).val, by omega⟩ : Fin 160) = ⟨128 + i.val, by omega⟩ from Fin.ext (by dsimp only; omega)]
  unfold mQ
  pointwise [k0_pay101, k0_pay93, k0_pay94, k0_pay96, k0_pay110, k0_pay105, k0_pay106, k0_pay118, k0_pay128, k0_pay132, k0_pay133, k0_pay97, k0_pay98, k0_pay134, k0_pay124, k0_pay125, k0_pay114, k0_pay115, k0_pay111, k0_pay112, k0_pay86,k0_pay87,k0_pay88, k0_pay102,k0_pay103,k0_pay119,k0_pay120,k0_pay122,k0_pay123,k0_pay129,k0_pay130]
  all_goals rfl

theorem code4 : (FloatOps.fptosi 32 (k0_pay134 (k0_pay133 xr (k0_pay86 va sf 1) (k0_pay88 va zf)) 0 (Ideal.ofBits FTy.f32 1097859072#32) (ix2 i l) * Ideal.ofBits FTy.f32 1098907648#32 + k0_pay132 xr (k0_pay86 va sf 1) (k0_pay88 va zf) (ix2 i l) : Ideal .f32) : BitVec 32) = Ideal.fptosi 32 (mC va xr sf zf ⟨64 + i.val, by omega⟩ l) := by
  unfold mC
  rw [show (⟨(⟨64 + i.val, by omega⟩ : Fin 80).val / 16, by omega⟩ : Fin 8) = ⟨4, by omega⟩ from Fin.ext (by dsimp only; omega),
    show (⟨80 + (⟨64 + i.val, by omega⟩ : Fin 80).val, by omega⟩ : Fin 160) = ⟨144 + i.val, by omega⟩ from Fin.ext (by dsimp only; omega)]
  unfold mQ
  pointwise [k0_pay101, k0_pay93, k0_pay94, k0_pay96, k0_pay110, k0_pay105, k0_pay106, k0_pay118, k0_pay128, k0_pay132, k0_pay133, k0_pay97, k0_pay98, k0_pay134, k0_pay124, k0_pay125, k0_pay114, k0_pay115, k0_pay111, k0_pay112, k0_pay86,k0_pay87,k0_pay88, k0_pay102,k0_pay103,k0_pay119,k0_pay120,k0_pay122,k0_pay123,k0_pay129,k0_pay130]
  all_goals rfl

end Codes

theorem mCode_apply (va : IVec S8x256 1) (xr : FVec Ideal S160x256 .f32) (sf zf : FVec Ideal S8x256 .f32) (r : Fin 80) (l : Fin 256) :
    mCode va xr sf zf (ix2 r l) = (Ideal.fptosi 32 (mC va xr sf zf r l)).setWidth 8 := by
  unfold mCode
  pointwise [k0_pay135]
  exact congrArg (BitVec.setWidth 8) (dite5 (fun r => Ideal.fptosi 32 (mC va xr sf zf r l))
    (fun i => k0_pay101 xr (k0_pay93 va sf 1) (k0_pay94 va zf) (k0_pay96 xr va sf zf 1) 0 (Ideal.ofBits FTy.f32 1097859072#32) (ix2 i l))
    (fun i => k0_pay110 (k0_pay105 xr (k0_pay86 va sf 1) (k0_pay88 va zf)) (k0_pay106 xr (k0_pay86 va sf 1) (k0_pay88 va zf)) (ix2 i l))
    (fun i => k0_pay118 xr (k0_pay86 va sf 1) (k0_pay88 va zf) (ix2 i l))
    (fun i => k0_pay128 xr (k0_pay119 (k0_pay86 va sf 1)) (k0_pay120 (k0_pay88 va zf)) (k0_pay122 xr) (k0_pay123 (k0_pay88 va zf)) (ix2 i l))
    (fun i => FloatOps.fptosi 32 (k0_pay134 (k0_pay133 xr (k0_pay86 va sf 1) (k0_pay88 va zf)) 0 (Ideal.ofBits FTy.f32 1097859072#32) (ix2 i l) * Ideal.ofBits FTy.f32 1098907648#32 + k0_pay132 xr (k0_pay86 va sf 1) (k0_pay88 va zf) (ix2 i l) : Ideal .f32))
    (code0 va xr sf zf l) (code1 va xr sf zf l) (code2 va xr sf zf l) (code3 va xr sf zf l) (code4 va xr sf zf l) r)

theorem mValid_apply (v1 v3 : BitVec 32) (s : Fin 8) (l : Fin 256) :
    mValid v1 v3 (ix2 s l) = IntOp.cmpi .slt (IntOp.andi (BitVec.ofNat 32 l.val) 127#32)
      (Scalar.select (IntOp.cmpi .slt (BitVec.ofNat 32 l.val) 128#32) v1 v3) := by
  unfold mValid
  pointwise [k0_pay73]

/-- The scatter's one-hot matrix: a channel's row holds 1 in the column of the row that carries it. -/
theorem bwd_apply (row : Vec Ideal S1x160 .f32) (c a : Fin 160) (q : Fin 160) (hq : row (ix2 0 a) = ((q.val : ℝ) : EReal)) :
    k0_pay71 row (ix2 c a) = if c = q then 1 else 0 := by
  have hc : (FloatOps.sitofp (F := Ideal) .f32 (BitVec.ofNat 32 c.val) : EReal) = ((c.val : ℝ) : EReal) := by
    show (((BitVec.ofNat 32 c.val).toInt : ℝ) : EReal) = _
    rw [BitVec.toInt_ofNat', Int.bmod_eq_of_le (by omega) (by omega)]; simp
  have h : (k0_pay71 row (ix2 c a) : EReal) = if (FloatOps.sitofp (F := Ideal) .f32 (BitVec.ofNat 32 c.val) : EReal) = row (ix2 0 a) then 1 else 0 := by
    pointwise [k0_pay71]
  rw [h, hc, hq]
  exact if_congr (by rw [EReal.coe_eq_coe_iff, Nat.cast_inj, Fin.ext_iff]) rfl rfl

/-- A token's channel picked by a one-hot row. -/
theorem pick_channel (f : Fin 160 → EReal) (p : Fin 160) :
    (∑ x : Fin 128, (if ((p.val : ℝ) : EReal) = FloatOps.sitofp (F := Ideal) .f32 (BitVec.ofNat 32 x.val) then (1 : EReal) else 0) * f ⟨x.val, by omega⟩) +
      (∑ x : Fin 32, (if ((p.val : ℝ) : EReal) = FloatOps.sitofp (F := Ideal) .f32 (BitVec.ofNat 32 x.val) + Ideal.ofBits .f32 1124073472#32 then (1 : EReal) else 0) * f ⟨128 + x.val, by omega⟩)
      = f p := by
  have hs : ∀ n : ℕ, n < 160 → (FloatOps.sitofp (F := Ideal) .f32 (BitVec.ofNat 32 n) : EReal) = ((n : ℝ) : EReal) := by
    intro n hn
    show (((BitVec.ofNat 32 n).toInt : ℝ) : EReal) = _
    rw [BitVec.toInt_ofNat', Int.bmod_eq_of_le (by omega) (by omega)]; simp
  have h128 : Ideal.ofBits .f32 1124073472#32 = ((128 : ℝ) : EReal) := by
    simp [Ideal.ofBits, Ideal.ieee, -EReal.coe_mul]; norm_num
  have e1 : ∀ x : Fin 128, (if ((p.val : ℝ) : EReal) = FloatOps.sitofp (F := Ideal) .f32 (BitVec.ofNat 32 x.val) then (1 : EReal) else 0) * f ⟨x.val, by omega⟩
      = if p.val = x.val then f p else 0 := by
    intro x
    rw [hs _ (by omega)]
    by_cases h : p.val = x.val
    · rw [if_pos (by rw [h]), if_pos h, one_mul]; congr 1; exact Fin.ext h.symm
    · rw [if_neg (by rw [EReal.coe_eq_coe_iff, Nat.cast_inj]; exact h), if_neg h, zero_mul]
  have e2 : ∀ x : Fin 32, (if ((p.val : ℝ) : EReal) = FloatOps.sitofp (F := Ideal) .f32 (BitVec.ofNat 32 x.val) + Ideal.ofBits .f32 1124073472#32 then (1 : EReal) else 0) * f ⟨128 + x.val, by omega⟩
      = if p.val = 128 + x.val then f p else 0 := by
    intro x
    have he : (((x.val : ℝ) : EReal) + ((128 : ℝ) : EReal)) = (((128 + x.val : ℕ) : ℝ) : EReal) := by
      rw [← EReal.coe_add]; congr 1; push_cast; ring
    rw [hs _ (by omega), h128, he]
    by_cases h : p.val = 128 + x.val
    · rw [if_pos (by rw [h]), if_pos h, one_mul]; congr 1; exact Fin.ext h.symm
    · rw [if_neg (by rw [EReal.coe_eq_coe_iff, Nat.cast_inj]; exact h), if_neg h, zero_mul]
  rw [Finset.sum_congr rfl fun x _ => e1 x, Finset.sum_congr rfl fun x _ => e2 x]
  by_cases h : p.val < 128
  · rw [Finset.sum_eq_single ⟨p.val, h⟩ (fun x _ hx => if_neg fun h' => hx (Fin.ext h'.symm)) (fun h' => absurd (Finset.mem_univ _) h'),
      Finset.sum_eq_zero (fun x _ => if_neg (by omega)), if_pos rfl, add_zero]
  · rw [Finset.sum_eq_single (⟨p.val - 128, by omega⟩ : Fin 32) (fun x _ hx => if_neg fun h' => hx (Fin.ext (by show x.val = p.val - 128; omega))) (fun h' => absurd (Finset.mem_univ _) h'),
      Finset.sum_eq_zero (fun x _ => if_neg (by omega)), if_pos (by show p.val = 128 + (p.val - 128); omega), zero_add]

theorem hd_index (hd : BitVec 32) (hh : hd.toNat < 64) : (Scalar.select (IntOp.cmpi .slt hd 0#32) (IntOp.addi hd 128#32) hd).toNat % 128 = hd.toNat := by
  have : IntOp.cmpi .slt hd 0#32 = 0#1 := by
    simp only [IntOp.cmpi]
    have : hd.slt 0#32 = false := by rw [BitVec.slt_zero_eq_msb, BitVec.msb_eq_false_iff_two_mul_lt]; omega
    simp [this]
  rw [this]
  show hd.toNat % 128 = _
  omega

theorem mXr_apply0 (hd : BitVec 32) (hh : hd.toNat < 64) (col : Vec Ideal S160x128 .f32) (x0 x1 : Vec Ideal S1x1x160x128 .bf16) (r : Fin 160) (l : Fin 128)
    (p : Fin 160) (hp : col (ix2 r ⟨hd.toNat, by omega⟩) = ((p.val : ℝ) : EReal)) :
    mXr hd col x0 x1 (ix2 r ⟨l.val, by omega⟩) = x0 (ix4 0 0 p l) := by
  unfold mXr
  pointwise [k0_pay66, k0_pay67, k0_pay68, k0_pay69, k0_pay70, k0_pay72]
  simp only [hd_index hd hh, hp]
  exact pick_channel (fun c => x0 (ix4 0 0 c l)) p

theorem mXr_apply1 (hd : BitVec 32) (hh : hd.toNat < 64) (col : Vec Ideal S160x128 .f32) (x0 x1 : Vec Ideal S1x1x160x128 .bf16) (r : Fin 160) (l : Fin 128)
    (p : Fin 160) (hp : col (ix2 r ⟨hd.toNat, by omega⟩) = ((p.val : ℝ) : EReal)) :
    mXr hd col x0 x1 (ix2 r ⟨128 + l.val, by omega⟩) = x1 (ix4 0 0 p l) := by
  unfold mXr
  pointwise [k0_pay66, k0_pay67, k0_pay68, k0_pay69, k0_pay70, k0_pay72]
  simp only [hd_index hd hh, hp]
  exact pick_channel (fun c => x1 (ix4 0 0 c l)) p

end Cert.KernelIdeal.Val

end
-- ==== Proof.Spec.lean ====
/- One head's quantisation as plain functions: `f` holds a token's channels in the kernel's row order, `cl` the clip factor
   of each group, `on` says whether the sequence has the token. The model's stages at an index are these functions. -/
module

public import proofs.«01_k».proof.Proof.ModelCodes

@[expose] public section

noncomputable section

namespace Cert.KernelIdeal.Val

open Cert.KernelIdeal Cert.KernelIdeal.Gen Idealize.ShloMosaic Idealize.ShloMosaic.Pointwise

/-- A group's zero point. -/
def kLo (f : Fin 160 → EReal) (cl : Fin 5 → EReal) (g : Fin 5) : EReal := cl g * gMin f g

/-- A group's scale. -/
def kSc (f : Fin 160 → EReal) (cl : Fin 5 → EReal) (g : Fin 5) : EReal := scaleOf (kLo f cl g) (cl g * gMax f g)

/-- A row's group. -/
def gOf (a : Fin 160) : Fin 5 := ⟨a.val % 80 / 16, by omega⟩

/-- A row's code. -/
def kQ (on : Prop) [Decidable on] (f : Fin 160 → EReal) (cl : Fin 5 → EReal) (a : Fin 160) : EReal :=
  min (Ideal.ofBits .f32 0x41700000#32) (max 0 (Ideal.liftRound Ideal.roundHalfEven
    (if on then (f a - kLo f cl (gOf a)) * Ideal.div 1 (kSc f cl (gOf a)) else 0)))

/-- A row pair's byte. -/
def kC (on : Prop) [Decidable on] (f : Fin 160 → EReal) (cl : Fin 5 → EReal) (r : Fin 80) : BitVec 8 :=
  (Ideal.fptosi 32 (kQ on f cl ⟨80 + r.val, by omega⟩ * Ideal.ofBits .f32 0x41800000#32 + kQ on f cl ⟨r.val, by omega⟩)).setWidth 8

/-- The value a row's code stands for. -/
def kY (on : Prop) [Decidable on] (f : Fin 160 → EReal) (cl : Fin 5 → EReal) (a : Fin 160) : EReal :=
  (if on then kQ on f cl a * kSc f cl (gOf a) else 0) + if on then kLo f cl (gOf a) else 0

/-- The value of a channel: the one of the row that carries it. -/
def kD (on : Prop) [Decidable on] (p : Fin 160 → Fin 160) (f : Fin 160 → EReal) (cl : Fin 5 → EReal) (c : Fin 160) : EReal :=
  ∑ a : Fin 160, (if c = p a then 1 else 0) * kY on f cl a

section At

variable (v1 v3 : BitVec 32) (n : Fin 2 → ℕ) (h1 : v1 = BitVec.ofNat 32 (n 0)) (h3 : v3 = BitVec.ofNat 32 (n 1)) (hn : ∀ b, n b ≤ 128)
  (xr : FVec Ideal S160x256 .f32) (f : Fin 2 → Fin 128 → Fin 160 → EReal) (c : Fin 5 → EReal) (cl : FVec Ideal S8x256 .f32)

/-- The lane of a sequence's token. -/
def lane (b : Fin 2) (l : Fin 128) : Fin 256 := ⟨128 * b.val + l.val, by omega⟩

include h1 h3 hn in
theorem valid_at (s : Fin 8) (b : Fin 2) (l : Fin 128) {α : Type} (x y : α) :
    Scalar.select (mValid v1 v3 (ix2 s (lane b l))) x y = if l.val < n b then x else y := by
  have key : mValid v1 v3 (ix2 s (lane b l)) = 1#1 ↔ l.val < n b := by
    rw [mValid_apply, IntOp.cmpi_slt]
    have ha : (IntOp.andi (BitVec.ofNat 32 (lane b l).val) 127#32).toInt = l.val := by
      have : (IntOp.andi (BitVec.ofNat 32 (lane b l).val) 127#32).toNat = l.val := by
        show (BitVec.ofNat 32 (lane b l).val &&& 127#32).toNat = _
        rw [BitVec.toNat_and]
        have : (127#32).toNat = 2 ^ 7 - 1 := rfl
        rw [this, Nat.and_two_pow_sub_one_eq_mod, BitVec.toNat_ofNat]
        unfold lane; dsimp only; omega
      rw [BitVec.toInt_eq_toNat_of_lt (by omega), this]
    have hv : ∀ b, (BitVec.ofNat 32 (n b)).toInt = n b := by
      intro b
      have := hn b
      rw [BitVec.toInt_eq_toNat_of_lt (by rw [BitVec.toNat_ofNat]; omega), BitVec.toNat_ofNat]; omega
    rw [ha]
    have hsel : Scalar.select (IntOp.cmpi .slt (BitVec.ofNat 32 (lane b l).val) 128#32) v1 v3 = BitVec.ofNat 32 (n b) := by
      fin_cases b
      · have : IntOp.cmpi .slt (BitVec.ofNat 32 (lane 0 l).val) 128#32 = 1#1 := by
          rw [IntOp.cmpi_slt, BitVec.toInt_eq_toNat_of_lt (by rw [BitVec.toNat_ofNat]; omega), BitVec.toNat_ofNat]
          show _ < ((128 : ℕ) : Int)
          unfold lane; dsimp only [Fin.val_zero]; omega
        exact (congrArg (fun z => Scalar.select z v1 v3) this).trans h1
      · have : ¬ IntOp.cmpi .slt (BitVec.ofNat 32 (lane 1 l).val) 128#32 = 1#1 := by
          rw [IntOp.cmpi_slt, BitVec.toInt_eq_toNat_of_lt (by rw [BitVec.toNat_ofNat]; omega), BitVec.toNat_ofNat]
          show ¬ (_ < ((128 : ℕ) : Int))
          have : (lane 1 l).val = 128 + l.val := rfl
          omega
        have h0 : IntOp.cmpi .slt (BitVec.ofNat 32 (lane 1 l).val) 128#32 = 0#1 := by
          generalize IntOp.cmpi .slt (BitVec.ofNat 32 (lane 1 l).val) 128#32 = z at this
          revert z; decide
        exact (congrArg (fun z => Scalar.select z v1 v3) h0).trans h3
    rw [hsel, hv]; omega
  generalize mValid v1 v3 (ix2 s (lane b l)) = z at key
  by_cases h : l.val < n b
  · rw [if_pos h, key.mpr h]; rfl
  · rw [if_neg h]
    have : z = 0#1 := by
      have hz : ¬ z = 1#1 := fun e => h (key.mp e)
      clear key
      revert z; decide
    rw [this]; rfl

variable (hx : ∀ a b l, xr (ix2 a (lane b l)) = f b l a) (hc : ∀ s l, cl (ix2 s l) = c (grp s))

include hx hc in
theorem mLo_at (s : Fin 8) (b : Fin 2) (l : Fin 128) : mLo xr cl (ix2 s (lane b l)) = kLo (f b l) c (grp s) := by
  rw [mLo_apply, hc]
  simp only [hx]; rfl

include hx hc in
theorem mSf_at (s : Fin 8) (b : Fin 2) (l : Fin 128) : mSf xr cl (ix2 s (lane b l)) = kSc (f b l) c (grp s) := by
  rw [mSf_apply, mLo_at xr f c cl hx hc, hc]
  simp only [hx]; rfl

theorem grp_of (g : Fin 8) (a : Fin 160) (h : g.val = a.val % 80 / 16) : grp g = gOf a := by
  unfold grp gOf
  rw [dif_pos (by omega)]
  exact Fin.ext h

include h1 h3 hn hx hc in
theorem mQ_at (g : Fin 8) (a : Fin 160) (h : g.val = a.val % 80 / 16) (b : Fin 2) (l : Fin 128) :
    mQ (mValid v1 v3) xr (mSf xr cl) (k0_pay85 (mLo xr cl)) g a (lane b l) = kQ (l.val < n b) (f b l) c a := by
  unfold mQ kQ
  have hz : (k0_pay85 (mLo xr cl) (ix2 g (lane b l)) : EReal) = kLo (f b l) c (gOf a) := by
    refine Eq.trans ?_ ((mLo_at xr f c cl hx hc g b l).trans (by rw [grp_of g a h]))
    pointwise [k0_pay85]
  rw [valid_at v1 v3 n h1 h3 hn, valid_at v1 v3 n h1 h3 hn, hx, mSf_at xr f c cl hx hc, hz, grp_of g a h]
  by_cases hv : l.val < n b
  · simp only [if_pos hv]
  · simp only [if_neg hv]

include h1 h3 hn hx hc in
theorem mCode_at (r : Fin 80) (b : Fin 2) (l : Fin 128) :
    mCode (mValid v1 v3) xr (mSf xr cl) (k0_pay85 (mLo xr cl)) (ix2 r (lane b l)) = kC (l.val < n b) (f b l) c r := by
  rw [mCode_apply]
  unfold mC kC
  rw [mQ_at v1 v3 n h1 h3 hn xr f c cl hx hc _ _ (by dsimp only; omega), mQ_at v1 v3 n h1 h3 hn xr f c cl hx hc _ _ (by dsimp only; omega)]

include h1 h3 hn hx hc in
theorem mDeq_at (row : Vec Ideal S1x160 .f32) (p : Fin 160 → Fin 160) (hp : ∀ a, row (ix2 0 a) = (((p a).val : ℝ) : EReal))
    (ch : Fin 160) (b : Fin 2) (l : Fin 128) :
    mDeq (k0_pay71 row) (mValid v1 v3) xr (mSf xr cl) (k0_pay85 (mLo xr cl)) (ix2 ch (lane b l)) = kD (l.val < n b) p (f b l) c ch := by
  rw [mDeq_apply]
  unfold kD
  refine Finset.sum_congr rfl fun a _ => ?_
  rw [bwd_apply row ch a (p a) (hp a)]
  unfold mY kY
  have hg : grp (grpOf a) = gOf a := grp_of _ a rfl
  have hz : (k0_pay85 (mLo xr cl) (ix2 (grpOf a) (lane b l)) : EReal) = kLo (f b l) c (gOf a) := by
    refine Eq.trans ?_ ((mLo_at xr f c cl hx hc (grpOf a) b l).trans (by rw [hg]))
    pointwise [k0_pay85]
  rw [valid_at v1 v3 n h1 h3 hn, valid_at v1 v3 n h1 h3 hn, mQ_at v1 v3 n h1 h3 hn xr f c cl hx hc _ _ rfl, mSf_at xr f c cl hx hc, hz, hg]

end At

/-- The gathered channels at a row and a lane, from the two sequences' blocks. -/
theorem mXr_at (hd : BitVec 32) (hh : hd.toNat < 64) (col : Vec Ideal S160x128 .f32) (x0 x1 : Vec Ideal S1x1x160x128 .bf16) (p : Fin 160 → Fin 160)
    (hp : ∀ a, col (ix2 a ⟨hd.toNat, by omega⟩) = (((p a).val : ℝ) : EReal)) (y : Fin 2 → Fin 128 → Fin 160 → EReal)
    (h0 : ∀ c l, x0 (ix4 0 0 c l) = y 0 l c) (h1 : ∀ c l, x1 (ix4 0 0 c l) = y 1 l c) (a : Fin 160) (b : Fin 2) (l : Fin 128) :
    mXr hd col x0 x1 (ix2 a (lane b l)) = y b l (p a) := by
  fin_cases b
  · refine Eq.trans (congrArg (fun z => mXr hd col x0 x1 (ix2 a z)) (Fin.ext (by simp [lane]))) ((mXr_apply0 hd hh col x0 x1 a l (p a) (hp a)).trans (h0 _ _))
  · exact (mXr_apply1 hd hh col x0 x1 a l (p a) (hp a)).trans (h1 _ _)

end Cert.KernelIdeal.Val

end
-- ==== Proof.Head.lean ====
/- The blocks a trip stores for its head, read at an index: codes, dequantised channels, scales, zero points. -/
module

public import proofs.«01_k».proof.Proof.Spec

@[expose] public section

noncomputable section

namespace Cert.KernelIdeal.Val

open Cert.KernelIdeal Cert.KernelIdeal.Gen Idealize.ShloMosaic Idealize.ShloMosaic.Pointwise

/-- The first sequence's half of a vector of codes, as the block stored. -/
theorem half_code0 {α : Type} (z : S80x256.Idx → α) (x : S1x1x80x128.Idx) :
    shapeCast S1x1x80x128 (extractStridedSlice S80x128 ![0, 0] z slices_S80x256_o0_0_S80x128) shapeCasts_S80x128_S1x1x80x128 x
      = z (ix2 (x 2) (lane 0 (x 3))) := by
  rw [eq_ix4 x]; pointwise
  exact congrArg (fun q => z (ix2 _ q)) (Fin.ext (by simp [lane]))

theorem half_code1 {α : Type} (z : S80x256.Idx → α) (x : S1x1x80x128.Idx) :
    shapeCast S1x1x80x128 (extractStridedSlice S80x128 ![0, 128] z slices_S80x256_o0_128_S80x128) shapeCasts_S80x128_S1x1x80x128 x
      = z (ix2 (x 2) (lane 1 (x 3))) := by
  rw [eq_ix4 x]; pointwise
  rfl

theorem half_deq0 {α : Type} (z : S160x256.Idx → α) (x : S1x1x160x128.Idx) :
    shapeCast S1x1x160x128 (extractStridedSlice S160x128 ![0, 0] z slices_S160x256_o0_0_S160x128) shapeCasts_S160x128_S1x1x160x128 x
      = z (ix2 (x 2) (lane 0 (x 3))) := by
  rw [eq_ix4 x]; pointwise
  exact congrArg (fun q => z (ix2 _ q)) (Fin.ext (by simp [lane]))

theorem half_deq1 {α : Type} (z : S160x256.Idx → α) (x : S1x1x160x128.Idx) :
    shapeCast S1x1x160x128 (extractStridedSlice S160x128 ![0, 128] z slices_S160x256_o0_128_S160x128) shapeCasts_S160x128_S1x1x160x128 x
      = z (ix2 (x 2) (lane 1 (x 3))) := by
  rw [eq_ix4 x]; pointwise
  rfl

theorem half_scale0 {α : Type} (z : S8x256.Idx → α) (x : S1x8x128.Idx) :
    shapeCast S1x8x128 (extractStridedSlice S8x128 ![0, 0] z slices_S8x256_o0_0_S8x128) shapeCasts_S8x128_S1x8x128 x
      = z (ix2 (x 1) (lane 0 (x 2))) := by
  rw [eq_ix3 x]; pointwise
  exact congrArg (fun q => z (ix2 _ q)) (Fin.ext (by simp [lane]))

theorem half_scale1 {α : Type} (z : S8x256.Idx → α) (x : S1x8x128.Idx) :
    shapeCast S1x8x128 (extractStridedSlice S8x128 ![0, 128] z slices_S8x256_o0_128_S8x128) shapeCasts_S8x128_S1x8x128 x
      = z (ix2 (x 1) (lane 1 (x 2))) := by
  rw [eq_ix3 x]; pointwise
  rfl

/-- What a trip's loads hold for its head: the two cache blocks, the permutation as a column and as a row, the clip factors. -/
structure Head (hd : BitVec 32) (col : Vec Ideal S160x128 .f32) (x0 x1 : Vec Ideal S1x1x160x128 .bf16) (c : Fin 5 → EReal)
    (row : Vec Ideal S1x160 .f32) (v1 v3 : BitVec 32) (n : Fin 2 → ℕ) (p : Fin 160 → Fin 160) (y : Fin 2 → Fin 128 → Fin 160 → EReal) : Prop where
  hh : hd.toNat < 64
  hp : ∀ a, col (ix2 a ⟨hd.toNat, by omega⟩) = (((p a).val : ℝ) : EReal)
  h0 : ∀ c l, x0 (ix4 0 0 c l) = y 0 l c
  h1 : ∀ c l, x1 (ix4 0 0 c l) = y 1 l c
  hr : ∀ a, row (ix2 0 a) = (((p a).val : ℝ) : EReal)
  hv1 : v1 = BitVec.ofNat 32 (n 0)
  hv3 : v3 = BitVec.ofNat 32 (n 1)
  hn : ∀ b, n b ≤ 128

/-- A token's channels in the kernel's row order. -/
def reorder (p : Fin 160 → Fin 160) (y : Fin 2 → Fin 128 → Fin 160 → EReal) : Fin 2 → Fin 128 → Fin 160 → EReal := fun b l a => y b l (p a)

namespace Head

variable {hd : BitVec 32} {col : Vec Ideal S160x128 .f32} {x0 x1 : Vec Ideal S1x1x160x128 .bf16} {c : Fin 5 → EReal}
    {row : Vec Ideal S1x160 .f32} {v1 v3 : BitVec 32} {n : Fin 2 → ℕ} {p : Fin 160 → Fin 160} {y : Fin 2 → Fin 128 → Fin 160 → EReal}
    (H : Head hd col x0 x1 c row v1 v3 n p y)

include H in
theorem xr (a : Fin 160) (b : Fin 2) (l : Fin 128) : mXr hd col x0 x1 (ix2 a (lane b l)) = reorder p y b l a :=
  mXr_at hd H.hh col x0 x1 p H.hp y H.h0 H.h1 a b l

theorem clip (c : Fin 5 → EReal) (s : Fin 8) (l : Fin 256) : mClip (c 0) (c 1) (c 2) (c 3) (c 4) (ix2 s l) = c (grp s) := mClip_apply c s l

include H in
theorem code (r : Fin 80) (b : Fin 2) (l : Fin 128) :
    mCode (mValid v1 v3) (mXr hd col x0 x1) (mSf (mXr hd col x0 x1) (mClip (c 0) (c 1) (c 2) (c 3) (c 4)))
      (k0_pay85 (mLo (mXr hd col x0 x1) (mClip (c 0) (c 1) (c 2) (c 3) (c 4)))) (ix2 r (lane b l))
      = kC (l.val < n b) (reorder p y b l) c r :=
  mCode_at v1 v3 n H.hv1 H.hv3 H.hn _ _ c _ H.xr (clip c) r b l

include H in
theorem deq (r : Fin 160) (b : Fin 2) (l : Fin 128) :
    mDeq (k0_pay71 row) (mValid v1 v3) (mXr hd col x0 x1) (mSf (mXr hd col x0 x1) (mClip (c 0) (c 1) (c 2) (c 3) (c 4)))
      (k0_pay85 (mLo (mXr hd col x0 x1) (mClip (c 0) (c 1) (c 2) (c 3) (c 4)))) (ix2 r (lane b l))
      = kD (l.val < n b) p (reorder p y b l) c r :=
  mDeq_at v1 v3 n H.hv1 H.hv3 H.hn _ _ c _ H.xr (clip c) row p H.hr r b l

include H in
theorem scale (s : Fin 8) (b : Fin 2) (l : Fin 128) :
    k0_pay87 (mValid v1 v3) (mSf (mXr hd col x0 x1) (mClip (c 0) (c 1) (c 2) (c 3) (c 4))) (ix2 s (lane b l))
      = if l.val < n b then kSc (reorder p y b l) c (grp s) else 0 := by
  rw [← mSf_at _ _ c _ H.xr (clip c), ← valid_at v1 v3 n H.hv1 H.hv3 H.hn s b l]
  generalize mSf _ _ = z
  generalize mValid v1 v3 = va
  pointwise [k0_pay87]

include H in
theorem zero (s : Fin 8) (b : Fin 2) (l : Fin 128) :
    k0_pay88 (mValid v1 v3) (k0_pay85 (mLo (mXr hd col x0 x1) (mClip (c 0) (c 1) (c 2) (c 3) (c 4)))) (ix2 s (lane b l))
      = if l.val < n b then kLo (reorder p y b l) c (grp s) else 0 := by
  rw [← mLo_at _ _ c _ H.xr (clip c), ← valid_at v1 v3 n H.hv1 H.hv3 H.hn s b l]
  generalize mLo _ _ = z
  generalize mValid v1 v3 = va
  pointwise [k0_pay88, k0_pay85]

end Head

end Cert.KernelIdeal.Val

end
-- ==== Proof.Offsets.lean ====
/- Where the kernel's loads and stores lie: each offset as plain numbers, and an index into a box as the index it stands for. -/
module

public import proofs.«01_k».proof.Proof.KernelIdealChecks
public import Idealize.ShloMosaic.Lib.Pointwise
public import Idealize.ShloMosaic.Lib.Pipeline.ValueKit.Tiles

@[expose] public section

namespace Cert.KernelIdeal.Val

open Cert.KernelIdeal Cert.KernelIdeal.Gen Cert.KernelIdeal.Hand Cert.Words Idealize.ShloMosaic

/-- The head of trip `k` of grid step `i`. -/
def hd (i : grid0.Coords) (k : Fin k0_t1_loop.trips) : Fin 64 := ⟨4 * (i 0).val + k.val, by
  have := trip_lt k; have : (i 0).val < 16 := (i 0).isLt; omega⟩

/-- The trip as a head of the block. -/
def kh (k : Fin k0_t1_loop.trips) : Fin 4 := ⟨k.val, trip_lt k⟩

/-- The head's number as the kernel computes it. -/
def hdWord (i : grid0.Coords) (k : Fin k0_t1_loop.trips) : BitVec 32 :=
  Scalar.addi (Scalar.muli (BitVec.ofNat 32 (i 0).val) 4#32) (Scf.iv 0#32 1#32 k.val)

theorem hdWord_toNat (i : grid0.Coords) (k : Fin k0_t1_loop.trips) : (hdWord i k).toNat = 4 * (i 0).val + k.val := by
  have := trip_lt k
  have : (i 0).val < 16 := (i 0).isLt
  show (BitVec.ofNat 32 (i 0).val * 4#32 + (0#32 + BitVec.ofNat 32 k.val * 1#32)).toNat = _
  rw [BitVec.zero_add, BitVec.mul_one, BitVec.toNat_add, BitVec.toNat_mul, BitVec.toNat_ofNat, BitVec.toNat_ofNat]
  show ((i 0).val % 2 ^ 32 * 4 % 2 ^ 32 + k.val % 2 ^ 32) % 2 ^ 32 = _
  omega

theorem hd8_toNat (i : grid0.Coords) (k : Fin k0_t1_loop.trips) :
    (Scalar.indexCast (Scalar.muli (hdWord i k) 8#32) : BitVec 32).toNat = 8 * (4 * (i 0).val + k.val) := by
  have := trip_lt k
  have : (i 0).val < 16 := (i 0).isLt
  show (hdWord i k * 8#32).toNat = _
  rw [BitVec.toNat_mul, hdWord_toNat]
  show (4 * (i 0).val + k.val) * 8 % 2 ^ 32 = _
  omega

theorem off23_eq (i : grid0.Coords) (k : Fin k0_t1_loop.trips) : k0_off23 i k = ![0, 8 * (4 * (i 0).val + k.val), 0] :=
  (show k0_off23 i k = ![0, (Scalar.indexCast (Scalar.muli (hdWord i k) 8#32) : BitVec 32).toNat, 0] from rfl).trans (by rw [hd8_toNat])
theorem off24_eq (i : grid0.Coords) (k : Fin k0_t1_loop.trips) : k0_off24 i k = ![1, 8 * (4 * (i 0).val + k.val), 0] :=
  (show k0_off24 i k = ![1, (Scalar.indexCast (Scalar.muli (hdWord i k) 8#32) : BitVec 32).toNat, 0] from rfl).trans (by rw [hd8_toNat])
theorem off15_eq (i : grid0.Coords) (k : Fin k0_t1_loop.trips) : k0_off15 i k = ![4 * (i 0).val + k.val, 0] :=
  (show k0_off15 i k = ![(Scalar.indexCast (hdWord i k) : BitVec 32).toNat, 0] from rfl).trans (by rw [show (Scalar.indexCast (hdWord i k) : BitVec 32).toNat = _ from hdWord_toNat i k])
theorem off18_eq (i : grid0.Coords) (k : Fin k0_t1_loop.trips) : k0_off18 i k = ![0, 4 * (i 0).val + k.val] :=
  (show k0_off18 i k = ![0, (Scalar.indexCast (hdWord i k) : BitVec 32).toNat] from rfl).trans (by rw [show (Scalar.indexCast (hdWord i k) : BitVec 32).toNat = _ from hdWord_toNat i k])
theorem off19_eq (i : grid0.Coords) (k : Fin k0_t1_loop.trips) : k0_off19 i k = ![1, 4 * (i 0).val + k.val] :=
  (show k0_off19 i k = ![1, (Scalar.indexCast (hdWord i k) : BitVec 32).toNat] from rfl).trans (by rw [show (Scalar.indexCast (hdWord i k) : BitVec 32).toNat = _ from hdWord_toNat i k])
theorem off20_eq (i : grid0.Coords) (k : Fin k0_t1_loop.trips) : k0_off20 i k = ![2, 4 * (i 0).val + k.val] :=
  (show k0_off20 i k = ![2, (Scalar.indexCast (hdWord i k) : BitVec 32).toNat] from rfl).trans (by rw [show (Scalar.indexCast (hdWord i k) : BitVec 32).toNat = _ from hdWord_toNat i k])
theorem off21_eq (i : grid0.Coords) (k : Fin k0_t1_loop.trips) : k0_off21 i k = ![3, 4 * (i 0).val + k.val] :=
  (show k0_off21 i k = ![3, (Scalar.indexCast (hdWord i k) : BitVec 32).toNat] from rfl).trans (by rw [show (Scalar.indexCast (hdWord i k) : BitVec 32).toNat = _ from hdWord_toNat i k])
theorem off22_eq (i : grid0.Coords) (k : Fin k0_t1_loop.trips) : k0_off22 i k = ![4, 4 * (i 0).val + k.val] :=
  (show k0_off22 i k = ![4, (Scalar.indexCast (hdWord i k) : BitVec 32).toNat] from rfl).trans (by rw [show (Scalar.indexCast (hdWord i k) : BitVec 32).toNat = _ from hdWord_toNat i k])

theorem off2_eq (k : Fin k0_t1_loop.trips) : k0_off2 k = ![0, k.val, 0, 0] :=
  (show k0_off2 k = ![0, (Scalar.indexCast (Scf.iv 0#32 1#32 k.val)).toNat, 0, 0] from rfl).trans (by rw [trip_word])
theorem off9_eq (k : Fin k0_t1_loop.trips) : k0_off9 k = ![1, k.val, 0, 0] :=
  (show k0_off9 k = ![1, (Scalar.indexCast (Scf.iv 0#32 1#32 k.val)).toNat, 0, 0] from rfl).trans (by rw [trip_word])
theorem off30_eq (k : Fin k0_t1_loop.trips) : k0_off30 k = ![0, k.val, 0, 0] :=
  (show k0_off30 k = ![0, (Scalar.indexCast (Scf.iv 0#32 1#32 k.val)).toNat, 0, 0] from rfl).trans (by rw [trip_word])
theorem off3_eq (k : Fin k0_t1_loop.trips) : k0_off3 k = ![0, k.val, 0, 128] :=
  (show k0_off3 k = ![0, (Scalar.indexCast (Scf.iv 0#32 1#32 k.val)).toNat, 0, 128] from rfl).trans (by rw [trip_word])
theorem off10_eq (k : Fin k0_t1_loop.trips) : k0_off10 k = ![1, k.val, 0, 128] :=
  (show k0_off10 k = ![1, (Scalar.indexCast (Scf.iv 0#32 1#32 k.val)).toNat, 0, 128] from rfl).trans (by rw [trip_word])
theorem off31_eq (k : Fin k0_t1_loop.trips) : k0_off31 k = ![0, k.val, 0, 128] :=
  (show k0_off31 k = ![0, (Scalar.indexCast (Scf.iv 0#32 1#32 k.val)).toNat, 0, 128] from rfl).trans (by rw [trip_word])
theorem off4_eq (k : Fin k0_t1_loop.trips) : k0_off4 k = ![0, k.val, 0, 256] :=
  (show k0_off4 k = ![0, (Scalar.indexCast (Scf.iv 0#32 1#32 k.val)).toNat, 0, 256] from rfl).trans (by rw [trip_word])
theorem off11_eq (k : Fin k0_t1_loop.trips) : k0_off11 k = ![1, k.val, 0, 256] :=
  (show k0_off11 k = ![1, (Scalar.indexCast (Scf.iv 0#32 1#32 k.val)).toNat, 0, 256] from rfl).trans (by rw [trip_word])
theorem off32_eq (k : Fin k0_t1_loop.trips) : k0_off32 k = ![0, k.val, 0, 256] :=
  (show k0_off32 k = ![0, (Scalar.indexCast (Scf.iv 0#32 1#32 k.val)).toNat, 0, 256] from rfl).trans (by rw [trip_word])
theorem off5_eq (k : Fin k0_t1_loop.trips) : k0_off5 k = ![0, k.val, 0, 384] :=
  (show k0_off5 k = ![0, (Scalar.indexCast (Scf.iv 0#32 1#32 k.val)).toNat, 0, 384] from rfl).trans (by rw [trip_word])
theorem off12_eq (k : Fin k0_t1_loop.trips) : k0_off12 k = ![1, k.val, 0, 384] :=
  (show k0_off12 k = ![1, (Scalar.indexCast (Scf.iv 0#32 1#32 k.val)).toNat, 0, 384] from rfl).trans (by rw [trip_word])
theorem off33_eq (k : Fin k0_t1_loop.trips) : k0_off33 k = ![0, k.val, 0, 384] :=
  (show k0_off33 k = ![0, (Scalar.indexCast (Scf.iv 0#32 1#32 k.val)).toNat, 0, 384] from rfl).trans (by rw [trip_word])
theorem off6_eq (k : Fin k0_t1_loop.trips) : k0_off6 k = ![0, k.val, 0, 512] :=
  (show k0_off6 k = ![0, (Scalar.indexCast (Scf.iv 0#32 1#32 k.val)).toNat, 0, 512] from rfl).trans (by rw [trip_word])
theorem off13_eq (k : Fin k0_t1_loop.trips) : k0_off13 k = ![1, k.val, 0, 512] :=
  (show k0_off13 k = ![1, (Scalar.indexCast (Scf.iv 0#32 1#32 k.val)).toNat, 0, 512] from rfl).trans (by rw [trip_word])
theorem off34_eq (k : Fin k0_t1_loop.trips) : k0_off34 k = ![0, k.val, 0, 512] :=
  (show k0_off34 k = ![0, (Scalar.indexCast (Scf.iv 0#32 1#32 k.val)).toNat, 0, 512] from rfl).trans (by rw [trip_word])
theorem off7_eq (k : Fin k0_t1_loop.trips) : k0_off7 k = ![0, k.val, 0, 640] :=
  (show k0_off7 k = ![0, (Scalar.indexCast (Scf.iv 0#32 1#32 k.val)).toNat, 0, 640] from rfl).trans (by rw [trip_word])
theorem off14_eq (k : Fin k0_t1_loop.trips) : k0_off14 k = ![1, k.val, 0, 640] :=
  (show k0_off14 k = ![1, (Scalar.indexCast (Scf.iv 0#32 1#32 k.val)).toNat, 0, 640] from rfl).trans (by rw [trip_word])
theorem off35_eq (k : Fin k0_t1_loop.trips) : k0_off35 k = ![0, k.val, 0, 640] :=
  (show k0_off35 k = ![0, (Scalar.indexCast (Scf.iv 0#32 1#32 k.val)).toNat, 0, 640] from rfl).trans (by rw [trip_word])
theorem off16_eq (k : Fin k0_t1_loop.trips) : k0_off16 k = ![0, k.val, 0, 0] :=
  (show k0_off16 k = ![0, (Scalar.indexCast (Scf.iv 0#32 1#32 k.val)).toNat, 0, 0] from rfl).trans (by rw [trip_word])
theorem off17_eq (k : Fin k0_t1_loop.trips) : k0_off17 k = ![1, k.val, 0, 0] :=
  (show k0_off17 k = ![1, (Scalar.indexCast (Scf.iv 0#32 1#32 k.val)).toNat, 0, 0] from rfl).trans (by rw [trip_word])
theorem off25_eq (k : Fin k0_t1_loop.trips) : k0_off25 k = ![0, k.val, 0, 0] :=
  (show k0_off25 k = ![0, (Scalar.indexCast (Scf.iv 0#32 1#32 k.val)).toNat, 0, 0] from rfl).trans (by rw [trip_word])
theorem off26_eq (k : Fin k0_t1_loop.trips) : k0_off26 k = ![0, k.val, 0, 0] :=
  (show k0_off26 k = ![0, (Scalar.indexCast (Scf.iv 0#32 1#32 k.val)).toNat, 0, 0] from rfl).trans (by rw [trip_word])
theorem off27_eq (k : Fin k0_t1_loop.trips) : k0_off27 k = ![1, k.val, 0, 0] :=
  (show k0_off27 k = ![1, (Scalar.indexCast (Scf.iv 0#32 1#32 k.val)).toNat, 0, 0] from rfl).trans (by rw [trip_word])
theorem off28_eq (k : Fin k0_t1_loop.trips) : k0_off28 k = ![1, k.val, 0, 0] :=
  (show k0_off28 k = ![1, (Scalar.indexCast (Scf.iv 0#32 1#32 k.val)).toNat, 0, 0] from rfl).trans (by rw [trip_word])

theorem off1_eq (v j : BitVec 32) (k : Fin k0_t1_loop.trips) : k0_off1 v k j = ![0, k.val, 0, (col v j).toNat] :=
  (show k0_off1 v k j = ![0, (Scalar.indexCast (Scf.iv 0#32 1#32 k.val)).toNat, 0, (col v j).toNat] from rfl).trans (by rw [trip_word])
theorem off29_eq (v j : BitVec 32) (k : Fin k0_t1_loop.trips) : k0_off29 v k j = ![0, k.val, 0, (col v j).toNat] :=
  (show k0_off29 v k j = ![0, (Scalar.indexCast (Scf.iv 0#32 1#32 k.val)).toNat, 0, (col v j).toNat] from rfl).trans (by rw [trip_word])
theorem off8_eq (v j : BitVec 32) (k : Fin k0_t1_loop.trips) : k0_off8 v k j = ![1, k.val, 0, (col v j).toNat] :=
  (show k0_off8 v k j = ![1, (Scalar.indexCast (Scf.iv 0#32 1#32 k.val)).toNat, 0, (col v j).toNat] from rfl).trans (by rw [trip_word])

/-- The index a box's index stands for. -/
theorem idx4 {a b c d a' b' c' d' : ℕ} {off : Fin 4 → ℕ} (h : ∀ e, off e + (![a', b', c', d'] : Fin 4 → ℕ) e ≤ (⟨4, ![a, b, c, d]⟩ : Shape).size e)
    (o0 o1 o2 o3 : ℕ) (ho : off = ![o0, o1, o2, o3]) (x : (⟨4, ![a', b', c', d']⟩ : Shape).Idx)
    (w0 : o0 + (x 0).val < a) (w1 : o1 + (x 1).val < b) (w2 : o2 + (x 2).val < c) (w3 : o3 + (x 3).val < d) :
    (Rect.unit (s := ⟨4, ![a, b, c, d]⟩) off ![a', b', c', d'] h).idx x = ix4 ⟨o0 + (x 0).val, w0⟩ ⟨o1 + (x 1).val, w1⟩ ⟨o2 + (x 2).val, w2⟩ ⟨o3 + (x 3).val, w3⟩ := by
  subst ho
  funext e
  match e with
  | ⟨0, _⟩ => exact Fin.ext (Rect.idx_unit_val _ _ _ _ _)
  | ⟨1, _⟩ => exact Fin.ext (Rect.idx_unit_val _ _ _ _ _)
  | ⟨2, _⟩ => exact Fin.ext (Rect.idx_unit_val _ _ _ _ _)
  | ⟨3, _⟩ => exact Fin.ext (Rect.idx_unit_val _ _ _ _ _)

theorem idx3 {a b c a' b' c' : ℕ} {off : Fin 3 → ℕ} (h : ∀ e, off e + (![a', b', c'] : Fin 3 → ℕ) e ≤ (⟨3, ![a, b, c]⟩ : Shape).size e)
    (o0 o1 o2 : ℕ) (ho : off = ![o0, o1, o2]) (x : (⟨3, ![a', b', c']⟩ : Shape).Idx)
    (w0 : o0 + (x 0).val < a) (w1 : o1 + (x 1).val < b) (w2 : o2 + (x 2).val < c) :
    (Rect.unit (s := ⟨3, ![a, b, c]⟩) off ![a', b', c'] h).idx x = ix3 ⟨o0 + (x 0).val, w0⟩ ⟨o1 + (x 1).val, w1⟩ ⟨o2 + (x 2).val, w2⟩ := by
  subst ho
  funext e
  match e with
  | ⟨0, _⟩ => exact Fin.ext (Rect.idx_unit_val _ _ _ _ _)
  | ⟨1, _⟩ => exact Fin.ext (Rect.idx_unit_val _ _ _ _ _)
  | ⟨2, _⟩ => exact Fin.ext (Rect.idx_unit_val _ _ _ _ _)

theorem idx2 {a b a' b' : ℕ} {off : Fin 2 → ℕ} (h : ∀ e, off e + (![a', b'] : Fin 2 → ℕ) e ≤ (⟨2, ![a, b]⟩ : Shape).size e)
    (o0 o1 : ℕ) (ho : off = ![o0, o1]) (x : (⟨2, ![a', b']⟩ : Shape).Idx)
    (w0 : o0 + (x 0).val < a) (w1 : o1 + (x 1).val < b) :
    (Rect.unit (s := ⟨2, ![a, b]⟩) off ![a', b'] h).idx x = ix2 ⟨o0 + (x 0).val, w0⟩ ⟨o1 + (x 1).val, w1⟩ := by
  subst ho
  funext e
  match e with
  | ⟨0, _⟩ => exact Fin.ext (Rect.idx_unit_val _ _ _ _ _)
  | ⟨1, _⟩ => exact Fin.ext (Rect.idx_unit_val _ _ _ _ _)

end Cert.KernelIdeal.Val
-- ==== Proof.Window.lean ====
/- One block of a window: two neighbouring blocks of the cache, each turned by the sequence's lane offset, and a choice between
   them by lane. At an index it is one of the two at a lane further on. -/
module

public import proofs.«01_k».proof.Proof.Offsets

@[expose] public section

noncomputable section

namespace Cert.KernelIdeal.Val

open Cert.KernelIdeal Cert.KernelIdeal.Gen Idealize.ShloMosaic Idealize.ShloMosaic.Pointwise

/-- The amount a block is turned by. -/
def turn (v : BitVec 32) : BitVec 32 := Scalar.andi (Scalar.subi 128#32 (Scalar.andi v 127#32)) 127#32

/-- The lanes the first of the two blocks supplies. -/
def keep (v : BitVec 32) : IVec S80x128 1 :=
  cmpi .slt (iota .tc S80x128 32 [1] iota_S80x128_d1_w32) (broadcast S80x128 (Scalar.subi 128#32 (Scalar.andi v 127#32)))

/-- Rows of one parity of a block, turned. -/
def turned (q : Fin 2) (v : BitVec 32) (x : Vec Ideal S1x1x160x128 .bf16) : FVec Ideal S80x128 .bf16 :=
  dynamicRotate 1 (turn v) none (rowsOfParity q S80x128 (shapeCast S160x128 x shapeCasts_S1x1x160x128_S160x128) bitcasts_S160x128_w16_S80x128_w32) rotates_S80x128_d1

/-- The window's block. -/
def mWin (v : BitVec 32) (x0 x1 : Vec Ideal S1x1x160x128 .bf16) : Vec Ideal S1x1x160x128 .bf16 :=
  shapeCast S1x1x160x128 (interleaveRows S160x128 (select (keep v) (turned 0 v x0) (turned 0 v x1)) (select (keep v) (turned 1 v x0) (turned 1 v x1))
    bitcasts_S160x128_w16_S80x128_w32) shapeCasts_S160x128_S1x1x160x128

theorem and127 (n : ℕ) (h : n ≤ 128) : (Scalar.andi (BitVec.ofNat 32 n) 127#32).toNat = n % 128 := by
  show (BitVec.ofNat 32 n &&& 127#32).toNat = _
  rw [BitVec.toNat_and, show (127#32).toNat = 2 ^ 7 - 1 from rfl, Nat.and_two_pow_sub_one_eq_mod, BitVec.toNat_ofNat]
  omega

theorem sub127 (n : ℕ) (h : n ≤ 128) : (Scalar.subi 128#32 (Scalar.andi (BitVec.ofNat 32 n) 127#32)).toNat = 128 - n % 128 := by
  show (128#32 - Scalar.andi (BitVec.ofNat 32 n) 127#32).toNat = _
  rw [BitVec.toNat_sub, and127 n h, show (128#32).toNat = 128 from rfl]
  omega

theorem turn_toNat (n : ℕ) (h : n ≤ 128) : (turn (BitVec.ofNat 32 n)).toNat = (128 - n % 128) % 128 := by
  show (Scalar.subi 128#32 (Scalar.andi (BitVec.ofNat 32 n) 127#32) &&& 127#32).toNat = _
  rw [BitVec.toNat_and, sub127 n h, show (127#32).toNat = 2 ^ 7 - 1 from rfl, Nat.and_two_pow_sub_one_eq_mod]

theorem keep_at (n : ℕ) (h : n ≤ 128) (r : Fin 80) (l : Fin 128) : keep (BitVec.ofNat 32 n) (ix2 r l) = 1#1 ↔ l.val + n % 128 < 128 := by
  have e : keep (BitVec.ofNat 32 n) (ix2 r l) = IntOp.cmpi .slt (BitVec.ofNat 32 l.val) (Scalar.subi 128#32 (Scalar.andi (BitVec.ofNat 32 n) 127#32)) := by
    pointwise [keep]
  rw [e, IntOp.cmpi_slt, BitVec.toInt_eq_toNat_of_lt (by rw [BitVec.toNat_ofNat]; omega), BitVec.toInt_eq_toNat_of_lt (by rw [sub127 n h]; omega),
    sub127 n h, BitVec.toNat_ofNat]
  omega

theorem turned_at (n : ℕ) (h : n ≤ 128) (q : Fin 2) (x : Vec Ideal S1x1x160x128 .bf16) (r : Fin 80) (l : Fin 128) :
    turned q (BitVec.ofNat 32 n) x (ix2 r l) = x (ix4 0 0 ⟨2 * r.val + q.val, by omega⟩ ⟨(l.val + n % 128) % 128, by omega⟩) := by
  unfold turned
  pointwise
  refine congrArg (fun z => x (ix4 0 0 _ z)) (Fin.ext ?_)
  have := turn_toNat n h
  simp only [this]
  omega

theorem mWin_at (n : ℕ) (h : n ≤ 128) (x0 x1 : Vec Ideal S1x1x160x128 .bf16) (x : S1x1x160x128.Idx) :
    mWin (BitVec.ofNat 32 n) x0 x1 x = if (x 3).val + n % 128 < 128 then x0 (ix4 0 0 (x 2) ⟨((x 3).val + n % 128) % 128, by omega⟩)
      else x1 (ix4 0 0 (x 2) ⟨((x 3).val + n % 128) % 128, by omega⟩) := by
  have sel : ∀ (r : Fin 80) (q : Fin 2) (l : Fin 128), select (keep (BitVec.ofNat 32 n)) (turned q (BitVec.ofNat 32 n) x0) (turned q (BitVec.ofNat 32 n) x1) (ix2 r l)
      = if l.val + n % 128 < 128 then x0 (ix4 0 0 ⟨2 * r.val + q.val, by omega⟩ ⟨(l.val + n % 128) % 128, by omega⟩)
        else x1 (ix4 0 0 ⟨2 * r.val + q.val, by omega⟩ ⟨(l.val + n % 128) % 128, by omega⟩) := by
    intro r q l
    rw [← turned_at n h q x0 r l, ← turned_at n h q x1 r l]
    have k := keep_at n h r l
    show Scalar.select (keep (BitVec.ofNat 32 n) (ix2 r l)) _ _ = _
    generalize keep (BitVec.ofNat 32 n) (ix2 r l) = z at k
    by_cases hl : l.val + n % 128 < 128
    · rw [if_pos hl, k.mpr hl]; rfl
    · rw [if_neg hl]
      have : z = 0#1 := by
        have hz : ¬ z = 1#1 := fun e => hl (k.mp e)
        clear k
        revert z; decide
      rw [this]; rfl
  obtain ⟨a, b, c, l, rfl⟩ : ∃ a b c l, x = ix4 a b c l := ⟨_, _, _, _, eq_ix4 x⟩
  unfold mWin
  generalize hA : select (keep (BitVec.ofNat 32 n)) (turned 0 (BitVec.ofNat 32 n) x0) (turned 0 (BitVec.ofNat 32 n) x1) = A
  generalize hB : select (keep (BitVec.ofNat 32 n)) (turned 1 (BitVec.ofNat 32 n) x0) (turned 1 (BitVec.ofNat 32 n) x1) = B
  pointwise
  subst hA hB
  by_cases hc : c.val % 2 = 0
  · have e : c = ⟨2 * (c.val / 2) + (0 : Fin 2).val, by simp; omega⟩ := Fin.ext (by simp; omega)
    simp only [hc, if_true]
    refine (sel _ 0 l).trans ?_
    rw [← e]
  · have e : c = ⟨2 * (c.val / 2) + (1 : Fin 2).val, by simp; omega⟩ := Fin.ext (by simp; omega)
    simp only [hc, if_false]
    refine (sel _ 1 l).trans ?_
    rw [← e]

end Cert.KernelIdeal.Val

end
-- ==== Proof.Side.lean ====
/- What the keys' pass and the values' pass compute, as functions of plain data: a cache, a permutation and clip factors per
   head, and how many tokens of each sequence the cache quantises. -/
module

public import proofs.«01_k».proof.Proof.Head
public import proofs.«01_k».proof.Proof.Window

@[expose] public section

noncomputable section

namespace Cert.KernelIdeal.Val

open Cert.KernelIdeal Cert.KernelIdeal.Gen Cert.KernelIdeal.Hand Cert.Words Idealize.ShloMosaic Idealize.ShloMosaic.Pointwise

/-- One cache's data: its values by sequence, head, channel and token, its permutation by head, its clip factors by head and group. -/
structure Side where
  X : Fin 2 → Fin 64 → Fin 160 → Fin 896 → EReal
  P : Fin 64 → Fin 160 → Fin 160
  C : Fin 64 → Fin 5 → EReal

/-- The number of tokens quantised, per sequence. -/
structure Lens where
  n : Fin 2 → ℕ
  le : ∀ b, n b ≤ 128

namespace Side

variable (S : Side) (N : Lens)

/-- A head's first tokens. -/
def y (H : Fin 64) : Fin 2 → Fin 128 → Fin 160 → EReal := fun b l c => S.X b H c ⟨l.val, by omega⟩

/-- The same, the channels in the kernel's row order. -/
def f (H : Fin 64) : Fin 2 → Fin 128 → Fin 160 → EReal := reorder (S.P H) (S.y H)

/-- A head's code byte. -/
def code (b : Fin 2) (H : Fin 64) (r : Fin 80) (l : Fin 128) : BitVec 8 := kC (l.val < N.n b) (S.f H b l) (S.C H) r

/-- A head's dequantised value. -/
def deq (b : Fin 2) (H : Fin 64) (c : Fin 160) (l : Fin 128) : EReal := kD (l.val < N.n b) (S.P H) (S.f H b l) (S.C H) c

/-- A head's scale. -/
def scale (b : Fin 2) (H : Fin 64) (g : Fin 5) (l : Fin 128) : EReal := if l.val < N.n b then kSc (S.f H b l) (S.C H) g else 0

/-- A head's zero point. -/
def zero (b : Fin 2) (H : Fin 64) (g : Fin 5) (l : Fin 128) : EReal := if l.val < N.n b then kLo (S.f H b l) (S.C H) g else 0

/-- A head's window. -/
def win (b : Fin 2) (H : Fin 64) (c : Fin 160) (l : Fin 768) : EReal := S.X b H c ⟨l.val + N.n b, by have := N.le b; omega⟩

end Side

/-- A head of step `i`'s block. -/
def hdOf (i : grid0.Coords) (h : Fin 4) : Fin 64 := ⟨4 * (i 0).val + h.val, by
  have : (i 0).val < 16 := (i 0).isLt; omega⟩

namespace Side

variable (S : Side) (N : Lens) (i : grid0.Coords)

/-- Step `i`'s block of each result. -/
def gCode : S2x4x80x128.Idx → BitVec 8 := fun x => S.code N (x 0) (hdOf i (x 1)) (x 2) (x 3)
def gDeq : S2x4x160x128.Idx → EReal := fun x => S.deq N (x 0) (hdOf i (x 1)) (x 2) (x 3)
def gWin : S2x4x160x768.Idx → EReal := fun x => S.win N (x 0) (hdOf i (x 1)) (x 2) (x 3)
/-- The scratch the scales of all heads are kept in, eight rows to a head. -/
def gScale : S2x512x128.Idx → EReal := fun x => S.scale N (x 0) ⟨(x 1).val / 8, by have : (x 1).val < 512 := (x 1).isLt; omega⟩ (grp ⟨(x 1).val % 8, by omega⟩) (x 2)
def gZero : S2x512x128.Idx → EReal := fun x => S.zero N (x 0) ⟨(x 1).val / 8, by have : (x 1).val < 512 := (x 1).isLt; omega⟩ (grp ⟨(x 1).val % 8, by omega⟩) (x 2)

end Side

/-- A list of writes that agrees with one function wherever it writes, and writes everywhere a predicate holds. -/
def Fits {s : Shape} {e : EltTy} (G : s.Idx → Elt Ideal e) (cov : s.Idx → Prop) (L : List (View.Piece (Elt Ideal) s e)) : Prop :=
  (∀ p ∈ L, ∀ x, p.2 x = G (p.1.idx x)) ∧ ∀ y, cov y → ∃ p ∈ L, y ∈ p.1.set

namespace Fits

variable {s : Shape} {e : EltTy} {G : s.Idx → Elt Ideal e} {cov cov' : s.Idx → Prop} {L L' : List (View.Piece (Elt Ideal) s e)}

theorem nil : Fits G (fun _ => False) [] := ⟨fun _ h => absurd h List.not_mem_nil, fun _ h => h.elim⟩

theorem append (h : Fits G cov L) (h' : Fits G cov' L') : Fits G (fun y => cov y ∨ cov' y) (L ++ L') := by
  refine ⟨fun p hp x => ?_, fun y hy => ?_⟩
  · rcases List.mem_append.mp hp with hp | hp
    · exact h.1 p hp x
    · exact h'.1 p hp x
  · rcases hy with hy | hy
    · obtain ⟨p, hp, hm⟩ := h.2 y hy
      exact ⟨p, List.mem_append_left _ hp, hm⟩
    · obtain ⟨p, hp, hm⟩ := h'.2 y hy
      exact ⟨p, List.mem_append_right _ hp, hm⟩

theorem mono (h : Fits G cov L) (hc : ∀ y, cov' y → cov y) : Fits G cov' L := ⟨h.1, fun y hy => h.2 y (hc y hy)⟩

/-- Reading after the writes gives the function, where they wrote or where it was there before. -/
theorem read (h : Fits G cov L) {sig' : RefSig} {κ : Kind} {sp : Space} (v : View sig' κ sp s e) (f : v.ty.Contents (Elt Ideal)) (y : s.Idx)
    (hy : cov y ∨ v.read (Elt Ideal) f y = G y) : v.read (Elt Ideal) (v.writes (Elt Ideal) f L) y = G y := by
  by_cases hm : ∃ p ∈ L, y ∈ p.1.set
  · exact View.read_writes_apply_of_pieces v f G L h.1 y hm
  · have hy : v.read (Elt Ideal) f y = G y := by
      rcases hy with hy | hy
      · exact absurd (h.2 y hy) hm
      · exact hy
    rw [View.read_writes_apply_of_forall_not_mem v f y L (fun p hp hmem => hm ⟨p, hp, hmem⟩), hy]

/-- One more write, of a box that spans the third axis. -/
theorem cons4 {a b c d d' : ℕ} {e : EltTy} {G : (⟨4, ![a, b, c, d]⟩ : Shape).Idx → Elt Ideal e} {cov : (⟨4, ![a, b, c, d]⟩ : Shape).Idx → Prop}
    {L : List (View.Piece (Elt Ideal) ⟨4, ![a, b, c, d]⟩ e)} (hL : Fits G cov L) {off : Fin 4 → ℕ}
    {hb : ∀ q, off q + (![1, 1, c, d'] : Fin 4 → ℕ) q ≤ (⟨4, ![a, b, c, d]⟩ : Shape).size q}
    (o0 : Fin a) (o1 : Fin b) (o3 : ℕ) (ho : off = ![o0.val, o1.val, 0, o3]) (h3 : o3 + d' ≤ d)
    (p : (⟨4, ![1, 1, c, d']⟩ : Shape).Idx → Elt Ideal e)
    (hp : ∀ x : (⟨4, ![1, 1, c, d']⟩ : Shape).Idx, p x = G (ix4 o0 o1 (x 2) ⟨o3 + (x 3).val, by have : (x 3).val < d' := (x 3).isLt; omega⟩)) :
    Fits G (fun y => ((y 0).val = o0.val ∧ (y 1).val = o1.val ∧ o3 ≤ (y 3).val ∧ (y 3).val < o3 + d') ∨ cov y)
      (⟨Rect.unit (s := ⟨4, ![a, b, c, d]⟩) off ![1, 1, c, d'] hb, p⟩ :: L) := by
  refine ⟨fun q hq x => ?_, fun y hy => ?_⟩
  · rcases List.mem_cons.mp hq with rfl | hq
    · have x3 : (x 3).val < d' := (x 3).isLt
      have x2 : (x 2).val < c := (x 2).isLt
      have x1 : (x 1).val < 1 := (x 1).isLt
      have x0 : (x 0).val < 1 := (x 0).isLt
      refine (hp x).trans (congrArg G ?_)
      refine Eq.trans ?_ (idx4 (a := a) (b := b) (c := c) (d := d) (a' := 1) (b' := 1) (c' := c) (d' := d') hb o0.val o1.val 0 o3 ho x
        (by omega) (by omega) (by omega) (by omega)).symm
      have e0 : (⟨o0.val + (x 0).val, by omega⟩ : Fin a) = o0 := Fin.ext (by show o0.val + (x 0).val = o0.val; omega)
      have e1 : (⟨o1.val + (x 1).val, by omega⟩ : Fin b) = o1 := Fin.ext (by show o1.val + (x 1).val = o1.val; omega)
      have e2 : (⟨0 + (x 2).val, by omega⟩ : Fin c) = x 2 := Fin.ext (by show 0 + (x 2).val = (x 2).val; omega)
      rw [e0, e1, e2]
    · exact hL.1 q hq x
  · rcases hy with ⟨y0, y1, y3, y3'⟩ | hy
    · refine ⟨_, List.mem_cons_self, ?_⟩
      subst ho
      refine (Rect.mem_set_unit (inb := hb)).mpr fun q => ?_
      have y2 : (y 2).val < c := (y 2).isLt
      match q with
      | ⟨0, _⟩ => show o0.val ≤ (y 0).val ∧ (y 0).val < o0.val + 1; omega
      | ⟨1, _⟩ => show o1.val ≤ (y 1).val ∧ (y 1).val < o1.val + 1; omega
      | ⟨2, _⟩ => show 0 ≤ (y 2).val ∧ (y 2).val < 0 + c; omega
      | ⟨3, _⟩ => show o3 ≤ (y 3).val ∧ (y 3).val < o3 + d'; omega
    · obtain ⟨q, hq, hm⟩ := hL.2 y hy
      exact ⟨q, List.mem_cons_of_mem _ hq, hm⟩

/-- One more write, of a band of rows of one batch. -/
theorem cons3 {a b c b' : ℕ} {e : EltTy} {G : (⟨3, ![a, b, c]⟩ : Shape).Idx → Elt Ideal e} {cov : (⟨3, ![a, b, c]⟩ : Shape).Idx → Prop}
    {L : List (View.Piece (Elt Ideal) ⟨3, ![a, b, c]⟩ e)} (hL : Fits G cov L) {off : Fin 3 → ℕ}
    {hb : ∀ q, off q + (![1, b', c] : Fin 3 → ℕ) q ≤ (⟨3, ![a, b, c]⟩ : Shape).size q}
    (o0 : Fin a) (o1 : ℕ) (ho : off = ![o0.val, o1, 0]) (h1 : o1 + b' ≤ b)
    (p : (⟨3, ![1, b', c]⟩ : Shape).Idx → Elt Ideal e)
    (hp : ∀ x : (⟨3, ![1, b', c]⟩ : Shape).Idx, p x = G (ix3 o0 ⟨o1 + (x 1).val, by have : (x 1).val < b' := (x 1).isLt; omega⟩ (x 2))) :
    Fits G (fun y => ((y 0).val = o0.val ∧ o1 ≤ (y 1).val ∧ (y 1).val < o1 + b') ∨ cov y)
      (⟨Rect.unit (s := ⟨3, ![a, b, c]⟩) off ![1, b', c] hb, p⟩ :: L) := by
  refine ⟨fun q hq x => ?_, fun y hy => ?_⟩
  · rcases List.mem_cons.mp hq with rfl | hq
    · have x2 : (x 2).val < c := (x 2).isLt
      have x1 : (x 1).val < b' := (x 1).isLt
      have x0 : (x 0).val < 1 := (x 0).isLt
      refine (hp x).trans (congrArg G ?_)
      refine Eq.trans ?_ (idx3 (a := a) (b := b) (c := c) (a' := 1) (b' := b') (c' := c) hb o0.val o1 0 ho x (by omega) (by omega) (by omega)).symm
      have e0 : (⟨o0.val + (x 0).val, by omega⟩ : Fin a) = o0 := Fin.ext (by show o0.val + (x 0).val = o0.val; omega)
      have e2 : (⟨0 + (x 2).val, by omega⟩ : Fin c) = x 2 := Fin.ext (by show 0 + (x 2).val = (x 2).val; omega)
      rw [e0, e2]
    · exact hL.1 q hq x
  · rcases hy with ⟨y0, y1, y1'⟩ | hy
    · refine ⟨_, List.mem_cons_self, ?_⟩
      subst ho
      refine (Rect.mem_set_unit (inb := hb)).mpr fun q => ?_
      have y2 : (y 2).val < c := (y 2).isLt
      match q with
      | ⟨0, _⟩ => show o0.val ≤ (y 0).val ∧ (y 0).val < o0.val + 1; omega
      | ⟨1, _⟩ => show o1 ≤ (y 1).val ∧ (y 1).val < o1 + b'; omega
      | ⟨2, _⟩ => show 0 ≤ (y 2).val ∧ (y 2).val < 0 + c; omega
    · obtain ⟨q, hq, hm⟩ := hL.2 y hy
      exact ⟨q, List.mem_cons_of_mem _ hq, hm⟩

end Fits

/-- What a step's operands hold for one cache. -/
structure Held (S : Side) (i : grid0.Coords) (a2 : Memref sig .tc .smem S5x64 .f32) (X2 : BufTy.Contents (Elt Ideal) a2.view.ty)
    (a6 : Memref sig .tc .vmem S2x4x160x896 .bf16) (X6 : BufTy.Contents (Elt Ideal) a6.view.ty)
    (a18 : Memref sig .tc .vmem S64x160 .f32) (X18 : BufTy.Contents (Elt Ideal) a18.view.ty)
    (a19 : Memref sig .tc .vmem S160x128 .f32) (X19 : BufTy.Contents (Elt Ideal) a19.view.ty) : Prop where
  clip : ∀ (g : Fin 5) (H : Fin 64), a2.view.read (Elt Ideal) X2 (ix2 g H) = S.C H g
  data : ∀ (b : Fin 2) (h : Fin 4) (c : Fin 160) (l : Fin 896), a6.view.read (Elt Ideal) X6 (ix4 b h c l) = S.X b (hdOf i h) c l
  row : ∀ (H : Fin 64) (a : Fin 160), a18.view.read (Elt Ideal) X18 (ix2 H a) = (((S.P H a).val : ℝ) : EReal)
  col : ∀ (a : Fin 160) (H : Fin 64), a19.view.read (Elt Ideal) X19 (ix2 a ⟨H.val, by omega⟩) = (((S.P H a).val : ℝ) : EReal)

namespace Held

variable {S : Side} {i : grid0.Coords} {a2 : Memref sig .tc .smem S5x64 .f32} {X2 : BufTy.Contents (Elt Ideal) a2.view.ty}
    {a6 : Memref sig .tc .vmem S2x4x160x896 .bf16} {X6 : BufTy.Contents (Elt Ideal) a6.view.ty}
    {a18 : Memref sig .tc .vmem S64x160 .f32} {X18 : BufTy.Contents (Elt Ideal) a18.view.ty}
    {a19 : Memref sig .tc .vmem S160x128 .f32} {X19 : BufTy.Contents (Elt Ideal) a19.view.ty}
    (h : Held S i a2 X2 a6 X6 a18 X18 a19 X19) (k : Fin k0_t1_loop.trips)

include h in
/-- A clip factor loaded. -/
theorem ldClip (off : Fin 2 → ℕ) (g : Fin 5) (ho : off = ![g.val, 4 * (i 0).val + k.val]) (hb : ∀ e, off e + S1x1.size e ≤ S5x64.size e) (hf) :
    View.readAt (Elt Ideal) a2.view (Rect.unit (s := S5x64) off S1x1.size hb).toLoadRect X2 (Shape.Idx.first hf) = S.C (hdOf i (kh k)) g := by
  rw [View.readAt_apply]
  have := trip_lt k
  have hi : (i 0).val < 16 := (i 0).isLt
  refine Eq.trans (congrArg _ ?_) (h.clip g (hdOf i (kh k)))
  refine (idx2 (a := 5) (b := 64) (a' := 1) (b' := 1) hb g.val (4 * (i 0).val + k.val) ho _ ?_ ?_).trans ?_
  · show g.val + 0 < 5; omega
  · show 4 * (i 0).val + k.val + 0 < 64; omega
  · rfl

include h in
/-- A block of the cache loaded: 128 tokens of one sequence's head. -/
theorem ldData (off : Fin 4 → ℕ) (b : Fin 2) (o : ℕ) (ho : off = ![b.val, k.val, 0, o]) (hl : o + 128 ≤ 896)
    (hb : ∀ e, off e + S1x1x160x128.size e ≤ S2x4x160x896.size e) (x : S1x1x160x128.Idx) :
    View.readAt (Elt Ideal) a6.view (Rect.unit (s := S2x4x160x896) off S1x1x160x128.size hb).toLoadRect X6 x
      = S.X b (hdOf i (kh k)) (x 2) ⟨o + (x 3).val, by have : (x 3).val < 128 := (x 3).isLt; omega⟩ := by
  rw [View.readAt_apply]
  have := trip_lt k
  have h3 : (x 3).val < 128 := (x 3).isLt
  have h2 : (x 2).val < 160 := (x 2).isLt
  have h1 : (x 1).val < 1 := (x 1).isLt
  have h0 : (x 0).val < 1 := (x 0).isLt
  refine Eq.trans (congrArg _ ?_) (h.data b (kh k) (x 2) ⟨o + (x 3).val, by omega⟩)
  refine (idx4 (a := 2) (b := 4) (c := 160) (d := 896) (a' := 1) (b' := 1) (c' := 160) (d' := 128) hb b.val k.val 0 o ho x (by omega) (by omega) (by omega) (by omega)).trans ?_
  have e0 : (⟨b.val + (x 0).val, by omega⟩ : Fin 2) = b := Fin.ext (by simp only []; omega)
  have e1 : (⟨k.val + (x 1).val, by omega⟩ : Fin 4) = kh k := Fin.ext (by show k.val + (x 1).val = k.val; omega)
  have e2 : (⟨0 + (x 2).val, by omega⟩ : Fin 160) = x 2 := Fin.ext (by show 0 + (x 2).val = (x 2).val; omega)
  rw [e0, e1, e2]

include h in
/-- A head's row of the permutation. -/
theorem ldRow (hb : ∀ e, k0_off15 i k e + S1x160.size e ≤ S64x160.size e) (a : Fin 160) :
    View.readAt (Elt Ideal) a18.view (Rect.unit (s := S64x160) (k0_off15 i k) S1x160.size hb).toLoadRect X18 (ix2 0 a) = (((S.P (hdOf i (kh k)) a).val : ℝ) : EReal) := by
  rw [View.readAt_apply]
  have := trip_lt k
  have hi : (i 0).val < 16 := (i 0).isLt
  refine Eq.trans (congrArg _ ?_) (h.row (hdOf i (kh k)) a)
  refine (idx2 (a := 64) (b := 160) (a' := 1) (b' := 160) hb (4 * (i 0).val + k.val) 0 (off15_eq i k) _ ?_ ?_).trans ?_
  · show 4 * (i 0).val + k.val + 0 < 64; omega
  · show 0 + a.val < 160; omega
  · exact congrArg (ix2 _) (Fin.ext (by show 0 + a.val = a.val; omega))

include h in
/-- The permutation's column of a head. -/
theorem ldCol (a : Fin 160) (w : BitVec 32) (hw : w.toNat = 4 * (i 0).val + k.val) (hlt : w.toNat < 128)
    (hb : ∀ e, (![0, 0] : Fin 2 → ℕ) e + S160x128.size e ≤ S160x128.size e) :
    View.readAt (Elt Ideal) a19.view (Rect.unit (s := S160x128) ![0, 0] S160x128.size hb).toLoadRect X19 (ix2 a ⟨w.toNat, hlt⟩) = (((S.P (hdOf i (kh k)) a).val : ℝ) : EReal) := by
  rw [View.readAt_apply]
  have := trip_lt k
  have hi : (i 0).val < 16 := (i 0).isLt
  refine Eq.trans (congrArg _ ?_) (h.col a (hdOf i (kh k)))
  refine (idx2 (a := 160) (b := 128) (a' := 160) (b' := 128) hb 0 0 rfl _ ?_ ?_).trans ?_
  · show 0 + a.val < 160; omega
  · show 0 + w.toNat < 128; omega
  · have e0 : (⟨0 + a.val, by omega⟩ : Fin 160) = a := Fin.ext (by show 0 + a.val = a.val; omega)
    have e1 : (⟨0 + w.toNat, by omega⟩ : Fin 128) = ⟨(hdOf i (kh k)).val, by omega⟩ := Fin.ext (by show 0 + w.toNat = 4 * (i 0).val + k.val; omega)
    exact congrArg₂ ix2 e0 e1

variable (N : Lens)

include h in
/-- A trip's loads, as what the head's quantisation is stated from. -/
theorem head (w v1 v3 : BitVec 32) (hw : w.toNat = 4 * (i 0).val + k.val) (hv1 : v1 = BitVec.ofNat 32 (N.n 0)) (hv3 : v3 = BitVec.ofNat 32 (N.n 1))
    (hb19) (hb16) (hb17) (hb15) :
    Head w (View.readAt (Elt Ideal) a19.view (Rect.unit (s := S160x128) ![0, 0] S160x128.size hb19).toLoadRect X19)
      (View.readAt (Elt Ideal) a6.view (Rect.unit (s := S2x4x160x896) (k0_off16 k) S1x1x160x128.size hb16).toLoadRect X6)
      (View.readAt (Elt Ideal) a6.view (Rect.unit (s := S2x4x160x896) (k0_off17 k) S1x1x160x128.size hb17).toLoadRect X6)
      (S.C (hdOf i (kh k)))
      (View.readAt (Elt Ideal) a18.view (Rect.unit (s := S64x160) (k0_off15 i k) S1x160.size hb15).toLoadRect X18) v1 v3 N.n (S.P (hdOf i (kh k))) (S.y (hdOf i (kh k))) where
  hh := by have := trip_lt k; have hi : (i 0).val < 16 := (i 0).isLt; omega
  hp a := h.ldCol k a w hw _ hb19
  h0 c l := (h.ldData k _ 0 0 (off16_eq k) (by omega) hb16 _).trans (congrArg (S.X 0 (hdOf i (kh k)) c) (Fin.ext (by show 0 + l.val = l.val; omega)))
  h1 c l := (h.ldData k _ 1 0 (off17_eq k) (by omega) hb17 _).trans (congrArg (S.X 1 (hdOf i (kh k)) c) (Fin.ext (by show 0 + l.val = l.val; omega)))
  hr a := h.ldRow k hb15 a
  hv1 := hv1
  hv3 := hv3
  hn := N.le

end Held

end Cert.KernelIdeal.Val

end
-- ==== Proof.TripK.lean ====
/- The writes one loop trip makes for the keys: codes, dequantised values, scales and zero points of its head. -/
module

public import proofs.«01_k».proof.Proof.Side
public import proofs.«01_k».proof.Proof.Gen.KernelIdeal.Loops

@[expose] public section

set_option maxRecDepth 8192

noncomputable section

namespace Cert.KernelIdeal.Val

open Cert.KernelIdeal Cert.KernelIdeal.Gen Cert.KernelIdeal.Hand Cert.Words Idealize.ShloMosaic Idealize.ShloMosaic.Pointwise

variable (𝒱 : Variants) (c : Dev nD) (bd : Option 𝒱.V) (i : grid0.Coords) (arg1 : Memref sig .tc .smem S2 .i32) (harg1 : arg1.IsWhole) (arg2 : Memref sig .tc .smem S5x64 .f32) (harg2 : arg2.IsWhole) (arg3 : Memref sig .tc .smem S5x64 .f32) (harg3 : arg3.IsWhole) (arg4 : Memref sig .tc .vmem S64x160 .i32) (harg4 : arg4.IsWhole) (arg5 : Memref sig .tc .vmem S64x160 .i32) (harg5 : arg5.IsWhole) (arg6 : Memref sig .tc .vmem S2x4x160x896 .bf16) (harg6 : arg6.IsWhole) (arg7 : Memref sig .tc .vmem S2x4x160x896 .bf16) (harg7 : arg7.IsWhole) (arg8 : Memref sig .tc .vmem S2x4x160x768 .bf16) (harg8 : arg8.IsWhole) (arg9 : Memref sig .tc .vmem S2x4x160x768 .bf16) (harg9 : arg9.IsWhole) (arg10 : Memref sig .tc .vmem S2x4x80x128 .i8) (harg10 : arg10.IsWhole) (arg11 : Memref sig .tc .vmem S2x5x64x128 .fp8e4m3) (harg11 : arg11.IsWhole) (arg12 : Memref sig .tc .vmem S2x5x64x128 .fp8e4m3) (harg12 : arg12.IsWhole) (arg13 : Memref sig .tc .vmem S2x4x80x128 .i8) (harg13 : arg13.IsWhole) (arg14 : Memref sig .tc .vmem S2x5x64x128 .fp8e4m3) (harg14 : arg14.IsWhole) (arg15 : Memref sig .tc .vmem S2x5x64x128 .fp8e4m3) (harg15 : arg15.IsWhole) (arg16 : Memref sig .tc .vmem S2x4x160x128 .bf16) (harg16 : arg16.IsWhole) (arg17 : Memref sig .tc .vmem S2x4x160x128 .bf16) (harg17 : arg17.IsWhole) (arg18 : Memref sig .tc .vmem S64x160 .f32) (harg18 : arg18.IsWhole) (arg19 : Memref sig .tc .vmem S160x128 .f32) (harg19 : arg19.IsWhole) (arg20 : Memref sig .tc .vmem S64x160 .f32) (harg20 : arg20.IsWhole) (arg21 : Memref sig .tc .vmem S160x128 .f32) (harg21 : arg21.IsWhole) (arg22 : Memref sig .tc .vmem S2x512x128 .f32) (harg22 : arg22.IsWhole) (arg23 : Memref sig .tc .vmem S2x512x128 .f32) (harg23 : arg23.IsWhole) (arg24 : Memref sig .tc .vmem S2x512x128 .f32) (harg24 : arg24.IsWhole) (arg25 : Memref sig .tc .vmem S2x512x128 .f32) (harg25 : arg25.IsWhole) (arg0 : BitVec 32) (v0 : Elt Ideal .i32) (k0_hw1 : k0_chk1 v0) (v1 : BitVec 32) (v2 : Elt Ideal .i32) (k0_hw2 : k0_chk2 v2) (v3 : BitVec 32) (X_arg2 : BufTy.Contents (Elt Ideal) arg2.view.ty) (X_arg3 : BufTy.Contents (Elt Ideal) arg3.view.ty) (X_arg6 : BufTy.Contents (Elt Ideal) arg6.view.ty) (X_arg7 : BufTy.Contents (Elt Ideal) arg7.view.ty) (X_arg18 : BufTy.Contents (Elt Ideal) arg18.view.ty) (X_arg19 : BufTy.Contents (Elt Ideal) arg19.view.ty) (X_arg20 : BufTy.Contents (Elt Ideal) arg20.view.ty) (X_arg21 : BufTy.Contents (Elt Ideal) arg21.view.ty) (k : Fin k0_t1_loop.trips)
  (S : Side) (N : Lens)

theorem trip_hd (ha0 : arg0 = BitVec.ofNat 32 (i 0).val) : (Scalar.addi (Scalar.muli arg0 4#32) (Scf.iv 0#32 1#32 k.val)).toNat = 4 * (i 0).val + k.val := by
  subst ha0; exact hdWord_toNat i k

/-- The trip's writes of the keys' codes. -/
theorem tripK_code (h : Held S i arg2 X_arg2 arg6 X_arg6 arg18 X_arg18 arg19 X_arg19) (ha0 : arg0 = BitVec.ofNat 32 (i 0).val) (hv1 : v1 = BitVec.ofNat 32 (N.n 0)) (hv3 : v3 = BitVec.ofNat 32 (N.n 1)) :
    Fits (S.gCode N i) (fun y => (y 1).val = k.val) (trip_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg0 v0 k0_hw1 v1 v2 k0_hw2 v3 X_arg2 X_arg3 X_arg6 X_arg7 X_arg18 X_arg19 X_arg20 X_arg21 k).2.2.1 := by
  have hw := trip_hd i arg0 k ha0
  have HH := h.head k N _ v1 v3 hw hv1 hv3 (by decide) (k0_off16_inb k) (k0_off17_inb k) (k0_off15_inb i k)
  unfold trip_k0_t1
  refine Fits.mono (Fits.cons4 (Fits.cons4 Fits.nil (0 : Fin 2) (kh k) 0 (off25_eq k) (by omega) _ ?_) (1 : Fin 2) (kh k) 0 (off27_eq k) (by omega) _ ?_) ?_
  · intro x
    refine (half_code0 _ x).trans (Eq.trans ?_ ((HH.code (x 2) 0 (x 3)).trans ?_))
    · rw [← h.ldClip k _ 0 (off18_eq i k) (k0_off18_inb i k) (show 0 < S1x1.numel by decide), ← h.ldClip k _ 1 (off19_eq i k) (k0_off19_inb i k) (show 0 < S1x1.numel by decide),
        ← h.ldClip k _ 2 (off20_eq i k) (k0_off20_inb i k) (show 0 < S1x1.numel by decide), ← h.ldClip k _ 3 (off21_eq i k) (k0_off21_inb i k) (show 0 < S1x1.numel by decide),
        ← h.ldClip k _ 4 (off22_eq i k) (k0_off22_inb i k) (show 0 < S1x1.numel by decide)]
      rfl
    · exact congrArg (fun l => S.code N 0 (hdOf i (kh k)) (x 2) l) (Fin.ext (by show (x 3).val = 0 + (x 3).val; omega))
  · intro x
    refine (half_code1 _ x).trans (Eq.trans ?_ ((HH.code (x 2) 1 (x 3)).trans ?_))
    · rw [← h.ldClip k _ 0 (off18_eq i k) (k0_off18_inb i k) (show 0 < S1x1.numel by decide), ← h.ldClip k _ 1 (off19_eq i k) (k0_off19_inb i k) (show 0 < S1x1.numel by decide),
        ← h.ldClip k _ 2 (off20_eq i k) (k0_off20_inb i k) (show 0 < S1x1.numel by decide), ← h.ldClip k _ 3 (off21_eq i k) (k0_off21_inb i k) (show 0 < S1x1.numel by decide),
        ← h.ldClip k _ 4 (off22_eq i k) (k0_off22_inb i k) (show 0 < S1x1.numel by decide)]
      rfl
    · exact congrArg (fun l => S.code N 1 (hdOf i (kh k)) (x 2) l) (Fin.ext (by show (x 3).val = 0 + (x 3).val; omega))
  · intro y hy
    have y0 : (y 0).val < 2 := (y 0).isLt
    have y3 : (y 3).val < 128 := (y 3).isLt
    have hk : (kh k).val = k.val := rfl
    have z0 : (0 : Fin 2).val = 0 := rfl
    have z1 : (1 : Fin 2).val = 1 := rfl
    rcases (show (y 0).val = 1 ∨ (y 0).val = 0 by omega) with h0 | h0
    · exact Or.inl ⟨h0, hy, by omega, by omega⟩
    · exact Or.inr (Or.inl ⟨h0, hy, by omega, by omega⟩)

/-- The trip's writes of the keys' dequantised values. -/
theorem tripK_deq (h : Held S i arg2 X_arg2 arg6 X_arg6 arg18 X_arg18 arg19 X_arg19) (ha0 : arg0 = BitVec.ofNat 32 (i 0).val) (hv1 : v1 = BitVec.ofNat 32 (N.n 0)) (hv3 : v3 = BitVec.ofNat 32 (N.n 1)) :
    Fits (S.gDeq N i) (fun y => (y 1).val = k.val) (trip_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg0 v0 k0_hw1 v1 v2 k0_hw2 v3 X_arg2 X_arg3 X_arg6 X_arg7 X_arg18 X_arg19 X_arg20 X_arg21 k).2.2.2.2.1 := by
  have hw := trip_hd i arg0 k ha0
  have HH := h.head k N _ v1 v3 hw hv1 hv3 (by decide) (k0_off16_inb k) (k0_off17_inb k) (k0_off15_inb i k)
  unfold trip_k0_t1
  refine Fits.mono (Fits.cons4 (Fits.cons4 Fits.nil (0 : Fin 2) (kh k) 0 (off26_eq k) (by omega) _ ?_) (1 : Fin 2) (kh k) 0 (off28_eq k) (by omega) _ ?_) ?_
  · intro x
    refine (half_deq0 _ x).trans (Eq.trans ?_ ((HH.deq (x 2) 0 (x 3)).trans ?_))
    · rw [← h.ldClip k _ 0 (off18_eq i k) (k0_off18_inb i k) (show 0 < S1x1.numel by decide), ← h.ldClip k _ 1 (off19_eq i k) (k0_off19_inb i k) (show 0 < S1x1.numel by decide),
        ← h.ldClip k _ 2 (off20_eq i k) (k0_off20_inb i k) (show 0 < S1x1.numel by decide), ← h.ldClip k _ 3 (off21_eq i k) (k0_off21_inb i k) (show 0 < S1x1.numel by decide),
        ← h.ldClip k _ 4 (off22_eq i k) (k0_off22_inb i k) (show 0 < S1x1.numel by decide)]
      rfl
    · exact congrArg (fun l => S.deq N 0 (hdOf i (kh k)) (x 2) l) (Fin.ext (by show (x 3).val = 0 + (x 3).val; omega))
  · intro x
    unfold trip_k0_t1.sl.r_53
    refine (half_deq1 _ x).trans (Eq.trans ?_ ((HH.deq (x 2) 1 (x 3)).trans ?_))
    · rw [← h.ldClip k _ 0 (off18_eq i k) (k0_off18_inb i k) (show 0 < S1x1.numel by decide), ← h.ldClip k _ 1 (off19_eq i k) (k0_off19_inb i k) (show 0 < S1x1.numel by decide),
        ← h.ldClip k _ 2 (off20_eq i k) (k0_off20_inb i k) (show 0 < S1x1.numel by decide), ← h.ldClip k _ 3 (off21_eq i k) (k0_off21_inb i k) (show 0 < S1x1.numel by decide),
        ← h.ldClip k _ 4 (off22_eq i k) (k0_off22_inb i k) (show 0 < S1x1.numel by decide)]
      rfl
    · exact congrArg (fun l => S.deq N 1 (hdOf i (kh k)) (x 2) l) (Fin.ext (by show (x 3).val = 0 + (x 3).val; omega))
  · intro y hy
    have y0 : (y 0).val < 2 := (y 0).isLt
    have y3 : (y 3).val < 128 := (y 3).isLt
    have hk : (kh k).val = k.val := rfl
    have z0 : (0 : Fin 2).val = 0 := rfl
    have z1 : (1 : Fin 2).val = 1 := rfl
    rcases (show (y 0).val = 1 ∨ (y 0).val = 0 by omega) with h0 | h0
    · exact Or.inl ⟨h0, hy, by omega, by omega⟩
    · exact Or.inr (Or.inl ⟨h0, hy, by omega, by omega⟩)

/-- The trip's writes of the keys' scales. -/
theorem tripK_scale (h : Held S i arg2 X_arg2 arg6 X_arg6 arg18 X_arg18 arg19 X_arg19) (ha0 : arg0 = BitVec.ofNat 32 (i 0).val) (hv1 : v1 = BitVec.ofNat 32 (N.n 0)) (hv3 : v3 = BitVec.ofNat 32 (N.n 1)) :
    Fits (S.gScale N) (fun y => (y 1).val / 8 = 4 * (i 0).val + k.val) (trip_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg0 v0 k0_hw1 v1 v2 k0_hw2 v3 X_arg2 X_arg3 X_arg6 X_arg7 X_arg18 X_arg19 X_arg20 X_arg21 k).2.2.2.2.2.2.1 := by
  have hw := trip_hd i arg0 k ha0
  have HH := h.head k N _ v1 v3 hw hv1 hv3 (by decide) (k0_off16_inb k) (k0_off17_inb k) (k0_off15_inb i k)
  have hi : (i 0).val < 16 := (i 0).isLt
  have hk4 := trip_lt k
  unfold trip_k0_t1
  refine Fits.mono (Fits.cons3 (Fits.cons3 Fits.nil (0 : Fin 2) (8 * (4 * (i 0).val + k.val)) (off23_eq i k) (by omega) _ ?_) (1 : Fin 2) (8 * (4 * (i 0).val + k.val)) (off24_eq i k) (by omega) _ ?_) ?_
  · intro x
    refine (half_scale0 _ x).trans (Eq.trans ?_ ((HH.scale (x 1) 0 (x 2)).trans ?_))
    · rw [← h.ldClip k _ 0 (off18_eq i k) (k0_off18_inb i k) (show 0 < S1x1.numel by decide), ← h.ldClip k _ 1 (off19_eq i k) (k0_off19_inb i k) (show 0 < S1x1.numel by decide),
        ← h.ldClip k _ 2 (off20_eq i k) (k0_off20_inb i k) (show 0 < S1x1.numel by decide), ← h.ldClip k _ 3 (off21_eq i k) (k0_off21_inb i k) (show 0 < S1x1.numel by decide),
        ← h.ldClip k _ 4 (off22_eq i k) (k0_off22_inb i k) (show 0 < S1x1.numel by decide)]
      rfl
    · have x1 : (x 1).val < 8 := (x 1).isLt
      have e1 : hdOf i (kh k) = ⟨(8 * (4 * (i 0).val + k.val) + (x 1).val) / 8, by omega⟩ :=
        Fin.ext (by show 4 * (i 0).val + k.val = (8 * (4 * (i 0).val + k.val) + (x 1).val) / 8; omega)
      have e2 : (x 1 : Fin 8) = ⟨(8 * (4 * (i 0).val + k.val) + (x 1).val) % 8, by omega⟩ :=
        Fin.ext (by show (x 1).val = (8 * (4 * (i 0).val + k.val) + (x 1).val) % 8; omega)
      exact congrArg₂ (fun H s => S.scale N 0 H (grp s) (x 2)) e1 e2
  · intro x
    refine (half_scale1 _ x).trans (Eq.trans ?_ ((HH.scale (x 1) 1 (x 2)).trans ?_))
    · rw [← h.ldClip k _ 0 (off18_eq i k) (k0_off18_inb i k) (show 0 < S1x1.numel by decide), ← h.ldClip k _ 1 (off19_eq i k) (k0_off19_inb i k) (show 0 < S1x1.numel by decide),
        ← h.ldClip k _ 2 (off20_eq i k) (k0_off20_inb i k) (show 0 < S1x1.numel by decide), ← h.ldClip k _ 3 (off21_eq i k) (k0_off21_inb i k) (show 0 < S1x1.numel by decide),
        ← h.ldClip k _ 4 (off22_eq i k) (k0_off22_inb i k) (show 0 < S1x1.numel by decide)]
      rfl
    · have x1 : (x 1).val < 8 := (x 1).isLt
      have e1 : hdOf i (kh k) = ⟨(8 * (4 * (i 0).val + k.val) + (x 1).val) / 8, by omega⟩ :=
        Fin.ext (by show 4 * (i 0).val + k.val = (8 * (4 * (i 0).val + k.val) + (x 1).val) / 8; omega)
      have e2 : (x 1 : Fin 8) = ⟨(8 * (4 * (i 0).val + k.val) + (x 1).val) % 8, by omega⟩ :=
        Fin.ext (by show (x 1).val = (8 * (4 * (i 0).val + k.val) + (x 1).val) % 8; omega)
      exact congrArg₂ (fun H s => S.scale N 1 H (grp s) (x 2)) e1 e2
  · intro y hy
    have y0 : (y 0).val < 2 := (y 0).isLt
    have z0 : (0 : Fin 2).val = 0 := rfl
    have z1 : (1 : Fin 2).val = 1 := rfl
    rcases (show (y 0).val = 1 ∨ (y 0).val = 0 by omega) with h0 | h0
    · exact Or.inl ⟨h0, by omega, by omega⟩
    · exact Or.inr (Or.inl ⟨h0, by omega, by omega⟩)

/-- The trip's writes of the keys' zero points. -/
theorem tripK_zero (h : Held S i arg2 X_arg2 arg6 X_arg6 arg18 X_arg18 arg19 X_arg19) (ha0 : arg0 = BitVec.ofNat 32 (i 0).val) (hv1 : v1 = BitVec.ofNat 32 (N.n 0)) (hv3 : v3 = BitVec.ofNat 32 (N.n 1)) :
    Fits (S.gZero N) (fun y => (y 1).val / 8 = 4 * (i 0).val + k.val) (trip_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg0 v0 k0_hw1 v1 v2 k0_hw2 v3 X_arg2 X_arg3 X_arg6 X_arg7 X_arg18 X_arg19 X_arg20 X_arg21 k).2.2.2.2.2.2.2.1 := by
  have hw := trip_hd i arg0 k ha0
  have HH := h.head k N _ v1 v3 hw hv1 hv3 (by decide) (k0_off16_inb k) (k0_off17_inb k) (k0_off15_inb i k)
  have hi : (i 0).val < 16 := (i 0).isLt
  have hk4 := trip_lt k
  unfold trip_k0_t1
  refine Fits.mono (Fits.cons3 (Fits.cons3 Fits.nil (0 : Fin 2) (8 * (4 * (i 0).val + k.val)) (off23_eq i k) (by omega) _ ?_) (1 : Fin 2) (8 * (4 * (i 0).val + k.val)) (off24_eq i k) (by omega) _ ?_) ?_
  · intro x
    refine (half_scale0 _ x).trans (Eq.trans ?_ ((HH.zero (x 1) 0 (x 2)).trans ?_))
    · rw [← h.ldClip k _ 0 (off18_eq i k) (k0_off18_inb i k) (show 0 < S1x1.numel by decide), ← h.ldClip k _ 1 (off19_eq i k) (k0_off19_inb i k) (show 0 < S1x1.numel by decide),
        ← h.ldClip k _ 2 (off20_eq i k) (k0_off20_inb i k) (show 0 < S1x1.numel by decide), ← h.ldClip k _ 3 (off21_eq i k) (k0_off21_inb i k) (show 0 < S1x1.numel by decide),
        ← h.ldClip k _ 4 (off22_eq i k) (k0_off22_inb i k) (show 0 < S1x1.numel by decide)]
      rfl
    · have x1 : (x 1).val < 8 := (x 1).isLt
      have e1 : hdOf i (kh k) = ⟨(8 * (4 * (i 0).val + k.val) + (x 1).val) / 8, by omega⟩ :=
        Fin.ext (by show 4 * (i 0).val + k.val = (8 * (4 * (i 0).val + k.val) + (x 1).val) / 8; omega)
      have e2 : (x 1 : Fin 8) = ⟨(8 * (4 * (i 0).val + k.val) + (x 1).val) % 8, by omega⟩ :=
        Fin.ext (by show (x 1).val = (8 * (4 * (i 0).val + k.val) + (x 1).val) % 8; omega)
      exact congrArg₂ (fun H s => S.zero N 0 H (grp s) (x 2)) e1 e2
  · intro x
    refine (half_scale1 _ x).trans (Eq.trans ?_ ((HH.zero (x 1) 1 (x 2)).trans ?_))
    · rw [← h.ldClip k _ 0 (off18_eq i k) (k0_off18_inb i k) (show 0 < S1x1.numel by decide), ← h.ldClip k _ 1 (off19_eq i k) (k0_off19_inb i k) (show 0 < S1x1.numel by decide),
        ← h.ldClip k _ 2 (off20_eq i k) (k0_off20_inb i k) (show 0 < S1x1.numel by decide), ← h.ldClip k _ 3 (off21_eq i k) (k0_off21_inb i k) (show 0 < S1x1.numel by decide),
        ← h.ldClip k _ 4 (off22_eq i k) (k0_off22_inb i k) (show 0 < S1x1.numel by decide)]
      rfl
    · have x1 : (x 1).val < 8 := (x 1).isLt
      have e1 : hdOf i (kh k) = ⟨(8 * (4 * (i 0).val + k.val) + (x 1).val) / 8, by omega⟩ :=
        Fin.ext (by show 4 * (i 0).val + k.val = (8 * (4 * (i 0).val + k.val) + (x 1).val) / 8; omega)
      have e2 : (x 1 : Fin 8) = ⟨(8 * (4 * (i 0).val + k.val) + (x 1).val) % 8, by omega⟩ :=
        Fin.ext (by show (x 1).val = (8 * (4 * (i 0).val + k.val) + (x 1).val) % 8; omega)
      exact congrArg₂ (fun H s => S.zero N 1 H (grp s) (x 2)) e1 e2
  · intro y hy
    have y0 : (y 0).val < 2 := (y 0).isLt
    have z0 : (0 : Fin 2).val = 0 := rfl
    have z1 : (1 : Fin 2).val = 1 := rfl
    rcases (show (y 0).val = 1 ∨ (y 0).val = 0 by omega) with h0 | h0
    · exact Or.inl ⟨h0, by omega, by omega⟩
    · exact Or.inr (Or.inl ⟨h0, by omega, by omega⟩)

end Cert.KernelIdeal.Val

end
-- ==== Proof.TripV.lean ====
/- The writes one loop trip makes for the values: codes, dequantised values, scales and zero points of its head. -/
module

public import proofs.«01_k».proof.Proof.TripK
public import proofs.«01_k».proof.Proof.Gen.KernelIdeal.Loops

@[expose] public section

set_option maxRecDepth 8192

noncomputable section

namespace Cert.KernelIdeal.Val

open Cert.KernelIdeal Cert.KernelIdeal.Gen Cert.KernelIdeal.Hand Cert.Words Idealize.ShloMosaic Idealize.ShloMosaic.Pointwise

variable (𝒱 : Variants) (c : Dev nD) (bd : Option 𝒱.V) (i : grid0.Coords) (arg1 : Memref sig .tc .smem S2 .i32) (harg1 : arg1.IsWhole) (arg2 : Memref sig .tc .smem S5x64 .f32) (harg2 : arg2.IsWhole) (arg3 : Memref sig .tc .smem S5x64 .f32) (harg3 : arg3.IsWhole) (arg4 : Memref sig .tc .vmem S64x160 .i32) (harg4 : arg4.IsWhole) (arg5 : Memref sig .tc .vmem S64x160 .i32) (harg5 : arg5.IsWhole) (arg6 : Memref sig .tc .vmem S2x4x160x896 .bf16) (harg6 : arg6.IsWhole) (arg7 : Memref sig .tc .vmem S2x4x160x896 .bf16) (harg7 : arg7.IsWhole) (arg8 : Memref sig .tc .vmem S2x4x160x768 .bf16) (harg8 : arg8.IsWhole) (arg9 : Memref sig .tc .vmem S2x4x160x768 .bf16) (harg9 : arg9.IsWhole) (arg10 : Memref sig .tc .vmem S2x4x80x128 .i8) (harg10 : arg10.IsWhole) (arg11 : Memref sig .tc .vmem S2x5x64x128 .fp8e4m3) (harg11 : arg11.IsWhole) (arg12 : Memref sig .tc .vmem S2x5x64x128 .fp8e4m3) (harg12 : arg12.IsWhole) (arg13 : Memref sig .tc .vmem S2x4x80x128 .i8) (harg13 : arg13.IsWhole) (arg14 : Memref sig .tc .vmem S2x5x64x128 .fp8e4m3) (harg14 : arg14.IsWhole) (arg15 : Memref sig .tc .vmem S2x5x64x128 .fp8e4m3) (harg15 : arg15.IsWhole) (arg16 : Memref sig .tc .vmem S2x4x160x128 .bf16) (harg16 : arg16.IsWhole) (arg17 : Memref sig .tc .vmem S2x4x160x128 .bf16) (harg17 : arg17.IsWhole) (arg18 : Memref sig .tc .vmem S64x160 .f32) (harg18 : arg18.IsWhole) (arg19 : Memref sig .tc .vmem S160x128 .f32) (harg19 : arg19.IsWhole) (arg20 : Memref sig .tc .vmem S64x160 .f32) (harg20 : arg20.IsWhole) (arg21 : Memref sig .tc .vmem S160x128 .f32) (harg21 : arg21.IsWhole) (arg22 : Memref sig .tc .vmem S2x512x128 .f32) (harg22 : arg22.IsWhole) (arg23 : Memref sig .tc .vmem S2x512x128 .f32) (harg23 : arg23.IsWhole) (arg24 : Memref sig .tc .vmem S2x512x128 .f32) (harg24 : arg24.IsWhole) (arg25 : Memref sig .tc .vmem S2x512x128 .f32) (harg25 : arg25.IsWhole) (arg0 : BitVec 32) (v0 : Elt Ideal .i32) (k0_hw1 : k0_chk1 v0) (v1 : BitVec 32) (v2 : Elt Ideal .i32) (k0_hw2 : k0_chk2 v2) (v3 : BitVec 32) (X_arg2 : BufTy.Contents (Elt Ideal) arg2.view.ty) (X_arg3 : BufTy.Contents (Elt Ideal) arg3.view.ty) (X_arg6 : BufTy.Contents (Elt Ideal) arg6.view.ty) (X_arg7 : BufTy.Contents (Elt Ideal) arg7.view.ty) (X_arg18 : BufTy.Contents (Elt Ideal) arg18.view.ty) (X_arg19 : BufTy.Contents (Elt Ideal) arg19.view.ty) (X_arg20 : BufTy.Contents (Elt Ideal) arg20.view.ty) (X_arg21 : BufTy.Contents (Elt Ideal) arg21.view.ty) (k : Fin k0_t1_loop.trips)
  (S : Side) (N : Lens)

/-- The trip's writes of the values' codes. -/
theorem tripV_code (h : Held S i arg3 X_arg3 arg7 X_arg7 arg20 X_arg20 arg21 X_arg21) (ha0 : arg0 = BitVec.ofNat 32 (i 0).val) (hv1 : v1 = BitVec.ofNat 32 (N.n 0)) (hv3 : v3 = BitVec.ofNat 32 (N.n 1)) :
    Fits (S.gCode N i) (fun y => (y 1).val = k.val) (trip_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg0 v0 k0_hw1 v1 v2 k0_hw2 v3 X_arg2 X_arg3 X_arg6 X_arg7 X_arg18 X_arg19 X_arg20 X_arg21 k).2.2.2.1 := by
  have hw := trip_hd i arg0 k ha0
  have HH := h.head k N _ v1 v3 hw hv1 hv3 (by decide) (k0_off16_inb k) (k0_off17_inb k) (k0_off15_inb i k)
  unfold trip_k0_t1
  refine Fits.mono (Fits.cons4 (Fits.cons4 Fits.nil (0 : Fin 2) (kh k) 0 (off25_eq k) (by omega) _ ?_) (1 : Fin 2) (kh k) 0 (off27_eq k) (by omega) _ ?_) ?_
  · intro x
    unfold trip_k0_t1.sl.r_109 k0_pay5 k0_pay262
    refine (half_code0 _ x).trans (Eq.trans ?_ ((HH.code (x 2) 0 (x 3)).trans ?_))
    · rw [← h.ldClip k _ 0 (off18_eq i k) (k0_off18_inb i k) (show 0 < S1x1.numel by decide), ← h.ldClip k _ 1 (off19_eq i k) (k0_off19_inb i k) (show 0 < S1x1.numel by decide),
        ← h.ldClip k _ 2 (off20_eq i k) (k0_off20_inb i k) (show 0 < S1x1.numel by decide), ← h.ldClip k _ 3 (off21_eq i k) (k0_off21_inb i k) (show 0 < S1x1.numel by decide),
        ← h.ldClip k _ 4 (off22_eq i k) (k0_off22_inb i k) (show 0 < S1x1.numel by decide)]
      rfl
    · exact congrArg (fun l => S.code N 0 (hdOf i (kh k)) (x 2) l) (Fin.ext (by show (x 3).val = 0 + (x 3).val; omega))
  · intro x
    refine (half_code1 _ x).trans (Eq.trans ?_ ((HH.code (x 2) 1 (x 3)).trans ?_))
    · rw [← h.ldClip k _ 0 (off18_eq i k) (k0_off18_inb i k) (show 0 < S1x1.numel by decide), ← h.ldClip k _ 1 (off19_eq i k) (k0_off19_inb i k) (show 0 < S1x1.numel by decide),
        ← h.ldClip k _ 2 (off20_eq i k) (k0_off20_inb i k) (show 0 < S1x1.numel by decide), ← h.ldClip k _ 3 (off21_eq i k) (k0_off21_inb i k) (show 0 < S1x1.numel by decide),
        ← h.ldClip k _ 4 (off22_eq i k) (k0_off22_inb i k) (show 0 < S1x1.numel by decide)]
      rfl
    · exact congrArg (fun l => S.code N 1 (hdOf i (kh k)) (x 2) l) (Fin.ext (by show (x 3).val = 0 + (x 3).val; omega))
  · intro y hy
    have y0 : (y 0).val < 2 := (y 0).isLt
    have y3 : (y 3).val < 128 := (y 3).isLt
    have hk : (kh k).val = k.val := rfl
    have z0 : (0 : Fin 2).val = 0 := rfl
    have z1 : (1 : Fin 2).val = 1 := rfl
    rcases (show (y 0).val = 1 ∨ (y 0).val = 0 by omega) with h0 | h0
    · exact Or.inl ⟨h0, hy, by omega, by omega⟩
    · exact Or.inr (Or.inl ⟨h0, hy, by omega, by omega⟩)

/-- The trip's writes of the values' dequantised values. -/
theorem tripV_deq (h : Held S i arg3 X_arg3 arg7 X_arg7 arg20 X_arg20 arg21 X_arg21) (ha0 : arg0 = BitVec.ofNat 32 (i 0).val) (hv1 : v1 = BitVec.ofNat 32 (N.n 0)) (hv3 : v3 = BitVec.ofNat 32 (N.n 1)) :
    Fits (S.gDeq N i) (fun y => (y 1).val = k.val) (trip_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg0 v0 k0_hw1 v1 v2 k0_hw2 v3 X_arg2 X_arg3 X_arg6 X_arg7 X_arg18 X_arg19 X_arg20 X_arg21 k).2.2.2.2.2.1 := by
  have hw := trip_hd i arg0 k ha0
  have HH := h.head k N _ v1 v3 hw hv1 hv3 (by decide) (k0_off16_inb k) (k0_off17_inb k) (k0_off15_inb i k)
  unfold trip_k0_t1
  refine Fits.mono (Fits.cons4 (Fits.cons4 Fits.nil (0 : Fin 2) (kh k) 0 (off26_eq k) (by omega) _ ?_) (1 : Fin 2) (kh k) 0 (off28_eq k) (by omega) _ ?_) ?_
  · intro x
    refine (half_deq0 _ x).trans (Eq.trans ?_ ((HH.deq (x 2) 0 (x 3)).trans ?_))
    · rw [← h.ldClip k _ 0 (off18_eq i k) (k0_off18_inb i k) (show 0 < S1x1.numel by decide), ← h.ldClip k _ 1 (off19_eq i k) (k0_off19_inb i k) (show 0 < S1x1.numel by decide),
        ← h.ldClip k _ 2 (off20_eq i k) (k0_off20_inb i k) (show 0 < S1x1.numel by decide), ← h.ldClip k _ 3 (off21_eq i k) (k0_off21_inb i k) (show 0 < S1x1.numel by decide),
        ← h.ldClip k _ 4 (off22_eq i k) (k0_off22_inb i k) (show 0 < S1x1.numel by decide)]
      rfl
    · exact congrArg (fun l => S.deq N 0 (hdOf i (kh k)) (x 2) l) (Fin.ext (by show (x 3).val = 0 + (x 3).val; omega))
  · intro x
    refine (half_deq1 _ x).trans (Eq.trans ?_ ((HH.deq (x 2) 1 (x 3)).trans ?_))
    · rw [← h.ldClip k _ 0 (off18_eq i k) (k0_off18_inb i k) (show 0 < S1x1.numel by decide), ← h.ldClip k _ 1 (off19_eq i k) (k0_off19_inb i k) (show 0 < S1x1.numel by decide),
        ← h.ldClip k _ 2 (off20_eq i k) (k0_off20_inb i k) (show 0 < S1x1.numel by decide), ← h.ldClip k _ 3 (off21_eq i k) (k0_off21_inb i k) (show 0 < S1x1.numel by decide),
        ← h.ldClip k _ 4 (off22_eq i k) (k0_off22_inb i k) (show 0 < S1x1.numel by decide)]
      rfl
    · exact congrArg (fun l => S.deq N 1 (hdOf i (kh k)) (x 2) l) (Fin.ext (by show (x 3).val = 0 + (x 3).val; omega))
  · intro y hy
    have y0 : (y 0).val < 2 := (y 0).isLt
    have y3 : (y 3).val < 128 := (y 3).isLt
    have hk : (kh k).val = k.val := rfl
    have z0 : (0 : Fin 2).val = 0 := rfl
    have z1 : (1 : Fin 2).val = 1 := rfl
    rcases (show (y 0).val = 1 ∨ (y 0).val = 0 by omega) with h0 | h0
    · exact Or.inl ⟨h0, hy, by omega, by omega⟩
    · exact Or.inr (Or.inl ⟨h0, hy, by omega, by omega⟩)

/-- The trip's writes of the values' scales. -/
theorem tripV_scale (h : Held S i arg3 X_arg3 arg7 X_arg7 arg20 X_arg20 arg21 X_arg21) (ha0 : arg0 = BitVec.ofNat 32 (i 0).val) (hv1 : v1 = BitVec.ofNat 32 (N.n 0)) (hv3 : v3 = BitVec.ofNat 32 (N.n 1)) :
    Fits (S.gScale N) (fun y => (y 1).val / 8 = 4 * (i 0).val + k.val) (trip_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg0 v0 k0_hw1 v1 v2 k0_hw2 v3 X_arg2 X_arg3 X_arg6 X_arg7 X_arg18 X_arg19 X_arg20 X_arg21 k).2.2.2.2.2.2.2.2.1 := by
  have hw := trip_hd i arg0 k ha0
  have HH := h.head k N _ v1 v3 hw hv1 hv3 (by decide) (k0_off16_inb k) (k0_off17_inb k) (k0_off15_inb i k)
  have hi : (i 0).val < 16 := (i 0).isLt
  have hk4 := trip_lt k
  unfold trip_k0_t1
  refine Fits.mono (Fits.cons3 (Fits.cons3 Fits.nil (0 : Fin 2) (8 * (4 * (i 0).val + k.val)) (off23_eq i k) (by omega) _ ?_) (1 : Fin 2) (8 * (4 * (i 0).val + k.val)) (off24_eq i k) (by omega) _ ?_) ?_
  · intro x
    refine (half_scale0 _ x).trans (Eq.trans ?_ ((HH.scale (x 1) 0 (x 2)).trans ?_))
    · rw [← h.ldClip k _ 0 (off18_eq i k) (k0_off18_inb i k) (show 0 < S1x1.numel by decide), ← h.ldClip k _ 1 (off19_eq i k) (k0_off19_inb i k) (show 0 < S1x1.numel by decide),
        ← h.ldClip k _ 2 (off20_eq i k) (k0_off20_inb i k) (show 0 < S1x1.numel by decide), ← h.ldClip k _ 3 (off21_eq i k) (k0_off21_inb i k) (show 0 < S1x1.numel by decide),
        ← h.ldClip k _ 4 (off22_eq i k) (k0_off22_inb i k) (show 0 < S1x1.numel by decide)]
      rfl
    · have x1 : (x 1).val < 8 := (x 1).isLt
      have e1 : hdOf i (kh k) = ⟨(8 * (4 * (i 0).val + k.val) + (x 1).val) / 8, by omega⟩ :=
        Fin.ext (by show 4 * (i 0).val + k.val = (8 * (4 * (i 0).val + k.val) + (x 1).val) / 8; omega)
      have e2 : (x 1 : Fin 8) = ⟨(8 * (4 * (i 0).val + k.val) + (x 1).val) % 8, by omega⟩ :=
        Fin.ext (by show (x 1).val = (8 * (4 * (i 0).val + k.val) + (x 1).val) % 8; omega)
      exact congrArg₂ (fun H s => S.scale N 0 H (grp s) (x 2)) e1 e2
  · intro x
    refine (half_scale1 _ x).trans (Eq.trans ?_ ((HH.scale (x 1) 1 (x 2)).trans ?_))
    · rw [← h.ldClip k _ 0 (off18_eq i k) (k0_off18_inb i k) (show 0 < S1x1.numel by decide), ← h.ldClip k _ 1 (off19_eq i k) (k0_off19_inb i k) (show 0 < S1x1.numel by decide),
        ← h.ldClip k _ 2 (off20_eq i k) (k0_off20_inb i k) (show 0 < S1x1.numel by decide), ← h.ldClip k _ 3 (off21_eq i k) (k0_off21_inb i k) (show 0 < S1x1.numel by decide),
        ← h.ldClip k _ 4 (off22_eq i k) (k0_off22_inb i k) (show 0 < S1x1.numel by decide)]
      rfl
    · have x1 : (x 1).val < 8 := (x 1).isLt
      have e1 : hdOf i (kh k) = ⟨(8 * (4 * (i 0).val + k.val) + (x 1).val) / 8, by omega⟩ :=
        Fin.ext (by show 4 * (i 0).val + k.val = (8 * (4 * (i 0).val + k.val) + (x 1).val) / 8; omega)
      have e2 : (x 1 : Fin 8) = ⟨(8 * (4 * (i 0).val + k.val) + (x 1).val) % 8, by omega⟩ :=
        Fin.ext (by show (x 1).val = (8 * (4 * (i 0).val + k.val) + (x 1).val) % 8; omega)
      exact congrArg₂ (fun H s => S.scale N 1 H (grp s) (x 2)) e1 e2
  · intro y hy
    have y0 : (y 0).val < 2 := (y 0).isLt
    have z0 : (0 : Fin 2).val = 0 := rfl
    have z1 : (1 : Fin 2).val = 1 := rfl
    rcases (show (y 0).val = 1 ∨ (y 0).val = 0 by omega) with h0 | h0
    · exact Or.inl ⟨h0, by omega, by omega⟩
    · exact Or.inr (Or.inl ⟨h0, by omega, by omega⟩)

/-- The trip's writes of the values' zero points. -/
theorem tripV_zero (h : Held S i arg3 X_arg3 arg7 X_arg7 arg20 X_arg20 arg21 X_arg21) (ha0 : arg0 = BitVec.ofNat 32 (i 0).val) (hv1 : v1 = BitVec.ofNat 32 (N.n 0)) (hv3 : v3 = BitVec.ofNat 32 (N.n 1)) :
    Fits (S.gZero N) (fun y => (y 1).val / 8 = 4 * (i 0).val + k.val) (trip_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg0 v0 k0_hw1 v1 v2 k0_hw2 v3 X_arg2 X_arg3 X_arg6 X_arg7 X_arg18 X_arg19 X_arg20 X_arg21 k).2.2.2.2.2.2.2.2.2.1 := by
  have hw := trip_hd i arg0 k ha0
  have HH := h.head k N _ v1 v3 hw hv1 hv3 (by decide) (k0_off16_inb k) (k0_off17_inb k) (k0_off15_inb i k)
  have hi : (i 0).val < 16 := (i 0).isLt
  have hk4 := trip_lt k
  unfold trip_k0_t1
  refine Fits.mono (Fits.cons3 (Fits.cons3 Fits.nil (0 : Fin 2) (8 * (4 * (i 0).val + k.val)) (off23_eq i k) (by omega) _ ?_) (1 : Fin 2) (8 * (4 * (i 0).val + k.val)) (off24_eq i k) (by omega) _ ?_) ?_
  · intro x
    refine (half_scale0 _ x).trans (Eq.trans ?_ ((HH.zero (x 1) 0 (x 2)).trans ?_))
    · rw [← h.ldClip k _ 0 (off18_eq i k) (k0_off18_inb i k) (show 0 < S1x1.numel by decide), ← h.ldClip k _ 1 (off19_eq i k) (k0_off19_inb i k) (show 0 < S1x1.numel by decide),
        ← h.ldClip k _ 2 (off20_eq i k) (k0_off20_inb i k) (show 0 < S1x1.numel by decide), ← h.ldClip k _ 3 (off21_eq i k) (k0_off21_inb i k) (show 0 < S1x1.numel by decide),
        ← h.ldClip k _ 4 (off22_eq i k) (k0_off22_inb i k) (show 0 < S1x1.numel by decide)]
      rfl
    · have x1 : (x 1).val < 8 := (x 1).isLt
      have e1 : hdOf i (kh k) = ⟨(8 * (4 * (i 0).val + k.val) + (x 1).val) / 8, by omega⟩ :=
        Fin.ext (by show 4 * (i 0).val + k.val = (8 * (4 * (i 0).val + k.val) + (x 1).val) / 8; omega)
      have e2 : (x 1 : Fin 8) = ⟨(8 * (4 * (i 0).val + k.val) + (x 1).val) % 8, by omega⟩ :=
        Fin.ext (by show (x 1).val = (8 * (4 * (i 0).val + k.val) + (x 1).val) % 8; omega)
      exact congrArg₂ (fun H s => S.zero N 0 H (grp s) (x 2)) e1 e2
  · intro x
    refine (half_scale1 _ x).trans (Eq.trans ?_ ((HH.zero (x 1) 1 (x 2)).trans ?_))
    · rw [← h.ldClip k _ 0 (off18_eq i k) (k0_off18_inb i k) (show 0 < S1x1.numel by decide), ← h.ldClip k _ 1 (off19_eq i k) (k0_off19_inb i k) (show 0 < S1x1.numel by decide),
        ← h.ldClip k _ 2 (off20_eq i k) (k0_off20_inb i k) (show 0 < S1x1.numel by decide), ← h.ldClip k _ 3 (off21_eq i k) (k0_off21_inb i k) (show 0 < S1x1.numel by decide),
        ← h.ldClip k _ 4 (off22_eq i k) (k0_off22_inb i k) (show 0 < S1x1.numel by decide)]
      rfl
    · have x1 : (x 1).val < 8 := (x 1).isLt
      have e1 : hdOf i (kh k) = ⟨(8 * (4 * (i 0).val + k.val) + (x 1).val) / 8, by omega⟩ :=
        Fin.ext (by show 4 * (i 0).val + k.val = (8 * (4 * (i 0).val + k.val) + (x 1).val) / 8; omega)
      have e2 : (x 1 : Fin 8) = ⟨(8 * (4 * (i 0).val + k.val) + (x 1).val) % 8, by omega⟩ :=
        Fin.ext (by show (x 1).val = (8 * (4 * (i 0).val + k.val) + (x 1).val) % 8; omega)
      exact congrArg₂ (fun H s => S.zero N 1 H (grp s) (x 2)) e1 e2
  · intro y hy
    have y0 : (y 0).val < 2 := (y 0).isLt
    have z0 : (0 : Fin 2).val = 0 := rfl
    have z1 : (1 : Fin 2).val = 1 := rfl
    rcases (show (y 0).val = 1 ∨ (y 0).val = 0 by omega) with h0 | h0
    · exact Or.inl ⟨h0, by omega, by omega⟩
    · exact Or.inr (Or.inl ⟨h0, by omega, by omega⟩)

end Cert.KernelIdeal.Val

end
-- ==== Proof.TripWin.lean ====
/- The writes one loop trip makes for the windows: six blocks of 128 tokens per sequence, each from two neighbouring blocks of
   the cache. -/
module

public import proofs.«01_k».proof.Proof.Side
public import proofs.«01_k».proof.Proof.Gen.KernelIdeal.Loops

@[expose] public section

set_option maxRecDepth 8192

noncomputable section

namespace Cert.KernelIdeal.Val

open Cert.KernelIdeal Cert.KernelIdeal.Gen Cert.KernelIdeal.Hand Cert.Words Idealize.ShloMosaic Idealize.ShloMosaic.Pointwise

/-- A window's block from two loaded blocks of the cache is the window function there. -/
theorem winBlock {S : Side} {i : grid0.Coords} {a2 : Memref sig .tc .smem S5x64 .f32} {X2 : BufTy.Contents (Elt Ideal) a2.view.ty}
    {a6 : Memref sig .tc .vmem S2x4x160x896 .bf16} {X6 : BufTy.Contents (Elt Ideal) a6.view.ty}
    {a18 : Memref sig .tc .vmem S64x160 .f32} {X18 : BufTy.Contents (Elt Ideal) a18.view.ty}
    {a19 : Memref sig .tc .vmem S160x128 .f32} {X19 : BufTy.Contents (Elt Ideal) a19.view.ty}
    (h : Held S i a2 X2 a6 X6 a18 X18 a19 X19) (k : Fin k0_t1_loop.trips) (N : Lens) (b : Fin 2) (v w : BitVec 32) (hv : v.toNat = 768 + N.n b)
    (hv' : 768 ≤ v.toInt) (hw : w = BitVec.ofNat 32 (N.n b)) (j : ℕ) (hj : j ≤ 5) (off0 off1 : Fin 4 → ℕ)
    (h0 : off0 = ![b.val, k.val, 0, (Cert.Words.col v (BitVec.ofNat 32 j)).toNat]) (h1 : off1 = ![b.val, k.val, 0, (Cert.Words.col v (BitVec.ofNat 32 (j + 1))).toNat])
    (hb0 : ∀ e, off0 e + S1x1x160x128.size e ≤ S2x4x160x896.size e) (hb1 : ∀ e, off1 e + S1x1x160x128.size e ≤ S2x4x160x896.size e)
    (x : S1x1x160x128.Idx) :
    mWin w (View.readAt (Elt Ideal) a6.view (Rect.unit (s := S2x4x160x896) off0 S1x1x160x128.size hb0).toLoadRect X6)
        (View.readAt (Elt Ideal) a6.view (Rect.unit (s := S2x4x160x896) off1 S1x1x160x128.size hb1).toLoadRect X6) x
      = S.gWin N i (ix4 b (kh k) (x 2) ⟨128 * j + (x 3).val, by have : (x 3).val < 128 := (x 3).isLt; omega⟩) := by
  have x3 : (x 3).val < 128 := (x 3).isLt
  have hn := N.le b
  have c0 : (Cert.Words.col v (BitVec.ofNat 32 j)).toNat = min (j + N.n b / 128) 6 * 128 := by
    rw [col_toNat hv' (by rw [BitVec.toNat_ofNat]; omega), BitVec.toNat_ofNat, hv]; congr 3 <;> omega
  have c1 : (Cert.Words.col v (BitVec.ofNat 32 (j + 1))).toNat = min (j + 1 + N.n b / 128) 6 * 128 := by
    rw [col_toNat hv' (by rw [BitVec.toNat_ofNat]; omega), BitVec.toNat_ofNat, hv]; congr 3 <;> omega
  rw [c0] at h0
  rw [c1] at h1
  subst hw
  rw [mWin_at _ hn]
  show _ = S.X b (hdOf i (kh k)) (x 2) _
  split
  · rename_i hl
    refine (h.ldData k off0 b _ h0 (by omega) hb0 _).trans (congrArg (S.X b (hdOf i (kh k)) (x 2)) (Fin.ext ?_))
    show min (j + N.n b / 128) 6 * 128 + ((x 3).val + N.n b % 128) % 128 = 128 * j + (x 3).val + N.n b
    omega
  · rename_i hl
    refine (h.ldData k off1 b _ h1 (by omega) hb1 _).trans (congrArg (S.X b (hdOf i (kh k)) (x 2)) (Fin.ext ?_))
    show min (j + 1 + N.n b / 128) 6 * 128 + ((x 3).val + N.n b % 128) % 128 = 128 * j + (x 3).val + N.n b
    omega

variable (𝒱 : Variants) (c : Dev nD) (bd : Option 𝒱.V) (i : grid0.Coords) (arg1 : Memref sig .tc .smem S2 .i32) (harg1 : arg1.IsWhole) (arg2 : Memref sig .tc .smem S5x64 .f32) (harg2 : arg2.IsWhole) (arg3 : Memref sig .tc .smem S5x64 .f32) (harg3 : arg3.IsWhole) (arg4 : Memref sig .tc .vmem S64x160 .i32) (harg4 : arg4.IsWhole) (arg5 : Memref sig .tc .vmem S64x160 .i32) (harg5 : arg5.IsWhole) (arg6 : Memref sig .tc .vmem S2x4x160x896 .bf16) (harg6 : arg6.IsWhole) (arg7 : Memref sig .tc .vmem S2x4x160x896 .bf16) (harg7 : arg7.IsWhole) (arg8 : Memref sig .tc .vmem S2x4x160x768 .bf16) (harg8 : arg8.IsWhole) (arg9 : Memref sig .tc .vmem S2x4x160x768 .bf16) (harg9 : arg9.IsWhole) (arg10 : Memref sig .tc .vmem S2x4x80x128 .i8) (harg10 : arg10.IsWhole) (arg11 : Memref sig .tc .vmem S2x5x64x128 .fp8e4m3) (harg11 : arg11.IsWhole) (arg12 : Memref sig .tc .vmem S2x5x64x128 .fp8e4m3) (harg12 : arg12.IsWhole) (arg13 : Memref sig .tc .vmem S2x4x80x128 .i8) (harg13 : arg13.IsWhole) (arg14 : Memref sig .tc .vmem S2x5x64x128 .fp8e4m3) (harg14 : arg14.IsWhole) (arg15 : Memref sig .tc .vmem S2x5x64x128 .fp8e4m3) (harg15 : arg15.IsWhole) (arg16 : Memref sig .tc .vmem S2x4x160x128 .bf16) (harg16 : arg16.IsWhole) (arg17 : Memref sig .tc .vmem S2x4x160x128 .bf16) (harg17 : arg17.IsWhole) (arg18 : Memref sig .tc .vmem S64x160 .f32) (harg18 : arg18.IsWhole) (arg19 : Memref sig .tc .vmem S160x128 .f32) (harg19 : arg19.IsWhole) (arg20 : Memref sig .tc .vmem S64x160 .f32) (harg20 : arg20.IsWhole) (arg21 : Memref sig .tc .vmem S160x128 .f32) (harg21 : arg21.IsWhole) (arg22 : Memref sig .tc .vmem S2x512x128 .f32) (harg22 : arg22.IsWhole) (arg23 : Memref sig .tc .vmem S2x512x128 .f32) (harg23 : arg23.IsWhole) (arg24 : Memref sig .tc .vmem S2x512x128 .f32) (harg24 : arg24.IsWhole) (arg25 : Memref sig .tc .vmem S2x512x128 .f32) (harg25 : arg25.IsWhole) (arg0 : BitVec 32) (v0 : Elt Ideal .i32) (k0_hw1 : k0_chk1 v0) (v1 : BitVec 32) (v2 : Elt Ideal .i32) (k0_hw2 : k0_chk2 v2) (v3 : BitVec 32) (X_arg2 : BufTy.Contents (Elt Ideal) arg2.view.ty) (X_arg3 : BufTy.Contents (Elt Ideal) arg3.view.ty) (X_arg6 : BufTy.Contents (Elt Ideal) arg6.view.ty) (X_arg7 : BufTy.Contents (Elt Ideal) arg7.view.ty) (X_arg18 : BufTy.Contents (Elt Ideal) arg18.view.ty) (X_arg19 : BufTy.Contents (Elt Ideal) arg19.view.ty) (X_arg20 : BufTy.Contents (Elt Ideal) arg20.view.ty) (X_arg21 : BufTy.Contents (Elt Ideal) arg21.view.ty) (k : Fin k0_t1_loop.trips)
  (S : Side) (N : Lens)

/-- The trip's writes of the keys' window. -/
theorem tripK_win (h : Held S i arg2 X_arg2 arg6 X_arg6 arg18 X_arg18 arg19 X_arg19) (hv0 : v0.toNat = 768 + N.n 0) (hv0' : 768 ≤ (show BitVec 32 from v0).toInt) (hv2 : v2.toNat = 768 + N.n 1) (hv2' : 768 ≤ (show BitVec 32 from v2).toInt)
    (hv1 : v1 = BitVec.ofNat 32 (N.n 0)) (hv3 : v3 = BitVec.ofNat 32 (N.n 1)) :
    Fits (S.gWin N i) (fun y => (y 1).val = k.val) (trip_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg0 v0 k0_hw1 v1 v2 k0_hw2 v3 X_arg2 X_arg3 X_arg6 X_arg7 X_arg18 X_arg19 X_arg20 X_arg21 k).1 := by
  unfold trip_k0_t1
  refine Fits.mono (Fits.cons4 (Fits.cons4 (Fits.cons4 (Fits.cons4 (Fits.cons4 (Fits.cons4 (Fits.cons4 (Fits.cons4 (Fits.cons4 (Fits.cons4 (Fits.cons4 (Fits.cons4 Fits.nil (0 : Fin 2) (kh k) 0 (off2_eq k) (by omega) _ ?_) (0 : Fin 2) (kh k) 128 (off3_eq k) (by omega) _ ?_) (0 : Fin 2) (kh k) 256 (off4_eq k) (by omega) _ ?_) (0 : Fin 2) (kh k) 384 (off5_eq k) (by omega) _ ?_) (0 : Fin 2) (kh k) 512 (off6_eq k) (by omega) _ ?_) (0 : Fin 2) (kh k) 640 (off7_eq k) (by omega) _ ?_) (1 : Fin 2) (kh k) 0 (off9_eq k) (by omega) _ ?_) (1 : Fin 2) (kh k) 128 (off10_eq k) (by omega) _ ?_) (1 : Fin 2) (kh k) 256 (off11_eq k) (by omega) _ ?_) (1 : Fin 2) (kh k) 384 (off12_eq k) (by omega) _ ?_) (1 : Fin 2) (kh k) 512 (off13_eq k) (by omega) _ ?_) (1 : Fin 2) (kh k) 640 (off14_eq k) (by omega) _ ?_) ?_
  · exact winBlock h k N 0 v0 v1 hv0 hv0' hv1 0 (by omega) _ _ (off1_eq v0 0#32 k) (off1_eq v0 1#32 k)
      (fun a => box_inb 0 (by decide) hv0' (by decide) k a) (fun a => box_inb 0 (by decide) hv0' (by decide) k a)
  · exact winBlock h k N 0 v0 v1 hv0 hv0' hv1 1 (by omega) _ _ (off1_eq v0 1#32 k) (off1_eq v0 2#32 k)
      (fun a => box_inb 0 (by decide) hv0' (by decide) k a) (fun a => box_inb 0 (by decide) hv0' (by decide) k a)
  · exact winBlock h k N 0 v0 v1 hv0 hv0' hv1 2 (by omega) _ _ (off1_eq v0 2#32 k) (off1_eq v0 3#32 k)
      (fun a => box_inb 0 (by decide) hv0' (by decide) k a) (fun a => box_inb 0 (by decide) hv0' (by decide) k a)
  · exact winBlock h k N 0 v0 v1 hv0 hv0' hv1 3 (by omega) _ _ (off1_eq v0 3#32 k) (off1_eq v0 4#32 k)
      (fun a => box_inb 0 (by decide) hv0' (by decide) k a) (fun a => box_inb 0 (by decide) hv0' (by decide) k a)
  · exact winBlock h k N 0 v0 v1 hv0 hv0' hv1 4 (by omega) _ _ (off1_eq v0 4#32 k) (off1_eq v0 5#32 k)
      (fun a => box_inb 0 (by decide) hv0' (by decide) k a) (fun a => box_inb 0 (by decide) hv0' (by decide) k a)
  · exact winBlock h k N 0 v0 v1 hv0 hv0' hv1 5 (by omega) _ _ (off1_eq v0 5#32 k) (off1_eq v0 6#32 k)
      (fun a => box_inb 0 (by decide) hv0' (by decide) k a) (fun a => box_inb 0 (by decide) hv0' (by decide) k a)
  · exact winBlock h k N 1 v2 v3 hv2 hv2' hv3 0 (by omega) _ _ (off8_eq v2 0#32 k) (off8_eq v2 1#32 k)
      (fun a => box_inb 1 (by decide) hv2' (by decide) k a) (fun a => box_inb 1 (by decide) hv2' (by decide) k a)
  · exact winBlock h k N 1 v2 v3 hv2 hv2' hv3 1 (by omega) _ _ (off8_eq v2 1#32 k) (off8_eq v2 2#32 k)
      (fun a => box_inb 1 (by decide) hv2' (by decide) k a) (fun a => box_inb 1 (by decide) hv2' (by decide) k a)
  · exact winBlock h k N 1 v2 v3 hv2 hv2' hv3 2 (by omega) _ _ (off8_eq v2 2#32 k) (off8_eq v2 3#32 k)
      (fun a => box_inb 1 (by decide) hv2' (by decide) k a) (fun a => box_inb 1 (by decide) hv2' (by decide) k a)
  · exact winBlock h k N 1 v2 v3 hv2 hv2' hv3 3 (by omega) _ _ (off8_eq v2 3#32 k) (off8_eq v2 4#32 k)
      (fun a => box_inb 1 (by decide) hv2' (by decide) k a) (fun a => box_inb 1 (by decide) hv2' (by decide) k a)
  · exact winBlock h k N 1 v2 v3 hv2 hv2' hv3 4 (by omega) _ _ (off8_eq v2 4#32 k) (off8_eq v2 5#32 k)
      (fun a => box_inb 1 (by decide) hv2' (by decide) k a) (fun a => box_inb 1 (by decide) hv2' (by decide) k a)
  · exact winBlock h k N 1 v2 v3 hv2 hv2' hv3 5 (by omega) _ _ (off8_eq v2 5#32 k) (off8_eq v2 6#32 k)
      (fun a => box_inb 1 (by decide) hv2' (by decide) k a) (fun a => box_inb 1 (by decide) hv2' (by decide) k a)
  · intro y hy
    have y0 : (y 0).val < 2 := (y 0).isLt
    have y3 : (y 3).val < 768 := (y 3).isLt
    have hk : (kh k).val = k.val := rfl
    have z0 : (0 : Fin 2).val = 0 := rfl
    have z1 : (1 : Fin 2).val = 1 := rfl
    rcases (show (y 0).val = 1 ∨ (y 0).val = 0 by omega) with h0 | h0
    · rcases (show 640 ≤ (y 3).val ∨ (512 ≤ (y 3).val ∧ (y 3).val < 640) ∨ (384 ≤ (y 3).val ∧ (y 3).val < 512) ∨ (256 ≤ (y 3).val ∧ (y 3).val < 384) ∨ (128 ≤ (y 3).val ∧ (y 3).val < 256) ∨ (y 3).val < 128 by omega) with q | q | q | q | q | q
      · exact Or.inl ⟨h0, hy, by omega, by omega⟩
      · exact Or.inr (Or.inl ⟨h0, hy, by omega, by omega⟩)
      · exact Or.inr (Or.inr (Or.inl ⟨h0, hy, by omega, by omega⟩))
      · exact Or.inr (Or.inr (Or.inr (Or.inl ⟨h0, hy, by omega, by omega⟩)))
      · exact Or.inr (Or.inr (Or.inr (Or.inr (Or.inl ⟨h0, hy, by omega, by omega⟩))))
      · exact Or.inr (Or.inr (Or.inr (Or.inr (Or.inr (Or.inl ⟨h0, hy, by omega, by omega⟩)))))
    · rcases (show 640 ≤ (y 3).val ∨ (512 ≤ (y 3).val ∧ (y 3).val < 640) ∨ (384 ≤ (y 3).val ∧ (y 3).val < 512) ∨ (256 ≤ (y 3).val ∧ (y 3).val < 384) ∨ (128 ≤ (y 3).val ∧ (y 3).val < 256) ∨ (y 3).val < 128 by omega) with q | q | q | q | q | q
      · exact Or.inr (Or.inr (Or.inr (Or.inr (Or.inr (Or.inr (Or.inl ⟨h0, hy, by omega, by omega⟩))))))
      · exact Or.inr (Or.inr (Or.inr (Or.inr (Or.inr (Or.inr (Or.inr (Or.inl ⟨h0, hy, by omega, by omega⟩)))))))
      · exact Or.inr (Or.inr (Or.inr (Or.inr (Or.inr (Or.inr (Or.inr (Or.inr (Or.inl ⟨h0, hy, by omega, by omega⟩))))))))
      · exact Or.inr (Or.inr (Or.inr (Or.inr (Or.inr (Or.inr (Or.inr (Or.inr (Or.inr (Or.inl ⟨h0, hy, by omega, by omega⟩)))))))))
      · exact Or.inr (Or.inr (Or.inr (Or.inr (Or.inr (Or.inr (Or.inr (Or.inr (Or.inr (Or.inr (Or.inl ⟨h0, hy, by omega, by omega⟩))))))))))
      · exact Or.inr (Or.inr (Or.inr (Or.inr (Or.inr (Or.inr (Or.inr (Or.inr (Or.inr (Or.inr (Or.inr (Or.inl ⟨h0, hy, by omega, by omega⟩)))))))))))

/-- The trip's writes of the values' window. -/
theorem tripV_win (h : Held S i arg3 X_arg3 arg7 X_arg7 arg20 X_arg20 arg21 X_arg21) (hv0 : v0.toNat = 768 + N.n 0) (hv0' : 768 ≤ (show BitVec 32 from v0).toInt) (hv2 : v2.toNat = 768 + N.n 1) (hv2' : 768 ≤ (show BitVec 32 from v2).toInt)
    (hv1 : v1 = BitVec.ofNat 32 (N.n 0)) (hv3 : v3 = BitVec.ofNat 32 (N.n 1)) :
    Fits (S.gWin N i) (fun y => (y 1).val = k.val) (trip_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg0 v0 k0_hw1 v1 v2 k0_hw2 v3 X_arg2 X_arg3 X_arg6 X_arg7 X_arg18 X_arg19 X_arg20 X_arg21 k).2.1 := by
  unfold trip_k0_t1
  refine Fits.mono (Fits.cons4 (Fits.cons4 (Fits.cons4 (Fits.cons4 (Fits.cons4 (Fits.cons4 (Fits.cons4 (Fits.cons4 (Fits.cons4 (Fits.cons4 (Fits.cons4 (Fits.cons4 Fits.nil (0 : Fin 2) (kh k) 0 (off30_eq k) (by omega) _ ?_) (0 : Fin 2) (kh k) 128 (off31_eq k) (by omega) _ ?_) (0 : Fin 2) (kh k) 256 (off32_eq k) (by omega) _ ?_) (0 : Fin 2) (kh k) 384 (off33_eq k) (by omega) _ ?_) (0 : Fin 2) (kh k) 512 (off34_eq k) (by omega) _ ?_) (0 : Fin 2) (kh k) 640 (off35_eq k) (by omega) _ ?_) (1 : Fin 2) (kh k) 0 (off9_eq k) (by omega) _ ?_) (1 : Fin 2) (kh k) 128 (off10_eq k) (by omega) _ ?_) (1 : Fin 2) (kh k) 256 (off11_eq k) (by omega) _ ?_) (1 : Fin 2) (kh k) 384 (off12_eq k) (by omega) _ ?_) (1 : Fin 2) (kh k) 512 (off13_eq k) (by omega) _ ?_) (1 : Fin 2) (kh k) 640 (off14_eq k) (by omega) _ ?_) ?_
  · exact winBlock h k N 0 v0 v1 hv0 hv0' hv1 0 (by omega) _ _ (off29_eq v0 0#32 k) (off29_eq v0 1#32 k)
      (fun a => box_inb 0 (by decide) hv0' (by decide) k a) (fun a => box_inb 0 (by decide) hv0' (by decide) k a)
  · exact winBlock h k N 0 v0 v1 hv0 hv0' hv1 1 (by omega) _ _ (off29_eq v0 1#32 k) (off29_eq v0 2#32 k)
      (fun a => box_inb 0 (by decide) hv0' (by decide) k a) (fun a => box_inb 0 (by decide) hv0' (by decide) k a)
  · exact winBlock h k N 0 v0 v1 hv0 hv0' hv1 2 (by omega) _ _ (off29_eq v0 2#32 k) (off29_eq v0 3#32 k)
      (fun a => box_inb 0 (by decide) hv0' (by decide) k a) (fun a => box_inb 0 (by decide) hv0' (by decide) k a)
  · exact winBlock h k N 0 v0 v1 hv0 hv0' hv1 3 (by omega) _ _ (off29_eq v0 3#32 k) (off29_eq v0 4#32 k)
      (fun a => box_inb 0 (by decide) hv0' (by decide) k a) (fun a => box_inb 0 (by decide) hv0' (by decide) k a)
  · exact winBlock h k N 0 v0 v1 hv0 hv0' hv1 4 (by omega) _ _ (off29_eq v0 4#32 k) (off29_eq v0 5#32 k)
      (fun a => box_inb 0 (by decide) hv0' (by decide) k a) (fun a => box_inb 0 (by decide) hv0' (by decide) k a)
  · exact winBlock h k N 0 v0 v1 hv0 hv0' hv1 5 (by omega) _ _ (off29_eq v0 5#32 k) (off29_eq v0 6#32 k)
      (fun a => box_inb 0 (by decide) hv0' (by decide) k a) (fun a => box_inb 0 (by decide) hv0' (by decide) k a)
  · exact winBlock h k N 1 v2 v3 hv2 hv2' hv3 0 (by omega) _ _ (off8_eq v2 0#32 k) (off8_eq v2 1#32 k)
      (fun a => box_inb 1 (by decide) hv2' (by decide) k a) (fun a => box_inb 1 (by decide) hv2' (by decide) k a)
  · exact winBlock h k N 1 v2 v3 hv2 hv2' hv3 1 (by omega) _ _ (off8_eq v2 1#32 k) (off8_eq v2 2#32 k)
      (fun a => box_inb 1 (by decide) hv2' (by decide) k a) (fun a => box_inb 1 (by decide) hv2' (by decide) k a)
  · exact winBlock h k N 1 v2 v3 hv2 hv2' hv3 2 (by omega) _ _ (off8_eq v2 2#32 k) (off8_eq v2 3#32 k)
      (fun a => box_inb 1 (by decide) hv2' (by decide) k a) (fun a => box_inb 1 (by decide) hv2' (by decide) k a)
  · exact winBlock h k N 1 v2 v3 hv2 hv2' hv3 3 (by omega) _ _ (off8_eq v2 3#32 k) (off8_eq v2 4#32 k)
      (fun a => box_inb 1 (by decide) hv2' (by decide) k a) (fun a => box_inb 1 (by decide) hv2' (by decide) k a)
  · exact winBlock h k N 1 v2 v3 hv2 hv2' hv3 4 (by omega) _ _ (off8_eq v2 4#32 k) (off8_eq v2 5#32 k)
      (fun a => box_inb 1 (by decide) hv2' (by decide) k a) (fun a => box_inb 1 (by decide) hv2' (by decide) k a)
  · exact winBlock h k N 1 v2 v3 hv2 hv2' hv3 5 (by omega) _ _ (off8_eq v2 5#32 k) (off8_eq v2 6#32 k)
      (fun a => box_inb 1 (by decide) hv2' (by decide) k a) (fun a => box_inb 1 (by decide) hv2' (by decide) k a)
  · intro y hy
    have y0 : (y 0).val < 2 := (y 0).isLt
    have y3 : (y 3).val < 768 := (y 3).isLt
    have hk : (kh k).val = k.val := rfl
    have z0 : (0 : Fin 2).val = 0 := rfl
    have z1 : (1 : Fin 2).val = 1 := rfl
    rcases (show (y 0).val = 1 ∨ (y 0).val = 0 by omega) with h0 | h0
    · rcases (show 640 ≤ (y 3).val ∨ (512 ≤ (y 3).val ∧ (y 3).val < 640) ∨ (384 ≤ (y 3).val ∧ (y 3).val < 512) ∨ (256 ≤ (y 3).val ∧ (y 3).val < 384) ∨ (128 ≤ (y 3).val ∧ (y 3).val < 256) ∨ (y 3).val < 128 by omega) with q | q | q | q | q | q
      · exact Or.inl ⟨h0, hy, by omega, by omega⟩
      · exact Or.inr (Or.inl ⟨h0, hy, by omega, by omega⟩)
      · exact Or.inr (Or.inr (Or.inl ⟨h0, hy, by omega, by omega⟩))
      · exact Or.inr (Or.inr (Or.inr (Or.inl ⟨h0, hy, by omega, by omega⟩)))
      · exact Or.inr (Or.inr (Or.inr (Or.inr (Or.inl ⟨h0, hy, by omega, by omega⟩))))
      · exact Or.inr (Or.inr (Or.inr (Or.inr (Or.inr (Or.inl ⟨h0, hy, by omega, by omega⟩)))))
    · rcases (show 640 ≤ (y 3).val ∨ (512 ≤ (y 3).val ∧ (y 3).val < 640) ∨ (384 ≤ (y 3).val ∧ (y 3).val < 512) ∨ (256 ≤ (y 3).val ∧ (y 3).val < 384) ∨ (128 ≤ (y 3).val ∧ (y 3).val < 256) ∨ (y 3).val < 128 by omega) with q | q | q | q | q | q
      · exact Or.inr (Or.inr (Or.inr (Or.inr (Or.inr (Or.inr (Or.inl ⟨h0, hy, by omega, by omega⟩))))))
      · exact Or.inr (Or.inr (Or.inr (Or.inr (Or.inr (Or.inr (Or.inr (Or.inl ⟨h0, hy, by omega, by omega⟩)))))))
      · exact Or.inr (Or.inr (Or.inr (Or.inr (Or.inr (Or.inr (Or.inr (Or.inr (Or.inl ⟨h0, hy, by omega, by omega⟩))))))))
      · exact Or.inr (Or.inr (Or.inr (Or.inr (Or.inr (Or.inr (Or.inr (Or.inr (Or.inr (Or.inl ⟨h0, hy, by omega, by omega⟩)))))))))
      · exact Or.inr (Or.inr (Or.inr (Or.inr (Or.inr (Or.inr (Or.inr (Or.inr (Or.inr (Or.inr (Or.inl ⟨h0, hy, by omega, by omega⟩))))))))))
      · exact Or.inr (Or.inr (Or.inr (Or.inr (Or.inr (Or.inr (Or.inr (Or.inr (Or.inr (Or.inr (Or.inr (Or.inl ⟨h0, hy, by omega, by omega⟩)))))))))))

end Cert.KernelIdeal.Val

end
-- ==== Proof.LoopFits.lean ====
/- All the writes the loop makes: the trips' writes together. -/
module

public import proofs.«01_k».proof.Proof.TripV
public import proofs.«01_k».proof.Proof.TripWin
public import proofs.«01_k».proof.Proof.Gen.KernelIdeal.Loops

@[expose] public section

set_option maxRecDepth 8192

noncomputable section

namespace Cert.KernelIdeal.Val

open Cert.KernelIdeal Cert.KernelIdeal.Gen Cert.KernelIdeal.Hand Cert.Words Idealize.ShloMosaic Idealize.ShloMosaic.Pointwise

/-- The ten outputs' write lists agree with the functions, and cover the heads of the trips before `m`. -/
structure LoopFits (S T : Side) (N : Lens) (i : grid0.Coords) (m : ℕ) (L : List (View.Piece (Elt Ideal) S2x4x160x768 .bf16) × List (View.Piece (Elt Ideal) S2x4x160x768 .bf16) × List (View.Piece (Elt Ideal) S2x4x80x128 .i8) × List (View.Piece (Elt Ideal) S2x4x80x128 .i8) × List (View.Piece (Elt Ideal) S2x4x160x128 .bf16) × List (View.Piece (Elt Ideal) S2x4x160x128 .bf16) × List (View.Piece (Elt Ideal) S2x512x128 .f32) × List (View.Piece (Elt Ideal) S2x512x128 .f32) × List (View.Piece (Elt Ideal) S2x512x128 .f32) × List (View.Piece (Elt Ideal) S2x512x128 .f32)) : Prop where
  f8 : Fits (S.gWin N i) (fun y => (y 1).val < m) L.1
  f9 : Fits (T.gWin N i) (fun y => (y 1).val < m) L.2.1
  f10 : Fits (S.gCode N i) (fun y => (y 1).val < m) L.2.2.1
  f13 : Fits (T.gCode N i) (fun y => (y 1).val < m) L.2.2.2.1
  f16 : Fits (S.gDeq N i) (fun y => (y 1).val < m) L.2.2.2.2.1
  f17 : Fits (T.gDeq N i) (fun y => (y 1).val < m) L.2.2.2.2.2.1
  f22 : Fits (S.gScale N) (fun y => 4 * (i 0).val ≤ (y 1).val / 8 ∧ (y 1).val / 8 < 4 * (i 0).val + m) L.2.2.2.2.2.2.1
  f23 : Fits (S.gZero N) (fun y => 4 * (i 0).val ≤ (y 1).val / 8 ∧ (y 1).val / 8 < 4 * (i 0).val + m) L.2.2.2.2.2.2.2.1
  f24 : Fits (T.gScale N) (fun y => 4 * (i 0).val ≤ (y 1).val / 8 ∧ (y 1).val / 8 < 4 * (i 0).val + m) L.2.2.2.2.2.2.2.2.1
  f25 : Fits (T.gZero N) (fun y => 4 * (i 0).val ≤ (y 1).val / 8 ∧ (y 1).val / 8 < 4 * (i 0).val + m) L.2.2.2.2.2.2.2.2.2

variable (𝒱 : Variants) (c : Dev nD) (bd : Option 𝒱.V) (i : grid0.Coords) (arg1 : Memref sig .tc .smem S2 .i32) (harg1 : arg1.IsWhole) (arg2 : Memref sig .tc .smem S5x64 .f32) (harg2 : arg2.IsWhole) (arg3 : Memref sig .tc .smem S5x64 .f32) (harg3 : arg3.IsWhole) (arg4 : Memref sig .tc .vmem S64x160 .i32) (harg4 : arg4.IsWhole) (arg5 : Memref sig .tc .vmem S64x160 .i32) (harg5 : arg5.IsWhole) (arg6 : Memref sig .tc .vmem S2x4x160x896 .bf16) (harg6 : arg6.IsWhole) (arg7 : Memref sig .tc .vmem S2x4x160x896 .bf16) (harg7 : arg7.IsWhole) (arg8 : Memref sig .tc .vmem S2x4x160x768 .bf16) (harg8 : arg8.IsWhole) (arg9 : Memref sig .tc .vmem S2x4x160x768 .bf16) (harg9 : arg9.IsWhole) (arg10 : Memref sig .tc .vmem S2x4x80x128 .i8) (harg10 : arg10.IsWhole) (arg11 : Memref sig .tc .vmem S2x5x64x128 .fp8e4m3) (harg11 : arg11.IsWhole) (arg12 : Memref sig .tc .vmem S2x5x64x128 .fp8e4m3) (harg12 : arg12.IsWhole) (arg13 : Memref sig .tc .vmem S2x4x80x128 .i8) (harg13 : arg13.IsWhole) (arg14 : Memref sig .tc .vmem S2x5x64x128 .fp8e4m3) (harg14 : arg14.IsWhole) (arg15 : Memref sig .tc .vmem S2x5x64x128 .fp8e4m3) (harg15 : arg15.IsWhole) (arg16 : Memref sig .tc .vmem S2x4x160x128 .bf16) (harg16 : arg16.IsWhole) (arg17 : Memref sig .tc .vmem S2x4x160x128 .bf16) (harg17 : arg17.IsWhole) (arg18 : Memref sig .tc .vmem S64x160 .f32) (harg18 : arg18.IsWhole) (arg19 : Memref sig .tc .vmem S160x128 .f32) (harg19 : arg19.IsWhole) (arg20 : Memref sig .tc .vmem S64x160 .f32) (harg20 : arg20.IsWhole) (arg21 : Memref sig .tc .vmem S160x128 .f32) (harg21 : arg21.IsWhole) (arg22 : Memref sig .tc .vmem S2x512x128 .f32) (harg22 : arg22.IsWhole) (arg23 : Memref sig .tc .vmem S2x512x128 .f32) (harg23 : arg23.IsWhole) (arg24 : Memref sig .tc .vmem S2x512x128 .f32) (harg24 : arg24.IsWhole) (arg25 : Memref sig .tc .vmem S2x512x128 .f32) (harg25 : arg25.IsWhole) (arg0 : BitVec 32) (v0 : Elt Ideal .i32) (k0_hw1 : k0_chk1 v0) (v1 : BitVec 32) (v2 : Elt Ideal .i32) (k0_hw2 : k0_chk2 v2) (v3 : BitVec 32) (X_arg2 : BufTy.Contents (Elt Ideal) arg2.view.ty) (X_arg3 : BufTy.Contents (Elt Ideal) arg3.view.ty) (X_arg6 : BufTy.Contents (Elt Ideal) arg6.view.ty) (X_arg7 : BufTy.Contents (Elt Ideal) arg7.view.ty) (X_arg18 : BufTy.Contents (Elt Ideal) arg18.view.ty) (X_arg19 : BufTy.Contents (Elt Ideal) arg19.view.ty) (X_arg20 : BufTy.Contents (Elt Ideal) arg20.view.ty) (X_arg21 : BufTy.Contents (Elt Ideal) arg21.view.ty)
  (S T : Side) (N : Lens)

/-- The loop's writes, before trip `m`. -/
theorem loop_fits (h : Held S i arg2 X_arg2 arg6 X_arg6 arg18 X_arg18 arg19 X_arg19) (h' : Held T i arg3 X_arg3 arg7 X_arg7 arg20 X_arg20 arg21 X_arg21) (ha0 : arg0 = BitVec.ofNat 32 (i 0).val)
    (hv0 : v0.toNat = 768 + N.n 0) (hv0' : 768 ≤ (show BitVec 32 from v0).toInt) (hv2 : v2.toNat = 768 + N.n 1) (hv2' : 768 ≤ (show BitVec 32 from v2).toInt)
    (hv1 : v1 = BitVec.ofNat 32 (N.n 0)) (hv3 : v3 = BitVec.ofNat 32 (N.n 1)) :
    ∀ m, m ≤ k0_t1_loop.trips → LoopFits S T N i m (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg0 v0 k0_hw1 v1 v2 k0_hw2 v3 X_arg2 X_arg3 X_arg6 X_arg7 X_arg18 X_arg19 X_arg20 X_arg21 m)
  | 0, _ => by
    have e : pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg0 v0 k0_hw1 v1 v2 k0_hw2 v3 X_arg2 X_arg3 X_arg6 X_arg7 X_arg18 X_arg19 X_arg20 X_arg21 0 = ([], [], [], [], [], [], [], [], [], []) := rfl
    rw [e]
    exact ⟨Fits.nil.mono (fun y hy => by omega), Fits.nil.mono (fun y hy => by omega), Fits.nil.mono (fun y hy => by omega), Fits.nil.mono (fun y hy => by omega), Fits.nil.mono (fun y hy => by omega), Fits.nil.mono (fun y hy => by omega), Fits.nil.mono (fun y hy => by omega), Fits.nil.mono (fun y hy => by omega), Fits.nil.mono (fun y hy => by omega), Fits.nil.mono (fun y hy => by omega)⟩
  | m + 1, hm => by
    have hm' : m < k0_t1_loop.trips := hm
    have wb : ∀ a : ℕ, a < m + 1 → a = m ∨ a < m := fun a ha => by omega
    have ws : ∀ a o : ℕ, o ≤ a ∧ a < o + (m + 1) → a = o + m ∨ (o ≤ a ∧ a < o + m) := fun a o ha => by omega
    have IH := loop_fits h h' ha0 hv0 hv0' hv2 hv2' hv1 hv3 m hm'.le
    have e := pb_k0_t1_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg0 v0 k0_hw1 v1 v2 k0_hw2 v3 X_arg2 X_arg3 X_arg6 X_arg7 X_arg18 X_arg19 X_arg20 X_arg21 ⟨m, hm'⟩
    rw [show m + 1 = (⟨m, hm'⟩ : Fin k0_t1_loop.trips).val + 1 from rfl, e]
    constructor
    · exact (Fits.append (tripK_win 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg0 v0 k0_hw1 v1 v2 k0_hw2 v3 X_arg2 X_arg3 X_arg6 X_arg7 X_arg18 X_arg19 X_arg20 X_arg21 ⟨m, hm'⟩ S N h hv0 hv0' hv2 hv2' hv1 hv3) IH.f8).mono (fun y hy => wb _ hy)
    · exact (Fits.append (tripV_win 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg0 v0 k0_hw1 v1 v2 k0_hw2 v3 X_arg2 X_arg3 X_arg6 X_arg7 X_arg18 X_arg19 X_arg20 X_arg21 ⟨m, hm'⟩ T N h' hv0 hv0' hv2 hv2' hv1 hv3) IH.f9).mono (fun y hy => wb _ hy)
    · exact (Fits.append (tripK_code 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg0 v0 k0_hw1 v1 v2 k0_hw2 v3 X_arg2 X_arg3 X_arg6 X_arg7 X_arg18 X_arg19 X_arg20 X_arg21 ⟨m, hm'⟩ S N h ha0 hv1 hv3) IH.f10).mono (fun y hy => wb _ hy)
    · exact (Fits.append (tripV_code 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg0 v0 k0_hw1 v1 v2 k0_hw2 v3 X_arg2 X_arg3 X_arg6 X_arg7 X_arg18 X_arg19 X_arg20 X_arg21 ⟨m, hm'⟩ T N h' ha0 hv1 hv3) IH.f13).mono (fun y hy => wb _ hy)
    · exact (Fits.append (tripK_deq 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg0 v0 k0_hw1 v1 v2 k0_hw2 v3 X_arg2 X_arg3 X_arg6 X_arg7 X_arg18 X_arg19 X_arg20 X_arg21 ⟨m, hm'⟩ S N h ha0 hv1 hv3) IH.f16).mono (fun y hy => wb _ hy)
    · exact (Fits.append (tripV_deq 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg0 v0 k0_hw1 v1 v2 k0_hw2 v3 X_arg2 X_arg3 X_arg6 X_arg7 X_arg18 X_arg19 X_arg20 X_arg21 ⟨m, hm'⟩ T N h' ha0 hv1 hv3) IH.f17).mono (fun y hy => wb _ hy)
    · exact (Fits.append (tripK_scale 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg0 v0 k0_hw1 v1 v2 k0_hw2 v3 X_arg2 X_arg3 X_arg6 X_arg7 X_arg18 X_arg19 X_arg20 X_arg21 ⟨m, hm'⟩ S N h ha0 hv1 hv3) IH.f22).mono (fun y hy => ws _ _ hy)
    · exact (Fits.append (tripK_zero 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg0 v0 k0_hw1 v1 v2 k0_hw2 v3 X_arg2 X_arg3 X_arg6 X_arg7 X_arg18 X_arg19 X_arg20 X_arg21 ⟨m, hm'⟩ S N h ha0 hv1 hv3) IH.f23).mono (fun y hy => ws _ _ hy)
    · exact (Fits.append (tripV_scale 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg0 v0 k0_hw1 v1 v2 k0_hw2 v3 X_arg2 X_arg3 X_arg6 X_arg7 X_arg18 X_arg19 X_arg20 X_arg21 ⟨m, hm'⟩ T N h' ha0 hv1 hv3) IH.f24).mono (fun y hy => ws _ _ hy)
    · exact (Fits.append (tripV_zero 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg0 v0 k0_hw1 v1 v2 k0_hw2 v3 X_arg2 X_arg3 X_arg6 X_arg7 X_arg18 X_arg19 X_arg20 X_arg21 ⟨m, hm'⟩ T N h' ha0 hv1 hv3) IH.f25).mono (fun y hy => ws _ _ hy)

end Cert.KernelIdeal.Val

end
-- ==== Proof.Prep.lean ====
/- What the first step leaves in scratch: the permutations in the kernel's row order, as rows and as columns; and what the last
   step copies out of the scratch the scales and zero points are kept in. -/
module

public import proofs.«01_k».proof.Proof.Side

@[expose] public section

noncomputable section

namespace Cert.KernelIdeal.Val

open Cert.KernelIdeal Cert.KernelIdeal.Gen Cert.KernelIdeal.Hand Cert.Words Idealize.ShloMosaic Idealize.ShloMosaic.Pointwise

/-- The channel position the kernel keeps in row `a`: the even positions first, then the odd ones. -/
def pos (a : Fin 160) : Fin 160 := ⟨2 * (a.val % 80) + a.val / 80, by omega⟩

/-- The word the one-hot matrix compares with. -/
theorem pos_word (a : Fin 160) :
    Scalar.select (IntOp.cmpi .slt (BitVec.ofNat 32 a.val) 80#32) (IntOp.muli 2#32 (BitVec.ofNat 32 a.val))
      (IntOp.addi (IntOp.muli 2#32 (IntOp.subi (BitVec.ofNat 32 a.val) 80#32)) 1#32) = BitVec.ofNat 32 (pos a).val := by
  revert a; decide

theorem ofNat_eq_iff {a b : ℕ} (ha : a < 160) (hb : b < 160) : BitVec.ofNat 32 a = BitVec.ofNat 32 b ↔ a = b := by
  refine ⟨fun h => ?_, fun h => by rw [h]⟩
  have := congrArg BitVec.toNat h
  simp only [BitVec.toNat_ofNat] at this
  omega

/-- The one-hot matrix that reorders the channel positions. -/
theorem oneHot_at (r a : Fin 160) : k0_pay11 (F := Ideal) (ix2 r a) = if r = pos a then 1 else 0 := by
  unfold k0_pay11
  pointwise
  rw [pos_word]
  unfold Scalar.select
  exact if_congr ((IntOp.cmpi_eq).trans ((ofNat_eq_iff r.isLt (pos a).isLt).trans Fin.ext_iff.symm)) rfl rfl

theorem word_at (v : Vec Ideal S64x160 .i32) (H : Fin 64) (r : Fin 160) :
    k0_pay12 (F := Ideal) v (ix2 H r) = ((((show BitVec 32 from v (ix2 H r)).toInt : ℤ) : ℝ) : EReal) := by
  unfold k0_pay12
  pointwise
  rfl

theorem row_at (v : Vec Ideal S64x160 .i32) (H : Fin 64) (a : Fin 160) :
    k0_pay13 (F := Ideal) v (ix2 H a) = ((((show BitVec 32 from v (ix2 H (pos a))).toInt : ℤ) : ℝ) : EReal) := by
  unfold k0_pay13
  pointwise
  rw [Finset.sum_eq_single (pos a) (fun x _ hx => by rw [oneHot_at, if_neg hx, mul_zero]) (fun h => absurd (Finset.mem_univ _) h),
    oneHot_at, if_pos rfl, mul_one, word_at]

theorem col_at (v : Vec Ideal S64x160 .i32) (H : Fin 64) (a : Fin 160) :
    k0_pay14 (F := Ideal) v (ix2 a H) = ((((show BitVec 32 from v (ix2 H (pos a))).toInt : ℤ) : ℝ) : EReal) := by
  unfold k0_pay14
  pointwise
  rw [Finset.sum_eq_single (pos a) (fun x _ hx => by rw [oneHot_at, if_neg hx, zero_mul]) (fun h => absurd (Finset.mem_univ _) h),
    oneHot_at, if_pos rfl, one_mul, word_at]

/-- The second half's one-hot matrix is the first's. -/
theorem oneHot_eq (h) : k0_pay1 (F := Ideal) (iota .tc S160x160 32 [0] h) k0_pay15 k0_pay16 k0_pay17 = k0_pay11 (F := Ideal) := rfl

theorem pay3_eq (v : Vec Ideal S64x160 .i32) (h) : k0_pay3 (F := Ideal) (iota .tc S160x160 32 [0] h) k0_pay15 k0_pay16 k0_pay17 v = k0_pay13 (F := Ideal) v := rfl
theorem pay4_eq (v : Vec Ideal S64x160 .i32) (h) : k0_pay4 (F := Ideal) (iota .tc S160x160 32 [0] h) k0_pay15 k0_pay16 k0_pay17 v = k0_pay14 (F := Ideal) v := rfl

/-- The copy of one group's row, of every head. -/
theorem copy_at (v : Vec Ideal S1x64x128 .f32) (x : S1x1x64x128.Idx) : k0_pay10 (F := Ideal) v x = v (ix3 0 (x 2) (x 3)) := by
  unfold k0_pay10
  rw [eq_ix4 x]
  pointwise

/-- The small arrays of scales and zero points the last step writes. -/
def Side.lScale (S : Side) (N : Lens) : S2x5x64x128.Idx → EReal := fun x => S.scale N (x 0) (x 2) (x 1) (x 3)
def Side.lZero (S : Side) (N : Lens) : S2x5x64x128.Idx → EReal := fun x => S.zero N (x 0) (x 2) (x 1) (x 3)

/-- A scratch that holds the permutations as rows. -/
def Rows (S : Side) (X : S64x160.Idx → EReal) : Prop := ∀ (H : Fin 64) (a : Fin 160), X (ix2 H a) = (((S.P H a).val : ℝ) : EReal)
/-- A scratch that holds the permutations as columns. -/
def Cols (S : Side) (X : S160x128.Idx → EReal) : Prop := ∀ (a : Fin 160) (H : Fin 64), X (ix2 a ⟨H.val, by omega⟩) = (((S.P H a).val : ℝ) : EReal)
/-- A scratch that agrees with `G` on the heads of the first `t` steps. -/
def Kept (G : S2x512x128.Idx → EReal) (t : ℕ) (X : S2x512x128.Idx → EReal) : Prop := ∀ y, (y 1).val / 8 < 4 * t → X y = G y

/-- The permutation words hold the side's permutation, read in the kernel's row order. -/
def Perm (S : Side) (d : S64x160.Idx → BitVec 32) : Prop := ∀ (H : Fin 64) (a : Fin 160), (d (ix2 H (pos a))).toInt = ((S.P H a).val : ℤ)

/-- A strided load of one group's rows, copied. -/
theorem lane_at (a : Memref sig .tc .vmem S2x512x128 .f32) (X : BufTy.Contents (Elt Ideal) a.view.ty) (G : S2x512x128.Idx → EReal)
    (hX : ∀ y, a.view.read (Elt Ideal) X y = G y) (b : Fin 2) (g : Fin 5)
    (hb) (x : S1x1x64x128.Idx) :
    k0_pay10 (F := Ideal) (a.view.readAt (Elt Ideal) (⟨![b.val, g.val, 0], S1x64x128.size, ![1, 8, 1], hb⟩ : LoadRect S2x512x128) X) x
      = G (ix3 b ⟨8 * (x 2).val + g.val, by have : (x 2).val < 64 := (x 2).isLt; omega⟩ (x 3)) := by
  rw [copy_at, View.readAt_apply, hX]
  refine congrArg G ?_
  funext q
  apply Fin.ext
  match q with
  | ⟨0, _⟩ => show b.val + 1 * 0 = b.val; omega
  | ⟨1, _⟩ => show g.val + 8 * (x 2).val = 8 * (x 2).val + g.val; omega
  | ⟨2, _⟩ => show 0 + 1 * (x 3).val = (x 3).val; omega

theorem lScale_at (S : Side) (N : Lens) (b : Fin 2) (g : Fin 5) (H : Fin 64) (l : Fin 128) :
    S.gScale N (ix3 b ⟨8 * H.val + g.val, by omega⟩ l) = S.lScale N (ix4 b g H l) := by
  show S.scale N b _ (grp _) l = S.scale N b H g l
  congr 1
  · exact Fin.ext (by show (8 * H.val + g.val) / 8 = H.val; omega)
  · unfold grp
    have e : (8 * H.val + g.val) % 8 = g.val := by omega
    exact (dif_pos (show (8 * H.val + g.val) % 8 < 5 by omega)).trans (Fin.ext e)

theorem lZero_at (S : Side) (N : Lens) (b : Fin 2) (g : Fin 5) (H : Fin 64) (l : Fin 128) :
    S.gZero N (ix3 b ⟨8 * H.val + g.val, by omega⟩ l) = S.lZero N (ix4 b g H l) := by
  show S.zero N b _ (grp _) l = S.zero N b H g l
  congr 1
  · exact Fin.ext (by show (8 * H.val + g.val) / 8 = H.val; omega)
  · unfold grp
    have e : (8 * H.val + g.val) % 8 = g.val := by omega
    exact (dif_pos (show (8 * H.val + g.val) % 8 < 5 by omega)).trans (Fin.ext e)

end Cert.KernelIdeal.Val

end
-- ==== Proof.RunBody.lean ====
/- One grid point's body, run: what it leaves in its windows and its scratch, from what it was given. -/
module

public import proofs.«01_k».proof.Proof.KernelIdealBody
public import proofs.«01_k».proof.Proof.LoopFits
public import proofs.«01_k».proof.Proof.Prep

@[expose] public section

set_option maxRecDepth 16384
set_option maxHeartbeats 4000000

noncomputable section

namespace Cert.KernelIdeal.Val

open Cert.KernelIdeal Cert.KernelIdeal.Gen Cert.KernelIdeal.Hand
open Idealize.ShloMosaic Idealize.ShloMosaic.TcCoe Idealize.ShloMosaic.Tactic Idealize.ShloMosaic.Pointwise
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

/-- What a step is given: the lengths, the clip factors, the permutations and the caches' blocks. -/
structure Given (S T : Side) (N : Lens) (i : grid0.Coords) (d1 : S2.Idx → BitVec 32) (d2 : S5x64.Idx → EReal) (d3 : S5x64.Idx → EReal) (d4 : S64x160.Idx → BitVec 32) (d5 : S64x160.Idx → BitVec 32) (d6 : S2x4x160x896.Idx → EReal) (d7 : S2x4x160x896.Idx → EReal) : Prop where
  len : ∀ x, (d1 x).toNat = 768 + N.n (x 0)
  ge : ∀ x, 768 ≤ (d1 x).toInt
  clipK : ∀ (g : Fin 5) (H : Fin 64), d2 (ix2 g H) = S.C H g
  clipV : ∀ (g : Fin 5) (H : Fin 64), d3 (ix2 g H) = T.C H g
  permK : Perm S d4
  permV : Perm T d5
  dataK : ∀ (b : Fin 2) (h : Fin 4) (c : Fin 160) (l : Fin 896), d6 (ix4 b h c l) = S.X b (hdOf i h) c l
  dataV : ∀ (b : Fin 2) (h : Fin 4) (c : Fin 160) (l : Fin 896), d7 (ix4 b h c l) = T.X b (hdOf i h) c l

/-- What the scratch holds before step `t`: nothing before the first step; then the permutations, and the scales and zero points
    of the heads done. -/
structure Stored (S T : Side) (N : Lens) (t : ℕ) (d18 : S64x160.Idx → EReal) (d19 : S160x128.Idx → EReal) (d20 : S64x160.Idx → EReal) (d21 : S160x128.Idx → EReal) (d22 : S2x512x128.Idx → EReal) (d23 : S2x512x128.Idx → EReal) (d24 : S2x512x128.Idx → EReal) (d25 : S2x512x128.Idx → EReal) : Prop where
  rowK : 0 < t → Rows S d18
  colK : 0 < t → Cols S d19
  rowV : 0 < t → Rows T d20
  colV : 0 < t → Cols T d21
  scK : Kept (S.gScale N) t d22
  zeK : Kept (S.gZero N) t d23
  scV : Kept (T.gScale N) t d24
  zeV : Kept (T.gZero N) t d25

/-- The permutation rows, after the first step's writes or as they were. -/
theorem rows_prep (S : Side) (a : Memref sig .tc .vmem S64x160 .f32) (f : BufTy.Contents (Elt Ideal) a.view.ty) (v : S64x160.Idx → BitVec 32) (hv : Perm S v)
    (c : Prop) [Decidable c] (hf : ¬ c → Rows S (a.view.read (Elt Ideal) f)) (hb) :
    Rows S (a.view.read (Elt Ideal) (if hc : c then a.view.writes (Elt Ideal) f [⟨Rect.unit (s := S64x160) ![0, 0] S64x160.size hb, k0_pay13 (F := Ideal) v⟩] else f)) := by
  by_cases hc : c
  · rw [dif_pos hc]
    intro H a'
    refine (View.read_writes_apply_of_pieces a.view f (k0_pay13 (F := Ideal) v) _ (fun p hp x => ?_) _ ⟨_, List.mem_singleton_self _, ?_⟩).trans ?_
    · obtain rfl := List.mem_singleton.mp hp
      refine congrArg _ ?_
      funext q
      apply Fin.ext
      match q with
      | ⟨0, _⟩ => show (x 0).val = 0 + 1 * (x 0).val; omega
      | ⟨1, _⟩ => show (x 1).val = 0 + 1 * (x 1).val; omega
    · refine (Rect.mem_set_unit (inb := hb)).mpr fun q => ?_
      match q with
      | ⟨0, _⟩ => show 0 ≤ H.val ∧ H.val < 0 + 64; omega
      | ⟨1, _⟩ => show 0 ≤ a'.val ∧ a'.val < 0 + 160; omega
    · rw [row_at, hv H a', Int.cast_natCast]
  · rw [dif_neg hc]; exact hf hc

/-- The permutation columns, after the first step's writes or as they were. -/
theorem cols_prep (S : Side) (a : Memref sig .tc .vmem S160x128 .f32) (f : BufTy.Contents (Elt Ideal) a.view.ty) (v : S64x160.Idx → BitVec 32) (hv : Perm S v)
    (c : Prop) [Decidable c] (hf : ¬ c → Cols S (a.view.read (Elt Ideal) f)) (hb) :
    Cols S (a.view.read (Elt Ideal) (if hc : c then a.view.writes (Elt Ideal) f [⟨Rect.unit (s := S160x128) ![0, 0] S160x64.size hb, k0_pay14 (F := Ideal) v⟩] else f)) := by
  by_cases hc : c
  · rw [dif_pos hc]
    intro a' H
    refine (View.read_writes_apply_of_pieces a.view f (fun y => k0_pay14 (F := Ideal) v (ix2 (y 0) ⟨(y 1).val % 64, by omega⟩)) _ (fun p hp x => ?_) _ ⟨_, List.mem_singleton_self _, ?_⟩).trans ?_
    · obtain rfl := List.mem_singleton.mp hp
      refine congrArg _ ?_
      have h1 : (x 1).val < 64 := (x 1).isLt
      funext q
      apply Fin.ext
      match q with
      | ⟨0, _⟩ => show (x 0).val = 0 + 1 * (x 0).val; omega
      | ⟨1, _⟩ => show (x 1).val = (0 + 1 * (x 1).val) % 64; omega
    · refine (Rect.mem_set_unit (inb := hb)).mpr fun q => ?_
      match q with
      | ⟨0, _⟩ => show 0 ≤ a'.val ∧ a'.val < 0 + 160; omega
      | ⟨1, _⟩ => show 0 ≤ H.val ∧ H.val < 0 + 64; omega
    · have e : (⟨H.val % 64, by omega⟩ : Fin 64) = H := Fin.ext (by show H.val % 64 = H.val; omega)
      show k0_pay14 (F := Ideal) v (ix2 a' (⟨H.val % 64, _⟩ : Fin 64)) = _
      rw [e, col_at, hv H a', Int.cast_natCast]
  · rw [dif_neg hc]; exact hf hc

/-- The first step is the one the preparation runs in, and the last step the one the copies run in. -/
theorem first_iff (n : Fin 16) : Scalar.cmpi .ne (Scalar.extui (Scalar.cmpi .eq (BitVec.ofNat 32 n.val) 0#32) : BitVec 32) 0#32 = 1#1 ↔ n.val = 0 := by
  revert n; decide

theorem last_iff (i : grid0.Coords) : k0_cond2 i = 1#1 ↔ (i 0).val = 15 := by
  have key : ∀ n : Fin 16, Scalar.cmpi .ne (Scalar.extui (Scalar.cmpi .eq (BitVec.ofNat 32 n.val) 15#32) : BitVec 32) 0#32 = 1#1 ↔ n.val = 15 := by decide
  exact key (i 0)

/-- A step's operands for one cache, from what the step was given and what the scratch held. -/
theorem held_prep {S : Side} {i : grid0.Coords} {a2 : Memref sig .tc .smem S5x64 .f32} {X2 : BufTy.Contents (Elt Ideal) a2.view.ty}
    {a4 : Memref sig .tc .vmem S64x160 .i32} {X4 : BufTy.Contents (Elt Ideal) a4.view.ty}
    {a6 : Memref sig .tc .vmem S2x4x160x896 .bf16} {X6 : BufTy.Contents (Elt Ideal) a6.view.ty}
    {a18 : Memref sig .tc .vmem S64x160 .f32} {X18 : BufTy.Contents (Elt Ideal) a18.view.ty}
    {a19 : Memref sig .tc .vmem S160x128 .f32} {X19 : BufTy.Contents (Elt Ideal) a19.view.ty}
    (hclip : ∀ (g : Fin 5) (H : Fin 64), a2.view.read (Elt Ideal) X2 (ix2 g H) = S.C H g)
    (hperm : Perm S (a4.view.read (Elt Ideal) X4))
    (hdata : ∀ (b : Fin 2) (h : Fin 4) (c : Fin 160) (l : Fin 896), a6.view.read (Elt Ideal) X6 (ix4 b h c l) = S.X b (hdOf i h) c l)
    (h18 : 0 < (i 0).val → Rows S (a18.view.read (Elt Ideal) X18)) (h19 : 0 < (i 0).val → Cols S (a19.view.read (Elt Ideal) X19))
    (c : Prop) [Decidable c] (hc : c ↔ (i 0).val = 0) (hb4) (hb18) (hb19) :
    Held S i a2 X2 a6 X6 a18
      (if hc : c then a18.view.writes (Elt Ideal) X18 [⟨Rect.unit (s := S64x160) ![0, 0] S64x160.size hb18, k0_pay13 (F := Ideal) (View.readAt (Elt Ideal) a4.view (Rect.unit (s := S64x160) ![0, 0] S64x160.size hb4).toLoadRect X4)⟩] else X18) a19
      (if hc : c then a19.view.writes (Elt Ideal) X19 [⟨Rect.unit (s := S160x128) ![0, 0] S160x64.size hb19, k0_pay14 (F := Ideal) (View.readAt (Elt Ideal) a4.view (Rect.unit (s := S64x160) ![0, 0] S64x160.size hb4).toLoadRect X4)⟩] else X19) := by
  have hp : Perm S (View.readAt (Elt Ideal) a4.view (Rect.unit (s := S64x160) ![0, 0] S64x160.size hb4).toLoadRect X4) := by
    intro H a
    refine Eq.trans (congrArg BitVec.toInt ?_) (hperm H a)
    rw [View.readAt_apply]
    refine congrArg _ ?_
    funext q
    apply Fin.ext
    match q with
    | ⟨0, _⟩ => show 0 + 1 * H.val = H.val; omega
    | ⟨1, _⟩ => show 0 + 1 * (pos a).val = (pos a).val; omega
  exact ⟨hclip, hdata, rows_prep S a18 X18 _ hp c (fun h => h18 (Nat.pos_of_ne_zero fun h' => h (hc.mpr h'))) hb18,
    cols_prep S a19 X19 _ hp c (fun h => h19 (Nat.pos_of_ne_zero fun h' => h (hc.mpr h'))) hb19⟩

/-- A length loaded. -/
theorem word_len (N : Lens) (a : Memref sig .tc .smem S2 .i32) (X : BufTy.Contents (Elt Ideal) a.view.ty)
    (hlen : ∀ x, (show BitVec 32 from a.view.read (Elt Ideal) X x).toNat = 768 + N.n (x 0)) (b : Fin 2) (hb) (hf) :
    (show BitVec 32 from View.readAt (Elt Ideal) a.view (Rect.unit (s := S2) ![b.val] S1.size hb).toLoadRect X (Shape.Idx.first hf)).toNat = 768 + N.n b := by
  rw [View.readAt_apply]
  refine (hlen _).trans (congrArg (768 + N.n ·) (Fin.ext ?_))
  show b.val + 1 * 0 = b.val
  omega

/-- A length less the window's. -/
theorem word_sub {w : BitVec 32} {n : ℕ} (h : w.toNat = 768 + n) (hn : n ≤ 128) : Scalar.subi w 768#32 = BitVec.ofNat 32 n := by
  apply BitVec.eq_of_toNat_eq
  show (w - 768#32).toNat = _
  rw [BitVec.toNat_sub, h, BitVec.toNat_ofNat, BitVec.toNat_ofNat]
  omega

/-- Reading a small array after the last step's ten copies. -/
theorem copies_read (a : Memref sig .tc .vmem S2x512x128 .f32) (X : BufTy.Contents (Elt Ideal) a.view.ty) (G : S2x512x128.Idx → EReal) (L : S2x5x64x128.Idx → EReal)
    (hL : ∀ (b : Fin 2) (g : Fin 5) (H : Fin 64) (l : Fin 128), G (ix3 b ⟨8 * H.val + g.val, by omega⟩ l) = L (ix4 b g H l))
    (hX : ∀ y, a.view.read (Elt Ideal) X y = G y) (o : Memref sig .tc .vmem S2x5x64x128 .fp8e4m3) (f : BufTy.Contents (Elt Ideal) o.view.ty)
    (h14) (k14) (h13) (k13) (h12) (k12) (h11) (k11) (h10) (k10) (h04) (k04) (h03) (k03) (h02) (k02) (h01) (k01) (h00) (k00) :
    o.view.read (Elt Ideal) (o.view.writes (Elt Ideal) f [⟨Rect.unit (s := S2x5x64x128) ![1, 4, 0, 0] S1x1x64x128.size h14, k0_pay10 (F := Ideal) (a.view.readAt (Elt Ideal) (⟨![1, 4, 0], S1x64x128.size, ![1, 8, 1], k14⟩ : LoadRect S2x512x128) X)⟩,
      ⟨Rect.unit (s := S2x5x64x128) ![1, 3, 0, 0] S1x1x64x128.size h13, k0_pay10 (F := Ideal) (a.view.readAt (Elt Ideal) (⟨![1, 3, 0], S1x64x128.size, ![1, 8, 1], k13⟩ : LoadRect S2x512x128) X)⟩,
      ⟨Rect.unit (s := S2x5x64x128) ![1, 2, 0, 0] S1x1x64x128.size h12, k0_pay10 (F := Ideal) (a.view.readAt (Elt Ideal) (⟨![1, 2, 0], S1x64x128.size, ![1, 8, 1], k12⟩ : LoadRect S2x512x128) X)⟩,
      ⟨Rect.unit (s := S2x5x64x128) ![1, 1, 0, 0] S1x1x64x128.size h11, k0_pay10 (F := Ideal) (a.view.readAt (Elt Ideal) (⟨![1, 1, 0], S1x64x128.size, ![1, 8, 1], k11⟩ : LoadRect S2x512x128) X)⟩,
      ⟨Rect.unit (s := S2x5x64x128) ![1, 0, 0, 0] S1x1x64x128.size h10, k0_pay10 (F := Ideal) (a.view.readAt (Elt Ideal) (⟨![1, 0, 0], S1x64x128.size, ![1, 8, 1], k10⟩ : LoadRect S2x512x128) X)⟩,
      ⟨Rect.unit (s := S2x5x64x128) ![0, 4, 0, 0] S1x1x64x128.size h04, k0_pay10 (F := Ideal) (a.view.readAt (Elt Ideal) (⟨![0, 4, 0], S1x64x128.size, ![1, 8, 1], k04⟩ : LoadRect S2x512x128) X)⟩,
      ⟨Rect.unit (s := S2x5x64x128) ![0, 3, 0, 0] S1x1x64x128.size h03, k0_pay10 (F := Ideal) (a.view.readAt (Elt Ideal) (⟨![0, 3, 0], S1x64x128.size, ![1, 8, 1], k03⟩ : LoadRect S2x512x128) X)⟩,
      ⟨Rect.unit (s := S2x5x64x128) ![0, 2, 0, 0] S1x1x64x128.size h02, k0_pay10 (F := Ideal) (a.view.readAt (Elt Ideal) (⟨![0, 2, 0], S1x64x128.size, ![1, 8, 1], k02⟩ : LoadRect S2x512x128) X)⟩,
      ⟨Rect.unit (s := S2x5x64x128) ![0, 1, 0, 0] S1x1x64x128.size h01, k0_pay10 (F := Ideal) (a.view.readAt (Elt Ideal) (⟨![0, 1, 0], S1x64x128.size, ![1, 8, 1], k01⟩ : LoadRect S2x512x128) X)⟩,
      ⟨Rect.unit (s := S2x5x64x128) ![0, 0, 0, 0] S1x1x64x128.size h00, k0_pay10 (F := Ideal) (a.view.readAt (Elt Ideal) (⟨![0, 0, 0], S1x64x128.size, ![1, 8, 1], k00⟩ : LoadRect S2x512x128) X)⟩]) = L := by
  have key : ∀ (b : Fin 2) (g : Fin 5) (hb) (x : S1x1x64x128.Idx),
      k0_pay10 (F := Ideal) (a.view.readAt (Elt Ideal) (⟨![b.val, g.val, 0], S1x64x128.size, ![1, 8, 1], hb⟩ : LoadRect S2x512x128) X) x
        = L (ix4 b g (x 2) ⟨0 + (x 3).val, by have : (x 3).val < 128 := (x 3).isLt; omega⟩) := by
    intro b g hb x
    refine (lane_at a X G hX b g hb x).trans ((hL b g (x 2) (x 3)).trans (congrArg (fun q => L (ix4 b g (x 2) q)) (Fin.ext ?_)))
    show (x 3).val = 0 + (x 3).val
    omega
  have fit := (Fits.cons4 (e := .fp8e4m3) (G := L) (a := 2) (b := 5) (c := 64) (d := 128) (d' := 128) (Fits.cons4 (e := .fp8e4m3) (G := L) (a := 2) (b := 5) (c := 64) (d := 128) (d' := 128) (Fits.cons4 (e := .fp8e4m3) (G := L) (a := 2) (b := 5) (c := 64) (d := 128) (d' := 128) (Fits.cons4 (e := .fp8e4m3) (G := L) (a := 2) (b := 5) (c := 64) (d := 128) (d' := 128) (Fits.cons4 (e := .fp8e4m3) (G := L) (a := 2) (b := 5) (c := 64) (d := 128) (d' := 128) (Fits.cons4 (e := .fp8e4m3) (G := L) (a := 2) (b := 5) (c := 64) (d := 128) (d' := 128) (Fits.cons4 (e := .fp8e4m3) (G := L) (a := 2) (b := 5) (c := 64) (d := 128) (d' := 128) (Fits.cons4 (e := .fp8e4m3) (G := L) (a := 2) (b := 5) (c := 64) (d := 128) (d' := 128) (Fits.cons4 (e := .fp8e4m3) (G := L) (a := 2) (b := 5) (c := 64) (d := 128) (d' := 128) (Fits.cons4 (e := .fp8e4m3) (G := L) (a := 2) (b := 5) (c := 64) (d := 128) (d' := 128) (Fits.nil (s := S2x5x64x128) (e := .fp8e4m3) (G := L)) (hb := h00) 0 0 0 rfl (by omega) (k0_pay10 (F := Ideal) (a.view.readAt (Elt Ideal) (⟨![0, 0, 0], S1x64x128.size, ![1, 8, 1], k00⟩ : LoadRect S2x512x128) X)) (fun x => key 0 0 k00 x)) (hb := h01) 0 1 0 rfl (by omega) (k0_pay10 (F := Ideal) (a.view.readAt (Elt Ideal) (⟨![0, 1, 0], S1x64x128.size, ![1, 8, 1], k01⟩ : LoadRect S2x512x128) X)) (fun x => key 0 1 k01 x)) (hb := h02) 0 2 0 rfl (by omega) (k0_pay10 (F := Ideal) (a.view.readAt (Elt Ideal) (⟨![0, 2, 0], S1x64x128.size, ![1, 8, 1], k02⟩ : LoadRect S2x512x128) X)) (fun x => key 0 2 k02 x)) (hb := h03) 0 3 0 rfl (by omega) (k0_pay10 (F := Ideal) (a.view.readAt (Elt Ideal) (⟨![0, 3, 0], S1x64x128.size, ![1, 8, 1], k03⟩ : LoadRect S2x512x128) X)) (fun x => key 0 3 k03 x)) (hb := h04) 0 4 0 rfl (by omega) (k0_pay10 (F := Ideal) (a.view.readAt (Elt Ideal) (⟨![0, 4, 0], S1x64x128.size, ![1, 8, 1], k04⟩ : LoadRect S2x512x128) X)) (fun x => key 0 4 k04 x)) (hb := h10) 1 0 0 rfl (by omega) (k0_pay10 (F := Ideal) (a.view.readAt (Elt Ideal) (⟨![1, 0, 0], S1x64x128.size, ![1, 8, 1], k10⟩ : LoadRect S2x512x128) X)) (fun x => key 1 0 k10 x)) (hb := h11) 1 1 0 rfl (by omega) (k0_pay10 (F := Ideal) (a.view.readAt (Elt Ideal) (⟨![1, 1, 0], S1x64x128.size, ![1, 8, 1], k11⟩ : LoadRect S2x512x128) X)) (fun x => key 1 1 k11 x)) (hb := h12) 1 2 0 rfl (by omega) (k0_pay10 (F := Ideal) (a.view.readAt (Elt Ideal) (⟨![1, 2, 0], S1x64x128.size, ![1, 8, 1], k12⟩ : LoadRect S2x512x128) X)) (fun x => key 1 2 k12 x)) (hb := h13) 1 3 0 rfl (by omega) (k0_pay10 (F := Ideal) (a.view.readAt (Elt Ideal) (⟨![1, 3, 0], S1x64x128.size, ![1, 8, 1], k13⟩ : LoadRect S2x512x128) X)) (fun x => key 1 3 k13 x)) (hb := h14) 1 4 0 rfl (by omega) (k0_pay10 (F := Ideal) (a.view.readAt (Elt Ideal) (⟨![1, 4, 0], S1x64x128.size, ![1, 8, 1], k14⟩ : LoadRect S2x512x128) X)) (fun x => key 1 4 k14 x))
  funext y
  refine fit.read _ f y (Or.inl ?_)
  have h3 : (y 3).val < 128 := (y 3).isLt
  have h0 : (y 0).val < 2 := (y 0).isLt
  have h1 : (y 1).val < 5 := (y 1).isLt
  have hb : (y 0).val = 0 ∨ (y 0).val = 1 := by omega
  have hg : (y 1).val = 0 ∨ (y 1).val = 1 ∨ (y 1).val = 2 ∨ (y 1).val = 3 ∨ (y 1).val = 4 := by omega
  clear fit key
  rcases hb with hb | hb <;> rcases hg with hg | hg | hg | hg | hg <;> simp [hb, hg] <;> omega

/-- A cover of the heads up to and including a step's. -/
theorem upto {t y : ℕ} (h : y < 4 * (t + 1)) : (4 * t ≤ y ∧ y < 4 * t + 4) ∨ y < 4 * t := by omega

/-- The body's triple with values, for any continuation. -/
theorem kernelRunV (c : Dev nD) (i : grid0.Coords) (arg1 : Memref sig .tc .smem S2 .i32) (harg1 : arg1.IsWhole) (arg2 : Memref sig .tc .smem S5x64 .f32) (harg2 : arg2.IsWhole) (arg3 : Memref sig .tc .smem S5x64 .f32) (harg3 : arg3.IsWhole) (arg4 : Memref sig .tc .vmem S64x160 .i32) (harg4 : arg4.IsWhole) (arg5 : Memref sig .tc .vmem S64x160 .i32) (harg5 : arg5.IsWhole) (arg6 : Memref sig .tc .vmem S2x4x160x896 .bf16) (harg6 : arg6.IsWhole) (arg7 : Memref sig .tc .vmem S2x4x160x896 .bf16) (harg7 : arg7.IsWhole) (arg8 : Memref sig .tc .vmem S2x4x160x768 .bf16) (harg8 : arg8.IsWhole) (arg9 : Memref sig .tc .vmem S2x4x160x768 .bf16) (harg9 : arg9.IsWhole) (arg10 : Memref sig .tc .vmem S2x4x80x128 .i8) (harg10 : arg10.IsWhole) (arg11 : Memref sig .tc .vmem S2x5x64x128 .fp8e4m3) (harg11 : arg11.IsWhole) (arg12 : Memref sig .tc .vmem S2x5x64x128 .fp8e4m3) (harg12 : arg12.IsWhole) (arg13 : Memref sig .tc .vmem S2x4x80x128 .i8) (harg13 : arg13.IsWhole) (arg14 : Memref sig .tc .vmem S2x5x64x128 .fp8e4m3) (harg14 : arg14.IsWhole) (arg15 : Memref sig .tc .vmem S2x5x64x128 .fp8e4m3) (harg15 : arg15.IsWhole) (arg16 : Memref sig .tc .vmem S2x4x160x128 .bf16) (harg16 : arg16.IsWhole) (arg17 : Memref sig .tc .vmem S2x4x160x128 .bf16) (harg17 : arg17.IsWhole) (arg18 : Memref sig .tc .vmem S64x160 .f32) (harg18 : arg18.IsWhole) (arg19 : Memref sig .tc .vmem S160x128 .f32) (harg19 : arg19.IsWhole) (arg20 : Memref sig .tc .vmem S64x160 .f32) (harg20 : arg20.IsWhole) (arg21 : Memref sig .tc .vmem S160x128 .f32) (harg21 : arg21.IsWhole) (arg22 : Memref sig .tc .vmem S2x512x128 .f32) (harg22 : arg22.IsWhole) (arg23 : Memref sig .tc .vmem S2x512x128 .f32) (harg23 : arg23.IsWhole) (arg24 : Memref sig .tc .vmem S2x512x128 .f32) (harg24 : arg24.IsWhole) (arg25 : Memref sig .tc .vmem S2x512x128 .f32) (harg25 : arg25.IsWhole)
    (S T : Side) (N : Lens) (d1 : S2.Idx → BitVec 32) (d2 : S5x64.Idx → EReal) (d3 : S5x64.Idx → EReal) (d4 : S64x160.Idx → BitVec 32) (d5 : S64x160.Idx → BitVec 32) (d6 : S2x4x160x896.Idx → EReal) (d7 : S2x4x160x896.Idx → EReal) (d18 : S64x160.Idx → EReal) (d19 : S160x128.Idx → EReal) (d20 : S64x160.Idx → EReal) (d21 : S160x128.Idx → EReal) (d22 : S2x512x128.Idx → EReal) (d23 : S2x512x128.Idx → EReal) (d24 : S2x512x128.Idx → EReal) (d25 : S2x512x128.Idx → EReal)
    (hg : Given S T N i d1 d2 d3 d4 d5 d6 d7) (hs : Stored S T N (i 0).val d18 d19 d20 d21 d22 d23 d24 d25) (K : PUnit → sProp 𝕄) :
  iprop(owns (c : Thread nD τ) arg1 fullShare d1 ∗ owns (c : Thread nD τ) arg2 fullShare d2 ∗ owns (c : Thread nD τ) arg3 fullShare d3 ∗ owns (c : Thread nD τ) arg4 fullShare d4 ∗ owns (c : Thread nD τ) arg5 fullShare d5 ∗ owns (c : Thread nD τ) arg6 fullShare d6 ∗ owns (c : Thread nD τ) arg7 fullShare d7 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ owns (c : Thread nD τ) arg18 fullShare d18 ∗ owns (c : Thread nD τ) arg19 fullShare d19 ∗ owns (c : Thread nD τ) arg20 fullShare d20 ∗ owns (c : Thread nD τ) arg21 fullShare d21 ∗ owns (c : Thread nD τ) arg22 fullShare d22 ∗ owns (c : Thread nD τ) arg23 fullShare d23 ∗ owns (c : Thread nD τ) arg24 fullShare d24 ∗ owns (c : Thread nD τ) arg25 fullShare d25 ∗ ((owns (c : Thread nD τ) arg1 fullShare d1 ∗ owns (c : Thread nD τ) arg2 fullShare d2 ∗ owns (c : Thread nD τ) arg3 fullShare d3 ∗ owns (c : Thread nD τ) arg4 fullShare d4 ∗ owns (c : Thread nD τ) arg5 fullShare d5 ∗ owns (c : Thread nD τ) arg6 fullShare d6 ∗ owns (c : Thread nD τ) arg7 fullShare d7 ∗ owns (c : Thread nD τ) arg8 fullShare (S.gWin N i) ∗ owns (c : Thread nD τ) arg9 fullShare (T.gWin N i) ∗ owns (c : Thread nD τ) arg10 fullShare (S.gCode N i) ∗ (∃ d, ⌜(i 0).val = 15 → d = S.lScale N⌝ ∗ owns (c : Thread nD τ) arg11 fullShare d) ∗ (∃ d, ⌜(i 0).val = 15 → d = S.lZero N⌝ ∗ owns (c : Thread nD τ) arg12 fullShare d) ∗ owns (c : Thread nD τ) arg13 fullShare (T.gCode N i) ∗ (∃ d, ⌜(i 0).val = 15 → d = T.lScale N⌝ ∗ owns (c : Thread nD τ) arg14 fullShare d) ∗ (∃ d, ⌜(i 0).val = 15 → d = T.lZero N⌝ ∗ owns (c : Thread nD τ) arg15 fullShare d) ∗ owns (c : Thread nD τ) arg16 fullShare (S.gDeq N i) ∗ owns (c : Thread nD τ) arg17 fullShare (T.gDeq N i) ∗ (∃ d18 d19 d20 d21 d22 d23 d24 d25, ⌜Stored S T N ((i 0).val + 1) d18 d19 d20 d21 d22 d23 d24 d25⌝ ∗ owns (c : Thread nD τ) arg18 fullShare d18 ∗ owns (c : Thread nD τ) arg19 fullShare d19 ∗ owns (c : Thread nD τ) arg20 fullShare d20 ∗ owns (c : Thread nD τ) arg21 fullShare d21 ∗ owns (c : Thread nD τ) arg22 fullShare d22 ∗ owns (c : Thread nD τ) arg23 fullShare d23 ∗ owns (c : Thread nD τ) arg24 fullShare d24 ∗ owns (c : Thread nD τ) arg25 fullShare d25)) -∗ K ⟨⟩))
  ⊢ wp frame (wpE (defs₀ (F := Ideal)) Variants.none c none) Set.univ
             (cc0_skvq_store i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K := by
  simp only [cc0_skvq_store_eq_skeleton]; unfold cc0_skvq_store_skel
  unfold owns
  iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%f18, %e18, H18⟩, ⟨%f19, %e19, H19⟩, ⟨%f20, %e20, H20⟩, ⟨%f21, %e21, H21⟩, ⟨%f22, %e22, H22⟩, ⟨%f23, %e23, H23⟩, ⟨%f24, %e24, H24⟩, ⟨%f25, %e25, H25⟩, Hk⟩
  have hw : ∀ (r : Rect S2) (x), 768 ≤ (show BitVec 32 from arg1.view.readAt (Elt Ideal) r.toLoadRect f1 x).toInt :=
    fun r x => by rw [View.readAt_apply, e1]; exact hg.ge _
  sl_exec (disch := first | exact chk1 (hw _ _) | exact chk2 (hw _ _))
  sl_step

  have hlen : ∀ x, (show BitVec 32 from arg1.view.read (Elt Ideal) f1 x).toNat = 768 + N.n (x 0) := fun x => (congrArg BitVec.toNat (congrFun e1 x)).trans (hg.len x)
  have h4 : ∀ y : ℕ, y < 4 → y < k0_t1_loop.trips := fun y h => h
  have q22 : ∀ y, (y 1).val / 8 < 4 * (i 0).val → arg22.view.read (Elt Ideal) f22 y = S.gScale N y := fun y h => (congrFun e22 y).trans (hs.scK y h)
  have q23 : ∀ y, (y 1).val / 8 < 4 * (i 0).val → arg23.view.read (Elt Ideal) f23 y = S.gZero N y := fun y h => (congrFun e23 y).trans (hs.zeK y h)
  have q24 : ∀ y, (y 1).val / 8 < 4 * (i 0).val → arg24.view.read (Elt Ideal) f24 y = T.gScale N y := fun y h => (congrFun e24 y).trans (hs.scV y h)
  have q25 : ∀ y, (y 1).val / 8 < 4 * (i 0).val → arg25.view.read (Elt Ideal) f25 y = T.gZero N y := fun y h => (congrFun e25 y).trans (hs.zeV y h)
  iapply Hk
  isplitl [H1]
  · iexists _; isplitr; swap; · iexact H1
    ipureintro; exact e1
  isplitl [H2]
  · iexists _; isplitr; swap; · iexact H2
    ipureintro; exact e2
  isplitl [H3]
  · iexists _; isplitr; swap; · iexact H3
    ipureintro; exact e3
  isplitl [H4]
  · iexists _; isplitr; swap; · iexact H4
    ipureintro; exact e4
  isplitl [H5]
  · iexists _; isplitr; swap; · iexact H5
    ipureintro; exact e5
  isplitl [H6]
  · iexists _; isplitr; swap; · iexact H6
    ipureintro; exact e6
  isplitl [H7]
  · iexists _; isplitr; swap; · iexact H7
    ipureintro; exact e7
  isplitl [H8]
  · iexists _; isplitr; swap; · iexact H8
    ipureintro
    funext y
    exact Fits.read (LoopFits.f8 (loop_fits _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ S T N (held_prep (fun g H => (congrFun e2 _).trans (hg.clipK g H)) (e4 ▸ hg.permK) (fun b h c l => (congrFun e6 _).trans (hg.dataK b h c l)) (fun h => e18 ▸ hs.rowK h) (fun h => e19 ▸ hs.colK h) _ (first_iff (i 0)) inb_S64x160_S64x160_0_0 inb_S64x160_S64x160_0_0 inb_S160x128_S160x64_0_0) (held_prep (fun g H => (congrFun e3 _).trans (hg.clipV g H)) (e5 ▸ hg.permV) (fun b h c l => (congrFun e7 _).trans (hg.dataV b h c l)) (fun h => e20 ▸ hs.rowV h) (fun h => e21 ▸ hs.colV h) _ (first_iff (i 0)) inb_S64x160_S64x160_0_0 inb_S64x160_S64x160_0_0 inb_S160x128_S160x64_0_0) rfl (word_len N arg1 f1 hlen 0 _ (show 0 < S1.numel by decide)) (hw _ _) (word_len N arg1 f1 hlen 1 _ (show 0 < S1.numel by decide)) (hw _ _) (word_sub (word_len N arg1 f1 hlen 0 _ (show 0 < S1.numel by decide)) (N.le 0)) (word_sub (word_len N arg1 f1 hlen 1 _ (show 0 < S1.numel by decide)) (N.le 1)) _ le_rfl)) _ _ y (Or.inl (h4 _ (y 1).isLt))
  isplitl [H9]
  · iexists _; isplitr; swap; · iexact H9
    ipureintro
    funext y
    exact Fits.read (LoopFits.f9 (loop_fits _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ S T N (held_prep (fun g H => (congrFun e2 _).trans (hg.clipK g H)) (e4 ▸ hg.permK) (fun b h c l => (congrFun e6 _).trans (hg.dataK b h c l)) (fun h => e18 ▸ hs.rowK h) (fun h => e19 ▸ hs.colK h) _ (first_iff (i 0)) inb_S64x160_S64x160_0_0 inb_S64x160_S64x160_0_0 inb_S160x128_S160x64_0_0) (held_prep (fun g H => (congrFun e3 _).trans (hg.clipV g H)) (e5 ▸ hg.permV) (fun b h c l => (congrFun e7 _).trans (hg.dataV b h c l)) (fun h => e20 ▸ hs.rowV h) (fun h => e21 ▸ hs.colV h) _ (first_iff (i 0)) inb_S64x160_S64x160_0_0 inb_S64x160_S64x160_0_0 inb_S160x128_S160x64_0_0) rfl (word_len N arg1 f1 hlen 0 _ (show 0 < S1.numel by decide)) (hw _ _) (word_len N arg1 f1 hlen 1 _ (show 0 < S1.numel by decide)) (hw _ _) (word_sub (word_len N arg1 f1 hlen 0 _ (show 0 < S1.numel by decide)) (N.le 0)) (word_sub (word_len N arg1 f1 hlen 1 _ (show 0 < S1.numel by decide)) (N.le 1)) _ le_rfl)) _ _ y (Or.inl (h4 _ (y 1).isLt))
  isplitl [H10]
  · iexists _; isplitr; swap; · iexact H10
    ipureintro
    funext y
    exact Fits.read (LoopFits.f10 (loop_fits _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ S T N (held_prep (fun g H => (congrFun e2 _).trans (hg.clipK g H)) (e4 ▸ hg.permK) (fun b h c l => (congrFun e6 _).trans (hg.dataK b h c l)) (fun h => e18 ▸ hs.rowK h) (fun h => e19 ▸ hs.colK h) _ (first_iff (i 0)) inb_S64x160_S64x160_0_0 inb_S64x160_S64x160_0_0 inb_S160x128_S160x64_0_0) (held_prep (fun g H => (congrFun e3 _).trans (hg.clipV g H)) (e5 ▸ hg.permV) (fun b h c l => (congrFun e7 _).trans (hg.dataV b h c l)) (fun h => e20 ▸ hs.rowV h) (fun h => e21 ▸ hs.colV h) _ (first_iff (i 0)) inb_S64x160_S64x160_0_0 inb_S64x160_S64x160_0_0 inb_S160x128_S160x64_0_0) rfl (word_len N arg1 f1 hlen 0 _ (show 0 < S1.numel by decide)) (hw _ _) (word_len N arg1 f1 hlen 1 _ (show 0 < S1.numel by decide)) (hw _ _) (word_sub (word_len N arg1 f1 hlen 0 _ (show 0 < S1.numel by decide)) (N.le 0)) (word_sub (word_len N arg1 f1 hlen 1 _ (show 0 < S1.numel by decide)) (N.le 1)) _ le_rfl)) _ _ y (Or.inl (h4 _ (y 1).isLt))
  isplitl [H11]
  · iexists _; isplitr; swap
    · iexists _; isplitr; swap; · iexact H11
      ipureintro; rfl
    ipureintro
    intro h15
    rw [dif_pos ((last_iff i).2 h15)]
    refine copies_read arg22 _ (S.gScale N) (S.lScale N) (lScale_at S N) ?_ arg11 f11 _ _ _ _ _ _ _ _ _ _ _ _ _ _ _ _ _ _ _ _
    intro y
    have hy : (y 1).val / 8 < 4 * ((i 0).val + 1) := by have : (y 1).val < 512 := (y 1).isLt; omega
    exact Fits.read (LoopFits.f22 (loop_fits _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ S T N (held_prep (fun g H => (congrFun e2 _).trans (hg.clipK g H)) (e4 ▸ hg.permK) (fun b h c l => (congrFun e6 _).trans (hg.dataK b h c l)) (fun h => e18 ▸ hs.rowK h) (fun h => e19 ▸ hs.colK h) _ (first_iff (i 0)) inb_S64x160_S64x160_0_0 inb_S64x160_S64x160_0_0 inb_S160x128_S160x64_0_0) (held_prep (fun g H => (congrFun e3 _).trans (hg.clipV g H)) (e5 ▸ hg.permV) (fun b h c l => (congrFun e7 _).trans (hg.dataV b h c l)) (fun h => e20 ▸ hs.rowV h) (fun h => e21 ▸ hs.colV h) _ (first_iff (i 0)) inb_S64x160_S64x160_0_0 inb_S64x160_S64x160_0_0 inb_S160x128_S160x64_0_0) rfl (word_len N arg1 f1 hlen 0 _ (show 0 < S1.numel by decide)) (hw _ _) (word_len N arg1 f1 hlen 1 _ (show 0 < S1.numel by decide)) (hw _ _) (word_sub (word_len N arg1 f1 hlen 0 _ (show 0 < S1.numel by decide)) (N.le 0)) (word_sub (word_len N arg1 f1 hlen 1 _ (show 0 < S1.numel by decide)) (N.le 1)) _ le_rfl)) _ _ y ((upto hy).imp_right (q22 y))
  isplitl [H12]
  · iexists _; isplitr; swap
    · iexists _; isplitr; swap; · iexact H12
      ipureintro; rfl
    ipureintro
    intro h15
    rw [dif_pos ((last_iff i).2 h15)]
    refine copies_read arg23 _ (S.gZero N) (S.lZero N) (lZero_at S N) ?_ arg12 f12 _ _ _ _ _ _ _ _ _ _ _ _ _ _ _ _ _ _ _ _
    intro y
    have hy : (y 1).val / 8 < 4 * ((i 0).val + 1) := by have : (y 1).val < 512 := (y 1).isLt; omega
    exact Fits.read (LoopFits.f23 (loop_fits _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ S T N (held_prep (fun g H => (congrFun e2 _).trans (hg.clipK g H)) (e4 ▸ hg.permK) (fun b h c l => (congrFun e6 _).trans (hg.dataK b h c l)) (fun h => e18 ▸ hs.rowK h) (fun h => e19 ▸ hs.colK h) _ (first_iff (i 0)) inb_S64x160_S64x160_0_0 inb_S64x160_S64x160_0_0 inb_S160x128_S160x64_0_0) (held_prep (fun g H => (congrFun e3 _).trans (hg.clipV g H)) (e5 ▸ hg.permV) (fun b h c l => (congrFun e7 _).trans (hg.dataV b h c l)) (fun h => e20 ▸ hs.rowV h) (fun h => e21 ▸ hs.colV h) _ (first_iff (i 0)) inb_S64x160_S64x160_0_0 inb_S64x160_S64x160_0_0 inb_S160x128_S160x64_0_0) rfl (word_len N arg1 f1 hlen 0 _ (show 0 < S1.numel by decide)) (hw _ _) (word_len N arg1 f1 hlen 1 _ (show 0 < S1.numel by decide)) (hw _ _) (word_sub (word_len N arg1 f1 hlen 0 _ (show 0 < S1.numel by decide)) (N.le 0)) (word_sub (word_len N arg1 f1 hlen 1 _ (show 0 < S1.numel by decide)) (N.le 1)) _ le_rfl)) _ _ y ((upto hy).imp_right (q23 y))
  isplitl [H13]
  · iexists _; isplitr; swap; · iexact H13
    ipureintro
    funext y
    exact Fits.read (LoopFits.f13 (loop_fits _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ S T N (held_prep (fun g H => (congrFun e2 _).trans (hg.clipK g H)) (e4 ▸ hg.permK) (fun b h c l => (congrFun e6 _).trans (hg.dataK b h c l)) (fun h => e18 ▸ hs.rowK h) (fun h => e19 ▸ hs.colK h) _ (first_iff (i 0)) inb_S64x160_S64x160_0_0 inb_S64x160_S64x160_0_0 inb_S160x128_S160x64_0_0) (held_prep (fun g H => (congrFun e3 _).trans (hg.clipV g H)) (e5 ▸ hg.permV) (fun b h c l => (congrFun e7 _).trans (hg.dataV b h c l)) (fun h => e20 ▸ hs.rowV h) (fun h => e21 ▸ hs.colV h) _ (first_iff (i 0)) inb_S64x160_S64x160_0_0 inb_S64x160_S64x160_0_0 inb_S160x128_S160x64_0_0) rfl (word_len N arg1 f1 hlen 0 _ (show 0 < S1.numel by decide)) (hw _ _) (word_len N arg1 f1 hlen 1 _ (show 0 < S1.numel by decide)) (hw _ _) (word_sub (word_len N arg1 f1 hlen 0 _ (show 0 < S1.numel by decide)) (N.le 0)) (word_sub (word_len N arg1 f1 hlen 1 _ (show 0 < S1.numel by decide)) (N.le 1)) _ le_rfl)) _ _ y (Or.inl (h4 _ (y 1).isLt))
  isplitl [H14]
  · iexists _; isplitr; swap
    · iexists _; isplitr; swap; · iexact H14
      ipureintro; rfl
    ipureintro
    intro h15
    rw [dif_pos ((last_iff i).2 h15)]
    refine copies_read arg24 _ (T.gScale N) (T.lScale N) (lScale_at T N) ?_ arg14 f14 _ _ _ _ _ _ _ _ _ _ _ _ _ _ _ _ _ _ _ _
    intro y
    have hy : (y 1).val / 8 < 4 * ((i 0).val + 1) := by have : (y 1).val < 512 := (y 1).isLt; omega
    exact Fits.read (LoopFits.f24 (loop_fits _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ S T N (held_prep (fun g H => (congrFun e2 _).trans (hg.clipK g H)) (e4 ▸ hg.permK) (fun b h c l => (congrFun e6 _).trans (hg.dataK b h c l)) (fun h => e18 ▸ hs.rowK h) (fun h => e19 ▸ hs.colK h) _ (first_iff (i 0)) inb_S64x160_S64x160_0_0 inb_S64x160_S64x160_0_0 inb_S160x128_S160x64_0_0) (held_prep (fun g H => (congrFun e3 _).trans (hg.clipV g H)) (e5 ▸ hg.permV) (fun b h c l => (congrFun e7 _).trans (hg.dataV b h c l)) (fun h => e20 ▸ hs.rowV h) (fun h => e21 ▸ hs.colV h) _ (first_iff (i 0)) inb_S64x160_S64x160_0_0 inb_S64x160_S64x160_0_0 inb_S160x128_S160x64_0_0) rfl (word_len N arg1 f1 hlen 0 _ (show 0 < S1.numel by decide)) (hw _ _) (word_len N arg1 f1 hlen 1 _ (show 0 < S1.numel by decide)) (hw _ _) (word_sub (word_len N arg1 f1 hlen 0 _ (show 0 < S1.numel by decide)) (N.le 0)) (word_sub (word_len N arg1 f1 hlen 1 _ (show 0 < S1.numel by decide)) (N.le 1)) _ le_rfl)) _ _ y ((upto hy).imp_right (q24 y))
  isplitl [H15]
  · iexists _; isplitr; swap
    · iexists _; isplitr; swap; · iexact H15
      ipureintro; rfl
    ipureintro
    intro h15
    rw [dif_pos ((last_iff i).2 h15)]
    refine copies_read arg25 _ (T.gZero N) (T.lZero N) (lZero_at T N) ?_ arg15 f15 _ _ _ _ _ _ _ _ _ _ _ _ _ _ _ _ _ _ _ _
    intro y
    have hy : (y 1).val / 8 < 4 * ((i 0).val + 1) := by have : (y 1).val < 512 := (y 1).isLt; omega
    exact Fits.read (LoopFits.f25 (loop_fits _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ S T N (held_prep (fun g H => (congrFun e2 _).trans (hg.clipK g H)) (e4 ▸ hg.permK) (fun b h c l => (congrFun e6 _).trans (hg.dataK b h c l)) (fun h => e18 ▸ hs.rowK h) (fun h => e19 ▸ hs.colK h) _ (first_iff (i 0)) inb_S64x160_S64x160_0_0 inb_S64x160_S64x160_0_0 inb_S160x128_S160x64_0_0) (held_prep (fun g H => (congrFun e3 _).trans (hg.clipV g H)) (e5 ▸ hg.permV) (fun b h c l => (congrFun e7 _).trans (hg.dataV b h c l)) (fun h => e20 ▸ hs.rowV h) (fun h => e21 ▸ hs.colV h) _ (first_iff (i 0)) inb_S64x160_S64x160_0_0 inb_S64x160_S64x160_0_0 inb_S160x128_S160x64_0_0) rfl (word_len N arg1 f1 hlen 0 _ (show 0 < S1.numel by decide)) (hw _ _) (word_len N arg1 f1 hlen 1 _ (show 0 < S1.numel by decide)) (hw _ _) (word_sub (word_len N arg1 f1 hlen 0 _ (show 0 < S1.numel by decide)) (N.le 0)) (word_sub (word_len N arg1 f1 hlen 1 _ (show 0 < S1.numel by decide)) (N.le 1)) _ le_rfl)) _ _ y ((upto hy).imp_right (q25 y))
  isplitl [H16]
  · iexists _; isplitr; swap; · iexact H16
    ipureintro
    funext y
    exact Fits.read (LoopFits.f16 (loop_fits _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ S T N (held_prep (fun g H => (congrFun e2 _).trans (hg.clipK g H)) (e4 ▸ hg.permK) (fun b h c l => (congrFun e6 _).trans (hg.dataK b h c l)) (fun h => e18 ▸ hs.rowK h) (fun h => e19 ▸ hs.colK h) _ (first_iff (i 0)) inb_S64x160_S64x160_0_0 inb_S64x160_S64x160_0_0 inb_S160x128_S160x64_0_0) (held_prep (fun g H => (congrFun e3 _).trans (hg.clipV g H)) (e5 ▸ hg.permV) (fun b h c l => (congrFun e7 _).trans (hg.dataV b h c l)) (fun h => e20 ▸ hs.rowV h) (fun h => e21 ▸ hs.colV h) _ (first_iff (i 0)) inb_S64x160_S64x160_0_0 inb_S64x160_S64x160_0_0 inb_S160x128_S160x64_0_0) rfl (word_len N arg1 f1 hlen 0 _ (show 0 < S1.numel by decide)) (hw _ _) (word_len N arg1 f1 hlen 1 _ (show 0 < S1.numel by decide)) (hw _ _) (word_sub (word_len N arg1 f1 hlen 0 _ (show 0 < S1.numel by decide)) (N.le 0)) (word_sub (word_len N arg1 f1 hlen 1 _ (show 0 < S1.numel by decide)) (N.le 1)) _ le_rfl)) _ _ y (Or.inl (h4 _ (y 1).isLt))
  isplitl [H17]
  · iexists _; isplitr; swap; · iexact H17
    ipureintro
    funext y
    exact Fits.read (LoopFits.f17 (loop_fits _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ S T N (held_prep (fun g H => (congrFun e2 _).trans (hg.clipK g H)) (e4 ▸ hg.permK) (fun b h c l => (congrFun e6 _).trans (hg.dataK b h c l)) (fun h => e18 ▸ hs.rowK h) (fun h => e19 ▸ hs.colK h) _ (first_iff (i 0)) inb_S64x160_S64x160_0_0 inb_S64x160_S64x160_0_0 inb_S160x128_S160x64_0_0) (held_prep (fun g H => (congrFun e3 _).trans (hg.clipV g H)) (e5 ▸ hg.permV) (fun b h c l => (congrFun e7 _).trans (hg.dataV b h c l)) (fun h => e20 ▸ hs.rowV h) (fun h => e21 ▸ hs.colV h) _ (first_iff (i 0)) inb_S64x160_S64x160_0_0 inb_S64x160_S64x160_0_0 inb_S160x128_S160x64_0_0) rfl (word_len N arg1 f1 hlen 0 _ (show 0 < S1.numel by decide)) (hw _ _) (word_len N arg1 f1 hlen 1 _ (show 0 < S1.numel by decide)) (hw _ _) (word_sub (word_len N arg1 f1 hlen 0 _ (show 0 < S1.numel by decide)) (N.le 0)) (word_sub (word_len N arg1 f1 hlen 1 _ (show 0 < S1.numel by decide)) (N.le 1)) _ le_rfl)) _ _ y (Or.inl (h4 _ (y 1).isLt))
  iexists _, _, _, _, _, _, _, _
  isplitr; swap
  · isplitl [H18]
    · iexists _; isplitr; swap; · iexact H18
      ipureintro; rfl
    isplitl [H19]
    · iexists _; isplitr; swap; · iexact H19
      ipureintro; rfl
    isplitl [H20]
    · iexists _; isplitr; swap; · iexact H20
      ipureintro; rfl
    isplitl [H21]
    · iexists _; isplitr; swap; · iexact H21
      ipureintro; rfl
    isplitl [H22]
    · iexists _; isplitr; swap; · iexact H22
      ipureintro; rfl
    isplitl [H23]
    · iexists _; isplitr; swap; · iexact H23
      ipureintro; rfl
    isplitl [H24]
    · iexists _; isplitr; swap; · iexact H24
      ipureintro; rfl
    iexists _; isplitr; swap; · iexact H25
    ipureintro; rfl
  ipureintro
  constructor
  · exact fun _ => (Held.row (held_prep (fun g H => (congrFun e2 _).trans (hg.clipK g H)) (e4 ▸ hg.permK) (fun b h c l => (congrFun e6 _).trans (hg.dataK b h c l)) (fun h => e18 ▸ hs.rowK h) (fun h => e19 ▸ hs.colK h) _ (first_iff (i 0)) inb_S64x160_S64x160_0_0 inb_S64x160_S64x160_0_0 inb_S160x128_S160x64_0_0))
  · exact fun _ => (Held.col (held_prep (fun g H => (congrFun e2 _).trans (hg.clipK g H)) (e4 ▸ hg.permK) (fun b h c l => (congrFun e6 _).trans (hg.dataK b h c l)) (fun h => e18 ▸ hs.rowK h) (fun h => e19 ▸ hs.colK h) _ (first_iff (i 0)) inb_S64x160_S64x160_0_0 inb_S64x160_S64x160_0_0 inb_S160x128_S160x64_0_0))
  · exact fun _ => (Held.row (held_prep (fun g H => (congrFun e3 _).trans (hg.clipV g H)) (e5 ▸ hg.permV) (fun b h c l => (congrFun e7 _).trans (hg.dataV b h c l)) (fun h => e20 ▸ hs.rowV h) (fun h => e21 ▸ hs.colV h) _ (first_iff (i 0)) inb_S64x160_S64x160_0_0 inb_S64x160_S64x160_0_0 inb_S160x128_S160x64_0_0))
  · exact fun _ => (Held.col (held_prep (fun g H => (congrFun e3 _).trans (hg.clipV g H)) (e5 ▸ hg.permV) (fun b h c l => (congrFun e7 _).trans (hg.dataV b h c l)) (fun h => e20 ▸ hs.rowV h) (fun h => e21 ▸ hs.colV h) _ (first_iff (i 0)) inb_S64x160_S64x160_0_0 inb_S64x160_S64x160_0_0 inb_S160x128_S160x64_0_0))
  · exact fun y hy => Fits.read (LoopFits.f22 (loop_fits _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ S T N (held_prep (fun g H => (congrFun e2 _).trans (hg.clipK g H)) (e4 ▸ hg.permK) (fun b h c l => (congrFun e6 _).trans (hg.dataK b h c l)) (fun h => e18 ▸ hs.rowK h) (fun h => e19 ▸ hs.colK h) _ (first_iff (i 0)) inb_S64x160_S64x160_0_0 inb_S64x160_S64x160_0_0 inb_S160x128_S160x64_0_0) (held_prep (fun g H => (congrFun e3 _).trans (hg.clipV g H)) (e5 ▸ hg.permV) (fun b h c l => (congrFun e7 _).trans (hg.dataV b h c l)) (fun h => e20 ▸ hs.rowV h) (fun h => e21 ▸ hs.colV h) _ (first_iff (i 0)) inb_S64x160_S64x160_0_0 inb_S64x160_S64x160_0_0 inb_S160x128_S160x64_0_0) rfl (word_len N arg1 f1 hlen 0 _ (show 0 < S1.numel by decide)) (hw _ _) (word_len N arg1 f1 hlen 1 _ (show 0 < S1.numel by decide)) (hw _ _) (word_sub (word_len N arg1 f1 hlen 0 _ (show 0 < S1.numel by decide)) (N.le 0)) (word_sub (word_len N arg1 f1 hlen 1 _ (show 0 < S1.numel by decide)) (N.le 1)) _ le_rfl)) _ _ y ((upto hy).imp_right (q22 y))
  · exact fun y hy => Fits.read (LoopFits.f23 (loop_fits _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ S T N (held_prep (fun g H => (congrFun e2 _).trans (hg.clipK g H)) (e4 ▸ hg.permK) (fun b h c l => (congrFun e6 _).trans (hg.dataK b h c l)) (fun h => e18 ▸ hs.rowK h) (fun h => e19 ▸ hs.colK h) _ (first_iff (i 0)) inb_S64x160_S64x160_0_0 inb_S64x160_S64x160_0_0 inb_S160x128_S160x64_0_0) (held_prep (fun g H => (congrFun e3 _).trans (hg.clipV g H)) (e5 ▸ hg.permV) (fun b h c l => (congrFun e7 _).trans (hg.dataV b h c l)) (fun h => e20 ▸ hs.rowV h) (fun h => e21 ▸ hs.colV h) _ (first_iff (i 0)) inb_S64x160_S64x160_0_0 inb_S64x160_S64x160_0_0 inb_S160x128_S160x64_0_0) rfl (word_len N arg1 f1 hlen 0 _ (show 0 < S1.numel by decide)) (hw _ _) (word_len N arg1 f1 hlen 1 _ (show 0 < S1.numel by decide)) (hw _ _) (word_sub (word_len N arg1 f1 hlen 0 _ (show 0 < S1.numel by decide)) (N.le 0)) (word_sub (word_len N arg1 f1 hlen 1 _ (show 0 < S1.numel by decide)) (N.le 1)) _ le_rfl)) _ _ y ((upto hy).imp_right (q23 y))
  · exact fun y hy => Fits.read (LoopFits.f24 (loop_fits _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ S T N (held_prep (fun g H => (congrFun e2 _).trans (hg.clipK g H)) (e4 ▸ hg.permK) (fun b h c l => (congrFun e6 _).trans (hg.dataK b h c l)) (fun h => e18 ▸ hs.rowK h) (fun h => e19 ▸ hs.colK h) _ (first_iff (i 0)) inb_S64x160_S64x160_0_0 inb_S64x160_S64x160_0_0 inb_S160x128_S160x64_0_0) (held_prep (fun g H => (congrFun e3 _).trans (hg.clipV g H)) (e5 ▸ hg.permV) (fun b h c l => (congrFun e7 _).trans (hg.dataV b h c l)) (fun h => e20 ▸ hs.rowV h) (fun h => e21 ▸ hs.colV h) _ (first_iff (i 0)) inb_S64x160_S64x160_0_0 inb_S64x160_S64x160_0_0 inb_S160x128_S160x64_0_0) rfl (word_len N arg1 f1 hlen 0 _ (show 0 < S1.numel by decide)) (hw _ _) (word_len N arg1 f1 hlen 1 _ (show 0 < S1.numel by decide)) (hw _ _) (word_sub (word_len N arg1 f1 hlen 0 _ (show 0 < S1.numel by decide)) (N.le 0)) (word_sub (word_len N arg1 f1 hlen 1 _ (show 0 < S1.numel by decide)) (N.le 1)) _ le_rfl)) _ _ y ((upto hy).imp_right (q24 y))
  · exact fun y hy => Fits.read (LoopFits.f25 (loop_fits _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ S T N (held_prep (fun g H => (congrFun e2 _).trans (hg.clipK g H)) (e4 ▸ hg.permK) (fun b h c l => (congrFun e6 _).trans (hg.dataK b h c l)) (fun h => e18 ▸ hs.rowK h) (fun h => e19 ▸ hs.colK h) _ (first_iff (i 0)) inb_S64x160_S64x160_0_0 inb_S64x160_S64x160_0_0 inb_S160x128_S160x64_0_0) (held_prep (fun g H => (congrFun e3 _).trans (hg.clipV g H)) (e5 ▸ hg.permV) (fun b h c l => (congrFun e7 _).trans (hg.dataV b h c l)) (fun h => e20 ▸ hs.rowV h) (fun h => e21 ▸ hs.colV h) _ (first_iff (i 0)) inb_S64x160_S64x160_0_0 inb_S64x160_S64x160_0_0 inb_S160x128_S160x64_0_0) rfl (word_len N arg1 f1 hlen 0 _ (show 0 < S1.numel by decide)) (hw _ _) (word_len N arg1 f1 hlen 1 _ (show 0 < S1.numel by decide)) (hw _ _) (word_sub (word_len N arg1 f1 hlen 0 _ (show 0 < S1.numel by decide)) (N.le 0)) (word_sub (word_len N arg1 f1 hlen 1 _ (show 0 < S1.numel by decide)) (N.le 1)) _ le_rfl)) _ _ y ((upto hy).imp_right (q25 y))

end Cert.KernelIdeal.Val

end
-- ==== Proof.RunVal.lean ====
/- The kernel's run with values: what every result array holds in the end, given what every step is given. -/
module

public import proofs.«01_k».proof.Proof.RunBody
public import proofs.«01_k».proof.Proof.KernelIdealFrame
public import Idealize.ShloMosaic.Lib.Pipeline.DatRel
public import Idealize.ShloMosaic.Lib.Pipeline.ArrRel
public import Idealize.ShloMosaic.Lib.Pipeline.ValueKit

@[expose] public section

set_option maxRecDepth 16384
set_option maxHeartbeats 1000000

noncomputable section

namespace Cert.KernelIdeal.Val

open Cert.KernelIdeal Cert.KernelIdeal.Gen
open Idealize.ShloMosaic Idealize.ShloMosaic.TcCoe Idealize.ShloMosaic.Tactic Idealize.ShloMosaic.Pointwise
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligationRel)
open Cert.KernelIdeal.Hand (forgets0 defs₀_row ΦA0_eq)

local notation "𝕄" => MT nD τ sig Unit (Elt Ideal) ℕ (UR sig nD τ) ℕ

variable (m : (ℓ : Loc nD τ sig) → Buf (Elt Ideal) ℓ) (ρ : Dev nD → PrngReg)
variable (S T : Dev nD → Side) (N : Dev nD → Lens)

/-- A grid point's coordinate is its number. -/
theorem coord_eq : ∀ t : Fin cfg0.N, ((cfg0.grid.coords t) 0).val = t.val := (by decide : ∀ t : Fin grid0.N, ((grid0.coords t) 0).val = t.val)

/-- What the body leaves in each result's window. -/
def Rl (c : Dev nD) (w : Fin 17) (t : Fin cfg0.N) (X : (win0 w).block.Idx → Elt Ideal (win0 w).elt) : Prop := match w, X with
  | ⟨0, _⟩, X => True
  | ⟨1, _⟩, X => True
  | ⟨2, _⟩, X => True
  | ⟨3, _⟩, X => True
  | ⟨4, _⟩, X => True
  | ⟨5, _⟩, X => True
  | ⟨6, _⟩, X => True
  | ⟨7, _⟩, X => X = (S c).gWin (N c) (grid0.coords t)
  | ⟨8, _⟩, X => X = (T c).gWin (N c) (grid0.coords t)
  | ⟨9, _⟩, X => X = (S c).gCode (N c) (grid0.coords t)
  | ⟨10, _⟩, X => t.val = 15 → X = (S c).lScale (N c)
  | ⟨11, _⟩, X => t.val = 15 → X = (S c).lZero (N c)
  | ⟨12, _⟩, X => X = (T c).gCode (N c) (grid0.coords t)
  | ⟨13, _⟩, X => t.val = 15 → X = (T c).lScale (N c)
  | ⟨14, _⟩, X => t.val = 15 → X = (T c).lZero (N c)
  | ⟨15, _⟩, X => X = (S c).gDeq (N c) (grid0.coords t)
  | ⟨16, _⟩, X => X = (T c).gDeq (N c) (grid0.coords t)
  | ⟨_ + 17, h⟩, _ => absurd h (Nat.not_lt.2 (Nat.le_add_left _ _))

/-- The scratch before step `t`, and the generator register at some state. -/
def ΦS (c : Dev nD) (t : ℕ) : sProp 𝕄 :=
  iprop((∃ e0 e1 e2 e3 e4 e5 e6 e7, ⌜Stored (S c) (T c) (N c) t e0 e1 e2 e3 e4 e5 e6 e7⌝ ∗ owns (c : Thread nD τ) (Memref.whole cc0_scratch0) fullShare e0 ∗ owns (c : Thread nD τ) (Memref.whole cc0_scratch1) fullShare e1 ∗ owns (c : Thread nD τ) (Memref.whole cc0_scratch2) fullShare e2 ∗ owns (c : Thread nD τ) (Memref.whole cc0_scratch3) fullShare e3 ∗ owns (c : Thread nD τ) (Memref.whole cc0_scratch4) fullShare e4 ∗ owns (c : Thread nD τ) (Memref.whole cc0_scratch5) fullShare e5 ∗ owns (c : Thread nD τ) (Memref.whole cc0_scratch6) fullShare e6 ∗ owns (c : Thread nD τ) (Memref.whole cc0_scratch7) fullShare e7) ∗ ∃ r, prngReg c r)

/-- The proof data on core `c`: each array as the region finds it, the inputs' blocks left in place, the scratch tracked. -/
def datsV (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => Pipeline.Dat.unnamed (cfg := cfg0) 7 t
    | ⟨8, _⟩ => Pipeline.Dat.unnamed (cfg := cfg0) 8 t
    | ⟨9, _⟩ => Pipeline.Dat.unnamed (cfg := cfg0) 9 t
    | ⟨10, _⟩ => Pipeline.Dat.unnamed (cfg := cfg0) 10 t
    | ⟨11, _⟩ => Pipeline.Dat.unnamed (cfg := cfg0) 11 t
    | ⟨12, _⟩ => Pipeline.Dat.unnamed (cfg := cfg0) 12 t
    | ⟨13, _⟩ => Pipeline.Dat.unnamed (cfg := cfg0) 13 t
    | ⟨14, _⟩ => Pipeline.Dat.unnamed (cfg := cfg0) 14 t
    | ⟨15, _⟩ => Pipeline.Dat.unnamed (cfg := cfg0) 15 t
    | ⟨16, _⟩ => Pipeline.Dat.unnamed (cfg := cfg0) 16 t
    | ⟨_ + 17, h⟩ => absurd h (Nat.not_lt.2 (Nat.le_add_left _ _))
  Φ t := ΦS S T N c t.val
  q _ := fullShare
  owed _ := 0

theorem A_eqV (c : Dev nD) (w : Fin cfg0.W) : (datsV m S T N 0 c).A w = V m c (Pipeline.arrRef spec0 w) := by dsimp only [datsV]

theorem afterV_0 (c : Dev nD) (t : Fin cfg0.N) : (datsV m S T N 0 c).after 0 t = iblk m c 0 t := by dsimp only [datsV]
theorem afterV_1 (c : Dev nD) (t : Fin cfg0.N) : (datsV m S T N 0 c).after 1 t = iblk m c 1 t := by dsimp only [datsV]
theorem afterV_2 (c : Dev nD) (t : Fin cfg0.N) : (datsV m S T N 0 c).after 2 t = iblk m c 2 t := by dsimp only [datsV]
theorem afterV_3 (c : Dev nD) (t : Fin cfg0.N) : (datsV m S T N 0 c).after 3 t = iblk m c 3 t := by dsimp only [datsV]
theorem afterV_4 (c : Dev nD) (t : Fin cfg0.N) : (datsV m S T N 0 c).after 4 t = iblk m c 4 t := by dsimp only [datsV]
theorem afterV_5 (c : Dev nD) (t : Fin cfg0.N) : (datsV m S T N 0 c).after 5 t = iblk m c 5 t := by dsimp only [datsV]
theorem afterV_6 (c : Dev nD) (t : Fin cfg0.N) : (datsV m S T N 0 c).after 6 t = iblk m c 6 t := by dsimp only [datsV]
theorem beforeV_0 (c : Dev nD) (t : Fin cfg0.N) (d) : (datsV m S T N 0 c).before 0 t d = iblk m c 0 t :=
  before0_0_of m (datsV m S T N 0 c) (A_eqV m S T N c 0) (afterV_0 m S T N c) t d
theorem beforeV_1 (c : Dev nD) (t : Fin cfg0.N) (d) : (datsV m S T N 0 c).before 1 t d = iblk m c 1 t :=
  before0_1_of m (datsV m S T N 0 c) (A_eqV m S T N c 1) (afterV_1 m S T N c) t d
theorem beforeV_2 (c : Dev nD) (t : Fin cfg0.N) (d) : (datsV m S T N 0 c).before 2 t d = iblk m c 2 t :=
  before0_2_of m (datsV m S T N 0 c) (A_eqV m S T N c 2) (afterV_2 m S T N c) t d
theorem beforeV_3 (c : Dev nD) (t : Fin cfg0.N) (d) : (datsV m S T N 0 c).before 3 t d = iblk m c 3 t :=
  before0_3_of m (datsV m S T N 0 c) (A_eqV m S T N c 3) (afterV_3 m S T N c) t d
theorem beforeV_4 (c : Dev nD) (t : Fin cfg0.N) (d) : (datsV m S T N 0 c).before 4 t d = iblk m c 4 t :=
  before0_4_of m (datsV m S T N 0 c) (A_eqV m S T N c 4) (afterV_4 m S T N c) t d
theorem beforeV_5 (c : Dev nD) (t : Fin cfg0.N) (d) : (datsV m S T N 0 c).before 5 t d = iblk m c 5 t :=
  before0_5_of m (datsV m S T N 0 c) (A_eqV m S T N c 5) (afterV_5 m S T N c) t d
theorem beforeV_6 (c : Dev nD) (t : Fin cfg0.N) (d) : (datsV m S T N 0 c).before 6 t d = iblk m c 6 t :=
  before0_6_of m (datsV m S T N 0 c) (A_eqV m S T N c 6) (afterV_6 m S T N c) t d

/-- The data with the results' windows held to what the body leaves. -/
abbrev rdats (c : Dev nD) := (datsV m S T N 0 c).toRRel forgets0 (Rl S T N c)

/-- What the body is called with at point `t`, and what it returns. -/
def preV (c : Dev nD) (t : Fin cfg0.N) : sProp 𝕄 :=
  iprop((datsV m S T N 0 c).Φ t.castSucc ∗ (datsV m S T N 0 c).owesAt () t.castSucc
    ∗ (∃ d, owns (c : Thread nD τ) (st0_0 t) fullShare ((datsV m S T N 0 c).before 0 t d))
    ∗ (∃ d, owns (c : Thread nD τ) (st0_1 t) fullShare ((datsV m S T N 0 c).before 1 t d))
    ∗ (∃ d, owns (c : Thread nD τ) (st0_2 t) fullShare ((datsV m S T N 0 c).before 2 t d))
    ∗ (∃ d, owns (c : Thread nD τ) (st0_3 t) fullShare ((datsV m S T N 0 c).before 3 t d))
    ∗ (∃ d, owns (c : Thread nD τ) (st0_4 t) fullShare ((datsV m S T N 0 c).before 4 t d))
    ∗ (∃ d, owns (c : Thread nD τ) (st0_5 t) fullShare ((datsV m S T N 0 c).before 5 t d))
    ∗ (∃ d, owns (c : Thread nD τ) (st0_6 t) fullShare ((datsV m S T N 0 c).before 6 t d))
    ∗ (∃ Y, ⌜(rdats m S T N c).Finds 7 t Y⌝ ∗ owns (c : Thread nD τ) (st0_7 t) fullShare Y)
    ∗ (∃ Y, ⌜(rdats m S T N c).Finds 8 t Y⌝ ∗ owns (c : Thread nD τ) (st0_8 t) fullShare Y)
    ∗ (∃ Y, ⌜(rdats m S T N c).Finds 9 t Y⌝ ∗ owns (c : Thread nD τ) (st0_9 t) fullShare Y)
    ∗ (∃ Y, ⌜(rdats m S T N c).Finds 10 t Y⌝ ∗ owns (c : Thread nD τ) (st0_10 t) fullShare Y)
    ∗ (∃ Y, ⌜(rdats m S T N c).Finds 11 t Y⌝ ∗ owns (c : Thread nD τ) (st0_11 t) fullShare Y)
    ∗ (∃ Y, ⌜(rdats m S T N c).Finds 12 t Y⌝ ∗ owns (c : Thread nD τ) (st0_12 t) fullShare Y)
    ∗ (∃ Y, ⌜(rdats m S T N c).Finds 13 t Y⌝ ∗ owns (c : Thread nD τ) (st0_13 t) fullShare Y)
    ∗ (∃ Y, ⌜(rdats m S T N c).Finds 14 t Y⌝ ∗ owns (c : Thread nD τ) (st0_14 t) fullShare Y)
    ∗ (∃ Y, ⌜(rdats m S T N c).Finds 15 t Y⌝ ∗ owns (c : Thread nD τ) (st0_15 t) fullShare Y)
    ∗ (∃ Y, ⌜(rdats m S T N c).Finds 16 t Y⌝ ∗ owns (c : Thread nD τ) (st0_16 t) fullShare Y))
def postV (c : Dev nD) (t : Fin cfg0.N) : sProp 𝕄 :=
  iprop((datsV m S T N 0 c).Φ t.succ ∗ (datsV m S T N 0 c).owesAt () t.succ
    ∗ owns (c : Thread nD τ) (st0_0 t) fullShare ((datsV m S T N 0 c).after 0 t)
    ∗ owns (c : Thread nD τ) (st0_1 t) fullShare ((datsV m S T N 0 c).after 1 t)
    ∗ owns (c : Thread nD τ) (st0_2 t) fullShare ((datsV m S T N 0 c).after 2 t)
    ∗ owns (c : Thread nD τ) (st0_3 t) fullShare ((datsV m S T N 0 c).after 3 t)
    ∗ owns (c : Thread nD τ) (st0_4 t) fullShare ((datsV m S T N 0 c).after 4 t)
    ∗ owns (c : Thread nD τ) (st0_5 t) fullShare ((datsV m S T N 0 c).after 5 t)
    ∗ owns (c : Thread nD τ) (st0_6 t) fullShare ((datsV m S T N 0 c).after 6 t)
    ∗ (∃ X, ⌜Rl S T N c 7 t X⌝ ∗ owns (c : Thread nD τ) (st0_7 t) fullShare X)
    ∗ (∃ X, ⌜Rl S T N c 8 t X⌝ ∗ owns (c : Thread nD τ) (st0_8 t) fullShare X)
    ∗ (∃ X, ⌜Rl S T N c 9 t X⌝ ∗ owns (c : Thread nD τ) (st0_9 t) fullShare X)
    ∗ (∃ X, ⌜Rl S T N c 10 t X⌝ ∗ owns (c : Thread nD τ) (st0_10 t) fullShare X)
    ∗ (∃ X, ⌜Rl S T N c 11 t X⌝ ∗ owns (c : Thread nD τ) (st0_11 t) fullShare X)
    ∗ (∃ X, ⌜Rl S T N c 12 t X⌝ ∗ owns (c : Thread nD τ) (st0_12 t) fullShare X)
    ∗ (∃ X, ⌜Rl S T N c 13 t X⌝ ∗ owns (c : Thread nD τ) (st0_13 t) fullShare X)
    ∗ (∃ X, ⌜Rl S T N c 14 t X⌝ ∗ owns (c : Thread nD τ) (st0_14 t) fullShare X)
    ∗ (∃ X, ⌜Rl S T N c 15 t X⌝ ∗ owns (c : Thread nD τ) (st0_15 t) fullShare X)
    ∗ (∃ X, ⌜Rl S T N c 16 t X⌝ ∗ owns (c : Thread nD τ) (st0_16 t) fullShare X))

/-- What every step is given. -/
def GivenAll : Prop := ∀ (c : Dev nD) (t : Fin cfg0.N), Given (S c) (T c) (N c) (grid0.coords t) (iblk m c 0 t) (iblk m c 1 t) (iblk m c 2 t) (iblk m c 3 t) (iblk m c 4 t) (iblk m c 5 t) (iblk m c 6 t)

theorem sound_bodyV (hg : GivenAll m S T N) (c : Dev nD) (t : Fin cfg0.N) :
    preV m S T N c t ⊢ wp frame (wpE (defs₀ (F := Ideal)) Variants.none c none) Set.univ (bodyAt0 t) (fun _ => postV m S T N c t) := by
  have ht : ((grid0.coords t) 0).val = t.val := coord_eq t
  unfold preV postV bodyAt0
  simp only [beforeV_0, beforeV_1, beforeV_2, beforeV_3, beforeV_4, beforeV_5, beforeV_6]
  rw [show (datsV m S T N 0 c).Φ t.succ = ΦS S T N c (t.val + 1) from rfl,
    show (datsV m S T N 0 c).owesAt () t.succ = (datsV m S T N 0 c).owesAt () t.castSucc from rfl,
    show (datsV m S T N 0 c).Φ t.castSucc = ΦS S T N c t.val from rfl, afterV_0, afterV_1, afterV_2, afterV_3, afterV_4, afterV_5, afterV_6]
  unfold ΦS
  iintro ⟨⟨⟨%e0, %e1, %e2, %e3, %e4, %e5, %e6, %e7, %hs, S0, S1, S2, S3, S4, S5, S6, S7⟩, Hg⟩, Ho, ⟨%d0, H0⟩, ⟨%d1, H1⟩, ⟨%d2, H2⟩, ⟨%d3, H3⟩, ⟨%d4, H4⟩, ⟨%d5, H5⟩, ⟨%d6, H6⟩, ⟨%Y7, -, H7⟩, ⟨%Y8, -, H8⟩, ⟨%Y9, -, H9⟩, ⟨%Y10, -, H10⟩, ⟨%Y11, -, H11⟩, ⟨%Y12, -, H12⟩, ⟨%Y13, -, H13⟩, ⟨%Y14, -, H14⟩, ⟨%Y15, -, H15⟩, ⟨%Y16, -, H16⟩⟩
  iapply (kernelRunV c (grid0.coords t) _ _ _ _ _ _ _ _ _ _ _ _ _ _ _ _ _ _ _ _ _ _ _ _ _ _ _ _ _ _ _ _ _ _ _ _ _ _ _ _ _ _ _ _ _ _ _ _ _ _ (S c) (T c) (N c) (iblk m c 0 t) (iblk m c 1 t) (iblk m c 2 t) (iblk m c 3 t) (iblk m c 4 t) (iblk m c 5 t) (iblk m c 6 t) e0 e1 e2 e3 e4 e5 e6 e7 (hg c t) (by rw [ht]; exact hs) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  iintro ⟨H0, H1, H2, H3, H4, H5, H6, H7, H8, H9, ⟨%X10, %h10, H10⟩, ⟨%X11, %h11, H11⟩, H12, ⟨%X13, %h13, H13⟩, ⟨%X14, %h14, H14⟩, H15, H16, ⟨%g0, %g1, %g2, %g3, %g4, %g5, %g6, %g7, %hs', S0, S1, S2, S3, S4, S5, S6, S7⟩⟩
  isplitl [Hg S0 S1 S2 S3 S4 S5 S6 S7]
  · isplitr [Hg]; swap; · iexact Hg
    iexists _, _, _, _, _, _, _, _
    isplitr; swap
    · isplitl [S0]; · iexact S0
      isplitl [S1]; · iexact S1
      isplitl [S2]; · iexact S2
      isplitl [S3]; · iexact S3
      isplitl [S4]; · iexact S4
      isplitl [S5]; · iexact S5
      isplitl [S6]; · iexact S6
      iexact S7
    ipureintro; rw [ht] at hs'; exact hs'
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · iexists _; isplitr; swap; · iexact H7
    ipureintro; rfl
  isplitl [H8]
  · iexists _; isplitr; swap; · iexact H8
    ipureintro; rfl
  isplitl [H9]
  · iexists _; isplitr; swap; · iexact H9
    ipureintro; rfl
  isplitl [H10]
  · iexists _; isplitr; swap; · iexact H10
    ipureintro; exact fun h => h10 (ht.trans h)
  isplitl [H11]
  · iexists _; isplitr; swap; · iexact H11
    ipureintro; exact fun h => h11 (ht.trans h)
  isplitl [H12]
  · iexists _; isplitr; swap; · iexact H12
    ipureintro; rfl
  isplitl [H13]
  · iexists _; isplitr; swap; · iexact H13
    ipureintro; exact fun h => h13 (ht.trans h)
  isplitl [H14]
  · iexists _; isplitr; swap; · iexact H14
    ipureintro; exact fun h => h14 (ht.trans h)
  isplitl [H15]
  · iexists _; isplitr; swap; · iexact H15
    ipureintro; rfl
  iexists _; isplitr; swap; · iexact H16
  ipureintro; rfl

theorem obligationV (hg : GivenAll m S T N) (c : Dev nD) :
    BodyObligationRel (datsV m S T N 0 c) (defs₀ (F := Ideal)) Variants.none () Set.univ forgets0 (Rl S T N c) := fun t => by
  rw [bigSep_W0, bigSep_W0, defs₀_row]
  exact triple_restated (sound_bodyV m S T N hg c t) rfl .rfl fun _ => .rfl

/-- Before the first step nothing is asked of the scratch. -/
theorem stored_zero (S T : Side) (N : Lens) (d18 d19 d20 d21 d22 d23 d24 d25) : Stored S T N 0 d18 d19 d20 d21 d22 d23 d24 d25 :=
  ⟨fun h => absurd h (Nat.lt_irrefl 0), fun h => absurd h (Nat.lt_irrefl 0), fun h => absurd h (Nat.lt_irrefl 0), fun h => absurd h (Nat.lt_irrefl 0),
    fun _ h => absurd h (Nat.not_lt_zero _), fun _ h => absurd h (Nat.not_lt_zero _), fun _ h => absurd h (Nat.not_lt_zero _), fun _ h => absurd h (Nat.not_lt_zero _)⟩

theorem hinV (c : Dev nD) : Pipeline.ΦA spec0 c ⊢ (datsV m S T N 0 c).Φ 0 := by
  rw [show (datsV m S T N 0 c).Φ 0 = ΦS S T N c 0 from rfl, ΦA0_eq]
  unfold ΦS
  iintro ⟨⟨⟨%e0, S0⟩, ⟨%e1, S1⟩, ⟨%e2, S2⟩, ⟨%e3, S3⟩, ⟨%e4, S4⟩, ⟨%e5, S5⟩, ⟨%e6, S6⟩, ⟨%e7, S7⟩⟩, Hg⟩
  isplitr [Hg]; swap; · iexact Hg
  iexists e0, e1, e2, e3, e4, e5, e6, e7
  isplitr; · ipureintro; exact stored_zero _ _ _ _ _ _ _ _ _ _ _
  isplitl [S0]; · iexact S0
  isplitl [S1]; · iexact S1
  isplitl [S2]; · iexact S2
  isplitl [S3]; · iexact S3
  isplitl [S4]; · iexact S4
  isplitl [S5]; · iexact S5
  isplitl [S6]; · iexact S6
  iexact S7

theorem houtV (c : Dev nD) : (datsV m S T N 0 c).Φ (Fin.last cfg0.N) ⊢ Pipeline.ΦA spec0 c := by
  rw [show (datsV m S T N 0 c).Φ (Fin.last cfg0.N) = ΦS S T N c cfg0.N from rfl, ΦA0_eq]
  unfold ΦS
  iintro ⟨⟨%e0, %e1, %e2, %e3, %e4, %e5, %e6, %e7, -, S0, S1, S2, S3, S4, S5, S6, S7⟩, Hg⟩
  isplitr [Hg]; swap; · iexact Hg
  isplitl [S0]; · iexists _; iexact S0
  isplitl [S1]; · iexists _; iexact S1
  isplitl [S2]; · iexists _; iexact S2
  isplitl [S3]; · iexists _; iexact S3
  isplitl [S4]; · iexists _; iexact S4
  isplitl [S5]; · iexists _; iexact S5
  isplitl [S6]; · iexists _; iexact S6
  iexists _; iexact S7

-- the theorem's implicit arguments are found by unifying its conclusion with this statement, which unifies only when
-- unification may unfold plain definitions in a metavariable's type
set_option backward.isDefEq.respectTransparency.types false in
theorem run_mainV (hg : GivenAll m S T N) :
    θ_run defs (onTc (τ := τ) (main (F := Ideal))) (s₀ m ρ)
      (fun r => Pipeline.RDat.FramePost (cfgs 0) (fun c => rdats m S T N c) (V m) r ∧ r.2.sem = fun _ => 0) :=
  Pipeline.RDat.θ_run_frame_track (Q' := _) cfgs (0 : Fin 1) launch0 defs₀ Variants.none (fun c => rdats m S T N c) m ρ main
    (hbody := fun c => (obligationV m S T N hg c).toRRel) (hshare := fun c => (datsV m S T N 0 c).share_full fun _ => rfl)
    (howed := fun _ _ => rfl) (V := V m) (hmain := hmain m Variants.none) (hA := A_eqV m S T N) (hin := hinV m S T N) (hout := houtV m S T N)

/-- What the results' arrays hold: every head's window, codes and dequantised values. -/
def Side.aWin (S : Side) (N : Lens) : S2x64x160x768.Idx → EReal := fun j => S.win N (j 0) (j 1) (j 2) (j 3)
def Side.aCode (S : Side) (N : Lens) : S2x64x80x128.Idx → BitVec 8 := fun j => S.code N (j 0) (j 1) (j 2) (j 3)
def Side.aDeq (S : Side) (N : Lens) : S2x64x160x128.Idx → EReal := fun j => S.deq N (j 0) (j 1) (j 2) (j 3)

theorem idx_0 : ∀ t : Fin cfg0.N, win0_0.index t = ![0] := (by decide +kernel : ∀ t : Fin grid0.N, _)
theorem idx_1 : ∀ t : Fin cfg0.N, win0_1.index t = ![0, 0] := (by decide +kernel : ∀ t : Fin grid0.N, _)
theorem idx_2 : ∀ t : Fin cfg0.N, win0_2.index t = ![0, 0] := (by decide +kernel : ∀ t : Fin grid0.N, _)
theorem idx_3 : ∀ t : Fin cfg0.N, win0_3.index t = ![0, 0] := (by decide +kernel : ∀ t : Fin grid0.N, _)
theorem idx_4 : ∀ t : Fin cfg0.N, win0_4.index t = ![0, 0] := (by decide +kernel : ∀ t : Fin grid0.N, _)
theorem idx_5 : ∀ t : Fin cfg0.N, win0_5.index t = ![0, (grid0.coords t 0).val, 0, 0] := (by decide +kernel : ∀ t : Fin grid0.N, _)
theorem idx_6 : ∀ t : Fin cfg0.N, win0_6.index t = ![0, (grid0.coords t 0).val, 0, 0] := (by decide +kernel : ∀ t : Fin grid0.N, _)
theorem idx_7 : ∀ t : Fin cfg0.N, win0_7.index t = ![0, (grid0.coords t 0).val, 0, 0] := (by decide +kernel : ∀ t : Fin grid0.N, _)
theorem idx_8 : ∀ t : Fin cfg0.N, win0_8.index t = ![0, (grid0.coords t 0).val, 0, 0] := (by decide +kernel : ∀ t : Fin grid0.N, _)
theorem idx_9 : ∀ t : Fin cfg0.N, win0_9.index t = ![0, (grid0.coords t 0).val, 0, 0] := (by decide +kernel : ∀ t : Fin grid0.N, _)
theorem idx_10 : ∀ t : Fin cfg0.N, win0_10.index t = ![0, 0, 0, 0] := (by decide +kernel : ∀ t : Fin grid0.N, _)
theorem idx_11 : ∀ t : Fin cfg0.N, win0_11.index t = ![0, 0, 0, 0] := (by decide +kernel : ∀ t : Fin grid0.N, _)
theorem idx_12 : ∀ t : Fin cfg0.N, win0_12.index t = ![0, (grid0.coords t 0).val, 0, 0] := (by decide +kernel : ∀ t : Fin grid0.N, _)
theorem idx_13 : ∀ t : Fin cfg0.N, win0_13.index t = ![0, 0, 0, 0] := (by decide +kernel : ∀ t : Fin grid0.N, _)
theorem idx_14 : ∀ t : Fin cfg0.N, win0_14.index t = ![0, 0, 0, 0] := (by decide +kernel : ∀ t : Fin grid0.N, _)
theorem idx_15 : ∀ t : Fin cfg0.N, win0_15.index t = ![0, (grid0.coords t 0).val, 0, 0] := (by decide +kernel : ∀ t : Fin grid0.N, _)
theorem idx_16 : ∀ t : Fin cfg0.N, win0_16.index t = ![0, (grid0.coords t 0).val, 0, 0] := (by decide +kernel : ∀ t : Fin grid0.N, _)
theorem arr_7 (c : Dev nD) (D : Dat τ (Elt Ideal) Unit ℕ (UR sig nD τ) ℕ cfg0 c)
    (hD : ∀ u : Fin cfg0.N, (cfg0.win 7).flush u = true → Rl S T N c 7 u (D.after 7 u)) :
    D.arrAt 7 cfg0.N = (S c).aWin (N c) := by
  refine D.arrAt_eq_of_covers 7 _ (by decide +kernel) fun t hf y => ?_
  blk_simp
  have h : D.after 7 t = (S c).gWin (N c) (grid0.coords t) := hD t hf
  rw [h]
  have e := idx_7
  have e0 : (win0_7.blk t).view.emb y 0 = y 0 := by apply Fin.ext; blk_simp [e]
  have e1 : (win0_7.blk t).view.emb y 1 = hdOf (grid0.coords t) (y 1) := by apply Fin.ext; blk_simp [e]; unfold hdOf; dsimp only; omega
  have e2 : (win0_7.blk t).view.emb y 2 = y 2 := by apply Fin.ext; blk_simp [e]
  have e3 : (win0_7.blk t).view.emb y 3 = y 3 := by apply Fin.ext; blk_simp [e]
  unfold Side.aWin Side.gWin
  rw [e0, e1, e2, e3]

theorem arr_8 (c : Dev nD) (D : Dat τ (Elt Ideal) Unit ℕ (UR sig nD τ) ℕ cfg0 c)
    (hD : ∀ u : Fin cfg0.N, (cfg0.win 8).flush u = true → Rl S T N c 8 u (D.after 8 u)) :
    D.arrAt 8 cfg0.N = (T c).aWin (N c) := by
  refine D.arrAt_eq_of_covers 8 _ (by decide +kernel) fun t hf y => ?_
  blk_simp
  have h : D.after 8 t = (T c).gWin (N c) (grid0.coords t) := hD t hf
  rw [h]
  have e := idx_8
  have e0 : (win0_8.blk t).view.emb y 0 = y 0 := by apply Fin.ext; blk_simp [e]
  have e1 : (win0_8.blk t).view.emb y 1 = hdOf (grid0.coords t) (y 1) := by apply Fin.ext; blk_simp [e]; unfold hdOf; dsimp only; omega
  have e2 : (win0_8.blk t).view.emb y 2 = y 2 := by apply Fin.ext; blk_simp [e]
  have e3 : (win0_8.blk t).view.emb y 3 = y 3 := by apply Fin.ext; blk_simp [e]
  unfold Side.aWin Side.gWin
  rw [e0, e1, e2, e3]

theorem arr_9 (c : Dev nD) (D : Dat τ (Elt Ideal) Unit ℕ (UR sig nD τ) ℕ cfg0 c)
    (hD : ∀ u : Fin cfg0.N, (cfg0.win 9).flush u = true → Rl S T N c 9 u (D.after 9 u)) :
    D.arrAt 9 cfg0.N = (S c).aCode (N c) := by
  refine D.arrAt_eq_of_covers 9 _ (by decide +kernel) fun t hf y => ?_
  blk_simp
  have h : D.after 9 t = (S c).gCode (N c) (grid0.coords t) := hD t hf
  rw [h]
  have e := idx_9
  have e0 : (win0_9.blk t).view.emb y 0 = y 0 := by apply Fin.ext; blk_simp [e]
  have e1 : (win0_9.blk t).view.emb y 1 = hdOf (grid0.coords t) (y 1) := by apply Fin.ext; blk_simp [e]; unfold hdOf; dsimp only; omega
  have e2 : (win0_9.blk t).view.emb y 2 = y 2 := by apply Fin.ext; blk_simp [e]
  have e3 : (win0_9.blk t).view.emb y 3 = y 3 := by apply Fin.ext; blk_simp [e]
  unfold Side.aCode Side.gCode
  rw [e0, e1, e2, e3]

theorem arr_10 (c : Dev nD) (D : Dat τ (Elt Ideal) Unit ℕ (UR sig nD τ) ℕ cfg0 c)
    (hD : ∀ u : Fin cfg0.N, (cfg0.win 10).flush u = true → Rl S T N c 10 u (D.after 10 u)) :
    D.arrAt 10 cfg0.N = (S c).lScale (N c) := by
  refine D.arrAt_eq_of_covers 10 _ (by decide +kernel) fun t hf y => ?_
  blk_simp
  have h15 : t.val = 15 := by have := (flush0_10 t).mp hf; have : t.val < 16 := t.isLt; omega
  have h : D.after 10 t = (S c).lScale (N c) := hD t hf h15
  rw [h]
  have e := idx_10
  have e4 : (win0_10.blk t).view.emb y = y := by blk_ext [e]
  rw [e4]

theorem arr_11 (c : Dev nD) (D : Dat τ (Elt Ideal) Unit ℕ (UR sig nD τ) ℕ cfg0 c)
    (hD : ∀ u : Fin cfg0.N, (cfg0.win 11).flush u = true → Rl S T N c 11 u (D.after 11 u)) :
    D.arrAt 11 cfg0.N = (S c).lZero (N c) := by
  refine D.arrAt_eq_of_covers 11 _ (by decide +kernel) fun t hf y => ?_
  blk_simp
  have h15 : t.val = 15 := by have := (flush0_11 t).mp hf; have : t.val < 16 := t.isLt; omega
  have h : D.after 11 t = (S c).lZero (N c) := hD t hf h15
  rw [h]
  have e := idx_11
  have e4 : (win0_11.blk t).view.emb y = y := by blk_ext [e]
  rw [e4]

theorem arr_12 (c : Dev nD) (D : Dat τ (Elt Ideal) Unit ℕ (UR sig nD τ) ℕ cfg0 c)
    (hD : ∀ u : Fin cfg0.N, (cfg0.win 12).flush u = true → Rl S T N c 12 u (D.after 12 u)) :
    D.arrAt 12 cfg0.N = (T c).aCode (N c) := by
  refine D.arrAt_eq_of_covers 12 _ (by decide +kernel) fun t hf y => ?_
  blk_simp
  have h : D.after 12 t = (T c).gCode (N c) (grid0.coords t) := hD t hf
  rw [h]
  have e := idx_12
  have e0 : (win0_12.blk t).view.emb y 0 = y 0 := by apply Fin.ext; blk_simp [e]
  have e1 : (win0_12.blk t).view.emb y 1 = hdOf (grid0.coords t) (y 1) := by apply Fin.ext; blk_simp [e]; unfold hdOf; dsimp only; omega
  have e2 : (win0_12.blk t).view.emb y 2 = y 2 := by apply Fin.ext; blk_simp [e]
  have e3 : (win0_12.blk t).view.emb y 3 = y 3 := by apply Fin.ext; blk_simp [e]
  unfold Side.aCode Side.gCode
  rw [e0, e1, e2, e3]

theorem arr_13 (c : Dev nD) (D : Dat τ (Elt Ideal) Unit ℕ (UR sig nD τ) ℕ cfg0 c)
    (hD : ∀ u : Fin cfg0.N, (cfg0.win 13).flush u = true → Rl S T N c 13 u (D.after 13 u)) :
    D.arrAt 13 cfg0.N = (T c).lScale (N c) := by
  refine D.arrAt_eq_of_covers 13 _ (by decide +kernel) fun t hf y => ?_
  blk_simp
  have h15 : t.val = 15 := by have := (flush0_13 t).mp hf; have : t.val < 16 := t.isLt; omega
  have h : D.after 13 t = (T c).lScale (N c) := hD t hf h15
  rw [h]
  have e := idx_13
  have e4 : (win0_13.blk t).view.emb y = y := by blk_ext [e]
  rw [e4]

theorem arr_14 (c : Dev nD) (D : Dat τ (Elt Ideal) Unit ℕ (UR sig nD τ) ℕ cfg0 c)
    (hD : ∀ u : Fin cfg0.N, (cfg0.win 14).flush u = true → Rl S T N c 14 u (D.after 14 u)) :
    D.arrAt 14 cfg0.N = (T c).lZero (N c) := by
  refine D.arrAt_eq_of_covers 14 _ (by decide +kernel) fun t hf y => ?_
  blk_simp
  have h15 : t.val = 15 := by have := (flush0_14 t).mp hf; have : t.val < 16 := t.isLt; omega
  have h : D.after 14 t = (T c).lZero (N c) := hD t hf h15
  rw [h]
  have e := idx_14
  have e4 : (win0_14.blk t).view.emb y = y := by blk_ext [e]
  rw [e4]

theorem arr_15 (c : Dev nD) (D : Dat τ (Elt Ideal) Unit ℕ (UR sig nD τ) ℕ cfg0 c)
    (hD : ∀ u : Fin cfg0.N, (cfg0.win 15).flush u = true → Rl S T N c 15 u (D.after 15 u)) :
    D.arrAt 15 cfg0.N = (S c).aDeq (N c) := by
  refine D.arrAt_eq_of_covers 15 _ (by decide +kernel) fun t hf y => ?_
  blk_simp
  have h : D.after 15 t = (S c).gDeq (N c) (grid0.coords t) := hD t hf
  rw [h]
  have e := idx_15
  have e0 : (win0_15.blk t).view.emb y 0 = y 0 := by apply Fin.ext; blk_simp [e]
  have e1 : (win0_15.blk t).view.emb y 1 = hdOf (grid0.coords t) (y 1) := by apply Fin.ext; blk_simp [e]; unfold hdOf; dsimp only; omega
  have e2 : (win0_15.blk t).view.emb y 2 = y 2 := by apply Fin.ext; blk_simp [e]
  have e3 : (win0_15.blk t).view.emb y 3 = y 3 := by apply Fin.ext; blk_simp [e]
  unfold Side.aDeq Side.gDeq
  rw [e0, e1, e2, e3]

theorem arr_16 (c : Dev nD) (D : Dat τ (Elt Ideal) Unit ℕ (UR sig nD τ) ℕ cfg0 c)
    (hD : ∀ u : Fin cfg0.N, (cfg0.win 16).flush u = true → Rl S T N c 16 u (D.after 16 u)) :
    D.arrAt 16 cfg0.N = (T c).aDeq (N c) := by
  refine D.arrAt_eq_of_covers 16 _ (by decide +kernel) fun t hf y => ?_
  blk_simp
  have h : D.after 16 t = (T c).gDeq (N c) (grid0.coords t) := hD t hf
  rw [h]
  have e := idx_16
  have e0 : (win0_16.blk t).view.emb y 0 = y 0 := by apply Fin.ext; blk_simp [e]
  have e1 : (win0_16.blk t).view.emb y 1 = hdOf (grid0.coords t) (y 1) := by apply Fin.ext; blk_simp [e]; unfold hdOf; dsimp only; omega
  have e2 : (win0_16.blk t).view.emb y 2 = y 2 := by apply Fin.ext; blk_simp [e]
  have e3 : (win0_16.blk t).view.emb y 3 = y 3 := by apply Fin.ext; blk_simp [e]
  unfold Side.aDeq Side.gDeq
  rw [e0, e1, e2, e3]

/-- The whole run: each result's array at its value, the arguments as they were. -/
theorem run_values (hg : GivenAll m S T N) :
    θ_run defs (onTc (τ := τ) (main (F := Ideal))) (s₀ m ρ) (fun r => (∀ c : Dev nD,
      r.2.mem ((c.tc : Thread nD τ).loc main_v4_0) = (S c).aWin (N c) ∧
      r.2.mem ((c.tc : Thread nD τ).loc main_v4_1) = (T c).aWin (N c) ∧
      r.2.mem ((c.tc : Thread nD τ).loc main_v4_2) = (S c).aCode (N c) ∧
      r.2.mem ((c.tc : Thread nD τ).loc main_v4_3) = (S c).lScale (N c) ∧
      r.2.mem ((c.tc : Thread nD τ).loc main_v4_4) = (S c).lZero (N c) ∧
      r.2.mem ((c.tc : Thread nD τ).loc main_v4_5) = (T c).aCode (N c) ∧
      r.2.mem ((c.tc : Thread nD τ).loc main_v4_6) = (T c).lScale (N c) ∧
      r.2.mem ((c.tc : Thread nD τ).loc main_v4_7) = (T c).lZero (N c) ∧
      r.2.mem ((c.tc : Thread nD τ).loc main_v4_8) = (S c).aDeq (N c) ∧
      r.2.mem ((c.tc : Thread nD τ).loc main_v4_9) = (T c).aDeq (N c) ∧
      r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6))
      ∧ r.2.sem = fun _ => 0) :=
  (θ_run defs _ _).mono (fun r ⟨h, hs⟩ => ⟨fun c => by
    obtain ⟨after, hL, hA⟩ := Pipeline.RDat.FramePost.exists_exact h c
    refine ⟨(hA 7).trans (arr_7 S T N c _ fun u hf => Dat.toRRel_leaves (datsV m S T N 0 c) (fgt := forgets0) (w := 7) rfl (hL 7 u hf)), (hA 8).trans (arr_8 S T N c _ fun u hf => Dat.toRRel_leaves (datsV m S T N 0 c) (fgt := forgets0) (w := 8) rfl (hL 8 u hf)), (hA 9).trans (arr_9 S T N c _ fun u hf => Dat.toRRel_leaves (datsV m S T N 0 c) (fgt := forgets0) (w := 9) rfl (hL 9 u hf)), (hA 10).trans (arr_10 S T N c _ fun u hf => Dat.toRRel_leaves (datsV m S T N 0 c) (fgt := forgets0) (w := 10) rfl (hL 10 u hf)), (hA 11).trans (arr_11 S T N c _ fun u hf => Dat.toRRel_leaves (datsV m S T N 0 c) (fgt := forgets0) (w := 11) rfl (hL 11 u hf)), (hA 12).trans (arr_12 S T N c _ fun u hf => Dat.toRRel_leaves (datsV m S T N 0 c) (fgt := forgets0) (w := 12) rfl (hL 12 u hf)), (hA 13).trans (arr_13 S T N c _ fun u hf => Dat.toRRel_leaves (datsV m S T N 0 c) (fgt := forgets0) (w := 13) rfl (hL 13 u hf)), (hA 14).trans (arr_14 S T N c _ fun u hf => Dat.toRRel_leaves (datsV m S T N 0 c) (fgt := forgets0) (w := 14) rfl (hL 14 u hf)), (hA 15).trans (arr_15 S T N c _ fun u hf => Dat.toRRel_leaves (datsV m S T N 0 c) (fgt := forgets0) (w := 15) rfl (hL 15 u hf)), (hA 16).trans (arr_16 S T N c _ fun u hf => Dat.toRRel_leaves (datsV m S T N 0 c) (fgt := forgets0) (w := 16) rfl (hL 16 u hf)),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      (Pipeline.RDat.FramePost.arr_in h c 0 rfl).trans ((A_eqV m S T N c 0).trans (V_main_arg2 m c)),
      (Pipeline.RDat.FramePost.arr_in h c 3 rfl).trans ((A_eqV m S T N c 3).trans (V_main_arg3 m c)),
      (Pipeline.RDat.FramePost.arr_in h c 4 rfl).trans ((A_eqV m S T N c 4).trans (V_main_arg4 m c)),
      ((h c).2 main_arg5 (Pipeline.mem_restRefs_of main_arg5 (by decide) (by decide))).trans (V_main_arg5 m c),
      ((h c).2 main_arg6 (Pipeline.mem_restRefs_of main_arg6 (by decide) (by decide))).trans (V_main_arg6 m c)⟩, hs⟩)
    (run_mainV m ρ S T N hg)

end Cert.KernelIdeal.Val

end
-- ==== Proof.Entry.lean ====
/- The plain data of the two caches, read off the arguments; and every step's blocks are blocks of them. -/
module

public import proofs.«01_k».proof.Proof.RunVal
public import proofs.«01_k».proof.Proof.Pre
public import Idealize.ShloMosaic.Lib.Pipeline.ValueKit

@[expose] public section

set_option maxRecDepth 16384
set_option maxHeartbeats 2000000

noncomputable section

namespace Cert.KernelIdeal.Val

open Cert.KernelIdeal Cert.KernelIdeal.Gen
open Idealize.ShloMosaic Idealize.ShloMosaic.TcCoe Idealize.ShloMosaic.Pointwise

/-- A cache's data from its arguments: the array, its permutation words, its clip factors. -/
def sideOf (x : S2x896x64x160.Idx → EReal) (p : S64x160.Idx → BitVec 32) (cl : S64x5.Idx → EReal) : Side where
  X b H c l := x (ix4 b l H c)
  P H a := ⟨(p (ix2 H (pos a))).toNat % 160, Nat.mod_lt _ (by decide)⟩
  C H g := cl (ix2 H g)

/-- The numbers of tokens to quantise, from the sequence lengths. -/
def lensOf (s : S2.Idx → BitVec 32) : Lens where
  n b := min 128 ((s (ix1 b)).toNat - 768)
  le b := Nat.min_le_left _ _

theorem perm_of (p : S64x160.Idx → BitVec 32) (h : ∀ i, 0 ≤ (p i).toInt ∧ (p i).toInt < 160) (x cl) : Perm (sideOf x p cl) p := fun H a => by
  have h1 := h (ix2 H (pos a))
  have h2 := (p (ix2 H (pos a))).isLt
  show (p (ix2 H (pos a))).toInt = (((p (ix2 H (pos a))).toNat % 160 : ℕ) : ℤ)
  rw [BitVec.toInt_eq_toNat_cond] at h1 ⊢
  split at h1 <;> split <;> omega

theorem toNat_of {s : BitVec 32} (h : 768 ≤ s.toInt ∧ s.toInt ≤ 896) : 768 ≤ s.toNat ∧ s.toNat ≤ 896 := by
  have h2 := s.isLt
  rw [BitVec.toInt_eq_toNat_cond] at h
  split at h <;> omega

variable (m : (ℓ : Loc nD τ sig) → Buf (Elt Ideal) ℓ)

/-- The keys' and the values' data on a core. -/
def mS (c : Dev nD) : Side := sideOf (m ((c.tc : Thread nD τ).loc main_arg0)) (m ((c.tc : Thread nD τ).loc main_arg3)) (m ((c.tc : Thread nD τ).loc main_arg5))
def mT (c : Dev nD) : Side := sideOf (m ((c.tc : Thread nD τ).loc main_arg1)) (m ((c.tc : Thread nD τ).loc main_arg4)) (m ((c.tc : Thread nD τ).loc main_arg6))
def mN (c : Dev nD) : Lens := lensOf (m ((c.tc : Thread nD τ).loc main_arg2))

theorem given (h : ∀ c : Dev nD, (∀ i, 768 ≤ (m ((c.tc : Thread nD τ).loc main_arg2) i).toInt ∧ (m ((c.tc : Thread nD τ).loc main_arg2) i).toInt ≤ 896)
      ∧ Cert.Pre.Perms (m ((c.tc : Thread nD τ).loc main_arg3)) ∧ Cert.Pre.Perms (m ((c.tc : Thread nD τ).loc main_arg4))) :
    GivenAll m (mS m) (mT m) (mN m) := fun c t => by
  obtain ⟨hs, hk, hv⟩ := h c
  have e0 := idx_0; have e1 := idx_1; have e2 := idx_2; have e3 := idx_3; have e4 := idx_4; have e5 := idx_5; have e6 := idx_6
  have b0 : iblk m c 0 t = m ((c.tc : Thread nD τ).loc main_arg2) := by
    funext x; blk_simp [iblk]; rw [V_main_arg2]; blk_ext [e0]
  have b3 : iblk m c 3 t = m ((c.tc : Thread nD τ).loc main_arg3) := by
    funext x; blk_simp [iblk]; rw [V_main_arg3]; blk_ext [e3]
  have b4 : iblk m c 4 t = m ((c.tc : Thread nD τ).loc main_arg4) := by
    funext x; blk_simp [iblk]; rw [V_main_arg4]; blk_ext [e4]
  constructor
  · intro x
    rw [b0]
    have := toNat_of (hs x)
    have hx : x = ix1 (x 0) := by funext a; fin_cases a; rfl
    have e : (m ((c.tc : Thread nD τ).loc main_arg2) (ix1 (x 0)) : BitVec 32) = m ((c.tc : Thread nD τ).loc main_arg2) x := congrArg _ hx.symm
    show _ = 768 + min 128 ((show BitVec 32 from m ((c.tc : Thread nD τ).loc main_arg2) (ix1 (x 0))).toNat - 768)
    rw [show (show BitVec 32 from m ((c.tc : Thread nD τ).loc main_arg2) (ix1 (x 0))) = m ((c.tc : Thread nD τ).loc main_arg2) x from e]
    omega
  · intro x; rw [b0]; exact (hs x).1
  · intro g H
    blk_simp [iblk]; entry_read
    pointwise
    show m ((c.tc : Thread nD τ).loc main_arg5) _ = m ((c.tc : Thread nD τ).loc main_arg5) (ix2 H g)
    blk_ext [e1]
  · intro g H
    blk_simp [iblk]; entry_read
    pointwise
    show m ((c.tc : Thread nD τ).loc main_arg6) _ = m ((c.tc : Thread nD τ).loc main_arg6) (ix2 H g)
    blk_ext [e2]
  · rw [b3]; exact perm_of _ hk.1 _ _
  · rw [b4]; exact perm_of _ hv.1 _ _
  · intro b h c' l
    blk_simp [iblk]; entry_read
    pointwise
    show m ((c.tc : Thread nD τ).loc main_arg0) _ = m ((c.tc : Thread nD τ).loc main_arg0) (ix4 b l (hdOf (grid0.coords t) h) c')
    unfold hdOf
    blk_ext [e5]
  · intro b h c' l
    blk_simp [iblk]; entry_read
    pointwise
    show m ((c.tc : Thread nD τ).loc main_arg1) _ = m ((c.tc : Thread nD τ).loc main_arg1) (ix4 b l (hdOf (grid0.coords t) h) c')
    unfold hdOf
    blk_ext [e6]

end Cert.KernelIdeal.Val

end
-- ==== Proof.RefTerms.lean ====
/- What the reference's kernel region is given, from the arguments. -/
module

public import proofs.«01_k».proof.Proof.Gen.ReferenceIdeal.Frame
public import Idealize.ShloMosaic.Lib.StableHlo.Run
public import Idealize.ShloMosaic.Lib.StableHlo.RunClose

@[expose] public section

set_option maxRecDepth 16384
set_option maxHeartbeats 4000000

noncomputable section

namespace Cert.ReferenceIdeal.Val

open Cert.ReferenceIdeal Cert.ReferenceIdeal.Gen Idealize.ShloMosaic Idealize.ShloMosaic.TcCoe Idealize.SL.Sem Idealize.ShloMosaic.StableHlo

variable {F : FTy → Type} [FloatOps F]

section Terms

variable (x y : S2x896x64x160.Idx → F .bf16) (p q : S64x160.Idx → BitVec 32) (u v : S64x5.Idx → F .f32) (n : S2.Idx → BitVec 32)

/-- The two caches stacked. -/
def tX : S2x2x896x64x160.Idx → F .bf16 :=
  concatenate S2x2x896x64x160 0 [⟨S1x2x896x64x160, (broadcastInDim S1x2x896x64x160 ![1, 2, 3, 4] bcast_S2x896x64x160_S1x2x896x64x160_1_2_3_4 x)⟩, ⟨S1x2x896x64x160, (broadcastInDim S1x2x896x64x160 ![1, 2, 3, 4] bcast_S2x896x64x160_S1x2x896x64x160_1_2_3_4 y)⟩] concatenates_S1x2x896x64x160_S1x2x896x64x160_S2x2x896x64x160_d0

/-- The two permutations stacked. -/
def tP : S2x1x1x64x160.Idx → BitVec 32 :=
  broadcastInDim S2x1x1x64x160 ![0, 3, 4] bcast_S2x64x160_S2x1x1x64x160_0_3_4 (concatenate S2x64x160 0 [⟨S1x64x160, (broadcastInDim S1x64x160 ![1, 2] bcast_S64x160_S1x64x160_1_2 p)⟩, ⟨S1x64x160, (broadcastInDim S1x64x160 ![1, 2] bcast_S64x160_S1x64x160_1_2 q)⟩] concatenates_S1x64x160_S1x64x160_S2x64x160_d0)

/-- The clip factors stacked, for every sequence and token. -/
def tC : S2x2x128x64x5.Idx → F .f32 :=
  broadcastInDim S2x2x128x64x5 ![0, 1, 2, 3, 4] bcast_S2x1x1x64x5_S2x2x128x64x5_0_1_2_3_4 (broadcastInDim S2x1x1x64x5 ![0, 3, 4] bcast_S2x64x5_S2x1x1x64x5_0_3_4 (concatenate S2x64x5 0 [⟨S1x64x5, (broadcastInDim S1x64x5 ![1, 2] bcast_S64x5_S1x64x5_1_2 u)⟩, ⟨S1x64x5, (broadcastInDim S1x64x5 ![1, 2] bcast_S64x5_S1x64x5_1_2 v)⟩] concatenates_S1x64x5_S1x64x5_S2x64x5_d0))

/-- The first tokens, the channels permuted and cut in groups. -/
def tG : S2x2x128x64x5x32.Idx → F .f32 :=
  shapeCast S2x2x128x64x5x32 (extf .f32 (Host.gather gather_S2x2x128x64x160_S2x64x160x1_S2x2x128x64x160_12_4_03_01_4_3_1212811 (extractStridedSlice S2x2x128x64x160 ![0, 0, 0, 0, 0] (tX x y) slices_S2x2x896x64x160_S2x2x128x64x160_0_0_0_0_0)
    (shapeCast S2x64x160x1 (select (cmpi .slt (tP p q) (broadcastInDim S2x1x1x64x160 ![] bcast_S_S2x1x1x64x160 (constantI S_ 32 0#32))) (addi (tP p q) (broadcastInDim S2x1x1x64x160 ![] bcast_S_S2x1x1x64x160 (constantI S_ 32 160#32))) (tP p q)) shapeCasts_S2x1x1x64x160_S2x64x160x1)) bitsLt_bf16_f32) shapeCasts_S2x2x128x64x160_S2x2x128x64x5x32

/-- How many tokens to quantise. -/
def tN : S2.Idx → BitVec 32 := subi n (broadcastInDim S2 ![] bcast_S_S2 (constantI S_ 32 768#32))

/-- Which tokens are quantised. -/
def tV : S2x2x128x64x5.Idx → BitVec 1 :=
  broadcastInDim S2x2x128x64x5 ![0, 1, 2, 3, 4] bcast_S1x2x128x1x1_S2x2x128x64x5_0_1_2_3_4 (broadcastInDim S1x2x128x1x1 ![1, 2] bcast_S2x128_S1x2x128x1x1_1_2 (cmpi .slt (broadcastInDim S2x128 ![0, 1] bcast_S1x128_S2x128_0_1 (broadcastInDim S1x128 ![1] bcast_S128_S1x128_1 (iotaInDim S128 32 0))) (broadcastInDim S2x128 ![0, 1] bcast_S2x1_S2x128_0_1 (broadcastInDim S2x1 ![0] bcast_S2_S2x1_0 (tN n)))))

/-- The groups' lower ends and ranges. -/
def tLo (c : S2x2x128x64x5.Idx → F .f32) (g : S2x2x128x64x5x32.Idx → F .f32) : S2x2x128x64x5.Idx → F .f32 :=
  mulf (φ := .f32) (F := F) c (Host.reduce (FloatOps.minimumf (F := F) (φ := .f32)) g (constant (F := F) S_ .f32 0x7F800000#32) reducesTo_S2x2x128x64x5x32_S2x2x128x64x5_d5 h_S_)
def tRng (c : S2x2x128x64x5.Idx → F .f32) (g : S2x2x128x64x5x32.Idx → F .f32) : S2x2x128x64x5.Idx → F .f32 :=
  subf (φ := .f32) (F := F) (mulf (φ := .f32) (F := F) c (Host.reduce (FloatOps.maximumf (F := F) (φ := .f32)) g (constant (F := F) S_ .f32 0xFF800000#32) reducesTo_S2x2x128x64x5x32_S2x2x128x64x5_d5 h_S_)) (tLo c g)
/-- The groups' scales. -/
def tSc (c : S2x2x128x64x5.Idx → F .f32) (g : S2x2x128x64x5x32.Idx → F .f32) : S2x2x128x64x5.Idx → F .f32 :=
  select (cmpf (φ := .f32) (F := F) .ogt (tRng c g) (broadcastInDim S2x2x128x64x5 ![] bcast_S_S2x2x128x64x5 (constant (F := F) S_ .f32 0x00000000#32)))
    (Host.divf (φ := .f32) (F := F) (tRng c g) (broadcastInDim S2x2x128x64x5 ![] bcast_S_S2x2x128x64x5 (constant (F := F) S_ .f32 0x41700000#32)))
    (broadcastInDim S2x2x128x64x5 ![] bcast_S_S2x2x128x64x5 (id (constant (F := F) S_ .f32 0x3F800000#32)))

end Terms

variable (m : (ℓ : Loc nD τ sig) → Buf (Elt F) ℓ) (c : Dev nD)

theorem V_v19 : V m c main_v19 = tLo (tC (m ((c.tc : Thread nD τ).loc main_arg5)) (m ((c.tc : Thread nD τ).loc main_arg6))) (tG (m ((c.tc : Thread nD τ).loc main_arg0)) (m ((c.tc : Thread nD τ).loc main_arg1)) (m ((c.tc : Thread nD τ).loc main_arg3)) (m ((c.tc : Thread nD τ).loc main_arg4))) := by
  show Gen.V0 m c (Proc.devRef .tc main_v19) = _
  unfold tLo tC tG tX tP
  simp only [Gen.V0, Gen.hostOps0, Gen.hostOps0_1, Gen.hostOps0_2, Gen.hostOps0_3, Gen.hostOps0_4, TRef.binary, TRef.nullary, TRef.reshape, TRef.ternary, TRef.unary, TRef.toBuf, TRef.ofBuf, cast_eq, List.flatten_cons, List.flatten_nil, List.append_nil, List.cons_append, List.nil_append]
  after_results_simp <;> rfl

theorem V_v37 : V m c main_v37 = extui 32 (tV (m ((c.tc : Thread nD τ).loc main_arg2))) natLt_1_32 := by
  show Gen.V0 m c (Proc.devRef .tc main_v37) = _
  unfold tV tN
  simp only [Gen.V0, Gen.hostOps0, Gen.hostOps0_1, Gen.hostOps0_2, Gen.hostOps0_3, Gen.hostOps0_4, TRef.binary, TRef.nullary, TRef.reshape, TRef.ternary, TRef.unary, TRef.toBuf, TRef.ofBuf, cast_eq, List.flatten_cons, List.flatten_nil, List.append_nil, List.cons_append, List.nil_append]
  after_results_simp <;> rfl

theorem V_v28 : V m c main_v28 = tSc (tC (m ((c.tc : Thread nD τ).loc main_arg5)) (m ((c.tc : Thread nD τ).loc main_arg6))) (tG (m ((c.tc : Thread nD τ).loc main_arg0)) (m ((c.tc : Thread nD τ).loc main_arg1)) (m ((c.tc : Thread nD τ).loc main_arg3)) (m ((c.tc : Thread nD τ).loc main_arg4))) := by
  show Gen.V0 m c (Proc.devRef .tc main_v28) = _
  unfold tSc tRng tLo tC tG tX tP
  simp only [Gen.V0, Gen.hostOps0, Gen.hostOps0_1, Gen.hostOps0_2, Gen.hostOps0_3, Gen.hostOps0_4, TRef.binary, TRef.nullary, TRef.reshape, TRef.ternary, TRef.unary, TRef.toBuf, TRef.ofBuf, cast_eq, List.flatten_cons, List.flatten_nil, List.append_nil, List.cons_append, List.nil_append]
  after_results_simp <;> rfl

end Cert.ReferenceIdeal.Val

end
-- ==== Proof.RefOut.lean ====
/- What one run of the region's body stores. -/
module

public import proofs.«01_k».proof.Proof.Gen.ReferenceIdeal.Frame
public import Idealize.ShloMosaic.Lib.Pipeline.ValueKit

@[expose] public section

set_option maxRecDepth 16384

noncomputable section

namespace Cert.ReferenceIdeal.Val

open Cert.ReferenceIdeal Cert.ReferenceIdeal.Gen Idealize.ShloMosaic Idealize.ShloMosaic.TcCoe

variable {F : FTy → Type} [FloatOps F]

theorem out_3 (a b : Vec F S2x2x128x64x5 .f32) (w : Vec F S2x2x128x64x5 .i32) : out0_3 a b w = k0_pay3 w a := by
  unfold out0_3 r0_0
  have hz : (![0, 0, 0, 0, 0] : Fin 5 → Nat) = fun _ => 0 := by decide
  rw [View.canon_unit_zero (S := S2x2x128x64x5) hz]
  simp only [View.ld_unit_zero (S := S2x2x128x64x5) hz]

theorem out_4 (a b : Vec F S2x2x128x64x5 .f32) (w : Vec F S2x2x128x64x5 .i32) : out0_4 a b w = k0_pay5 w b := by
  unfold out0_4 r0_0
  have hz : (![0, 0, 0, 0, 0] : Fin 5 → Nat) = fun _ => 0 := by decide
  rw [View.canon_unit_zero (S := S2x2x128x64x5) hz]
  simp only [View.ld_unit_zero (S := S2x2x128x64x5) hz]

theorem out_5 (a b : Vec F S2x2x128x64x5 .f32) (w : Vec F S2x2x128x64x5 .i32) : out0_5 a b w = k0_pay2 a := by
  unfold out0_5 r0_0
  have hz : (![0, 0, 0, 0, 0] : Fin 5 → Nat) = fun _ => 0 := by decide
  rw [View.canon_unit_zero (S := S2x2x128x64x5) hz]
  simp only [View.ld_unit_zero (S := S2x2x128x64x5) hz]

theorem out_6 (a b : Vec F S2x2x128x64x5 .f32) (w : Vec F S2x2x128x64x5 .i32) : out0_6 a b w = k0_pay4 b := by
  unfold out0_6 r0_0
  have hz : (![0, 0, 0, 0, 0] : Fin 5 → Nat) = fun _ => 0 := by decide
  rw [View.canon_unit_zero (S := S2x2x128x64x5) hz]
  simp only [View.ld_unit_zero (S := S2x2x128x64x5) hz]

end Cert.ReferenceIdeal.Val

end
-- ==== Proof.RefBlk.lean ====
/- The blocks the region reads and the arrays it leaves. -/
module

public import proofs.«01_k».proof.Proof.RefOut
public import Idealize.ShloMosaic.Lib.Pipeline.ValueKit

@[expose] public section

set_option maxRecDepth 16384

noncomputable section

namespace Cert.ReferenceIdeal.Val

open Cert.ReferenceIdeal Cert.ReferenceIdeal.Gen Idealize.ShloMosaic Idealize.ShloMosaic.TcCoe

variable {F : FTy → Type} [FloatOps F] (m : (ℓ : Loc nD τ sig) → Buf (Elt F) ℓ) (c : Dev nD)

theorem idx_0 : ∀ t : Fin cfg0.N, win0_0.index t = ![0, 0, 0, 0, 0] := (by decide +kernel : ∀ t : Fin grid0.N, _)
theorem idx_1 : ∀ t : Fin cfg0.N, win0_1.index t = ![0, 0, 0, 0, 0] := (by decide +kernel : ∀ t : Fin grid0.N, _)
theorem idx_2 : ∀ t : Fin cfg0.N, win0_2.index t = ![0, 0, 0, 0, 0] := (by decide +kernel : ∀ t : Fin grid0.N, _)
theorem idx_3 : ∀ t : Fin cfg0.N, win0_3.index t = ![0, 0, 0, 0, 0] := (by decide +kernel : ∀ t : Fin grid0.N, _)
theorem idx_4 : ∀ t : Fin cfg0.N, win0_4.index t = ![0, 0, 0, 0, 0] := (by decide +kernel : ∀ t : Fin grid0.N, _)
theorem idx_5 : ∀ t : Fin cfg0.N, win0_5.index t = ![0, 0, 0, 0, 0] := (by decide +kernel : ∀ t : Fin grid0.N, _)
theorem idx_6 : ∀ t : Fin cfg0.N, win0_6.index t = ![0, 0, 0, 0, 0] := (by decide +kernel : ∀ t : Fin grid0.N, _)

theorem blk_0 (t : Fin cfg0.N) : iblk m c 0 t = V m c main_v28 := by
  have e := idx_0
  unfold iblk
  generalize V m c (Pipeline.arrRef spec0 0) = x
  funext y
  blk_simp
  blk_ext [e]

theorem blk_1 (t : Fin cfg0.N) : iblk m c 1 t = V m c main_v19 := by
  have e := idx_1
  unfold iblk
  generalize V m c (Pipeline.arrRef spec0 1) = x
  funext y
  blk_simp
  blk_ext [e]

theorem blk_2 (t : Fin cfg0.N) : iblk m c 2 t = V m c main_v37 := by
  have e := idx_2
  unfold iblk
  generalize V m c (Pipeline.arrRef spec0 2) = x
  funext y
  blk_simp
  blk_ext [e]

end Cert.ReferenceIdeal.Val

end
-- ==== Proof.RefRegion.lean ====
/- The arrays the region leaves. -/
module

public import proofs.«01_k».proof.Proof.RefBlk
public import Idealize.ShloMosaic.Lib.Pipeline.ValueKit

@[expose] public section

set_option maxRecDepth 16384

noncomputable section

namespace Cert.ReferenceIdeal.Val

open Cert.ReferenceIdeal Cert.ReferenceIdeal.Gen Idealize.ShloMosaic Idealize.ShloMosaic.TcCoe

variable {F : FTy → Type} [FloatOps F] (m : (ℓ : Loc nD τ sig) → Buf (Elt F) ℓ) (c : Dev nD)

theorem after_3 (t : Fin cfg0.N) : (dats m 0 c).after 3 t = k0_pay3 (V m c main_v37) (V m c main_v28) := by
  rw [after0_3, blk_0, blk_1, blk_2, out_3]

theorem arr_3 : (dats m 0 c).arrAt 3 cfg0.N = k0_pay3 (V m c main_v37) (V m c main_v28) := by
  refine (dats m 0 c).arrAt_eq_of_covers 3 _ (by decide +kernel) fun t hf y => ?_
  blk_simp
  rw [after_3]
  have e := idx_3
  blk_ext [e]

theorem after_4 (t : Fin cfg0.N) : (dats m 0 c).after 4 t = k0_pay5 (V m c main_v37) (V m c main_v19) := by
  rw [after0_4, blk_0, blk_1, blk_2, out_4]

theorem arr_4 : (dats m 0 c).arrAt 4 cfg0.N = k0_pay5 (V m c main_v37) (V m c main_v19) := by
  refine (dats m 0 c).arrAt_eq_of_covers 4 _ (by decide +kernel) fun t hf y => ?_
  blk_simp
  rw [after_4]
  have e := idx_4
  blk_ext [e]

theorem after_5 (t : Fin cfg0.N) : (dats m 0 c).after 5 t = k0_pay2 (V m c main_v28) := by
  rw [after0_5, blk_0, blk_1, blk_2, out_5]

theorem arr_5 : (dats m 0 c).arrAt 5 cfg0.N = k0_pay2 (V m c main_v28) := by
  refine (dats m 0 c).arrAt_eq_of_covers 5 _ (by decide +kernel) fun t hf y => ?_
  blk_simp
  rw [after_5]
  have e := idx_5
  blk_ext [e]

theorem after_6 (t : Fin cfg0.N) : (dats m 0 c).after 6 t = k0_pay4 (V m c main_v19) := by
  rw [after0_6, blk_0, blk_1, blk_2, out_6]

theorem arr_6 : (dats m 0 c).arrAt 6 cfg0.N = k0_pay4 (V m c main_v19) := by
  refine (dats m 0 c).arrAt_eq_of_covers 6 _ (by decide +kernel) fun t hf y => ?_
  blk_simp
  rw [after_6]
  have e := idx_6
  blk_ext [e]

end Cert.ReferenceIdeal.Val

end
-- ==== Proof.RefEntry.lean ====
/- What the buffers the reference's last part reads hold, from the arguments. -/
module

public import proofs.«01_k».proof.Proof.RefTerms
public import proofs.«01_k».proof.Proof.RefRegion
public import proofs.«01_k».proof.Proof.Gen.ReferenceIdeal.Run

@[expose] public section

set_option maxRecDepth 16384

noncomputable section

namespace Cert.ReferenceIdeal.Val

open Cert.ReferenceIdeal Cert.ReferenceIdeal.Gen Idealize.ShloMosaic Idealize.ShloMosaic.TcCoe
open Cert.ReferenceIdeal.Value

variable {F : FTy → Type} [FloatOps F] (m : (ℓ : Loc nD τ sig) → Buf (Elt F) ℓ) (c : Dev nD)

theorem exit_v16 : exitV m c (Proc.devRef .tc main_v16) = tG (m ((c.tc : Thread nD τ).loc main_arg0)) (m ((c.tc : Thread nD τ).loc main_arg1)) (m ((c.tc : Thread nD τ).loc main_arg3)) (m ((c.tc : Thread nD τ).loc main_arg4)) := exit_main_v16 m c

theorem exit_v36 : exitV m c (Proc.devRef .tc main_v36) = tV (m ((c.tc : Thread nD τ).loc main_arg2)) := exit_main_v36 m c

theorem exit_v6 : exitV m c (Proc.devRef .tc main_v6) = tP (m ((c.tc : Thread nD τ).loc main_arg3)) (m ((c.tc : Thread nD τ).loc main_arg4)) := exit_main_v6 m c

theorem exit_v12 : exitV m c (Proc.devRef .tc main_v12) = tN (m ((c.tc : Thread nD τ).loc main_arg2)) := exit_main_v12 m c

theorem exit_v2 : exitV m c (Proc.devRef .tc main_v2) = tX (m ((c.tc : Thread nD τ).loc main_arg0)) (m ((c.tc : Thread nD τ).loc main_arg1)) := exit_main_v2 m c

theorem exit_v38_0 : exitV m c (Proc.devRef .tc main_v38_0) = k0_pay3 (extui 32 (tV (m ((c.tc : Thread nD τ).loc main_arg2))) natLt_1_32) (tSc (tC (m ((c.tc : Thread nD τ).loc main_arg5)) (m ((c.tc : Thread nD τ).loc main_arg6))) (tG (m ((c.tc : Thread nD τ).loc main_arg0)) (m ((c.tc : Thread nD τ).loc main_arg1)) (m ((c.tc : Thread nD τ).loc main_arg3)) (m ((c.tc : Thread nD τ).loc main_arg4)))) := by
  rw [exit_main_v38_0]
  unfold reg_main_v38_0
  rw [arr_3, V_v37, V_v28]

theorem exit_v38_1 : exitV m c (Proc.devRef .tc main_v38_1) = k0_pay5 (extui 32 (tV (m ((c.tc : Thread nD τ).loc main_arg2))) natLt_1_32) (tLo (tC (m ((c.tc : Thread nD τ).loc main_arg5)) (m ((c.tc : Thread nD τ).loc main_arg6))) (tG (m ((c.tc : Thread nD τ).loc main_arg0)) (m ((c.tc : Thread nD τ).loc main_arg1)) (m ((c.tc : Thread nD τ).loc main_arg3)) (m ((c.tc : Thread nD τ).loc main_arg4)))) := by
  rw [exit_main_v38_1]
  unfold reg_main_v38_1
  rw [arr_4, V_v37, V_v19]

theorem exit_v38_2 : exitV m c (Proc.devRef .tc main_v38_2) = k0_pay2 (tSc (tC (m ((c.tc : Thread nD τ).loc main_arg5)) (m ((c.tc : Thread nD τ).loc main_arg6))) (tG (m ((c.tc : Thread nD τ).loc main_arg0)) (m ((c.tc : Thread nD τ).loc main_arg1)) (m ((c.tc : Thread nD τ).loc main_arg3)) (m ((c.tc : Thread nD τ).loc main_arg4)))) := by
  rw [exit_main_v38_2]
  unfold reg_main_v38_2
  rw [arr_5, V_v28]

theorem exit_v38_3 : exitV m c (Proc.devRef .tc main_v38_3) = k0_pay4 (tLo (tC (m ((c.tc : Thread nD τ).loc main_arg5)) (m ((c.tc : Thread nD τ).loc main_arg6))) (tG (m ((c.tc : Thread nD τ).loc main_arg0)) (m ((c.tc : Thread nD τ).loc main_arg1)) (m ((c.tc : Thread nD τ).loc main_arg3)) (m ((c.tc : Thread nD τ).loc main_arg4)))) := by
  rw [exit_main_v38_3]
  unfold reg_main_v38_3
  rw [arr_6, V_v19]

end Cert.ReferenceIdeal.Val

end
-- ==== Proof.RefHost.lean ====
/- Host operations of the reference read at an index: the gathers along the channels and along the tokens, the strided slices,
   the joins of two parts, the reshapes between groups and channels, and the argsort of a permutation. -/
module

public import proofs.«01_k».proof.Proof.Gen.ReferenceIdeal.Read
public import Idealize.ShloMosaic.Lib.ValueIdxRank6
public import Idealize.ShloMosaic.Lib.SortFacts
public import Idealize.ShloMosaic.Lib.Pointwise

@[expose] public section

set_option maxRecDepth 16384

noncomputable section

namespace Idealize.ShloMosaic

/-- Rank 7: the row-major position as one sum of products. -/
theorem Shape.rowMajor_val_seven {d : Fin 7 → Nat} (i : (⟨7, d⟩ : Shape).Idx) :
    ((⟨7, d⟩ : Shape).rowMajor i).val
      = ((((((i 0).val * d 1 + (i 1).val) * d 2 + (i 2).val) * d 3 + (i 3).val) * d 4 + (i 4).val) * d 5 + (i 5).val) * d 6 + (i 6).val := by
  show (Shape.rowMajorPi d i).val = _
  rw [Shape.rowMajorPi_succ_val, Shape.rowMajorPi_succ_val, Shape.rowMajorPi_succ_val, Shape.rowMajorPi_succ_val,
    Shape.rowMajorPi_succ_val, Shape.rowMajorPi_succ_val, Shape.rowMajorPi_succ_val]
  simp [Shape.rowMajorPi_zero, Fin.prod_univ_succ, Nat.add_mul, Nat.mul_assoc, Nat.add_assoc]

end Idealize.ShloMosaic

namespace Cert.ReferenceIdeal.Val

open Cert.ReferenceIdeal Cert.ReferenceIdeal.Gen Idealize.ShloMosaic

/-- A rank-7 index from its coordinates. -/
abbrev ix7 {n0 n1 n2 n3 n4 n5 n6 : Nat} (a : Fin n0) (b : Fin n1) (c : Fin n2) (d : Fin n3) (e : Fin n4) (f : Fin n5) (g : Fin n6) :
    (⟨7, ![n0, n1, n2, n3, n4, n5, n6]⟩ : Shape).Idx :=
  fun k => match k with | ⟨0, _⟩ => a | ⟨1, _⟩ => b | ⟨2, _⟩ => c | ⟨3, _⟩ => d | ⟨4, _⟩ => e | ⟨5, _⟩ => f | ⟨6, _⟩ => g

variable {α : Type}

/-- The take along the channels. -/
theorem take_channels (x : S2x2x128x64x160.Idx → α) (idx : IVec S2x64x160x1 32) (s b : Fin 2) (t : Fin 128) (h : Fin 64) (c : Fin 160) :
    Host.gather gather_S2x2x128x64x160_S2x64x160x1_S2x2x128x64x160_12_4_03_01_4_3_1212811 x idx (ix5 s b t h c)
      = x (ix5 s b t h ⟨min (idx (ix4 s h c (0 : Fin 1))).toInt.toNat 159, by omega⟩) := by
  unfold Host.gather
  congr 1
  funext a
  refine Fin.ext ?_
  match a with
  | ⟨0, _⟩ => exact Nat.zero_add _
  | ⟨1, _⟩ => exact Nat.zero_add _
  | ⟨2, _⟩ => exact Nat.zero_add _
  | ⟨3, _⟩ => exact Nat.zero_add _
  | ⟨4, _⟩ =>
    have hsi : (gather_S2x2x128x64x160_S2x64x160x1_S2x2x128x64x160_12_4_03_01_4_3_1212811).siIdx (ix5 s b t h c) ⟨0, Nat.one_pos⟩ = ix4 s h c (0 : Fin 1) := by
      funext k; refine Fin.ext ?_
      match k with
      | ⟨0, _⟩ => rfl
      | ⟨1, _⟩ => rfl
      | ⟨2, _⟩ => rfl
      | ⟨3, _⟩ => rfl
    show min (idx ((gather_S2x2x128x64x160_S2x64x160x1_S2x2x128x64x160_12_4_03_01_4_3_1212811).siIdx (ix5 s b t h c) ⟨0, Nat.one_pos⟩)).toInt.toNat 159 + 0 + 0 = _
    rw [hsi]; rfl

/-- The take along the tokens. -/
theorem take_tokens (x : S2x2x896x64x160.Idx → α) (idx : IVec S2x768x1 32) (s b : Fin 2) (w : Fin 768) (h : Fin 64) (c : Fin 160) :
    Host.gather gather_S2x2x896x64x160_S2x768x1_S2x2x768x64x160_034_2_1_0_2_2_21164160 x idx (ix5 s b w h c)
      = x (ix5 s b ⟨min (idx (ix3 b w (0 : Fin 1))).toInt.toNat 895, by omega⟩ h c) := by
  unfold Host.gather
  congr 1
  funext a
  refine Fin.ext ?_
  match a with
  | ⟨0, _⟩ => exact Nat.zero_add _
  | ⟨1, _⟩ => exact Nat.zero_add _
  | ⟨2, _⟩ =>
    have hsi : (gather_S2x2x896x64x160_S2x768x1_S2x2x768x64x160_034_2_1_0_2_2_21164160).siIdx (ix5 s b w h c) ⟨0, Nat.one_pos⟩ = ix3 b w (0 : Fin 1) := by
      funext k; refine Fin.ext ?_
      match k with
      | ⟨0, _⟩ => rfl
      | ⟨1, _⟩ => rfl
      | ⟨2, _⟩ => rfl
    show min (idx ((gather_S2x2x896x64x160_S2x768x1_S2x2x768x64x160_034_2_1_0_2_2_21164160).siIdx (ix5 s b w h c) ⟨0, Nat.one_pos⟩)).toInt.toNat 895 + 0 + 0 = _
    rw [hsi]; rfl
  | ⟨3, _⟩ => exact Nat.zero_add _
  | ⟨4, _⟩ => exact Nat.zero_add _

/-- The even and the odd members of every group. -/
theorem evens (x : S2x2x128x64x5x32.Idx → α) (s b : Fin 2) (t : Fin 128) (h : Fin 64) (g : Fin 5) (k : Fin 16) :
    Host.slice S2x2x128x64x5x16 ![0, 0, 0, 0, 0, 0] ![1, 1, 1, 1, 1, 2] x slicesBy_S2x2x128x64x5x32_S2x2x128x64x5x16_0s1_0s1_0s1_0s1_0s1_0s2 (ix6 s b t h g k)
      = x (ix6 s b t h g ⟨2 * k.val, by omega⟩) := by
  unfold Host.slice
  congr 1
  funext a
  refine Fin.ext ?_
  match a with
  | ⟨0, _⟩ => show 0 + 1 * s.val = s.val; omega
  | ⟨1, _⟩ => show 0 + 1 * b.val = b.val; omega
  | ⟨2, _⟩ => show 0 + 1 * t.val = t.val; omega
  | ⟨3, _⟩ => show 0 + 1 * h.val = h.val; omega
  | ⟨4, _⟩ => show 0 + 1 * g.val = g.val; omega
  | ⟨5, _⟩ => show 0 + 2 * k.val = 2 * k.val; omega

theorem odds (x : S2x2x128x64x5x32.Idx → α) (s b : Fin 2) (t : Fin 128) (h : Fin 64) (g : Fin 5) (k : Fin 16) :
    Host.slice S2x2x128x64x5x16 ![0, 0, 0, 0, 0, 1] ![1, 1, 1, 1, 1, 2] x slicesBy_S2x2x128x64x5x32_S2x2x128x64x5x16_0s1_0s1_0s1_0s1_0s1_1s2 (ix6 s b t h g k)
      = x (ix6 s b t h g ⟨2 * k.val + 1, by omega⟩) := by
  unfold Host.slice
  congr 1
  funext a
  refine Fin.ext ?_
  match a with
  | ⟨0, _⟩ => show 0 + 1 * s.val = s.val; omega
  | ⟨1, _⟩ => show 0 + 1 * b.val = b.val; omega
  | ⟨2, _⟩ => show 0 + 1 * t.val = t.val; omega
  | ⟨3, _⟩ => show 0 + 1 * h.val = h.val; omega
  | ⟨4, _⟩ => show 0 + 1 * g.val = g.val; omega
  | ⟨5, _⟩ => show 1 + 2 * k.val = 2 * k.val + 1; omega

/-- Groups of sixteen codes in a row. -/
theorem join16 (x : S2x2x128x64x5x16.Idx → α) (s b : Fin 2) (t : Fin 128) (h : Fin 64) (r : Fin 80) :
    shapeCast S2x2x128x64x80 x shapeCasts_S2x2x128x64x5x16_S2x2x128x64x80 (ix5 s b t h r)
      = x (ix6 s b t h (⟨r.val / 16, by omega⟩ : Fin 5) (⟨r.val % 16, by omega⟩ : Fin 16)) :=
  shapeCast_apply x _ _ _ (by
    rw [Shape.rowMajor_val_six, Shape.rowMajor_val_five]
    show ((((s.val * 2 + b.val) * 128 + t.val) * 64 + h.val) * 5 + r.val / 16) * 16 + r.val % 16
      = (((s.val * 2 + b.val) * 128 + t.val) * 64 + h.val) * 80 + r.val
    omega)

/-- Pairs of values in a row. -/
theorem join32 (x : S2x2x128x64x5x16x2.Idx → α) (s b : Fin 2) (t : Fin 128) (h : Fin 64) (q : Fin 160) :
    shapeCast S2x2x128x64x160 x shapeCasts_S2x2x128x64x5x16x2_S2x2x128x64x160 (ix5 s b t h q)
      = x (ix7 s b t h (⟨q.val / 32, by omega⟩ : Fin 5) (⟨q.val / 2 % 16, by omega⟩ : Fin 16) (⟨q.val % 2, by omega⟩ : Fin 2)) :=
  shapeCast_apply x _ _ _ (by
    rw [Shape.rowMajor_val_seven, Shape.rowMajor_val_five]
    show (((((s.val * 2 + b.val) * 128 + t.val) * 64 + h.val) * 5 + q.val / 32) * 16 + q.val / 2 % 16) * 2 + q.val % 2
      = (((s.val * 2 + b.val) * 128 + t.val) * 64 + h.val) * 160 + q.val
    omega)

/-- Channels cut in groups. -/
theorem cut32 (x : S2x2x128x64x160.Idx → α) (s b : Fin 2) (t : Fin 128) (h : Fin 64) (g : Fin 5) (j : Fin 32) :
    shapeCast S2x2x128x64x5x32 x shapeCasts_S2x2x128x64x160_S2x2x128x64x5x32 (ix6 s b t h g j)
      = x (ix5 s b t h (⟨32 * g.val + j.val, by omega⟩ : Fin 160)) :=
  shapeCast_apply x _ _ _ (by
    rw [Shape.rowMajor_val_six, Shape.rowMajor_val_five]
    show (((s.val * 2 + b.val) * 128 + t.val) * 64 + h.val) * 160 + (32 * g.val + j.val)
      = ((((s.val * 2 + b.val) * 128 + t.val) * 64 + h.val) * 5 + g.val) * 32 + j.val
    omega)

/-- Two values side by side. -/
theorem pair_at (x y : S2x2x128x64x5x16x1.Idx → α) (s b : Fin 2) (t : Fin 128) (h : Fin 64) (g : Fin 5) (k : Fin 16) (e : Fin 2) :
    concatenate S2x2x128x64x5x16x2 6 [⟨S2x2x128x64x5x16x1, x⟩, ⟨S2x2x128x64x5x16x1, y⟩] concatenates_S2x2x128x64x5x16x1_S2x2x128x64x5x16x1_S2x2x128x64x5x16x2_d6 (ix7 s b t h g k e)
      = if e.val = 0 then x (ix7 s b t h g k (0 : Fin 1)) else y (ix7 s b t h g k (0 : Fin 1)) := by
  by_cases he : e.val = 0
  · rw [if_pos he]
    refine concatenate_pair_apply_left (t := S2x2x128x64x5x16x2) (s₁ := S2x2x128x64x5x16x1) (s₂ := S2x2x128x64x5x16x1) (6 : Fin 7) x y
      concatenates_S2x2x128x64x5x16x1_S2x2x128x64x5x16x1_S2x2x128x64x5x16x2_d6 (ix7 s b t h g k e) rfl (ix7 s b t h g k (0 : Fin 1)) fun a => ?_
    match a with
    | ⟨0, _⟩ => rfl
    | ⟨1, _⟩ => rfl
    | ⟨2, _⟩ => rfl
    | ⟨3, _⟩ => rfl
    | ⟨4, _⟩ => rfl
    | ⟨5, _⟩ => rfl
    | ⟨6, _⟩ => exact he.symm
  · rw [if_neg he]
    refine concatenate_pair_apply_right (t := S2x2x128x64x5x16x2) (s₁ := S2x2x128x64x5x16x1) (s₂ := S2x2x128x64x5x16x1) (6 : Fin 7) x y
      concatenates_S2x2x128x64x5x16x1_S2x2x128x64x5x16x1_S2x2x128x64x5x16x2_d6 (ix7 s b t h g k e) rfl rfl (ix7 s b t h g k (0 : Fin 1)) (fun a ha => ?_) ?_
    · match a with
      | ⟨0, _⟩ => rfl
      | ⟨1, _⟩ => rfl
      | ⟨2, _⟩ => rfl
      | ⟨3, _⟩ => rfl
      | ⟨4, _⟩ => rfl
      | ⟨5, _⟩ => rfl
      | ⟨6, _⟩ => exact absurd rfl ha
    · show 0 + 1 = e.val; omega

/-- A monotone self-map of a finite chain that is injective is the identity. -/
theorem eq_self_of_strictMono {n : ℕ} (f : Fin n → Fin n) (hf : StrictMono f) (k : Fin n) : f k = k :=
  le_antisymm hf.apply_le (hf.le_apply)

/-- Sorting the positions of a permutation by its values inverts it. -/
theorem sorted_inverse {n : ℕ} (key : Fin n → ℤ) (h0 : ∀ k, 0 ≤ key k ∧ key k < n) (hi : Function.Injective key)
    (R : Fin n → Fin n → Bool) (hR : ∀ a b, R a b = decide (key a < key b)) (k : Fin n) : key (sortedFrom R k) = k.val := by
  let f : Fin n → Fin n := fun k => ⟨(key (sortedFrom R k)).toNat, by have := h0 (sortedFrom R k); omega⟩
  have hf : StrictMono f := fun i j hij => by
    have hn := sortedFrom_noInversion R R (fun a b h => by
        rw [hR] at h ⊢; have := of_decide_eq_true h; exact decide_eq_false (by omega)) (fun a b h => h)
      (fun a b c h1 h2 => by
        rw [hR] at h1 h2 ⊢; have := of_decide_eq_false h1; have := of_decide_eq_false h2; exact decide_eq_false (by omega)) i j hij
    rw [hR] at hn
    have hn := of_decide_eq_false hn
    have hne : key (sortedFrom R i) ≠ key (sortedFrom R j) := fun e => (Fin.ne_of_lt hij) (sortedFrom_injective R (hi e))
    show (key (sortedFrom R i)).toNat < (key (sortedFrom R j)).toNat
    have := h0 (sortedFrom R i); have := h0 (sortedFrom R j)
    omega
  have e := congrArg Fin.val (eq_self_of_strictMono f hf k)
  have := h0 (sortedFrom R k)
  change (key (sortedFrom R k)).toNat = k.val at e
  omega

/-- The argsort of a permutation of the channels: a position that holds the channel. -/
theorem argsort_at {F : FTy → Type} [FloatOps F] (e2 : S2x1x1x64x160.Idx → BitVec 32) (s : Fin 2) (h : Fin 64)
    (h0 : ∀ a : Fin 160, 0 ≤ (e2 (ix5 s (0 : Fin 1) (0 : Fin 1) h a)).toInt ∧ (e2 (ix5 s (0 : Fin 1) (0 : Fin 1) h a)).toInt < 160)
    (hi : ∀ a a' : Fin 160, e2 (ix5 s (0 : Fin 1) (0 : Fin 1) h a) = e2 (ix5 s (0 : Fin 1) (0 : Fin 1) h a') → a = a') (c : Fin 160) :
    ∃ q : Fin 160, Read.val_main_v77 (F := F) e2 (ix5 s (0 : Fin 1) (0 : Fin 1) h c) = BitVec.ofNat 32 q.val
      ∧ (e2 (ix5 s (0 : Fin 1) (0 : Fin 1) h q)).toInt = c.val := by
  have hal : ∀ k : Fin 160, Shape.Idx.along (s := S2x1x1x64x160) (ix5 s (0 : Fin 1) (0 : Fin 1) h c) (4 : Fin 5) k = ix5 s (0 : Fin 1) (0 : Fin 1) h k := fun k => by
    funext a
    match a with
    | ⟨0, _⟩ => rfl
    | ⟨1, _⟩ => rfl
    | ⟨2, _⟩ => rfl
    | ⟨3, _⟩ => rfl
    | ⟨4, _⟩ => rfl
  let R : Fin 160 → Fin 160 → Bool := fun k k' => IntOp.cmpi .slt (e2 (ix5 s (0 : Fin 1) (0 : Fin 1) h k)) (e2 (ix5 s (0 : Fin 1) (0 : Fin 1) h k')) == 1#1
  have hR : ∀ a b, R a b = decide ((e2 (ix5 s (0 : Fin 1) (0 : Fin 1) h a)).toInt < (e2 (ix5 s (0 : Fin 1) (0 : Fin 1) h b)).toInt) := fun a b => by
    have := IntOp.cmpi_slt (x := e2 (ix5 s (0 : Fin 1) (0 : Fin 1) h a)) (y := e2 (ix5 s (0 : Fin 1) (0 : Fin 1) h b))
    rw [Bool.eq_iff_iff, decide_eq_true_iff, ← this]
    exact beq_iff_eq
  refine ⟨sortedFrom R c, ?_, sorted_inverse (fun a => (e2 (ix5 s (0 : Fin 1) (0 : Fin 1) h a)).toInt) h0
    (fun a b e => hi a b (BitVec.eq_of_toInt_eq e)) R hR c⟩
  have key : ∀ π : Fin 160, π = sortedFrom R c →
      Read.val_main_call7_v0 (F := F) (Shape.Idx.along (s := S2x1x1x64x160) (ix5 s (0 : Fin 1) (0 : Fin 1) h c) (4 : Fin 5) π) = BitVec.ofNat 32 (sortedFrom R c).val := fun π e => by
    rw [hal, e]; rfl
  refine Eq.trans ?_ (key (sortedFrom (fun k k' => comparator_i32_i32_d4
    (e2 (Shape.Idx.along (s := S2x1x1x64x160) (ix5 s (0 : Fin 1) (0 : Fin 1) h c) (4 : Fin 5) k), Read.val_main_call7_v0 (F := F) (Shape.Idx.along (s := S2x1x1x64x160) (ix5 s (0 : Fin 1) (0 : Fin 1) h c) (4 : Fin 5) k))
    (e2 (Shape.Idx.along (s := S2x1x1x64x160) (ix5 s (0 : Fin 1) (0 : Fin 1) h c) (4 : Fin 5) k'), Read.val_main_call7_v0 (F := F) (Shape.Idx.along (s := S2x1x1x64x160) (ix5 s (0 : Fin 1) (0 : Fin 1) h c) (4 : Fin 5) k')) == 1#1) c) ?_)
  · unfold Read.val_main_v77 Host.sort2
    rw [dif_pos (show 4 < S2x1x1x64x160.rank by decide)]
    rfl
  · refine congrArg (fun R => sortedFrom R c) ?_
    funext k k'
    rw [hal, hal]
    rfl

end Cert.ReferenceIdeal.Val

end
-- ==== Proof.RefMath.lean ====
/- The pure facts that join the two sides: dividing is multiplying by the reciprocal, a code is an integer of 0 .. 15 whose
   byte packs by shifts, and the sum over a permutation's one-hot row picks one term. -/
module

public import proofs.«01_k».proof.Proof.Entry

@[expose] public section

set_option maxRecDepth 16384

noncomputable section

namespace Cert.KernelIdeal.Val

open Cert.KernelIdeal Idealize.ShloMosaic

theorem fifteen : Ideal.ofBits .f32 0x41700000#32 = ((15 : ℝ) : EReal) := by
  simp [Ideal.ofBits, Ideal.ieee, -EReal.coe_mul]; norm_num

theorem sixteen : Ideal.ofBits .f32 0x41800000#32 = ((16 : ℝ) : EReal) := by
  simp [Ideal.ofBits, Ideal.ieee, -EReal.coe_mul]; norm_num

/-- A scale is not zero. -/
theorem scaleOf_ne_zero (lo hi : EReal) : scaleOf lo hi ≠ 0 := by
  unfold scaleOf
  split
  · rename_i h
    rw [fifteen]
    unfold Ideal.div
    rw [if_neg (by exact_mod_cast (by norm_num : (15 : ℝ) ≠ 0))]
    refine (EReal.mul_pos h ?_).ne'
    rw [← EReal.coe_inv]
    exact_mod_cast (by norm_num : (0 : ℝ) < 15⁻¹)
  · exact one_ne_zero

/-- Dividing is multiplying by the reciprocal. -/
theorem div_eq_mul (x s : EReal) (hs : s ≠ 0) : Ideal.div x s = x * Ideal.div 1 s := by
  unfold Ideal.div
  rw [if_neg hs, if_neg hs, one_mul]

/-- A value rounded and clipped to 0 .. 15 is one of those integers. -/
theorem clipped (x : EReal) : ∃ n : ℕ, n ≤ 15 ∧ min (Ideal.ofBits .f32 0x41700000#32) (max 0 (Ideal.liftRound Ideal.roundHalfEven x)) = ((n : ℝ) : EReal) := by
  rw [fifteen]
  induction x with
  | bot => exact ⟨0, by omega, by rw [Ideal.liftRound_bot, max_eq_left bot_le, min_eq_right]; · simp
                                  exact_mod_cast (by norm_num : (0 : ℝ) ≤ 15)⟩
  | top => exact ⟨15, le_rfl, by rw [Ideal.liftRound_top, max_eq_right le_top, min_eq_left le_top]; norm_num⟩
  | coe r =>
    rw [Ideal.liftRound_coe]
    generalize Ideal.roundHalfEven r = z
    refine ⟨(min 15 (max 0 z)).toNat, by omega, ?_⟩
    have e : (((min 15 (max 0 z)).toNat : ℕ) : ℝ) = ((min 15 (max 0 z) : ℤ) : ℝ) := by
      have : (((min 15 (max 0 z)).toNat : ℕ) : ℤ) = min 15 (max 0 z) := Int.toNat_of_nonneg (by omega)
      exact_mod_cast this
    rw [e]
    push_cast
    rfl

theorem fptosi_nat (n : ℕ) (h : n < 2 ^ 16) : Ideal.fptosi 32 ((n : ℝ) : EReal) = BitVec.ofNat 32 n := by
  unfold Ideal.fptosi
  rw [Ideal.toIntClamped_coe, if_pos (Nat.cast_nonneg n), Int.floor_natCast]
  have : max (-(2 ^ (32 - 1) : ℕ) : ℤ) (min ((2 ^ (32 - 1) : ℕ) - 1 : ℤ) (n : ℤ)) = n := by norm_num; omega
  rw [this, BitVec.ofInt_natCast]

theorem pack_word : ∀ a b : Fin 16, BitVec.setWidth 8 (BitVec.ofNat 32 (b.val * 16 + a.val))
    = BitVec.setWidth 8 (BitVec.ofNat 32 a.val ||| (BitVec.ofNat 32 b.val <<< 4)) := by decide

/-- Two codes in one byte, by arithmetic and by shifts. -/
theorem pack (a b : ℕ) (ha : a ≤ 15) (hb : b ≤ 15) :
    (Ideal.fptosi 32 (((b : ℝ) : EReal) * ((16 : ℝ) : EReal) + ((a : ℝ) : EReal))).setWidth 8
      = BitVec.setWidth 8 (BitVec.ofNat 32 a ||| (BitVec.ofNat 32 b <<< 4)) := by
  have e : (((b : ℝ) : EReal) * ((16 : ℝ) : EReal) + ((a : ℝ) : EReal)) = (((b * 16 + a : ℕ) : ℝ) : EReal) := by push_cast; rfl
  rw [e, fptosi_nat _ (by omega)]
  exact pack_word ⟨a, by omega⟩ ⟨b, by omega⟩

theorem unpack_low : ∀ a b : Fin 16, ((BitVec.ofNat 32 a.val ||| (BitVec.ofNat 32 b.val <<< 4)) &&& 15#32).toInt = a.val := by decide
theorem unpack_high : ∀ a b : Fin 16, ((BitVec.ofNat 32 a.val ||| (BitVec.ofNat 32 b.val <<< 4)).sshiftRight 4).toInt = b.val := by decide

/-- A channel's value: the one of the row that carries it. -/
theorem kD_eq (on : Prop) [Decidable on] (p : Fin 160 → Fin 160) (hp : Function.Injective p) (f : Fin 160 → EReal) (cl : Fin 5 → EReal) (a : Fin 160) :
    kD on p f cl (p a) = kY on f cl a := by
  unfold kD
  rw [Finset.sum_eq_single a (fun b _ hb => by rw [if_neg (fun e => hb (hp e).symm), zero_mul]) (fun h => absurd (Finset.mem_univ _) h), if_pos rfl, one_mul]

/-- Row `rowOf g j` belongs to group `g` and sits at position `32 g + j`. -/
theorem gOf_rowOf (g : Fin 5) (j : Fin 32) : gOf (rowOf g j) = g := Fin.ext (by
  show (16 * g.val + j.val / 2 + 80 * (j.val % 2)) % 80 / 16 = g.val
  rw [Nat.add_mul_mod_self_left, Nat.mod_eq_of_lt (by omega)]
  omega)

theorem pos_rowOf (g : Fin 5) (j : Fin 32) : (pos (rowOf g j)).val = 32 * g.val + j.val := by
  show 2 * ((16 * g.val + j.val / 2 + 80 * (j.val % 2)) % 80) + (16 * g.val + j.val / 2 + 80 * (j.val % 2)) / 80 = _
  omega

section Word

variable (on : Prop) [Decidable on] (f : Fin 160 → EReal) (cl : Fin 5 → EReal)

theorem kQ_on (h : on) (g : Fin 5) (j : Fin 32) : kQ on f cl (rowOf g j)
    = min (Ideal.ofBits .f32 0x41700000#32) (max 0 (Ideal.liftRound Ideal.roundHalfEven (Ideal.div (f (rowOf g j) - kLo f cl g) (kSc f cl g)))) := by
  unfold kQ
  rw [if_pos h, gOf_rowOf, ← div_eq_mul _ (kSc f cl g) (scaleOf_ne_zero _ _)]

theorem kQ_off (h : ¬ on) (a : Fin 160) : kQ on f cl a = 0 := by
  unfold kQ
  rw [if_neg h, fifteen, ← EReal.coe_zero, Ideal.liftRound_coe]
  have : Ideal.roundHalfEven 0 = 0 := by unfold Ideal.roundHalfEven; norm_num
  rw [this]
  rw [Int.cast_zero, max_self, min_eq_right]
  exact_mod_cast (by norm_num : (0 : ℝ) ≤ 15)

theorem kQ_nat (a : Fin 160) : ∃ n : ℕ, n ≤ 15 ∧ kQ on f cl a = ((n : ℝ) : EReal) := clipped _

/-- The integer a member of a group is rounded to. -/
def qWord (g : Fin 5) (j : Fin 32) : BitVec 32 := Ideal.fptosi 32
  (min (Ideal.ofBits .f32 0x41700000#32) (max 0 (Ideal.liftRound Ideal.roundHalfEven (Ideal.div (f (rowOf g j) - kLo f cl g) (kSc f cl g)))))

/-- Two members' integers in one word, none past the tokens quantised. -/
def cWord (g : Fin 5) (k : Fin 16) : BitVec 32 :=
  if on then qWord f cl g ⟨2 * k.val, by omega⟩ ||| (qWord f cl g ⟨2 * k.val + 1, by omega⟩ <<< 4) else 0#32

theorem cWord_nat (h : on) (g : Fin 5) (k : Fin 16) : ∃ a b : ℕ, a ≤ 15 ∧ b ≤ 15
    ∧ kQ on f cl (rowOf g ⟨2 * k.val, by omega⟩) = ((a : ℝ) : EReal) ∧ kQ on f cl (rowOf g ⟨2 * k.val + 1, by omega⟩) = ((b : ℝ) : EReal)
    ∧ cWord on f cl g k = BitVec.ofNat 32 a ||| (BitVec.ofNat 32 b <<< 4) := by
  obtain ⟨a, ha, ea⟩ := kQ_nat on f cl (rowOf g ⟨2 * k.val, by omega⟩)
  obtain ⟨b, hb, eb⟩ := kQ_nat on f cl (rowOf g ⟨2 * k.val + 1, by omega⟩)
  refine ⟨a, b, ha, hb, ea, eb, ?_⟩
  unfold cWord qWord
  rw [if_pos h, ← kQ_on on f cl h, ← kQ_on on f cl h, ea, eb, fptosi_nat _ (by omega), fptosi_nat _ (by omega)]

/-- The word's low byte is the kernel's. -/
theorem cWord_code (r : Fin 80) : (cWord on f cl ⟨r.val / 16, by omega⟩ ⟨r.val % 16, by omega⟩).setWidth 8 = kC on f cl r := by
  unfold kC
  rw [sixteen]
  by_cases h : on
  · obtain ⟨a, b, ha, hb, ea, eb, e⟩ := cWord_nat on f cl h ⟨r.val / 16, by omega⟩ ⟨r.val % 16, by omega⟩
    have e0 : (rowOf ⟨r.val / 16, by omega⟩ ⟨2 * (r.val % 16), by omega⟩ : Fin 160) = ⟨r.val, by omega⟩ :=
      Fin.ext (by show 16 * (r.val / 16) + 2 * (r.val % 16) / 2 + 80 * (2 * (r.val % 16) % 2) = r.val; omega)
    have e1 : (rowOf ⟨r.val / 16, by omega⟩ ⟨2 * (r.val % 16) + 1, by omega⟩ : Fin 160) = ⟨80 + r.val, by omega⟩ :=
      Fin.ext (by show 16 * (r.val / 16) + (2 * (r.val % 16) + 1) / 2 + 80 * ((2 * (r.val % 16) + 1) % 2) = 80 + r.val; omega)
    rw [← e0, ← e1, ea, eb, e, pack a b ha hb]
  · rw [kQ_off on f cl h, kQ_off on f cl h]
    have := pack 0 0 (by omega) (by omega)
    simp only [Nat.cast_zero, EReal.coe_zero] at this
    rw [this]
    unfold cWord
    rw [if_neg h]
    rfl

/-- The value read back from a code. -/
theorem cWord_low (g : Fin 5) (k : Fin 16) :
    (((cWord on f cl g k &&& 15#32).toInt : ℝ) : EReal) * (if on then kSc f cl g else 0) + (if on then kLo f cl g else 0)
      = kY on f cl (rowOf g ⟨2 * k.val, by omega⟩) := by
  unfold kY
  rw [gOf_rowOf]
  by_cases h : on
  · obtain ⟨a, b, ha, hb, ea, eb, e⟩ := cWord_nat on f cl h g k
    rw [if_pos h, if_pos h, if_pos h, ea, e, unpack_low ⟨a, by omega⟩ ⟨b, by omega⟩]
    simp
  · rw [if_neg h, if_neg h, if_neg h, mul_zero]

theorem cWord_high (g : Fin 5) (k : Fin 16) :
    ((((cWord on f cl g k).sshiftRight 4).toInt : ℝ) : EReal) * (if on then kSc f cl g else 0) + (if on then kLo f cl g else 0)
      = kY on f cl (rowOf g ⟨2 * k.val + 1, by omega⟩) := by
  unfold kY
  rw [gOf_rowOf]
  by_cases h : on
  · obtain ⟨a, b, ha, hb, ea, eb, e⟩ := cWord_nat on f cl h g k
    rw [if_pos h, if_pos h, if_pos h, eb, e, unpack_high ⟨a, by omega⟩ ⟨b, by omega⟩]
    simp
  · rw [if_neg h, if_neg h, if_neg h, mul_zero]

end Word

end Cert.KernelIdeal.Val

end
-- ==== Proof.RefOps.lean ====
/- The reference's results as functions of the plain data of the two caches. -/
module

public import proofs.«01_k».proof.Proof.RefHost
public import proofs.«01_k».proof.Proof.RefMath

@[expose] public section

set_option maxRecDepth 16384

noncomputable section

namespace Cert.ReferenceIdeal.Val

open Cert.ReferenceIdeal Cert.ReferenceIdeal.Gen Cert.ReferenceIdeal.Read Idealize.ShloMosaic
open Cert.KernelIdeal.Val (Side Lens kLo kSc kQ kC kY kD qWord cWord rowOf pos)

/-- An index from its coordinates' values. -/
theorem ext5 {n0 n1 n2 n3 n4 : ℕ} {i : (⟨5, ![n0, n1, n2, n3, n4]⟩ : Shape).Idx} {a : Fin n0} {b : Fin n1} {c : Fin n2} {d : Fin n3} {e : Fin n4}
    (h0 : (i 0).val = a.val) (h1 : (i 1).val = b.val) (h2 : (i 2).val = c.val) (h3 : (i 3).val = d.val) (h4 : (i 4).val = e.val) :
    i = ix5 a b c d e := by
  funext k
  match k with
  | ⟨0, _⟩ => exact Fin.ext h0
  | ⟨1, _⟩ => exact Fin.ext h1
  | ⟨2, _⟩ => exact Fin.ext h2
  | ⟨3, _⟩ => exact Fin.ext h3
  | ⟨4, _⟩ => exact Fin.ext h4

theorem ext6 {n0 n1 n2 n3 n4 n5 : ℕ} {i : (⟨6, ![n0, n1, n2, n3, n4, n5]⟩ : Shape).Idx} {a : Fin n0} {b : Fin n1} {c : Fin n2} {d : Fin n3} {e : Fin n4}
    {f : Fin n5} (h0 : (i 0).val = a.val) (h1 : (i 1).val = b.val) (h2 : (i 2).val = c.val) (h3 : (i 3).val = d.val) (h4 : (i 4).val = e.val)
    (h5 : (i 5).val = f.val) : i = ix6 a b c d e f := by
  funext k
  match k with
  | ⟨0, _⟩ => exact Fin.ext h0
  | ⟨1, _⟩ => exact Fin.ext h1
  | ⟨2, _⟩ => exact Fin.ext h2
  | ⟨3, _⟩ => exact Fin.ext h3
  | ⟨4, _⟩ => exact Fin.ext h4
  | ⟨5, _⟩ => exact Fin.ext h5

/-- What the buffers before the last part hold, in terms of the caches' data. -/
structure Reads (sd : Fin 2 → Side) (N : Lens) (r0 r1 r2 r3 : S2x2x128x64x5.Idx → EReal) (e0 : S2x2x128x64x5x32.Idx → EReal)
    (e1 : S2x2x128x64x5.Idx → BitVec 1) (e2 : S2x1x1x64x160.Idx → BitVec 32) (e3 : S2.Idx → BitVec 32) (e4 : S2x2x896x64x160.Idx → EReal) : Prop where
  data : ∀ s b l H g j, e0 (ix6 s b l H g j) = (sd s).f H b l (rowOf g j)
  valid : ∀ s b (l : Fin 128) H g, e1 (ix5 s b l H g) = if l.val < N.n b then 1#1 else 0#1
  perm : ∀ s H a, (e2 (ix5 s (0 : Fin 1) (0 : Fin 1) H (pos a))).toInt = ((sd s).P H a).val
  inj : ∀ s H, Function.Injective ((sd s).P H)
  len : ∀ b : Fin 2, e3 (ix1 b) = BitVec.ofNat 32 (N.n b)
  cache : ∀ s b w H c, e4 (ix5 s b w H c) = (sd s).X b H c w
  sf : ∀ s b l H g, r2 (ix5 s b l H g) = kSc ((sd s).f H b l) ((sd s).C H) g
  lo : ∀ s b l H g, r3 (ix5 s b l H g) = kLo ((sd s).f H b l) ((sd s).C H) g
  scale : ∀ s b l H g, r0 (ix5 s b l H g) = (sd s).scale N b H g l
  zero : ∀ s b l H g, r1 (ix5 s b l H g) = (sd s).zero N b H g l

namespace Reads

variable {sd : Fin 2 → Side} {N : Lens} {r0 r1 r2 r3 : S2x2x128x64x5.Idx → EReal} {e0 : S2x2x128x64x5x32.Idx → EReal}
    {e1 : S2x2x128x64x5.Idx → BitVec 1} {e2 : S2x1x1x64x160.Idx → BitVec 32} {e3 : S2.Idx → BitVec 32} {e4 : S2x2x896x64x160.Idx → EReal}
    (R : Reads sd N r0 r1 r2 r3 e0 e1 e2 e3 e4)
    (s b : Fin 2) (l : Fin 128) (H : Fin 64) (g : Fin 5)

include R in
/-- A member's integer. -/
theorem q_at (j : Fin 32) : val_main_v47 (F := Ideal) r2 r3 e0 (ix6 s b l H g j) = qWord ((sd s).f H b l) ((sd s).C H) g j := by
  simp only [val_main_v47_apply, val_main_v46_apply, val_main_call3_v4_apply, val_main_call3_v3_apply, val_main_c_5_apply, val_main_call3_v2_apply,
    val_main_call3_v1_apply, val_main_call3_v0_apply, val_main_c_4_apply, val_main_v45_apply, val_main_v44_apply, val_main_v41_apply,
    val_main_v40_apply, val_main_v39_apply, val_main_v43_apply, val_main_v42_apply]
  have i3 : idx_main_v39 (idx_main_v40 (ix6 s b l H g j)) = ix5 s b l H g := ext5 rfl rfl rfl rfl rfl
  have i2 : idx_main_v42 (idx_main_v43 (ix6 s b l H g j)) = ix5 s b l H g := ext5 rfl rfl rfl rfl rfl
  rw [i3, i2, R.sf, R.lo, R.data]
  show Ideal.fptosi 32 (min (((15#32).toInt : ℝ) : EReal) (max (((0#32).toInt : ℝ) : EReal) _)) = _
  unfold qWord
  rw [Cert.KernelIdeal.Val.fifteen, show (15#32).toInt = 15 from by decide, show (0#32).toInt = 0 from by decide]
  norm_num

include R in
/-- Two members' word. -/
theorem word_at (k : Fin 16) : val_main_v54 (F := Ideal) r2 r3 e0 e1 (ix6 s b l H g k)
    = cWord (l.val < N.n b) ((sd s).f H b l) ((sd s).C H) g k := by
  have hv : val_main_call4_v1 (F := Ideal) e1 (ix6 s b l H g k) = if l.val < N.n b then 1#1 else 0#1 := by
    rw [val_main_call4_v1_apply, val_main_v53_apply,
      show idx_main_v53 (idx_main_call4_v1 (ix6 s b l H g k)) = ix5 s b l H g from ext5 rfl rfl rfl rfl rfl]
    exact R.valid s b l H g
  have he : val_main_v48 (F := Ideal) r2 r3 e0 (ix6 s b l H g k) = qWord ((sd s).f H b l) ((sd s).C H) g ⟨2 * k.val, by omega⟩ :=
    (evens _ s b l H g k).trans (R.q_at s b l H g _)
  have ho : val_main_v49 (F := Ideal) r2 r3 e0 (ix6 s b l H g k) = qWord ((sd s).f H b l) ((sd s).C H) g ⟨2 * k.val + 1, by omega⟩ :=
    (odds _ s b l H g k).trans (R.q_at s b l H g _)
  rw [val_main_v54_apply, val_main_v52_apply, val_main_v51_apply, val_main_v50_apply, val_main_c_6_apply, val_main_call4_v2_apply,
    val_main_call4_v0_apply, val_main_c_7_apply, hv, he, ho]
  unfold cWord
  split
  · rfl
  · rfl

include R in
theorem sel_scale : val_main_v55 (F := Ideal) r2 e1 (ix5 s b l H g) = if l.val < N.n b then kSc ((sd s).f H b l) ((sd s).C H) g else 0 := by
  rw [val_main_v55_apply, val_main_call5_v1_apply, val_main_call5_v0_apply, val_main_cst_8_apply, R.valid, R.sf]
  split
  · rfl
  · show Ideal.ofBits .f32 0#32 = 0
    simp [Ideal.ofBits, Ideal.ieee]

include R in
theorem sel_zero : val_main_v57 (F := Ideal) r3 e1 (ix5 s b l H g) = if l.val < N.n b then kLo ((sd s).f H b l) ((sd s).C H) g else 0 := by
  rw [val_main_v57_apply, val_main_call6_v1_apply, val_main_call6_v0_apply, val_main_cst_9_apply, R.valid, R.lo]
  split
  · rfl
  · show Ideal.ofBits .f32 0#32 = 0
    simp [Ideal.ofBits, Ideal.ieee]

include R in
/-- The values read back, of the even and of the odd members. -/
theorem even_at (k : Fin 16) : val_main_v68 (F := Ideal) r2 r3 e0 e1 (ix6 s b l H g k)
    = kY (l.val < N.n b) ((sd s).f H b l) ((sd s).C H) (rowOf g ⟨2 * k.val, by omega⟩) := by
  rw [val_main_v68_apply, val_main_v66_apply, val_main_v61_apply, val_main_v60_apply, val_main_v59_apply, val_main_c_10_apply, val_main_v65_apply,
    val_main_v56_apply, val_main_v67_apply, val_main_v58_apply,
    show idx_main_v56 (idx_main_v65 (ix6 s b l H g k)) = ix5 s b l H g from ext5 rfl rfl rfl rfl rfl,
    show idx_main_v58 (idx_main_v67 (ix6 s b l H g k)) = ix5 s b l H g from ext5 rfl rfl rfl rfl rfl, R.sel_scale, R.sel_zero, R.word_at]
  exact Cert.KernelIdeal.Val.cWord_low _ _ _ g k

include R in
theorem odd_at (k : Fin 16) : val_main_v72 (F := Ideal) r2 r3 e0 e1 (ix6 s b l H g k)
    = kY (l.val < N.n b) ((sd s).f H b l) ((sd s).C H) (rowOf g ⟨2 * k.val + 1, by omega⟩) := by
  rw [val_main_v72_apply, val_main_v70_apply, val_main_v64_apply, val_main_v63_apply, val_main_v62_apply, val_main_c_11_apply, val_main_v69_apply,
    val_main_v56_apply, val_main_v71_apply, val_main_v58_apply,
    show idx_main_v56 (idx_main_v69 (ix6 s b l H g k)) = ix5 s b l H g from ext5 rfl rfl rfl rfl rfl,
    show idx_main_v58 (idx_main_v71 (ix6 s b l H g k)) = ix5 s b l H g from ext5 rfl rfl rfl rfl rfl, R.sel_scale, R.sel_zero, R.word_at]
  exact Cert.KernelIdeal.Val.cWord_high _ _ _ g k

include R in
/-- The values in the permuted order. -/
theorem value_at (q : Fin 160) : val_main_v76 (F := Ideal) r2 r3 e0 e1 (ix5 s b l H q)
    = kY (l.val < N.n b) ((sd s).f H b l) ((sd s).C H) (rowOf ⟨q.val / 32, by omega⟩ ⟨q.val % 32, by omega⟩) := by
  unfold val_main_v76 val_main_v75
  rw [join32, pair_at]
  split
  · rename_i h
    have h : q.val % 2 = 0 := h
    rw [val_main_v73_apply]
    refine Eq.trans (congrArg _ (ext6 (a := s) (b := b) (c := l) (d := H) (e := ⟨q.val / 32, by omega⟩) (f := ⟨q.val / 2 % 16, by omega⟩) rfl rfl rfl rfl rfl rfl)) ?_
    rw [R.even_at]
    congr 2
    exact Fin.ext (by show 2 * (q.val / 2 % 16) = q.val % 32; omega)
  · rename_i h
    have h : ¬ q.val % 2 = 0 := h
    rw [val_main_v74_apply]
    refine Eq.trans (congrArg _ (ext6 (a := s) (b := b) (c := l) (d := H) (e := ⟨q.val / 32, by omega⟩) (f := ⟨q.val / 2 % 16, by omega⟩) rfl rfl rfl rfl rfl rfl)) ?_
    rw [R.odd_at]
    congr 2
    exact Fin.ext (by show 2 * (q.val / 2 % 16) + 1 = q.val % 32; omega)

theorem pos_row (q : Fin 160) : pos (rowOf ⟨q.val / 32, by omega⟩ ⟨q.val % 32, by omega⟩) = q :=
  Fin.ext ((Cert.KernelIdeal.Val.pos_rowOf _ _).trans (by show 32 * (q.val / 32) + q.val % 32 = q.val; omega))

include R in
theorem perm_at (q : Fin 160) : (e2 (ix5 s (0 : Fin 1) (0 : Fin 1) H q)).toInt = ((sd s).P H (rowOf ⟨q.val / 32, by omega⟩ ⟨q.val % 32, by omega⟩)).val := by
  rw [← R.perm, pos_row]

/-- A small word is its own index. -/
theorem clamp_nat (w : BitVec 32) (n : ℕ) (hw : w.toInt = n) (c : BitVec 32) :
    Scalar.select (IntOp.cmpi .slt w 0#32) (IntOp.addi w c) w = w := by
  have : IntOp.cmpi .slt w 0#32 = 0#1 := by
    rcases BitVec.eq_zero_or_eq_one (IntOp.cmpi .slt w 0#32) with h | h
    · exact h
    · have := IntOp.cmpi_slt.mp h; rw [hw] at this; simp at this; omega
  rw [this]; rfl

theorem toInt_nat {n : ℕ} (h : n < 2 ^ 31) : (BitVec.ofNat 32 n).toInt = n := by
  rw [BitVec.toInt_ofNat', Int.bmod_def]; omega

include R in
/-- The values in the channels' own order. -/
theorem channel_at (c : Fin 160) : val_main_v78 (F := Ideal) r2 r3 e0 e1 e2 (ix5 s b l H c) = (sd s).deq N b H c l := by
  obtain ⟨q, hq, hc⟩ := argsort_at (F := Ideal) e2 s H (fun a => by rw [R.perm_at]; omega) (fun a a' e => by
    have := congrArg BitVec.toInt e
    rw [R.perm_at, R.perm_at] at this
    have := R.inj s H (Fin.ext (Int.ofNat_inj.mp this))
    rw [← pos_row a, ← pos_row a', this]) c
  unfold val_main_v78
  have hw : val_main_call8_v5 (F := Ideal) e2 (ix4 s H c (0 : Fin 1)) = BitVec.ofNat 32 q.val := by
    rw [val_main_call8_v5_apply, val_main_call8_v4_apply, val_main_call8_v1_apply, val_main_call8_v0_apply, val_main_call8_c_apply,
      val_main_call8_v3_apply, clamp_nat _ q.val]
    all_goals
      have hi : idx_main_call8_v5 (ix4 s H c (0 : Fin 1)) = ix5 s (0 : Fin 1) (0 : Fin 1) H c := ext5
        (by show (((s.val * 64 + H.val) * 160 + c.val) * 1 + 0) / 10240 = s.val; omega) rfl rfl
        (by show (((s.val * 64 + H.val) * 160 + c.val) * 1 + 0) / 160 % 64 = H.val; omega)
        (by show (((s.val * 64 + H.val) * 160 + c.val) * 1 + 0) % 160 = c.val; omega)
      rw [hi, hq]
    exact toInt_nat (by omega)
  rw [take_channels]
  have hq' : (⟨min (val_main_call8_v5 (F := Ideal) e2 (ix4 s H c (0 : Fin 1))).toInt.toNat 159, by omega⟩ : Fin 160) = q :=
    Fin.ext (by show min _ 159 = q.val; rw [hw, toInt_nat (by omega)]; omega)
  rw [hq', R.value_at]
  unfold Side.deq
  rw [R.perm_at] at hc
  have hc' : c = (sd s).P H (rowOf ⟨q.val / 32, by omega⟩ ⟨q.val % 32, by omega⟩) := Fin.ext (Int.ofNat_inj.mp hc).symm
  rw [hc', Cert.KernelIdeal.Val.kD_eq _ _ (R.inj s H)]

include R in
/-- The bytes. -/
theorem byte_at (r : Fin 80) : val_main_v89 (F := Ideal) r2 r3 e0 e1 (ix5 s b l H r) = (sd s).code N b H r l := by
  rw [val_main_v89_apply]
  unfold val_main_v88
  rw [join16, R.word_at]
  exact Cert.KernelIdeal.Val.cWord_code _ _ _ r

include R in
/-- The window. -/
theorem window_at (w : Fin 768) (c : Fin 160) : val_main_v87 (F := Ideal) e3 e4 (ix5 s b w H c) = (sd s).win N b H c w := by
  unfold val_main_v87
  have hn := N.le b
  have hi : idx_main_v86 (idx_main_call9_v5 (ix3 b w (0 : Fin 1))) = ix2 b w := by
    funext k
    match k with
    | ⟨0, _⟩ => exact Fin.ext (by show ((b.val * 768 + w.val) * 1 + 0) / 768 % 2 = b.val; omega)
    | ⟨1, _⟩ => exact Fin.ext (by show ((b.val * 768 + w.val) * 1 + 0) / 1 % 768 = w.val; omega)
  have hv : val_main_v86 (F := Ideal) e3 (idx_main_call9_v5 (ix3 b w (0 : Fin 1))) = BitVec.ofNat 32 (w.val + N.n b) := by
    rw [val_main_v86_apply, val_main_v85_apply, val_main_v83_apply, val_main_v80_apply, val_main_v84_apply, val_main_v82_apply, val_main_v81_apply, hi,
      show idx_main_v80 (idx_main_v83 (ix2 b w)) = ix1 b from by funext k; match k with | ⟨0, _⟩ => rfl, R.len]
    show BitVec.ofNat 32 (N.n b) + BitVec.ofNat 32 w.val = _
    rw [← BitVec.ofNat_add, Nat.add_comm]
  have hw : val_main_call9_v5 (F := Ideal) e3 (ix3 b w (0 : Fin 1)) = BitVec.ofNat 32 (w.val + N.n b) := by
    rw [val_main_call9_v5_apply, val_main_call9_v4_apply, val_main_call9_v1_apply, val_main_call9_v0_apply, val_main_call9_c_apply,
      val_main_call9_v3_apply, clamp_nat _ (w.val + N.n b), hv]
    rw [hv]; exact toInt_nat (by omega)
  rw [take_tokens, R.cache]
  unfold Side.win
  congr 1
  exact Fin.ext (by show min _ 895 = w.val + N.n b; rw [hw, toInt_nat (by omega)]; omega)

include R in
/-- The results. -/
theorem val_main_v96_at (b : Fin 2) (H : Fin 64) (c : Fin 160) (w : Fin 768) : val_main_v96 (F := Ideal) e3 e4 (ix4 b H c w) = (sd 0).win N b H c w := by
  rw [val_main_v96_apply, val_main_v95_apply, val_main_v90_apply,
    show idx_main_v96 (ix4 b H c w) = ix5 (0 : Fin 1) b H c w from ext5 rfl (by show (((b.val * 64 + H.val) * 160 + c.val) * 768 + w.val) / 7864320 % 2 = b.val; omega) (by show (((b.val * 64 + H.val) * 160 + c.val) * 768 + w.val) / 122880 % 64 = H.val; omega) (by show (((b.val * 64 + H.val) * 160 + c.val) * 768 + w.val) / 768 % 160 = c.val; omega) (by show (((b.val * 64 + H.val) * 160 + c.val) * 768 + w.val) % 768 = w.val; omega),
    show idx_main_v90 (idx_main_v95 (ix5 (0 : Fin 1) b H c w)) = ix5 (0 : Fin 2) b w H c from ext5 rfl rfl rfl rfl rfl]
  exact R.window_at _ b H w c

include R in
theorem val_main_v98_at (b : Fin 2) (H : Fin 64) (c : Fin 160) (w : Fin 768) : val_main_v98 (F := Ideal) e3 e4 (ix4 b H c w) = (sd 1).win N b H c w := by
  rw [val_main_v98_apply, val_main_v97_apply, val_main_v90_apply,
    show idx_main_v98 (ix4 b H c w) = ix5 (0 : Fin 1) b H c w from ext5 rfl (by show (((b.val * 64 + H.val) * 160 + c.val) * 768 + w.val) / 7864320 % 2 = b.val; omega) (by show (((b.val * 64 + H.val) * 160 + c.val) * 768 + w.val) / 122880 % 64 = H.val; omega) (by show (((b.val * 64 + H.val) * 160 + c.val) * 768 + w.val) / 768 % 160 = c.val; omega) (by show (((b.val * 64 + H.val) * 160 + c.val) * 768 + w.val) % 768 = w.val; omega),
    show idx_main_v90 (idx_main_v97 (ix5 (0 : Fin 1) b H c w)) = ix5 (1 : Fin 2) b w H c from ext5 rfl rfl rfl rfl rfl]
  exact R.window_at _ b H w c

include R in
theorem val_main_v100_at (b : Fin 2) (H : Fin 64) (r : Fin 80) (l : Fin 128) : val_main_v100 (F := Ideal) r2 r3 e0 e1 (ix4 b H r l) = (sd 0).code N b H r l := by
  rw [val_main_v100_apply, val_main_v99_apply, val_main_v91_apply,
    show idx_main_v100 (ix4 b H r l) = ix5 (0 : Fin 1) b H r l from ext5 rfl (by show (((b.val * 64 + H.val) * 80 + r.val) * 128 + l.val) / 655360 % 2 = b.val; omega) (by show (((b.val * 64 + H.val) * 80 + r.val) * 128 + l.val) / 10240 % 64 = H.val; omega) (by show (((b.val * 64 + H.val) * 80 + r.val) * 128 + l.val) / 128 % 80 = r.val; omega) (by show (((b.val * 64 + H.val) * 80 + r.val) * 128 + l.val) % 128 = l.val; omega),
    show idx_main_v91 (idx_main_v99 (ix5 (0 : Fin 1) b H r l)) = ix5 (0 : Fin 2) b l H r from ext5 rfl rfl rfl rfl rfl]
  exact R.byte_at _ b l H r

include R in
theorem val_main_v106_at (b : Fin 2) (H : Fin 64) (r : Fin 80) (l : Fin 128) : val_main_v106 (F := Ideal) r2 r3 e0 e1 (ix4 b H r l) = (sd 1).code N b H r l := by
  rw [val_main_v106_apply, val_main_v105_apply, val_main_v91_apply,
    show idx_main_v106 (ix4 b H r l) = ix5 (0 : Fin 1) b H r l from ext5 rfl (by show (((b.val * 64 + H.val) * 80 + r.val) * 128 + l.val) / 655360 % 2 = b.val; omega) (by show (((b.val * 64 + H.val) * 80 + r.val) * 128 + l.val) / 10240 % 64 = H.val; omega) (by show (((b.val * 64 + H.val) * 80 + r.val) * 128 + l.val) / 128 % 80 = r.val; omega) (by show (((b.val * 64 + H.val) * 80 + r.val) * 128 + l.val) % 128 = l.val; omega),
    show idx_main_v91 (idx_main_v105 (ix5 (0 : Fin 1) b H r l)) = ix5 (1 : Fin 2) b l H r from ext5 rfl rfl rfl rfl rfl]
  exact R.byte_at _ b l H r

include R in
theorem val_main_v102_at (b : Fin 2) (g : Fin 5) (H : Fin 64) (l : Fin 128) : val_main_v102 (F := Ideal) r0 (ix4 b g H l) = (sd 0).scale N b H g l := by
  rw [val_main_v102_apply, val_main_v101_apply, val_main_v93_apply,
    show idx_main_v102 (ix4 b g H l) = ix5 (0 : Fin 1) b g H l from ext5 rfl (by show (((b.val * 5 + g.val) * 64 + H.val) * 128 + l.val) / 40960 % 2 = b.val; omega) (by show (((b.val * 5 + g.val) * 64 + H.val) * 128 + l.val) / 8192 % 5 = g.val; omega) (by show (((b.val * 5 + g.val) * 64 + H.val) * 128 + l.val) / 128 % 64 = H.val; omega) (by show (((b.val * 5 + g.val) * 64 + H.val) * 128 + l.val) % 128 = l.val; omega),
    show idx_main_v93 (idx_main_v101 (ix5 (0 : Fin 1) b g H l)) = ix5 (0 : Fin 2) b l H g from ext5 rfl rfl rfl rfl rfl]
  exact R.scale _ b l H g

include R in
theorem val_main_v104_at (b : Fin 2) (g : Fin 5) (H : Fin 64) (l : Fin 128) : val_main_v104 (F := Ideal) r1 (ix4 b g H l) = (sd 0).zero N b H g l := by
  rw [val_main_v104_apply, val_main_v103_apply, val_main_v94_apply,
    show idx_main_v104 (ix4 b g H l) = ix5 (0 : Fin 1) b g H l from ext5 rfl (by show (((b.val * 5 + g.val) * 64 + H.val) * 128 + l.val) / 40960 % 2 = b.val; omega) (by show (((b.val * 5 + g.val) * 64 + H.val) * 128 + l.val) / 8192 % 5 = g.val; omega) (by show (((b.val * 5 + g.val) * 64 + H.val) * 128 + l.val) / 128 % 64 = H.val; omega) (by show (((b.val * 5 + g.val) * 64 + H.val) * 128 + l.val) % 128 = l.val; omega),
    show idx_main_v94 (idx_main_v103 (ix5 (0 : Fin 1) b g H l)) = ix5 (0 : Fin 2) b l H g from ext5 rfl rfl rfl rfl rfl]
  exact R.zero _ b l H g

include R in
theorem val_main_v108_at (b : Fin 2) (g : Fin 5) (H : Fin 64) (l : Fin 128) : val_main_v108 (F := Ideal) r0 (ix4 b g H l) = (sd 1).scale N b H g l := by
  rw [val_main_v108_apply, val_main_v107_apply, val_main_v93_apply,
    show idx_main_v108 (ix4 b g H l) = ix5 (0 : Fin 1) b g H l from ext5 rfl (by show (((b.val * 5 + g.val) * 64 + H.val) * 128 + l.val) / 40960 % 2 = b.val; omega) (by show (((b.val * 5 + g.val) * 64 + H.val) * 128 + l.val) / 8192 % 5 = g.val; omega) (by show (((b.val * 5 + g.val) * 64 + H.val) * 128 + l.val) / 128 % 64 = H.val; omega) (by show (((b.val * 5 + g.val) * 64 + H.val) * 128 + l.val) % 128 = l.val; omega),
    show idx_main_v93 (idx_main_v107 (ix5 (0 : Fin 1) b g H l)) = ix5 (1 : Fin 2) b l H g from ext5 rfl rfl rfl rfl rfl]
  exact R.scale _ b l H g

include R in
theorem val_main_v110_at (b : Fin 2) (g : Fin 5) (H : Fin 64) (l : Fin 128) : val_main_v110 (F := Ideal) r1 (ix4 b g H l) = (sd 1).zero N b H g l := by
  rw [val_main_v110_apply, val_main_v109_apply, val_main_v94_apply,
    show idx_main_v110 (ix4 b g H l) = ix5 (0 : Fin 1) b g H l from ext5 rfl (by show (((b.val * 5 + g.val) * 64 + H.val) * 128 + l.val) / 40960 % 2 = b.val; omega) (by show (((b.val * 5 + g.val) * 64 + H.val) * 128 + l.val) / 8192 % 5 = g.val; omega) (by show (((b.val * 5 + g.val) * 64 + H.val) * 128 + l.val) / 128 % 64 = H.val; omega) (by show (((b.val * 5 + g.val) * 64 + H.val) * 128 + l.val) % 128 = l.val; omega),
    show idx_main_v94 (idx_main_v109 (ix5 (0 : Fin 1) b g H l)) = ix5 (1 : Fin 2) b l H g from ext5 rfl rfl rfl rfl rfl]
  exact R.zero _ b l H g

include R in
theorem val_main_v112_at (b : Fin 2) (H : Fin 64) (c : Fin 160) (l : Fin 128) : val_main_v112 (F := Ideal) r2 r3 e0 e1 e2 (ix4 b H c l) = (sd 0).deq N b H c l := by
  rw [val_main_v112_apply, val_main_v111_apply, val_main_v92_apply,
    show idx_main_v112 (ix4 b H c l) = ix5 (0 : Fin 1) b H c l from ext5 rfl (by show (((b.val * 64 + H.val) * 160 + c.val) * 128 + l.val) / 1310720 % 2 = b.val; omega) (by show (((b.val * 64 + H.val) * 160 + c.val) * 128 + l.val) / 20480 % 64 = H.val; omega) (by show (((b.val * 64 + H.val) * 160 + c.val) * 128 + l.val) / 128 % 160 = c.val; omega) (by show (((b.val * 64 + H.val) * 160 + c.val) * 128 + l.val) % 128 = l.val; omega),
    show idx_main_v92 (idx_main_v111 (ix5 (0 : Fin 1) b H c l)) = ix5 (0 : Fin 2) b l H c from ext5 rfl rfl rfl rfl rfl]
  rw [val_main_v79_apply]; exact R.channel_at _ b l H c

include R in
theorem val_main_v114_at (b : Fin 2) (H : Fin 64) (c : Fin 160) (l : Fin 128) : val_main_v114 (F := Ideal) r2 r3 e0 e1 e2 (ix4 b H c l) = (sd 1).deq N b H c l := by
  rw [val_main_v114_apply, val_main_v113_apply, val_main_v92_apply,
    show idx_main_v114 (ix4 b H c l) = ix5 (0 : Fin 1) b H c l from ext5 rfl (by show (((b.val * 64 + H.val) * 160 + c.val) * 128 + l.val) / 1310720 % 2 = b.val; omega) (by show (((b.val * 64 + H.val) * 160 + c.val) * 128 + l.val) / 20480 % 64 = H.val; omega) (by show (((b.val * 64 + H.val) * 160 + c.val) * 128 + l.val) / 128 % 160 = c.val; omega) (by show (((b.val * 64 + H.val) * 160 + c.val) * 128 + l.val) % 128 = l.val; omega),
    show idx_main_v92 (idx_main_v113 (ix5 (0 : Fin 1) b H c l)) = ix5 (1 : Fin 2) b l H c from ext5 rfl rfl rfl rfl rfl]
  rw [val_main_v79_apply]; exact R.channel_at _ b l H c

end Reads

end Cert.ReferenceIdeal.Val

end
-- ==== Proof.RefPrefix.lean ====
/- The reference's buffers before its kernel region as functions of the arguments, read at an index. -/
module

public import proofs.«01_k».proof.Proof.RefOps

@[expose] public section

set_option maxRecDepth 16384

noncomputable section

namespace Cert.ReferenceIdeal.Val

open Cert.ReferenceIdeal Cert.ReferenceIdeal.Gen Idealize.ShloMosaic
open Cert.KernelIdeal.Val (Side Lens kLo kSc gMin gMax scaleOf rowOf pos sideOf lensOf)

variable (x y : S2x896x64x160.Idx → EReal) (p q : S64x160.Idx → BitVec 32) (u v : S64x5.Idx → EReal) (n : S2.Idx → BitVec 32)

/-- The two caches stacked. -/
def eX : S2x2x896x64x160.Idx → EReal :=
  concatenate S2x2x896x64x160 0 [⟨S1x2x896x64x160, (broadcastInDim S1x2x896x64x160 ![1, 2, 3, 4] bcast_S2x896x64x160_S1x2x896x64x160_1_2_3_4 x)⟩, ⟨S1x2x896x64x160, (broadcastInDim S1x2x896x64x160 ![1, 2, 3, 4] bcast_S2x896x64x160_S1x2x896x64x160_1_2_3_4 y)⟩] concatenates_S1x2x896x64x160_S1x2x896x64x160_S2x2x896x64x160_d0

/-- The two permutations stacked. -/
def eP : S2x1x1x64x160.Idx → BitVec 32 :=
  broadcastInDim S2x1x1x64x160 ![0, 3, 4] bcast_S2x64x160_S2x1x1x64x160_0_3_4 (concatenate S2x64x160 0 [⟨S1x64x160, (broadcastInDim S1x64x160 ![1, 2] bcast_S64x160_S1x64x160_1_2 p)⟩, ⟨S1x64x160, (broadcastInDim S1x64x160 ![1, 2] bcast_S64x160_S1x64x160_1_2 q)⟩] concatenates_S1x64x160_S1x64x160_S2x64x160_d0)

/-- The clip factors stacked, for every sequence and token. -/
def eC : S2x2x128x64x5.Idx → EReal :=
  broadcastInDim S2x2x128x64x5 ![0, 1, 2, 3, 4] bcast_S2x1x1x64x5_S2x2x128x64x5_0_1_2_3_4 (broadcastInDim S2x1x1x64x5 ![0, 3, 4] bcast_S2x64x5_S2x1x1x64x5_0_3_4 (concatenate S2x64x5 0 [⟨S1x64x5, (broadcastInDim S1x64x5 ![1, 2] bcast_S64x5_S1x64x5_1_2 u)⟩, ⟨S1x64x5, (broadcastInDim S1x64x5 ![1, 2] bcast_S64x5_S1x64x5_1_2 v)⟩] concatenates_S1x64x5_S1x64x5_S2x64x5_d0))

/-- The first tokens, the channels permuted and cut in groups. -/
def eG : S2x2x128x64x5x32.Idx → EReal :=
  shapeCast S2x2x128x64x5x32 (Host.gather gather_S2x2x128x64x160_S2x64x160x1_S2x2x128x64x160_12_4_03_01_4_3_1212811 (extractStridedSlice S2x2x128x64x160 ![0, 0, 0, 0, 0] (eX x y) slices_S2x2x896x64x160_S2x2x128x64x160_0_0_0_0_0)
    (shapeCast S2x64x160x1 (select (cmpi .slt (eP p q) (broadcastInDim S2x1x1x64x160 ![] bcast_S_S2x1x1x64x160 (constantI S_ 32 0#32))) (addi (eP p q) (broadcastInDim S2x1x1x64x160 ![] bcast_S_S2x1x1x64x160 (constantI S_ 32 160#32))) (eP p q)) shapeCasts_S2x1x1x64x160_S2x64x160x1)) shapeCasts_S2x2x128x64x160_S2x2x128x64x5x32

/-- How many tokens to quantise. -/
def eN : S2.Idx → BitVec 32 := subi n (broadcastInDim S2 ![] bcast_S_S2 (constantI S_ 32 768#32))

/-- Which tokens are quantised. -/
def eV : S2x2x128x64x5.Idx → BitVec 1 :=
  broadcastInDim S2x2x128x64x5 ![0, 1, 2, 3, 4] bcast_S1x2x128x1x1_S2x2x128x64x5_0_1_2_3_4 (broadcastInDim S1x2x128x1x1 ![1, 2] bcast_S2x128_S1x2x128x1x1_1_2 (cmpi .slt (broadcastInDim S2x128 ![0, 1] bcast_S1x128_S2x128_0_1 (broadcastInDim S1x128 ![1] bcast_S128_S1x128_1 (iotaInDim S128 32 0))) (broadcastInDim S2x128 ![0, 1] bcast_S2x1_S2x128_0_1 (broadcastInDim S2x1 ![0] bcast_S2_S2x1_0 (eN n)))))

/-- The groups' lower ends and ranges. -/
def eLo (c : S2x2x128x64x5.Idx → EReal) (g : S2x2x128x64x5x32.Idx → EReal) : S2x2x128x64x5.Idx → EReal :=
  mulf (φ := .f32) (F := Ideal) c (Host.reduce (FloatOps.minimumf (F := Ideal) (φ := .f32)) g (constant (F := Ideal) S_ .f32 0x7F800000#32) reducesTo_S2x2x128x64x5x32_S2x2x128x64x5_d5 h_S_)
def eRng (c : S2x2x128x64x5.Idx → EReal) (g : S2x2x128x64x5x32.Idx → EReal) : S2x2x128x64x5.Idx → EReal :=
  subf (φ := .f32) (F := Ideal) (mulf (φ := .f32) (F := Ideal) c (Host.reduce (FloatOps.maximumf (F := Ideal) (φ := .f32)) g (constant (F := Ideal) S_ .f32 0xFF800000#32) reducesTo_S2x2x128x64x5x32_S2x2x128x64x5_d5 h_S_)) (eLo c g)
/-- The groups' scales. -/
def eSc (c : S2x2x128x64x5.Idx → EReal) (g : S2x2x128x64x5x32.Idx → EReal) : S2x2x128x64x5.Idx → EReal :=
  select (cmpf (φ := .f32) (F := Ideal) .ogt (eRng c g) (broadcastInDim S2x2x128x64x5 ![] bcast_S_S2x2x128x64x5 (constant (F := Ideal) S_ .f32 0x00000000#32)))
    (Host.divf (φ := .f32) (F := Ideal) (eRng c g) (broadcastInDim S2x2x128x64x5 ![] bcast_S_S2x2x128x64x5 (constant (F := Ideal) S_ .f32 0x41700000#32)))
    (broadcastInDim S2x2x128x64x5 ![] bcast_S_S2x2x128x64x5 (id (constant (F := Ideal) S_ .f32 0x3F800000#32)))

theorem eX_at (s b : Fin 2) (w : Fin 896) (H : Fin 64) (c : Fin 160) : eX x y (ix5 s b w H c) = if s.val = 0 then x (ix4 b w H c) else y (ix4 b w H c) := by
  unfold eX
  by_cases hs : s.val = 0
  · rw [if_pos hs]
    refine (concatenate_pair_apply_left (t := S2x2x896x64x160) (s₁ := S1x2x896x64x160) (s₂ := S1x2x896x64x160) (0 : Fin 5) _ _
      concatenates_S1x2x896x64x160_S1x2x896x64x160_S2x2x896x64x160_d0 (ix5 s b w H c) rfl (ix5 (0 : Fin 1) b w H c) fun a => ?_).trans ?_
    · match a with
      | ⟨0, _⟩ => exact hs.symm
      | ⟨1, _⟩ => rfl
      | ⟨2, _⟩ => rfl
      | ⟨3, _⟩ => rfl
      | ⟨4, _⟩ => rfl
    · pointwise
  · rw [if_neg hs]
    refine (concatenate_pair_apply_right (t := S2x2x896x64x160) (s₁ := S1x2x896x64x160) (s₂ := S1x2x896x64x160) (0 : Fin 5) _ _
      concatenates_S1x2x896x64x160_S1x2x896x64x160_S2x2x896x64x160_d0 (ix5 s b w H c) rfl rfl (ix5 (0 : Fin 1) b w H c) (fun a ha => ?_) ?_).trans ?_
    · match a with
      | ⟨0, _⟩ => exact absurd rfl ha
      | ⟨1, _⟩ => rfl
      | ⟨2, _⟩ => rfl
      | ⟨3, _⟩ => rfl
      | ⟨4, _⟩ => rfl
    · show 0 + 1 = s.val; omega
    · pointwise

theorem eP_at (s : Fin 2) (H : Fin 64) (a : Fin 160) : eP p q (ix5 s (0 : Fin 1) (0 : Fin 1) H a) = if s.val = 0 then p (ix2 H a) else q (ix2 H a) := by
  unfold eP
  refine (broadcastInDim_apply _ bcast_S2x64x160_S2x1x1x64x160_0_3_4 _ _ (ix3 s H a) (fun k => match k with
    | ⟨0, _⟩ => rfl
    | ⟨1, _⟩ => rfl
    | ⟨2, _⟩ => rfl)).trans ?_
  by_cases hs : s.val = 0
  · rw [if_pos hs]
    refine (concatenate_pair_apply_left (t := S2x64x160) (s₁ := S1x64x160) (s₂ := S1x64x160) (0 : Fin 3) _ _
      concatenates_S1x64x160_S1x64x160_S2x64x160_d0 (ix3 s H a) rfl (ix3 (0 : Fin 1) H a) fun a => ?_).trans ?_
    · match a with
      | ⟨0, _⟩ => exact hs.symm
      | ⟨1, _⟩ => rfl
      | ⟨2, _⟩ => rfl
    · pointwise
  · rw [if_neg hs]
    refine (concatenate_pair_apply_right (t := S2x64x160) (s₁ := S1x64x160) (s₂ := S1x64x160) (0 : Fin 3) _ _
      concatenates_S1x64x160_S1x64x160_S2x64x160_d0 (ix3 s H a) rfl rfl (ix3 (0 : Fin 1) H a) (fun a ha => ?_) ?_).trans ?_
    · match a with
      | ⟨0, _⟩ => exact absurd rfl ha
      | ⟨1, _⟩ => rfl
      | ⟨2, _⟩ => rfl
    · show 0 + 1 = s.val; omega
    · pointwise

theorem eC_at (s b : Fin 2) (l : Fin 128) (H : Fin 64) (g : Fin 5) : eC u v (ix5 s b l H g) = if s.val = 0 then u (ix2 H g) else v (ix2 H g) := by
  unfold eC
  refine (broadcastInDim_apply _ bcast_S2x1x1x64x5_S2x2x128x64x5_0_1_2_3_4 _ _ (ix5 s (0 : Fin 1) (0 : Fin 1) H g) (fun k => match k with
    | ⟨0, _⟩ => rfl
    | ⟨1, _⟩ => rfl
    | ⟨2, _⟩ => rfl
    | ⟨3, _⟩ => rfl
    | ⟨4, _⟩ => rfl)).trans ?_
  refine (broadcastInDim_apply _ bcast_S2x64x5_S2x1x1x64x5_0_3_4 _ _ (ix3 s H g) (fun k => match k with
    | ⟨0, _⟩ => rfl
    | ⟨1, _⟩ => rfl
    | ⟨2, _⟩ => rfl)).trans ?_
  by_cases hs : s.val = 0
  · rw [if_pos hs]
    refine (concatenate_pair_apply_left (t := S2x64x5) (s₁ := S1x64x5) (s₂ := S1x64x5) (0 : Fin 3) _ _
      concatenates_S1x64x5_S1x64x5_S2x64x5_d0 (ix3 s H g) rfl (ix3 (0 : Fin 1) H g) fun a => ?_).trans ?_
    · match a with
      | ⟨0, _⟩ => exact hs.symm
      | ⟨1, _⟩ => rfl
      | ⟨2, _⟩ => rfl
    · pointwise
  · rw [if_neg hs]
    refine (concatenate_pair_apply_right (t := S2x64x5) (s₁ := S1x64x5) (s₂ := S1x64x5) (0 : Fin 3) _ _
      concatenates_S1x64x5_S1x64x5_S2x64x5_d0 (ix3 s H g) rfl rfl (ix3 (0 : Fin 1) H g) (fun a ha => ?_) ?_).trans ?_
    · match a with
      | ⟨0, _⟩ => exact absurd rfl ha
      | ⟨1, _⟩ => rfl
      | ⟨2, _⟩ => rfl
    · show 0 + 1 = s.val; omega
    · pointwise

/-- A member of a group: the cache's value at the channel the permutation names. -/
theorem eG_at (s b : Fin 2) (l : Fin 128) (H : Fin 64) (g : Fin 5) (j : Fin 32) (k : Fin 160)
    (hk : (eP p q (ix5 s (0 : Fin 1) (0 : Fin 1) H ⟨32 * g.val + j.val, by omega⟩)).toInt = k.val) :
    eG x y p q (ix6 s b l H g j) = eX x y (ix5 s b (⟨l.val, by omega⟩ : Fin 896) H k) := by
  unfold eG
  rw [cut32, take_channels]
  have hw : shapeCast S2x64x160x1 (select (cmpi .slt (eP p q) (broadcastInDim S2x1x1x64x160 ![] bcast_S_S2x1x1x64x160 (constantI S_ 32 0#32))) (addi (eP p q) (broadcastInDim S2x1x1x64x160 ![] bcast_S_S2x1x1x64x160 (constantI S_ 32 160#32))) (eP p q)) shapeCasts_S2x1x1x64x160_S2x64x160x1
      (ix4 s H (⟨32 * g.val + j.val, by omega⟩ : Fin 160) (0 : Fin 1)) = eP p q (ix5 s (0 : Fin 1) (0 : Fin 1) H ⟨32 * g.val + j.val, by omega⟩) := by
    refine (shapeCast_apply _ _ _ (ix5 s (0 : Fin 1) (0 : Fin 1) H (⟨32 * g.val + j.val, by omega⟩ : Fin 160)) ?_).trans ?_
    · rw [Shape.rowMajor_val_five, Shape.rowMajor_val_four]
      show (((s.val * 1 + 0) * 1 + 0) * 64 + H.val) * 160 + (32 * g.val + j.val) = ((s.val * 64 + H.val) * 160 + (32 * g.val + j.val)) * 1 + 0
      omega
    · exact Reads.clamp_nat _ k.val hk _
  have e : (⟨min (shapeCast S2x64x160x1 (select (cmpi .slt (eP p q) (broadcastInDim S2x1x1x64x160 ![] bcast_S_S2x1x1x64x160 (constantI S_ 32 0#32))) (addi (eP p q) (broadcastInDim S2x1x1x64x160 ![] bcast_S_S2x1x1x64x160 (constantI S_ 32 160#32))) (eP p q)) shapeCasts_S2x1x1x64x160_S2x64x160x1
      (ix4 s H (⟨32 * g.val + j.val, by omega⟩ : Fin 160) (0 : Fin 1))).toInt.toNat 159, by omega⟩ : Fin 160) = k :=
    Fin.ext (by show min _ 159 = k.val; rw [hw, hk]; omega)
  rw [e]
  unfold extractStridedSlice
  refine congrArg _ (ext5 ?_ ?_ ?_ ?_ ?_)
  · exact Nat.zero_add _
  · exact Nat.zero_add _
  · exact Nat.zero_add _
  · exact Nat.zero_add _
  · exact Nat.zero_add _

/-- The number of tokens, from a length of 768 to 896. -/
theorem eN_at (b : Fin 2) (h : 768 ≤ (n (ix1 b)).toInt ∧ (n (ix1 b)).toInt ≤ 896) : eN n (ix1 b) = BitVec.ofNat 32 ((lensOf n).n b) := by
  have hn := Cert.KernelIdeal.Val.toNat_of h
  have e : (lensOf n).n b = (n (ix1 b)).toNat - 768 := by
    show min 128 ((n (ix1 b)).toNat - 768) = _
    omega
  rw [e]
  show n (ix1 b) - 768#32 = _
  apply BitVec.eq_of_toNat_eq
  rw [BitVec.toNat_sub, show (BitVec.ofNat 32 ((n (ix1 b)).toNat - 768)).toNat = _ from BitVec.toNat_ofNat _ _]
  show (2 ^ 32 - 768 + (n (ix1 b)).toNat) % 2 ^ 32 = _
  omega

theorem eV_at (s b : Fin 2) (l : Fin 128) (H : Fin 64) (g : Fin 5) (h : 768 ≤ (n (ix1 b)).toInt ∧ (n (ix1 b)).toInt ≤ 896) :
    eV n (ix5 s b l H g) = if l.val < (lensOf n).n b then 1#1 else 0#1 := by
  unfold eV
  refine (broadcastInDim_apply _ bcast_S1x2x128x1x1_S2x2x128x64x5_0_1_2_3_4 _ _ (ix5 (0 : Fin 1) b l (0 : Fin 1) (0 : Fin 1)) (fun k => match k with
    | ⟨0, _⟩ => rfl
    | ⟨1, _⟩ => rfl
    | ⟨2, _⟩ => rfl
    | ⟨3, _⟩ => rfl
    | ⟨4, _⟩ => rfl)).trans ?_
  refine (broadcastInDim_apply _ bcast_S2x128_S1x2x128x1x1_1_2 _ _ (ix2 b l) (fun k => match k with
    | ⟨0, _⟩ => rfl
    | ⟨1, _⟩ => rfl)).trans ?_
  have hr : broadcastInDim S2x128 ![0, 1] bcast_S2x1_S2x128_0_1 (broadcastInDim S2x1 ![0] bcast_S2_S2x1_0 (eN n)) (ix2 b l) = BitVec.ofNat 32 ((lensOf n).n b) := by
    refine Eq.trans ?_ (eN_at n b h)
    pointwise
  have hl : broadcastInDim S2x128 ![0, 1] bcast_S1x128_S2x128_0_1 (broadcastInDim S1x128 ![1] bcast_S128_S1x128_1 (iotaInDim S128 32 0)) (ix2 b l) = BitVec.ofNat 32 l.val := by
    pointwise
  show IntOp.cmpi .slt _ _ = _
  rw [hr, hl]
  have hle := (lensOf n).le b
  have h1 := Reads.toInt_nat (n := l.val) (by omega)
  have h2 := Reads.toInt_nat (n := (lensOf n).n b) (by omega)
  split
  · exact IntOp.cmpi_slt.mpr (by rw [h1, h2]; omega)
  · rcases BitVec.eq_zero_or_eq_one (IntOp.cmpi .slt (BitVec.ofNat 32 l.val) (BitVec.ofNat 32 ((lensOf n).n b))) with h' | h'
    · exact h'
    · have := IntOp.cmpi_slt.mp h'
      rw [h1, h2] at this
      omega

end Cert.ReferenceIdeal.Val

end
-- ==== Proof.RefRange.lean ====
/- The reference's lower ends, ranges and scales, read at an index. -/
module

public import proofs.«01_k».proof.Proof.RefPrefix

@[expose] public section

set_option maxRecDepth 16384

noncomputable section

namespace Cert.ReferenceIdeal.Val

open Cert.ReferenceIdeal Cert.ReferenceIdeal.Gen Idealize.ShloMosaic
open Cert.KernelIdeal.Val (Side Lens kLo kSc gMin gMax scaleOf rowOf pos sideOf lensOf)

section Range

variable (c : S2x2x128x64x5.Idx → EReal) (gr : S2x2x128x64x5x32.Idx → EReal) (f : Fin 160 → EReal) (cl : Fin 5 → EReal)
    (s b : Fin 2) (l : Fin 128) (H : Fin 64) (g : Fin 5) (hc : c (ix5 s b l H g) = cl g) (hg : ∀ j, gr (ix6 s b l H g j) = f (rowOf g j))

theorem lift_at (k : Fin 32) : (show S2x2x128x64x5x32.Reduces [5] S2x2x128x64x5 from by decide).lift (ix5 s b l H g) k = ix6 s b l H g k := by
  refine ext6 ?_ ?_ ?_ ?_ ?_ ?_ <;> rfl

include hg in
theorem min_at : Host.reduce (FloatOps.minimumf (F := Ideal) (φ := .f32)) gr (constant (F := Ideal) S_ .f32 0x7F800000#32) reducesTo_S2x2x128x64x5x32_S2x2x128x64x5_d5 h_S_ (ix5 s b l H g) = gMin f g := by
  haveI : Std.Commutative (FloatOps.minimumf (F := Ideal) (φ := .f32)) := ⟨fun a b => min_comm a b⟩
  haveI : Std.Associative (FloatOps.minimumf (F := Ideal) (φ := .f32)) := ⟨fun a b c => min_assoc a b c⟩
  rw [Host.reduce_eq_fold_single _ _ _ reducesTo_S2x2x128x64x5x32_S2x2x128x64x5_d5 (show S2x2x128x64x5x32.Reduces [5] S2x2x128x64x5 from by decide)]
  have e : gr ∘ (show S2x2x128x64x5x32.Reduces [5] S2x2x128x64x5 from by decide).lift (ix5 s b l H g) = fun j : Fin 32 => f (rowOf g j) := by
    funext j; exact (congrArg gr (lift_at s b l H g j)).trans (hg j)
  rw [e]
  have ht : constant (F := Ideal) S_ .f32 0x7F800000#32 (Shape.Idx.first h_S_) = (⊤ : EReal) := by
    show Ideal.ofBits .f32 0x7F800000#32 = _
    simp [Ideal.ofBits, Ideal.ieee]
  rw [ht]
  rfl

include hg in
theorem max_at : Host.reduce (FloatOps.maximumf (F := Ideal) (φ := .f32)) gr (constant (F := Ideal) S_ .f32 0xFF800000#32) reducesTo_S2x2x128x64x5x32_S2x2x128x64x5_d5 h_S_ (ix5 s b l H g) = gMax f g := by
  haveI : Std.Commutative (FloatOps.maximumf (F := Ideal) (φ := .f32)) := ⟨fun a b => max_comm a b⟩
  haveI : Std.Associative (FloatOps.maximumf (F := Ideal) (φ := .f32)) := ⟨fun a b c => max_assoc a b c⟩
  rw [Host.reduce_eq_fold_single _ _ _ reducesTo_S2x2x128x64x5x32_S2x2x128x64x5_d5 (show S2x2x128x64x5x32.Reduces [5] S2x2x128x64x5 from by decide)]
  have e : gr ∘ (show S2x2x128x64x5x32.Reduces [5] S2x2x128x64x5 from by decide).lift (ix5 s b l H g) = fun j : Fin 32 => f (rowOf g j) := by
    funext j; exact (congrArg gr (lift_at s b l H g j)).trans (hg j)
  rw [e]
  have ht : constant (F := Ideal) S_ .f32 0xFF800000#32 (Shape.Idx.first h_S_) = (⊥ : EReal) := by
    show Ideal.ofBits .f32 0xFF800000#32 = _
    simp [Ideal.ofBits, Ideal.ieee]
  rw [ht]
  rfl

theorem mul_at (a b : S2x2x128x64x5.Idx → EReal) (i : S2x2x128x64x5.Idx) : mulf (φ := .f32) (F := Ideal) a b i = a i * b i := rfl

theorem sub_at (a b : S2x2x128x64x5.Idx → EReal) (i : S2x2x128x64x5.Idx) : subf (φ := .f32) (F := Ideal) a b i = a i - b i := rfl

/-- The scale of a range: a fifteenth of it, 1 where it is empty. -/
theorem sel_at (r : S2x2x128x64x5.Idx → EReal) (i : S2x2x128x64x5.Idx) :
    select (cmpf (φ := .f32) (F := Ideal) .ogt r (broadcastInDim S2x2x128x64x5 ![] bcast_S_S2x2x128x64x5 (constant (F := Ideal) S_ .f32 0x00000000#32)))
      (Host.divf (φ := .f32) (F := Ideal) r (broadcastInDim S2x2x128x64x5 ![] bcast_S_S2x2x128x64x5 (constant (F := Ideal) S_ .f32 0x41700000#32)))
      (broadcastInDim S2x2x128x64x5 ![] bcast_S_S2x2x128x64x5 (id (constant (F := Ideal) S_ .f32 0x3F800000#32))) i
      = if 0 < r i then Ideal.div (r i) (Ideal.ofBits .f32 0x41700000#32) else 1 := by
  rw [eq_ix5 i]
  pointwise
  have h1 : (id (constant (F := Ideal) S_ .f32 0x3F800000#32) ix0 : EReal) = 1 := by
    show Ideal.ofBits .f32 0x3F800000#32 = 1
    simp [Ideal.ofBits, Ideal.ieee, -EReal.coe_mul]; norm_num
  rw [h1]

include hg hc in
theorem eLo_at : eLo c gr (ix5 s b l H g) = kLo f cl g := by
  unfold eLo
  rw [mul_at, hc, min_at gr f s b l H g hg]
  unfold kLo
  rfl

include hg hc in
theorem eRng_at : eRng c gr (ix5 s b l H g) = cl g * gMax f g - kLo f cl g := by
  unfold eRng
  rw [sub_at, mul_at, hc, max_at gr f s b l H g hg, eLo_at c gr f cl s b l H g hc hg]

include hg hc in
theorem eSc_at : eSc c gr (ix5 s b l H g) = kSc f cl g := by
  unfold eSc
  rw [sel_at, eRng_at c gr f cl s b l H g hc hg]
  unfold kSc scaleOf
  rfl

end Range

end Cert.ReferenceIdeal.Val

end
-- ==== Proof.RefPay.lean ====
/- The region's payloads over the extended reals. -/
module

public import proofs.«01_k».proof.Proof.Gen.ReferenceIdeal.Skeleton
public import Idealize.ShloMosaic.Lib.Pipeline.ValueKit

@[expose] public section

set_option maxRecDepth 16384

noncomputable section

namespace Cert.ReferenceIdeal.Val

open Cert.ReferenceIdeal Cert.ReferenceIdeal.Gen Idealize.ShloMosaic Idealize.ShloMosaic.TcCoe

/-- The valid entries of an array, the others 0. -/
def kept (w : S2x2x128x64x5.Idx → BitVec 32) (x : S2x2x128x64x5.Idx → EReal) : S2x2x128x64x5.Idx → EReal :=
  fun i => if w i = 0#32 then 0 else x i

theorem cast_same {α : Type} (x : S2x2x128x64x5.Idx → α) : shapeCast S2x2x128x64x5 x shapeCasts_S2x2x128x64x5_S2x2x128x64x5 = x := by
  funext i
  exact shapeCast_apply x _ i i rfl

theorem pay_same (x : S2x2x128x64x5.Idx → EReal) : k0_pay2 (F := Ideal) x = x := by
  unfold k0_pay2
  dsimp only
  rw [cast_same]
  rfl

theorem pay_same' (x : S2x2x128x64x5.Idx → EReal) : k0_pay4 (F := Ideal) x = x := pay_same x

theorem pay_kept (w : S2x2x128x64x5.Idx → BitVec 32) (x : S2x2x128x64x5.Idx → EReal) (i : S2x2x128x64x5.Idx) : k0_pay3 (F := Ideal) w x i = kept w x i := by
  unfold k0_pay3 k0_pay1
  dsimp only
  rw [cast_same, pay_same]
  show Scalar.select (IntOp.cmpi .ne (w i) 0#32) (x i) (Ideal.ofBits .f32 0x00000000#32) = kept w x i
  have h0 : Ideal.ofBits .f32 0x00000000#32 = 0 := by simp [Ideal.ofBits, Ideal.ieee]
  unfold kept
  rw [h0]
  by_cases h : w i = 0#32
  · rw [if_pos h, h]; rfl
  · rw [if_neg h]
    have : IntOp.cmpi .ne (w i) 0#32 = 1#1 := by
      show BitVec.ofBool (w i != 0#32) = 1#1
      rw [bne_iff_ne.mpr h]; rfl
    rw [this]; rfl

theorem pay_kept' (w : S2x2x128x64x5.Idx → BitVec 32) (x : S2x2x128x64x5.Idx → EReal) (i : S2x2x128x64x5.Idx) : k0_pay5 (F := Ideal) w x i = kept w x i := pay_kept w x i

end Cert.ReferenceIdeal.Val

end
-- ==== Proof.RefReads.lean ====
/- The reference's buffers before its last part hold what `Reads` says, for permutations and lengths of 768 to 896. -/
module

public import proofs.«01_k».proof.Proof.RefRange
public import proofs.«01_k».proof.Proof.RefPay

@[expose] public section

set_option maxRecDepth 16384

noncomputable section

namespace Cert.ReferenceIdeal.Val

open Cert.ReferenceIdeal Cert.ReferenceIdeal.Gen Idealize.ShloMosaic
open Cert.KernelIdeal.Val (Side Lens kLo kSc rowOf pos sideOf lensOf perm_of pos_rowOf)

variable (x y : S2x896x64x160.Idx → EReal) (p q : S64x160.Idx → BitVec 32) (u v : S64x5.Idx → EReal) (n : S2.Idx → BitVec 32)

/-- The data of the two caches: keys, then values. -/
def sides (s : Fin 2) : Side := if s.val = 0 then sideOf x p u else sideOf y q v

/-- The valid flags as 32-bit words. -/
def eW : S2x2x128x64x5.Idx → BitVec 32 := extui 32 (eV n) natLt_1_32

/-- Different rows have different positions. -/
theorem pos_inj {a b : Fin 160} (h : pos a = pos b) : a = b := by
  have e := congrArg Fin.val h
  change 2 * (a.val % 80) + a.val / 80 = 2 * (b.val % 80) + b.val / 80 at e
  exact Fin.ext (by omega)

theorem sides_X (s b : Fin 2) (H : Fin 64) (c : Fin 160) (w : Fin 896) : (sides x y p q u v s).X b H c w = if s.val = 0 then x (ix4 b w H c) else y (ix4 b w H c) := by
  unfold sides; split <;> rfl

theorem sides_C (s : Fin 2) (H : Fin 64) (g : Fin 5) : (sides x y p q u v s).C H g = if s.val = 0 then u (ix2 H g) else v (ix2 H g) := by
  unfold sides; split <;> rfl

section Perm

variable (hp : Cert.Pre.Perms p) (hq : Cert.Pre.Perms q)

include hp hq in
theorem eP_pos (s : Fin 2) (H : Fin 64) (a : Fin 160) : (eP p q (ix5 s (0 : Fin 1) (0 : Fin 1) H (pos a))).toInt = ((sides x y p q u v s).P H a).val := by
  rw [eP_at]
  unfold sides
  split
  · exact perm_of p hp.1 x u H a
  · exact perm_of q hq.1 y v H a

include hp in
theorem sideOf_inj (H : Fin 64) : Function.Injective ((sideOf x p u).P H) := fun a b h => by
  refine pos_inj (hp.2 H _ _ (BitVec.eq_of_toInt_eq ?_))
  rw [perm_of p hp.1 x u H a, perm_of p hp.1 x u H b, h]

include hp hq in
theorem sides_inj (s : Fin 2) (H : Fin 64) : Function.Injective ((sides x y p q u v s).P H) := by
  unfold sides
  split
  · exact sideOf_inj x p u hp H
  · exact sideOf_inj y q v hq H

include hp hq in
theorem eG_data (s b : Fin 2) (l : Fin 128) (H : Fin 64) (g : Fin 5) (j : Fin 32) :
    eG x y p q (ix6 s b l H g j) = (sides x y p q u v s).f H b l (rowOf g j) := by
  have hk := eP_pos x y p q u v hp hq s H (rowOf g j)
  rw [show pos (rowOf g j) = (⟨32 * g.val + j.val, by omega⟩ : Fin 160) from Fin.ext (pos_rowOf g j)] at hk
  rw [eG_at x y p q s b l H g j _ hk, eX_at]
  exact (sides_X x y p q u v s b H _ _).symm

end Perm

theorem eW_at (s b : Fin 2) (l : Fin 128) (H : Fin 64) (g : Fin 5) (h : 768 ≤ (n (ix1 b)).toInt ∧ (n (ix1 b)).toInt ≤ 896) :
    eW n (ix5 s b l H g) = if l.val < (lensOf n).n b then 1#32 else 0#32 := by
  show (eV n (ix5 s b l H g)).setWidth 32 = _
  rw [eV_at n s b l H g h]
  split <;> rfl

theorem kept_at (s b : Fin 2) (l : Fin 128) (H : Fin 64) (g : Fin 5) (h : 768 ≤ (n (ix1 b)).toInt ∧ (n (ix1 b)).toInt ≤ 896)
    (r : S2x2x128x64x5.Idx → EReal) : kept (eW n) r (ix5 s b l H g) = if l.val < (lensOf n).n b then r (ix5 s b l H g) else 0 := by
  unfold kept
  rw [eW_at n s b l H g h]
  split
  · rw [if_neg (by decide)]
  · rw [if_pos rfl]

theorem reads_of (hp : Cert.Pre.Perms p) (hq : Cert.Pre.Perms q) (hn : ∀ i, 768 ≤ (n i).toInt ∧ (n i).toInt ≤ 896) :
    Reads (sides x y p q u v) (lensOf n) (kept (eW n) (eSc (eC u v) (eG x y p q))) (kept (eW n) (eLo (eC u v) (eG x y p q)))
      (eSc (eC u v) (eG x y p q)) (eLo (eC u v) (eG x y p q)) (eG x y p q) (eV n) (eP p q) (eN n) (eX x y) := by
  have hc : ∀ (s b : Fin 2) (l : Fin 128) (H : Fin 64) (g : Fin 5), eC u v (ix5 s b l H g) = (sides x y p q u v s).C H g := fun s b l H g =>
    (eC_at u v s b l H g).trans (sides_C x y p q u v s H g).symm
  have hsc : ∀ (s b : Fin 2) (l : Fin 128) (H : Fin 64) (g : Fin 5), eSc (eC u v) (eG x y p q) (ix5 s b l H g) = kSc ((sides x y p q u v s).f H b l) ((sides x y p q u v s).C H) g :=
    fun s b l H g => eSc_at _ _ _ _ s b l H g (hc s b l H g) (eG_data x y p q u v hp hq s b l H g)
  have hlo : ∀ (s b : Fin 2) (l : Fin 128) (H : Fin 64) (g : Fin 5), eLo (eC u v) (eG x y p q) (ix5 s b l H g) = kLo ((sides x y p q u v s).f H b l) ((sides x y p q u v s).C H) g :=
    fun s b l H g => eLo_at _ _ _ _ s b l H g (hc s b l H g) (eG_data x y p q u v hp hq s b l H g)
  exact {
    data := eG_data x y p q u v hp hq
    valid := fun s b l H g => eV_at n s b l H g (hn _)
    perm := eP_pos x y p q u v hp hq
    inj := sides_inj x y p q u v hp hq
    len := fun b => eN_at n b (hn _)
    cache := fun s b w H c => (eX_at x y s b w H c).trans (sides_X x y p q u v s b H c w).symm
    sf := hsc
    lo := hlo
    scale := fun s b l H g => by rw [kept_at n s b l H g (hn _), hsc]; rfl
    zero := fun s b l H g => by rw [kept_at n s b l H g (hn _), hlo]; rfl }

end Cert.ReferenceIdeal.Val

end
-- ==== Proof.RefRun.lean ====
/- The reference's results, from the arguments. -/
module

public import proofs.«01_k».proof.Proof.RefEntry
public import proofs.«01_k».proof.Proof.RefReads

@[expose] public section

set_option maxRecDepth 16384

noncomputable section

namespace Cert.ReferenceIdeal.Val

open Cert.ReferenceIdeal Cert.ReferenceIdeal.Gen Idealize.ShloMosaic Idealize.ShloMosaic.TcCoe Idealize.SL.Sem
open Cert.ReferenceIdeal.Value Cert.ReferenceIdeal.Read
open Cert.KernelIdeal.Val (Side Lens lensOf)

section Ideal

variable (x y : S2x896x64x160.Idx → EReal) (p q : S64x160.Idx → BitVec 32) (u v : S64x5.Idx → EReal) (n : S2.Idx → BitVec 32)

theorem extf_same (z : S2x2x128x64x160.Idx → EReal) : extf (F := Ideal) (φ := .bf16) .f32 z bitsLt_bf16_f32 = z := rfl

theorem tX_eq : tX (F := Ideal) x y = eX x y := rfl
theorem tP_eq : tP p q = eP p q := rfl
theorem tC_eq : tC (F := Ideal) u v = eC u v := rfl
theorem tG_eq : tG (F := Ideal) x y p q = eG x y p q := by
  unfold tG
  rw [extf_same, tX_eq, tP_eq]
  rfl
theorem tN_eq : tN n = eN n := rfl
theorem tV_eq : tV n = eV n := rfl

variable (c : S2x2x128x64x5.Idx → EReal) (g : S2x2x128x64x5x32.Idx → EReal)

theorem tLo_eq : tLo (F := Ideal) c g = eLo c g := rfl
theorem tRng_eq : tRng (F := Ideal) c g = eRng c g := rfl
theorem tSc_eq : tSc (F := Ideal) c g = eSc c g := rfl

end Ideal

variable (m : (ℓ : Loc nD τ sig) → Buf (Elt Ideal) ℓ) (c : Dev nD)

/-- What is asked of the arguments. -/
def Asked : Prop := (∀ i, 768 ≤ (m ((c.tc : Thread nD τ).loc main_arg2) i).toInt ∧ (m ((c.tc : Thread nD τ).loc main_arg2) i).toInt ≤ 896) ∧ Cert.Pre.Perms (m ((c.tc : Thread nD τ).loc main_arg3)) ∧ Cert.Pre.Perms (m ((c.tc : Thread nD τ).loc main_arg4))

/-- The caches' data and the lengths, from the arguments. -/
def rS : Fin 2 → Side := sides (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6))
def rN : Lens := lensOf (m ((c.tc : Thread nD τ).loc main_arg2))

theorem reads (h : Asked m c) : Reads (rS m c) (rN m c) (exitV m c (Proc.devRef .tc main_v38_0)) (exitV m c (Proc.devRef .tc main_v38_1))
    (exitV m c (Proc.devRef .tc main_v38_2)) (exitV m c (Proc.devRef .tc main_v38_3)) (exitV m c (Proc.devRef .tc main_v16)) (exitV m c (Proc.devRef .tc main_v36))
    (exitV m c (Proc.devRef .tc main_v6)) (exitV m c (Proc.devRef .tc main_v12)) (exitV m c (Proc.devRef .tc main_v2)) := by
  have R := reads_of (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg2)) h.2.1 h.2.2 h.1
  have e2 : exitV m c (Proc.devRef .tc main_v38_2) = eSc (eC (m ((c.tc : Thread nD τ).loc main_arg5)) (m ((c.tc : Thread nD τ).loc main_arg6))) (eG (m ((c.tc : Thread nD τ).loc main_arg0)) (m ((c.tc : Thread nD τ).loc main_arg1)) (m ((c.tc : Thread nD τ).loc main_arg3)) (m ((c.tc : Thread nD τ).loc main_arg4))) :=
    (exit_v38_2 m c).trans (by rw [pay_same, tSc_eq, tC_eq, tG_eq])
  have e3 : exitV m c (Proc.devRef .tc main_v38_3) = eLo (eC (m ((c.tc : Thread nD τ).loc main_arg5)) (m ((c.tc : Thread nD τ).loc main_arg6))) (eG (m ((c.tc : Thread nD τ).loc main_arg0)) (m ((c.tc : Thread nD τ).loc main_arg1)) (m ((c.tc : Thread nD τ).loc main_arg3)) (m ((c.tc : Thread nD τ).loc main_arg4))) :=
    (exit_v38_3 m c).trans (by rw [pay_same', tLo_eq, tC_eq, tG_eq])
  have e0 : exitV m c (Proc.devRef .tc main_v38_0) = kept (eW (m ((c.tc : Thread nD τ).loc main_arg2))) (eSc (eC (m ((c.tc : Thread nD τ).loc main_arg5)) (m ((c.tc : Thread nD τ).loc main_arg6))) (eG (m ((c.tc : Thread nD τ).loc main_arg0)) (m ((c.tc : Thread nD τ).loc main_arg1)) (m ((c.tc : Thread nD τ).loc main_arg3)) (m ((c.tc : Thread nD τ).loc main_arg4)))) :=
    (exit_v38_0 m c).trans (funext fun i => by rw [pay_kept, tSc_eq, tC_eq, tG_eq, tV_eq]; rfl)
  have e1 : exitV m c (Proc.devRef .tc main_v38_1) = kept (eW (m ((c.tc : Thread nD τ).loc main_arg2))) (eLo (eC (m ((c.tc : Thread nD τ).loc main_arg5)) (m ((c.tc : Thread nD τ).loc main_arg6))) (eG (m ((c.tc : Thread nD τ).loc main_arg0)) (m ((c.tc : Thread nD τ).loc main_arg1)) (m ((c.tc : Thread nD τ).loc main_arg3)) (m ((c.tc : Thread nD τ).loc main_arg4)))) :=
    (exit_v38_1 m c).trans (funext fun i => by rw [pay_kept', tLo_eq, tC_eq, tG_eq, tV_eq]; rfl)
  rw [e0, e1, e2, e3, exit_v16, exit_v36, exit_v6, exit_v12, exit_v2, tG_eq, tV_eq, tP_eq, tN_eq, tX_eq]
  exact R

/-- The reference's run: each result the same function of the arguments as the kernel's. -/
theorem run_values (ρ : Dev nD → PrngReg) (h : ∀ c, Asked m c) :
    θ_run defs (onTc (τ := τ) (main (F := Ideal))) ⟨m, fun _ => 0, ρ⟩ fun r => ∀ c : Dev nD,
      r.2.mem ((c.tc : Thread nD τ).loc main_v96) = (rS m c 0).aWin (rN m c)
      ∧ r.2.mem ((c.tc : Thread nD τ).loc main_v98) = (rS m c 1).aWin (rN m c)
      ∧ r.2.mem ((c.tc : Thread nD τ).loc main_v100) = (rS m c 0).aCode (rN m c)
      ∧ r.2.mem ((c.tc : Thread nD τ).loc main_v102) = (rS m c 0).lScale (rN m c)
      ∧ r.2.mem ((c.tc : Thread nD τ).loc main_v104) = (rS m c 0).lZero (rN m c)
      ∧ r.2.mem ((c.tc : Thread nD τ).loc main_v106) = (rS m c 1).aCode (rN m c)
      ∧ r.2.mem ((c.tc : Thread nD τ).loc main_v108) = (rS m c 1).lScale (rN m c)
      ∧ r.2.mem ((c.tc : Thread nD τ).loc main_v110) = (rS m c 1).lZero (rN m c)
      ∧ r.2.mem ((c.tc : Thread nD τ).loc main_v112) = (rS m c 0).aDeq (rN m c)
      ∧ r.2.mem ((c.tc : Thread nD τ).loc main_v114) = (rS m c 1).aDeq (rN m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ H c => by
    obtain ⟨h96, h98, h100, h102, h104, h106, h108, h110, h112, h114, ha⟩ := H c
    have R := reads m c (h c)
    exact ⟨(h96.trans (val_main_v96_eq _)).trans (funext fun i => (congrArg _ (eq_ix4 i)).trans (R.val_main_v96_at _ _ _ _)),
      (h98.trans (val_main_v98_eq _)).trans (funext fun i => (congrArg _ (eq_ix4 i)).trans (R.val_main_v98_at _ _ _ _)),
      (h100.trans (val_main_v100_eq _)).trans (funext fun i => (congrArg _ (eq_ix4 i)).trans (R.val_main_v100_at _ _ _ _)),
      (h102.trans (val_main_v102_eq _)).trans (funext fun i => (congrArg _ (eq_ix4 i)).trans (R.val_main_v102_at _ _ _ _)),
      (h104.trans (val_main_v104_eq _)).trans (funext fun i => (congrArg _ (eq_ix4 i)).trans (R.val_main_v104_at _ _ _ _)),
      (h106.trans (val_main_v106_eq _)).trans (funext fun i => (congrArg _ (eq_ix4 i)).trans (R.val_main_v106_at _ _ _ _)),
      (h108.trans (val_main_v108_eq _)).trans (funext fun i => (congrArg _ (eq_ix4 i)).trans (R.val_main_v108_at _ _ _ _)),
      (h110.trans (val_main_v110_eq _)).trans (funext fun i => (congrArg _ (eq_ix4 i)).trans (R.val_main_v110_at _ _ _ _)),
      (h112.trans (val_main_v112_eq _)).trans (funext fun i => (congrArg _ (eq_ix4 i)).trans (R.val_main_v112_at _ _ _ _)),
      (h114.trans (val_main_v114_eq _)).trans (funext fun i => (congrArg _ (eq_ix4 i)).trans (R.val_main_v114_at _ _ _ _)), ha⟩) (run m ρ)

end Cert.ReferenceIdeal.Val

end
-- ==== Proof.Algebraic.lean ====
/- The two programs over the extended reals: the same results from the same arguments. -/
module

public import proofs.«01_k».proof.Defs
public import proofs.«01_k».proof.Proof.Entry
public import proofs.«01_k».proof.Proof.RefRun
public import proofs.«01_k».proof.Proof.Gen.Pre_permutations

@[expose] public section

noncomputable section

namespace Cert.Algebraic

open Idealize.ShloMosaic Idealize.ShloMosaic.TcCoe Idealize.SL.Sem
open Cert.KernelIdeal.Val (mS mT mN)

/-- The precondition, read as facts about the arguments. -/
theorem asked (m : (ℓ : Loc Cert.KernelIdeal.nD Cert.KernelIdeal.τ Cert.KernelIdeal.sig) → Buf (Elt Ideal) ℓ)
    (h : @Cert.Pre_KernelIdeal_permutations Cert.Pre_permutations.Gen.facts m) (c : Dev Cert.KernelIdeal.nD) :
    (∀ i, 768 ≤ (m ((c.tc : Thread Cert.KernelIdeal.nD Cert.KernelIdeal.τ).loc Cert.KernelIdeal.main_arg2) i).toInt ∧ (m ((c.tc : Thread Cert.KernelIdeal.nD Cert.KernelIdeal.τ).loc Cert.KernelIdeal.main_arg2) i).toInt ≤ 896)
      ∧ Cert.Pre.Perms (m ((c.tc : Thread Cert.KernelIdeal.nD Cert.KernelIdeal.τ).loc Cert.KernelIdeal.main_arg3)) ∧ Cert.Pre.Perms (m ((c.tc : Thread Cert.KernelIdeal.nD Cert.KernelIdeal.τ).loc Cert.KernelIdeal.main_arg4)) :=
  @Cert.Pre.perms _ _ Cert.Pre_permutations.Gen.facts _ _ _ _ _ _ _ (h c)

theorem holds : @Cert.algebraic_KernelIdeal_ReferenceIdeal_pre_permutations Cert.KernelIdeal.Gen.facts Cert.ReferenceIdeal.Gen.facts Cert.Pre_permutations.Gen.facts := by
  intro m g m' g' hpre heq
  have hk := asked m hpre
  have hr : ∀ c, Cert.ReferenceIdeal.Val.Asked m' c := fun c => by
    obtain ⟨-, -, a2, a3, a4, -, -⟩ := heq c
    unfold Cert.ReferenceIdeal.Val.Asked
    rw [a2, a3, a4]
    exact hk c
  have hS : ∀ c, Cert.ReferenceIdeal.Val.rS m' c 0 = mS m c := fun c => by
    obtain ⟨a0, a1, a2, a3, a4, a5, a6⟩ := heq c
    unfold Cert.ReferenceIdeal.Val.rS Cert.ReferenceIdeal.Val.sides
    rw [a0, a3, a5]
    rfl
  have hT : ∀ c, Cert.ReferenceIdeal.Val.rS m' c 1 = mT m c := fun c => by
    obtain ⟨a0, a1, a2, a3, a4, a5, a6⟩ := heq c
    unfold Cert.ReferenceIdeal.Val.rS Cert.ReferenceIdeal.Val.sides
    rw [a1, a4, a6]
    rfl
  have hN : ∀ c, Cert.ReferenceIdeal.Val.rN m' c = mN m c := fun c => by
    obtain ⟨a0, a1, a2, a3, a4, a5, a6⟩ := heq c
    unfold Cert.ReferenceIdeal.Val.rN
    rw [a2]
    rfl
  refine ⟨fun c => (mS m c).aWin (mN m c), fun c => (mT m c).aWin (mN m c), fun c => (mS m c).aCode (mN m c), fun c => (mS m c).lScale (mN m c),
    fun c => (mS m c).lZero (mN m c), fun c => (mT m c).aCode (mN m c), fun c => (mT m c).lScale (mN m c), fun c => (mT m c).lZero (mN m c),
    fun c => (mS m c).aDeq (mN m c), fun c => (mT m c).aDeq (mN m c), ?_, ?_⟩
  · exact (θ_run _ _ _).mono (fun _ h => h.1) (Cert.KernelIdeal.Val.run_values m g (mS m) (mT m) (mN m) (Cert.KernelIdeal.Val.given m hk))
  · refine (θ_run _ _ _).mono (fun _ H c => ?_) (Cert.ReferenceIdeal.Val.run_values m' g' hr)
    have := H c
    rw [hS c, hT c, hN c] at this
    exact this

end Cert.Algebraic

end
-- ==== Proof.lean ====
/- The certificate: each claim from the module that proves it. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Run
public import proofs.«01_k».proof.Proof.Gen.ReferenceIdeal.Read
public import proofs.«01_k».proof.Proof.Gen.Pre_window_filled
public import proofs.«01_k».proof.Proof.Gen.Pre_permutations
public import proofs.«01_k».proof.Proof.Pre
public import proofs.«01_k».proof.Proof.KernelFrame
public import proofs.«01_k».proof.Proof.KernelIdealFrame
public import proofs.«01_k».proof.Proof.PreFilled
public import proofs.«01_k».proof.Proof.Algebraic
public import Idealize.ShloMosaic.Lib.Bf16Pair
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_window_filled.Gen.facts, Cert.Pre_permutations.Gen.facts,
  fun m g h => Cert.Kernel.Hand.frame m g (fun c i => @Cert.Pre.filled _ _ Cert.Pre_window_filled.Gen.facts _ _ _ _ _ _ _ (h c) i),
  fun m g h => Cert.KernelIdeal.Hand.frame m g (fun c i => @Cert.Pre.filled _ _ Cert.Pre_window_filled.Gen.facts _ _ _ _ _ _ _ (h c) i),
  fun m g h => Cert.KernelIdeal.Hand.frame m g (fun c i => ((Cert.Algebraic.asked m h c).1 i).1),
  fun m g _ => Cert.ReferenceIdeal.Gen.frame m g,
  fun m g _ => Cert.ReferenceIdeal.Gen.frame m g,
  IdealRules.bf16_pair.statement _ _,
  Cert.Algebraic.holds⟩

end Cert.Proof

end
